-- ==== Defs.lean ====
def Pre_MainIdeal [hPre_in_range : Cert.Pre_in_range.Facts] (m : (ℓ : Loc Cert.MainIdeal.nD Cert.MainIdeal.τ Cert.MainIdeal.sig) → Buf (Elt Ideal) ℓ) : Prop :=
  ∀ c : Dev Cert.MainIdeal.nD,
    (Cert.Pre_in_range.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3))) = (fun _ => 1#1)

def Pre_MainIdeal_well_formed [hPre_well_formed : Cert.Pre_well_formed.Facts] (m : (ℓ : Loc Cert.MainIdeal.nD Cert.MainIdeal.τ Cert.MainIdeal.sig) → Buf (Elt Ideal) ℓ) : Prop :=
  ∀ c : Dev Cert.MainIdeal.nD,
    (Cert.Pre_well_formed.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_MainIdeal [hMainIdeal : Cert.MainIdeal.Facts] [hPre_in_range : Cert.Pre_in_range.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ r.2.sem = fun _ => 0)

def quiescent_MainIdeal_pre_well_formed [hMainIdeal : Cert.MainIdeal.Facts] [hPre_well_formed : Cert.Pre_well_formed.Facts] : Prop :=
  ∀ (m : (ℓ : Loc Cert.MainIdeal.nD Cert.MainIdeal.τ Cert.MainIdeal.sig) → Buf (Elt Ideal) ℓ) (g : Dev Cert.MainIdeal.nD → PrngReg), Pre_MainIdeal_well_formed m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_MainIdeal_ReferenceIdeal_pre_well_formed [hMainIdeal : Cert.MainIdeal.Facts] [hReferenceIdeal : Cert.ReferenceIdeal.Facts] [hPre_well_formed : Cert.Pre_well_formed.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_MainIdeal_well_formed m →
    (∀ c : Dev Cert.MainIdeal.nD,
      m' ((c.tc : Thread Cert.ReferenceIdeal.nD Cert.ReferenceIdeal.τ).loc Cert.ReferenceIdeal.main_arg0) = m ((c.tc : Thread Cert.MainIdeal.nD Cert.MainIdeal.τ).loc Cert.MainIdeal.main_arg0)
      ∧ m' ((c.tc : Thread Cert.ReferenceIdeal.nD Cert.ReferenceIdeal.τ).loc Cert.ReferenceIdeal.main_arg1) = m ((c.tc : Thread Cert.MainIdeal.nD Cert.MainIdeal.τ).loc Cert.MainIdeal.main_arg1)
      ∧ m' ((c.tc : Thread Cert.ReferenceIdeal.nD Cert.ReferenceIdeal.τ).loc Cert.ReferenceIdeal.main_arg2) = m ((c.tc : Thread Cert.MainIdeal.nD Cert.MainIdeal.τ).loc Cert.MainIdeal.main_arg2)
      ∧ m' ((c.tc : Thread Cert.ReferenceIdeal.nD Cert.ReferenceIdeal.τ).loc Cert.ReferenceIdeal.main_arg3) = m ((c.tc : Thread Cert.MainIdeal.nD Cert.MainIdeal.τ).loc Cert.MainIdeal.main_arg3)) →
    ∃ (v0 : (c : Dev Cert.MainIdeal.nD) → Buf (Elt Ideal) ((c.tc : Thread Cert.MainIdeal.nD Cert.MainIdeal.τ).loc Cert.MainIdeal.main_v5)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v5) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hMainIdeal : Cert.MainIdeal.Facts) (hReferenceIdeal : Cert.ReferenceIdeal.Facts) (hPre_in_range : Cert.Pre_in_range.Facts) (hPre_well_formed : Cert.Pre_well_formed.Facts),
    quiescent_MainIdeal (hMainIdeal := hMainIdeal) (hPre_in_range := hPre_in_range)
    ∧ quiescent_MainIdeal_pre_well_formed (hMainIdeal := hMainIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ algebraic_MainIdeal_ReferenceIdeal_pre_well_formed (hMainIdeal := hMainIdeal) (hReferenceIdeal := hReferenceIdeal) (hPre_well_formed := hPre_well_formed)
-- ==== Pre_in_range.lean ====
abbrev S22295336 : Shape := ⟨1, ![22295336]⟩
abbrev S56x768x128 : Shape := ⟨3, ![56, 768, 128]⟩
abbrev S36x224 : Shape := ⟨2, ![36, 224]⟩
abbrev S224x4608 : Shape := ⟨2, ![224, 4608]⟩
abbrev S_ : Shape := ⟨0, ![]⟩

class Facts : Prop where
  bcast_S_S36x224 : S_.BroadcastsInDim S36x224 (![] : Fin 0 → Fin S36x224.rank)

variable [Facts]

def fn {F : FTy → Type} [FloatOps F] (main_arg0 : IVec S22295336 8) (main_arg1 : IVec S56x768x128 32) (main_arg2 : IVec S36x224 32) (main_arg3 : IVec S224x4608 32) : IVec S36x224 1 :=
  let main_c : IVec S_ 32 := constantI S_ 32 0#32
  let main_v0 : IVec S36x224 32 := broadcastInDim S36x224 ![] bcast_S_S36x224 main_c
  let main_v1 : IVec S36x224 1 := cmpi .sge main_arg2 main_v0
  let main_c_0 : IVec S_ 32 := constantI S_ 32 2787072#32
  let main_v2 : IVec S36x224 32 := broadcastInDim S36x224 ![] bcast_S_S36x224 main_c_0
  let main_v3 : IVec S36x224 1 := cmpi .slt main_arg2 main_v2
  let main_v4 : IVec S36x224 1 := andi main_v1 main_v3
  main_v4
-- ==== Pre_well_formed.lean ====
abbrev S22295336 : Shape := ⟨1, ![22295336]⟩
abbrev S56x768x128 : Shape := ⟨3, ![56, 768, 128]⟩
abbrev S36x224 : Shape := ⟨2, ![36, 224]⟩
abbrev S224x4608 : Shape := ⟨2, ![224, 4608]⟩
abbrev S_ : Shape := ⟨0, ![]⟩
abbrev S224x36 : Shape := ⟨2, ![224, 36]⟩
abbrev S224x36x128 : Shape := ⟨3, ![224, 36, 128]⟩

class Facts : Prop where
  bcast_S_S224x4608 : S_.BroadcastsInDim S224x4608 (![] : Fin 0 → Fin S224x4608.rank)
  transposes_S36x224_S224x36_1_0 : S36x224.Transposes [1, 0] S224x36
  bcast_S224x36_S224x36x128_0_1 : S224x36.BroadcastsInDim S224x36x128 (![0, 1] : Fin 2 → Fin S224x36x128.rank)
  shapeCasts_S224x36x128_S224x4608 : S224x36x128.ShapeCasts S224x4608

variable [Facts]

def fn_part3 {F : FTy → Type} [FloatOps F] (main_v27 : IVec S224x4608 32) (main_v46 : IVec S224x4608 1) (main_v51 : IVec S224x4608 1) : IVec S224x4608 1 :=
  let main_v52 : IVec S224x4608 1 := andi main_v46 main_v51
  let main_c_19 : IVec S_ 32 := constantI S_ 32 1#32
  let main_v53 : IVec S224x4608 32 := broadcastInDim S224x4608 ![] bcast_S_S224x4608 main_c_19
  let main_v54 : IVec S224x4608 1 := cmpi .sge main_v27 main_v53
  let main_v55 : IVec S224x4608 1 := andi main_v52 main_v54
  let main_c_20 : IVec S_ 32 := constantI S_ 32 254#32
  let main_v56 : IVec S224x4608 32 := broadcastInDim S224x4608 ![] bcast_S_S224x4608 main_c_20
  let main_v57 : IVec S224x4608 1 := cmpi .sle main_v27 main_v56
  let main_v58 : IVec S224x4608 1 := andi main_v55 main_v57
  main_v58

def fn_part2 {F : FTy → Type} [FloatOps F] (main_arg3 : IVec S224x4608 32) (main_v3 : IVec S224x4608 32) (main_v15 : IVec S224x4608 32) (main_v21 : IVec S224x4608 32) (main_v25 : IVec S224x4608 32) (main_v27 : IVec S224x4608 32) (main_v32 : IVec S224x4608 1) (main_v33 : IVec S224x4608 32) : IVec S224x4608 1 :=
  let main_v34 : IVec S224x4608 1 := cmpi .sle main_v3 main_v33
  let main_v35 : IVec S224x4608 1 := andi main_v32 main_v34
  let main_c_13 : IVec S_ 32 := constantI S_ 32 17#32
  let main_v36 : IVec S224x4608 32 := broadcastInDim S224x4608 ![] bcast_S_S224x4608 main_c_13
  let main_v37 : IVec S224x4608 32 := Host.shrsi main_arg3 main_v36
  let main_c_14 : IVec S_ 32 := constantI S_ 32 31#32
  let main_v38 : IVec S224x4608 32 := broadcastInDim S224x4608 ![] bcast_S_S224x4608 main_c_14
  let main_v39 : IVec S224x4608 32 := andi main_v37 main_v38
  let main_c_15 : IVec S_ 32 := constantI S_ 32 0#32
  let main_v40 : IVec S224x4608 32 := broadcastInDim S224x4608 ![] bcast_S_S224x4608 main_c_15
  let main_v41 : IVec S224x4608 1 := cmpi .eq main_v39 main_v40
  let main_v42 : IVec S224x4608 1 := andi main_v35 main_v41
  let main_v43 : IVec S224x4608 32 := addi main_v15 main_v25
  let main_c_16 : IVec S_ 32 := constantI S_ 32 1024#32
  let main_v44 : IVec S224x4608 32 := broadcastInDim S224x4608 ![] bcast_S_S224x4608 main_c_16
  let main_v45 : IVec S224x4608 1 := cmpi .sle main_v43 main_v44
  let main_v46 : IVec S224x4608 1 := andi main_v42 main_v45
  let main_v47 : IVec S224x4608 32 := addi main_v21 main_v25
  let main_c_17 : IVec S_ 32 := constantI S_ 32 4#32
  let main_v48 : IVec S224x4608 32 := broadcastInDim S224x4608 ![] bcast_S_S224x4608 main_c_17
  let main_v49 : IVec S224x4608 32 := muli main_v48 main_v47
  let main_c_18 : IVec S_ 32 := constantI S_ 32 22295336#32
  let main_v50 : IVec S224x4608 32 := broadcastInDim S224x4608 ![] bcast_S_S224x4608 main_c_18
  let main_v51 : IVec S224x4608 1 := cmpi .sle main_v49 main_v50
  fn_part3 (F := F) main_v27 main_v46 main_v51

def fn_part1 {F : FTy → Type} [FloatOps F] (main_arg3 : IVec S224x4608 32) (main_v3 : IVec S224x4608 32) (main_v6 : IVec S224x4608 32) (main_v10 : IVec S224x4608 32) (main_v15 : IVec S224x4608 32) (main_v16 : IVec S224x4608 32) : IVec S224x4608 1 :=
  let main_v17 : IVec S224x4608 32 := Host.shrsi main_v6 main_v16
  let main_c_6 : IVec S_ 32 := constantI S_ 32 256#32
  let main_v18 : IVec S224x4608 32 := broadcastInDim S224x4608 ![] bcast_S_S224x4608 main_c_6
  let main_v19 : IVec S224x4608 32 := muli main_v18 main_v17
  let main_v20 : IVec S224x4608 32 := addi main_v19 main_v10
  let main_v21 : IVec S224x4608 32 := addi main_v20 main_v15
  let main_c_7 : IVec S_ 32 := constantI S_ 32 2#32
  let main_v22 : IVec S224x4608 32 := broadcastInDim S224x4608 ![] bcast_S_S224x4608 main_c_7
  let main_v23 : IVec S224x4608 32 := addi main_v3 main_v22
  let main_c_8 : IVec S_ 32 := constantI S_ 32 2#32
  let main_v24 : IVec S224x4608 32 := broadcastInDim S224x4608 ![] bcast_S_S224x4608 main_c_8
  let main_v25 : IVec S224x4608 32 := muli main_v24 main_v23
  let main_c_9 : IVec S_ 32 := constantI S_ 32 255#32
  let main_v26 : IVec S224x4608 32 := broadcastInDim S224x4608 ![] bcast_S_S224x4608 main_c_9
  let main_v27 : IVec S224x4608 32 := andi main_arg3 main_v26
  let main_c_10 : IVec S_ 32 := constantI S_ 32 0#32
  let main_v28 : IVec S224x4608 32 := broadcastInDim S224x4608 ![] bcast_S_S224x4608 main_c_10
  let main_v29 : IVec S224x4608 1 := cmpi .sge main_v6 main_v28
  let main_c_11 : IVec S_ 32 := constantI S_ 32 2787072#32
  let main_v30 : IVec S224x4608 32 := broadcastInDim S224x4608 ![] bcast_S_S224x4608 main_c_11
  let main_v31 : IVec S224x4608 1 := cmpi .slt main_v6 main_v30
  let main_v32 : IVec S224x4608 1 := andi main_v29 main_v31
  let main_c_12 : IVec S_ 32 := constantI S_ 32 2#32
  let main_v33 : IVec S224x4608 32 := broadcastInDim S224x4608 ![] bcast_S_S224x4608 main_c_12
  fn_part2 (F := F) main_arg3 main_v3 main_v15 main_v21 main_v25 main_v27 main_v32 main_v33

def fn {F : FTy → Type} [FloatOps F] (main_arg0 : IVec S22295336 8) (main_arg1 : IVec S56x768x128 32) (main_arg2 : IVec S36x224 32) (main_arg3 : IVec S224x4608 32) : IVec S224x4608 1 :=
  let main_c : IVec S_ 32 := constantI S_ 32 8#32
  let main_v0 : IVec S224x4608 32 := broadcastInDim S224x4608 ![] bcast_S_S224x4608 main_c
  let main_v1 : IVec S224x4608 32 := Host.shrsi main_arg3 main_v0
  let main_c_0 : IVec S_ 32 := constantI S_ 32 3#32
  let main_v2 : IVec S224x4608 32 := broadcastInDim S224x4608 ![] bcast_S_S224x4608 main_c_0
  let main_v3 : IVec S224x4608 32 := andi main_v1 main_v2
  let main_v4 : IVec S224x36 32 := (transpose S224x36 [1, 0] · transposes_S36x224_S224x36_1_0) main_arg2
  let main_v5 : IVec S224x36x128 32 := broadcastInDim S224x36x128 ![0, 1] bcast_S224x36_S224x36x128_0_1 main_v4
  let main_v6 : IVec S224x4608 32 := shapeCast S224x4608 main_v5 shapeCasts_S224x36x128_S224x4608
  let main_c_1 : IVec S_ 32 := constantI S_ 32 127#32
  let main_v7 : IVec S224x4608 32 := broadcastInDim S224x4608 ![] bcast_S_S224x4608 main_c_1
  let main_v8 : IVec S224x4608 32 := andi main_v6 main_v7
  let main_c_2 : IVec S_ 32 := constantI S_ 32 2#32
  let main_v9 : IVec S224x4608 32 := broadcastInDim S224x4608 ![] bcast_S_S224x4608 main_c_2
  let main_v10 : IVec S224x4608 32 := muli main_v9 main_v8
  let main_c_3 : IVec S_ 32 := constantI S_ 32 22#32
  let main_v11 : IVec S224x4608 32 := broadcastInDim S224x4608 ![] bcast_S_S224x4608 main_c_3
  let main_v12 : IVec S224x4608 32 := Host.shrui main_arg3 main_v11
  let main_v13 : IVec S224x4608 32 := subi main_v12 main_v10
  let main_c_4 : IVec S_ 32 := constantI S_ 32 1023#32
  let main_v14 : IVec S224x4608 32 := broadcastInDim S224x4608 ![] bcast_S_S224x4608 main_c_4
  let main_v15 : IVec S224x4608 32 := andi main_v13 main_v14
  let main_c_5 : IVec S_ 32 := constantI S_ 32 7#32
  let main_v16 : IVec S224x4608 32 := broadcastInDim S224x4608 ![] bcast_S_S224x4608 main_c_5
  fn_part1 (F := F) main_arg3 main_v3 main_v6 main_v10 main_v15 main_v16
-- ==== MainIdeal.lean ====
abbrev S22295336 : Shape := ⟨1, ![22295336]⟩
abbrev S56x768x128 : Shape := ⟨3, ![56, 768, 128]⟩
abbrev S36x224 : Shape := ⟨2, ![36, 224]⟩
abbrev S224x4608 : Shape := ⟨2, ![224, 4608]⟩
abbrev S808 : Shape := ⟨1, ![808]⟩
abbrev S_ : Shape := ⟨0, ![]⟩
abbrev S9216 : Shape := ⟨1, ![9216]⟩
abbrev S9x8x128 : Shape := ⟨3, ![9, 8, 128]⟩
abbrev S22294528 : Shape := ⟨1, ![22294528]⟩
abbrev S21772x8x128 : Shape := ⟨3, ![21772, 8, 128]⟩
abbrev S1536x4608 : Shape := ⟨2, ![1536, 4608]⟩
abbrev S224x256 : Shape := ⟨2, ![224, 256]⟩
abbrev S1536x256 : Shape := ⟨2, ![1536, 256]⟩
abbrev S21781x8x128 : Shape := ⟨3, ![21781, 8, 128]⟩
abbrev S2x2x128x128 : Shape := ⟨4, ![2, 2, 128, 128]⟩
abbrev S2x2x128x2x128 : Shape := ⟨5, ![2, 2, 128, 2, 128]⟩
abbrev S2x2x128x1x128 : Shape := ⟨5, ![2, 2, 128, 1, 128]⟩
abbrev S2x9x8x128 : Shape := ⟨4, ![2, 9, 8, 128]⟩
abbrev S2 : Shape := ⟨1, ![2]⟩
abbrev S1 : Shape := ⟨1, ![1]⟩
abbrev S8x128 : Shape := ⟨2, ![8, 128]⟩
abbrev S1x1x8x128 : Shape := ⟨4, ![1, 1, 8, 128]⟩
abbrev S1x1 : Shape := ⟨2, ![1, 1]⟩
abbrev S4x8x128 : Shape := ⟨3, ![4, 8, 128]⟩
abbrev S32x128 : Shape := ⟨2, ![32, 128]⟩
abbrev S8x128x1 : Shape := ⟨3, ![8, 128, 1]⟩
abbrev S16x128 : Shape := ⟨2, ![16, 128]⟩
abbrev S1x1x8x2x128 : Shape := ⟨5, ![1, 1, 8, 2, 128]⟩
abbrev S1x1x8x1x128 : Shape := ⟨5, ![1, 1, 8, 1, 128]⟩
abbrev S1x768x128 : Shape := ⟨3, ![1, 768, 128]⟩
abbrev S768x128 : Shape := ⟨2, ![768, 128]⟩
abbrev S1536x128 : Shape := ⟨2, ![1536, 128]⟩
abbrev S1x1x128x128 : Shape := ⟨4, ![1, 1, 128, 128]⟩
abbrev S1x1x128x2x128 : Shape := ⟨5, ![1, 1, 128, 2, 128]⟩
abbrev S1x1x128x1x128 : Shape := ⟨5, ![1, 1, 128, 1, 128]⟩
abbrev S128x128 : Shape := ⟨2, ![128, 128]⟩
abbrev S256x128 : Shape := ⟨2, ![256, 128]⟩
abbrev S256x256 : Shape := ⟨2, ![256, 256]⟩

abbrev nBuf : Space → Nat
  | .hbm => 12
  | .vmem => 10
  | .smem => 1
  | _ => 0

abbrev bufTy : (tb : Table) → Fin (tcTables nBuf tb) → BufTy
  | .hbm, ⟨0, _⟩ => ⟨S22295336, .i8⟩
  | .hbm, ⟨1, _⟩ => ⟨S56x768x128, .i32⟩
  | .hbm, ⟨2, _⟩ => ⟨S36x224, .i32⟩
  | .hbm, ⟨3, _⟩ => ⟨S224x4608, .i32⟩
  | .hbm, ⟨4, _⟩ => ⟨S808, .i8⟩
  | .hbm, ⟨5, _⟩ => ⟨S_, .i32⟩
  | .hbm, ⟨6, _⟩ => ⟨S_, .i8⟩
  | .hbm, ⟨7, _⟩ => ⟨S9216, .i8⟩
  | .hbm, ⟨8, _⟩ => ⟨S9x8x128, .i8⟩
  | .hbm, ⟨9, _⟩ => ⟨S22294528, .i8⟩
  | .hbm, ⟨10, _⟩ => ⟨S21772x8x128, .i8⟩
  | .hbm, ⟨11, _⟩ => ⟨S1536x4608, .bf16⟩
  | .local _ .vmem, ⟨0, _⟩ => ⟨S9x8x128, .i8⟩
  | .local _ .vmem, ⟨1, _⟩ => ⟨S224x256, .i32⟩
  | .local _ .vmem, ⟨2, _⟩ => ⟨S224x256, .i32⟩
  | .local _ .vmem, ⟨3, _⟩ => ⟨S1536x256, .bf16⟩
  | .local _ .vmem, ⟨4, _⟩ => ⟨S1536x256, .bf16⟩
  | .local _ .vmem, ⟨5, _⟩ => ⟨S21781x8x128, .i8⟩
  | .local _ .vmem, ⟨6, _⟩ => ⟨S56x768x128, .i32⟩
  | .local _ .vmem, ⟨7, _⟩ => ⟨S2x2x128x2x128, .bf16⟩
  | .local _ .vmem, ⟨8, _⟩ => ⟨S2x9x8x128, .i32⟩
  | .local _ .vmem, ⟨9, _⟩ => ⟨S1536x256, .f32⟩
  | .local _ .smem, ⟨0, _⟩ => ⟨S36x224, .i32⟩
  | _, _ => ⟨S22295336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def k0_mult1 : BitVec 32 :=
  let c0_i32_26 : BitVec 32 := 0#32
  c0_i32_26
def k0_off1 (i : grid0.Coords) : Fin 2 → Nat :=
  let c2_i32_68 : BitVec 32 := 2#32
  let arg0 : BitVec 32 := BitVec.ofNat 32 (i 0).val
  let v176 : BitVec 32 := Scalar.muli c2_i32_68 arg0
  let c0_i32_69 : BitVec 32 := 0#32
  let v177 : BitVec 32 := Scalar.addi v176 c0_i32_69
  let v178 : Index := Scalar.indexCast v177
  let c0_70 : Index := 0#32
  ![v178.toNat, 0]
def k0_off2 (v179 : BitVec 32) : Fin 3 → Nat :=
  let c7_i32_71 : BitVec 32 := 7#32
  let v180 : BitVec 32 := Scalar.shrui v179 c7_i32_71
  let v181 : Index := Scalar.indexCast v180
  let c0_72 : Index := 0#32
  let c0_73 : Index := 0#32
  ![v181.toNat, 0, 0]

def k0_off3 (v179 : BitVec 32) : Fin 3 → Nat :=
  let c7_i32_71 : BitVec 32 := 7#32
  let v180 : BitVec 32 := Scalar.shrui v179 c7_i32_71
  let c4_i32_74 : BitVec 32 := 4#32
  let v185 : BitVec 32 := Scalar.addi v180 c4_i32_74
  let v186 : Index := Scalar.indexCast v185
  let c0_75 : Index := 0#32
  let c0_76 : Index := 0#32
  ![v186.toNat, 0, 0]

def k0_chk1 (v179 : BitVec 32) : Prop :=
  (∀ a, (k0_off2 v179) a + S4x8x128.size a ≤ S21781x8x128.size a) ∧
  (∀ a, (k0_off3 v179) a + S4x8x128.size a ≤ S21781x8x128.size a)
theorem k0_off2_inb : ∀ (v179 : BitVec 32) (k0_hw1 : k0_chk1 v179), ∀ a, (k0_off2 v179) a + S4x8x128.size a ≤ S21781x8x128.size a := fun v179 k0_hw1 => k0_hw1.1
theorem k0_off3_inb : ∀ (v179 : BitVec 32) (k0_hw1 : k0_chk1 v179), ∀ a, (k0_off3 v179) a + S4x8x128.size a ≤ S21781x8x128.size a := fun v179 k0_hw1 => k0_hw1.2

def k0_off4 (i : grid0.Coords) : Fin 2 → Nat :=
  let c2_i32_137 : BitVec 32 := 2#32
  let arg0 : BitVec 32 := BitVec.ofNat 32 (i 0).val
  let v313 : BitVec 32 := Scalar.muli c2_i32_137 arg0
  let c0_i32_138 : BitVec 32 := 0#32
  let v314 : BitVec 32 := Scalar.addi v313 c0_i32_138
  let v315 : Index := Scalar.indexCast v314
  let c1_139 : Index := 1#32
  ![v315.toNat, 1]
def k0_off5 (v316 : BitVec 32) : Fin 3 → Nat :=
  let c7_i32_140 : BitVec 32 := 7#32
  let v317 : BitVec 32 := Scalar.shrui v316 c7_i32_140
  let v318 : Index := Scalar.indexCast v317
  let c0_141 : Index := 0#32
  let c0_142 : Index := 0#32
  ![v318.toNat, 0, 0]

def k0_off6 (v316 : BitVec 32) : Fin 3 → Nat :=
  let c7_i32_140 : BitVec 32 := 7#32
  let v317 : BitVec 32 := Scalar.shrui v316 c7_i32_140
  let c4_i32_143 : BitVec 32 := 4#32
  let v322 : BitVec 32 := Scalar.addi v317 c4_i32_143
  let v323 : Index := Scalar.indexCast v322
  let c0_144 : Index := 0#32
  let c0_145 : Index := 0#32
  ![v323.toNat, 0, 0]

def k0_chk2 (v316 : BitVec 32) : Prop :=
  (∀ a, (k0_off5 v316) a + S4x8x128.size a ≤ S21781x8x128.size a) ∧
  (∀ a, (k0_off6 v316) a + S4x8x128.size a ≤ S21781x8x128.size a)
theorem k0_off5_inb : ∀ (v316 : BitVec 32) (k0_hw2 : k0_chk2 v316), ∀ a, (k0_off5 v316) a + S4x8x128.size a ≤ S21781x8x128.size a := fun v316 k0_hw2 => k0_hw2.1
theorem k0_off6_inb : ∀ (v316 : BitVec 32) (k0_hw2 : k0_chk2 v316), ∀ a, (k0_off6 v316) a + S4x8x128.size a ≤ S21781x8x128.size a := fun v316 k0_hw2 => k0_hw2.2

def k0_off7 (i : grid0.Coords) : Fin 2 → Nat :=
  let c2_i32_207 : BitVec 32 := 2#32
  let arg0 : BitVec 32 := BitVec.ofNat 32 (i 0).val
  let v450 : BitVec 32 := Scalar.muli c2_i32_207 arg0
  let c0_i32_208 : BitVec 32 := 0#32
  let v451 : BitVec 32 := Scalar.addi v450 c0_i32_208
  let v452 : Index := Scalar.indexCast v451
  let c2_209 : Index := 2#32
  ![v452.toNat, 2]
def k0_off8 (v453 : BitVec 32) : Fin 3 → Nat :=
  let c7_i32_210 : BitVec 32 := 7#32
  let v454 : BitVec 32 := Scalar.shrui v453 c7_i32_210
  let v455 : Index := Scalar.indexCast v454
  let c0_211 : Index := 0#32
  let c0_212 : Index := 0#32
  ![v455.toNat, 0, 0]

def k0_off9 (v453 : BitVec 32) : Fin 3 → Nat :=
  let c7_i32_210 : BitVec 32 := 7#32
  let v454 : BitVec 32 := Scalar.shrui v453 c7_i32_210
  let c4_i32_213 : BitVec 32 := 4#32
  let v459 : BitVec 32 := Scalar.addi v454 c4_i32_213
  let v460 : Index := Scalar.indexCast v459
  let c0_214 : Index := 0#32
  let c0_215 : Index := 0#32
  ![v460.toNat, 0, 0]

def k0_chk3 (v453 : BitVec 32) : Prop :=
  (∀ a, (k0_off8 v453) a + S4x8x128.size a ≤ S21781x8x128.size a) ∧
  (∀ a, (k0_off9 v453) a + S4x8x128.size a ≤ S21781x8x128.size a)
theorem k0_off8_inb : ∀ (v453 : BitVec 32) (k0_hw3 : k0_chk3 v453), ∀ a, (k0_off8 v453) a + S4x8x128.size a ≤ S21781x8x128.size a := fun v453 k0_hw3 => k0_hw3.1
theorem k0_off9_inb : ∀ (v453 : BitVec 32) (k0_hw3 : k0_chk3 v453), ∀ a, (k0_off9 v453) a + S4x8x128.size a ≤ S21781x8x128.size a := fun v453 k0_hw3 => k0_hw3.2

def k0_off10 (i : grid0.Coords) : Fin 2 → Nat :=
  let c2_i32_277 : BitVec 32 := 2#32
  let arg0 : BitVec 32 := BitVec.ofNat 32 (i 0).val
  let v587 : BitVec 32 := Scalar.muli c2_i32_277 arg0
  let c0_i32_278 : BitVec 32 := 0#32
  let v588 : BitVec 32 := Scalar.addi v587 c0_i32_278
  let v589 : Index := Scalar.indexCast v588
  let c3_279 : Index := 3#32
  ![v589.toNat, 3]
def k0_off11 (v590 : BitVec 32) : Fin 3 → Nat :=
  let c7_i32_280 : BitVec 32 := 7#32
  let v591 : BitVec 32 := Scalar.shrui v590 c7_i32_280
  let v592 : Index := Scalar.indexCast v591
  let c0_281 : Index := 0#32
  let c0_282 : Index := 0#32
  ![v592.toNat, 0, 0]

def k0_off12 (v590 : BitVec 32) : Fin 3 → Nat :=
  let c7_i32_280 : BitVec 32 := 7#32
  let v591 : BitVec 32 := Scalar.shrui v590 c7_i32_280
  let c4_i32_283 : BitVec 32 := 4#32
  let v596 : BitVec 32 := Scalar.addi v591 c4_i32_283
  let v597 : Index := Scalar.indexCast v596
  let c0_284 : Index := 0#32
  let c0_285 : Index := 0#32
  ![v597.toNat, 0, 0]

def k0_chk4 (v590 : BitVec 32) : Prop :=
  (∀ a, (k0_off11 v590) a + S4x8x128.size a ≤ S21781x8x128.size a) ∧
  (∀ a, (k0_off12 v590) a + S4x8x128.size a ≤ S21781x8x128.size a)
theorem k0_off11_inb : ∀ (v590 : BitVec 32) (k0_hw4 : k0_chk4 v590), ∀ a, (k0_off11 v590) a + S4x8x128.size a ≤ S21781x8x128.size a := fun v590 k0_hw4 => k0_hw4.1
theorem k0_off12_inb : ∀ (v590 : BitVec 32) (k0_hw4 : k0_chk4 v590), ∀ a, (k0_off12 v590) a + S4x8x128.size a ≤ S21781x8x128.size a := fun v590 k0_hw4 => k0_hw4.2

def k0_off13 (i : grid0.Coords) : Fin 2 → Nat :=
  let c2_i32_347 : BitVec 32 := 2#32
  let arg0 : BitVec 32 := BitVec.ofNat 32 (i 0).val
  let v724 : BitVec 32 := Scalar.muli c2_i32_347 arg0
  let c0_i32_348 : BitVec 32 := 0#32
  let v725 : BitVec 32 := Scalar.addi v724 c0_i32_348
  let v726 : Index := Scalar.indexCast v725
  let c4_349 : Index := 4#32
  ![v726.toNat, 4]
def k0_off14 (v727 : BitVec 32) : Fin 3 → Nat :=
  let c7_i32_350 : BitVec 32 := 7#32
  let v728 : BitVec 32 := Scalar.shrui v727 c7_i32_350
  let v729 : Index := Scalar.indexCast v728
  let c0_351 : Index := 0#32
  let c0_352 : Index := 0#32
  ![v729.toNat, 0, 0]

def k0_off15 (v727 : BitVec 32) : Fin 3 → Nat :=
  let c7_i32_350 : BitVec 32 := 7#32
  let v728 : BitVec 32 := Scalar.shrui v727 c7_i32_350
  let c4_i32_353 : BitVec 32 := 4#32
  let v733 : BitVec 32 := Scalar.addi v728 c4_i32_353
  let v734 : Index := Scalar.indexCast v733
  let c0_354 : Index := 0#32
  let c0_355 : Index := 0#32
  ![v734.toNat, 0, 0]

def k0_chk5 (v727 : BitVec 32) : Prop :=
  (∀ a, (k0_off14 v727) a + S4x8x128.size a ≤ S21781x8x128.size a) ∧
  (∀ a, (k0_off15 v727) a + S4x8x128.size a ≤ S21781x8x128.size a)
theorem k0_off14_inb : ∀ (v727 : BitVec 32) (k0_hw5 : k0_chk5 v727), ∀ a, (k0_off14 v727) a + S4x8x128.size a ≤ S21781x8x128.size a := fun v727 k0_hw5 => k0_hw5.1
theorem k0_off15_inb : ∀ (v727 : BitVec 32) (k0_hw5 : k0_chk5 v727), ∀ a, (k0_off15 v727) a + S4x8x128.size a ≤ S21781x8x128.size a := fun v727 k0_hw5 => k0_hw5.2

def k0_off16 (i : grid0.Coords) : Fin 2 → Nat :=
  let c2_i32_417 : BitVec 32 := 2#32
  let arg0 : BitVec 32 := BitVec.ofNat 32 (i 0).val
  let v861 : BitVec 32 := Scalar.muli c2_i32_417 arg0
  let c0_i32_418 : BitVec 32 := 0#32
  let v862 : BitVec 32 := Scalar.addi v861 c0_i32_418
  let v863 : Index := Scalar.indexCast v862
  let c5_419 : Index := 5#32
  ![v863.toNat, 5]
def k0_off17 (v864 : BitVec 32) : Fin 3 → Nat :=
  let c7_i32_420 : BitVec 32 := 7#32
  let v865 : BitVec 32 := Scalar.shrui v864 c7_i32_420
  let v866 : Index := Scalar.indexCast v865
  let c0_421 : Index := 0#32
  let c0_422 : Index := 0#32
  ![v866.toNat, 0, 0]

def k0_off18 (v864 : BitVec 32) : Fin 3 → Nat :=
  let c7_i32_420 : BitVec 32 := 7#32
  let v865 : BitVec 32 := Scalar.shrui v864 c7_i32_420
  let c4_i32_423 : BitVec 32 := 4#32
  let v870 : BitVec 32 := Scalar.addi v865 c4_i32_423
  let v871 : Index := Scalar.indexCast v870
  let c0_424 : Index := 0#32
  let c0_425 : Index := 0#32
  ![v871.toNat, 0, 0]

def k0_chk6 (v864 : BitVec 32) : Prop :=
  (∀ a, (k0_off17 v864) a + S4x8x128.size a ≤ S21781x8x128.size a) ∧
  (∀ a, (k0_off18 v864) a + S4x8x128.size a ≤ S21781x8x128.size a)
theorem k0_off17_inb : ∀ (v864 : BitVec 32) (k0_hw6 : k0_chk6 v864), ∀ a, (k0_off17 v864) a + S4x8x128.size a ≤ S21781x8x128.size a := fun v864 k0_hw6 => k0_hw6.1
theorem k0_off18_inb : ∀ (v864 : BitVec 32) (k0_hw6 : k0_chk6 v864), ∀ a, (k0_off18 v864) a + S4x8x128.size a ≤ S21781x8x128.size a := fun v864 k0_hw6 => k0_hw6.2

def k0_off19 (i : grid0.Coords) : Fin 2 → Nat :=
  let c2_i32_487 : BitVec 32 := 2#32
  let arg0 : BitVec 32 := BitVec.ofNat 32 (i 0).val
  let v998 : BitVec 32 := Scalar.muli c2_i32_487 arg0
  let c0_i32_488 : BitVec 32 := 0#32
  let v999 : BitVec 32 := Scalar.addi v998 c0_i32_488
  let v1000 : Index := Scalar.indexCast v999
  let c6_489 : Index := 6#32
  ![v1000.toNat, 6]
def k0_off20 (v1001 : BitVec 32) : Fin 3 → Nat :=
  let c7_i32_490 : BitVec 32 := 7#32
  let v1002 : BitVec 32 := Scalar.shrui v1001 c7_i32_490
  let v1003 : Index := Scalar.indexCast v1002
  let c0_491 : Index := 0#32
  let c0_492 : Index := 0#32
  ![v1003.toNat, 0, 0]

def k0_off21 (v1001 : BitVec 32) : Fin 3 → Nat :=
  let c7_i32_490 : BitVec 32 := 7#32
  let v1002 : BitVec 32 := Scalar.shrui v1001 c7_i32_490
  let c4_i32_493 : BitVec 32 := 4#32
  let v1007 : BitVec 32 := Scalar.addi v1002 c4_i32_493
  let v1008 : Index := Scalar.indexCast v1007
  let c0_494 : Index := 0#32
  let c0_495 : Index := 0#32
  ![v1008.toNat, 0, 0]

def k0_chk7 (v1001 : BitVec 32) : Prop :=
  (∀ a, (k0_off20 v1001) a + S4x8x128.size a ≤ S21781x8x128.size a) ∧
  (∀ a, (k0_off21 v1001) a + S4x8x128.size a ≤ S21781x8x128.size a)
theorem k0_off20_inb : ∀ (v1001 : BitVec 32) (k0_hw7 : k0_chk7 v1001), ∀ a, (k0_off20 v1001) a + S4x8x128.size a ≤ S21781x8x128.size a := fun v1001 k0_hw7 => k0_hw7.1
theorem k0_off21_inb : ∀ (v1001 : BitVec 32) (k0_hw7 : k0_chk7 v1001), ∀ a, (k0_off21 v1001) a + S4x8x128.size a ≤ S21781x8x128.size a := fun v1001 k0_hw7 => k0_hw7.2

def k0_off22 (i : grid0.Coords) : Fin 2 → Nat :=
  let c2_i32_557 : BitVec 32 := 2#32
  let arg0 : BitVec 32 := BitVec.ofNat 32 (i 0).val
  let v1135 : BitVec 32 := Scalar.muli c2_i32_557 arg0
  let c0_i32_558 : BitVec 32 := 0#32
  let v1136 : BitVec 32 := Scalar.addi v1135 c0_i32_558
  let v1137 : Index := Scalar.indexCast v1136
  let c7_559 : Index := 7#32
  ![v1137.toNat, 7]
def k0_off23 (v1138 : BitVec 32) : Fin 3 → Nat :=
  let c7_i32_560 : BitVec 32 := 7#32
  let v1139 : BitVec 32 := Scalar.shrui v1138 c7_i32_560
  let v1140 : Index := Scalar.indexCast v1139
  let c0_561 : Index := 0#32
  let c0_562 : Index := 0#32
  ![v1140.toNat, 0, 0]

def k0_off24 (v1138 : BitVec 32) : Fin 3 → Nat :=
  let c7_i32_560 : BitVec 32 := 7#32
  let v1139 : BitVec 32 := Scalar.shrui v1138 c7_i32_560
  let c4_i32_563 : BitVec 32 := 4#32
  let v1144 : BitVec 32 := Scalar.addi v1139 c4_i32_563
  let v1145 : Index := Scalar.indexCast v1144
  let c0_564 : Index := 0#32
  let c0_565 : Index := 0#32
  ![v1145.toNat, 0, 0]

def k0_chk8 (v1138 : BitVec 32) : Prop :=
  (∀ a, (k0_off23 v1138) a + S4x8x128.size a ≤ S21781x8x128.size a) ∧
  (∀ a, (k0_off24 v1138) a + S4x8x128.size a ≤ S21781x8x128.size a)
theorem k0_off23_inb : ∀ (v1138 : BitVec 32) (k0_hw8 : k0_chk8 v1138), ∀ a, (k0_off23 v1138) a + S4x8x128.size a ≤ S21781x8x128.size a := fun v1138 k0_hw8 => k0_hw8.1
theorem k0_off24_inb : ∀ (v1138 : BitVec 32) (k0_hw8 : k0_chk8 v1138), ∀ a, (k0_off24 v1138) a + S4x8x128.size a ≤ S21781x8x128.size a := fun v1138 k0_hw8 => k0_hw8.2

def k0_mult2 : BitVec 32 :=
  let c0_i32_627 : BitVec 32 := 0#32
  c0_i32_627
def k0_off25 (i : grid0.Coords) : Fin 2 → Nat :=
  let c2_i32_689 : BitVec 32 := 2#32
  let arg0 : BitVec 32 := BitVec.ofNat 32 (i 0).val
  let v1349 : BitVec 32 := Scalar.muli c2_i32_689 arg0
  let c1_i32_690 : BitVec 32 := 1#32
  let v1350 : BitVec 32 := Scalar.addi v1349 c1_i32_690
  let v1351 : Index := Scalar.indexCast v1350
  let c0_691 : Index := 0#32
  ![v1351.toNat, 0]
def k0_off26 (v1352 : BitVec 32) : Fin 3 → Nat :=
  let c7_i32_692 : BitVec 32 := 7#32
  let v1353 : BitVec 32 := Scalar.shrui v1352 c7_i32_692
  let v1354 : Index := Scalar.indexCast v1353
  let c0_693 : Index := 0#32
  let c0_694 : Index := 0#32
  ![v1354.toNat, 0, 0]

def k0_off27 (v1352 : BitVec 32) : Fin 3 → Nat :=
  let c7_i32_692 : BitVec 32 := 7#32
  let v1353 : BitVec 32 := Scalar.shrui v1352 c7_i32_692
  let c4_i32_695 : BitVec 32 := 4#32
  let v1358 : BitVec 32 := Scalar.addi v1353 c4_i32_695
  let v1359 : Index := Scalar.indexCast v1358
  let c0_696 : Index := 0#32
  let c0_697 : Index := 0#32
  ![v1359.toNat, 0, 0]

def k0_chk9 (v1352 : BitVec 32) : Prop :=
  (∀ a, (k0_off26 v1352) a + S4x8x128.size a ≤ S21781x8x128.size a) ∧
  (∀ a, (k0_off27 v1352) a + S4x8x128.size a ≤ S21781x8x128.size a)
theorem k0_off26_inb : ∀ (v1352 : BitVec 32) (k0_hw9 : k0_chk9 v1352), ∀ a, (k0_off26 v1352) a + S4x8x128.size a ≤ S21781x8x128.size a := fun v1352 k0_hw9 => k0_hw9.1
theorem k0_off27_inb : ∀ (v1352 : BitVec 32) (k0_hw9 : k0_chk9 v1352), ∀ a, (k0_off27 v1352) a + S4x8x128.size a ≤ S21781x8x128.size a := fun v1352 k0_hw9 => k0_hw9.2

def k0_off28 (i : grid0.Coords) : Fin 2 → Nat :=
  let c2_i32_761 : BitVec 32 := 2#32
  let arg0 : BitVec 32 := BitVec.ofNat 32 (i 0).val
  let v1486 : BitVec 32 := Scalar.muli c2_i32_761 arg0
  let c1_i32_762 : BitVec 32 := 1#32
  let v1487 : BitVec 32 := Scalar.addi v1486 c1_i32_762
  let v1488 : Index := Scalar.indexCast v1487
  let c1_763 : Index := 1#32
  ![v1488.toNat, 1]
def k0_off29 (v1489 : BitVec 32) : Fin 3 → Nat :=
  let c7_i32_764 : BitVec 32 := 7#32
  let v1490 : BitVec 32 := Scalar.shrui v1489 c7_i32_764
  let v1491 : Index := Scalar.indexCast v1490
  let c0_765 : Index := 0#32
  let c0_766 : Index := 0#32
  ![v1491.toNat, 0, 0]

def k0_off30 (v1489 : BitVec 32) : Fin 3 → Nat :=
  let c7_i32_764 : BitVec 32 := 7#32
  let v1490 : BitVec 32 := Scalar.shrui v1489 c7_i32_764
  let c4_i32_767 : BitVec 32 := 4#32
  let v1495 : BitVec 32 := Scalar.addi v1490 c4_i32_767
  let v1496 : Index := Scalar.indexCast v1495
  let c0_768 : Index := 0#32
  let c0_769 : Index := 0#32
  ![v1496.toNat, 0, 0]

def k0_chk10 (v1489 : BitVec 32) : Prop :=
  (∀ a, (k0_off29 v1489) a + S4x8x128.size a ≤ S21781x8x128.size a) ∧
  (∀ a, (k0_off30 v1489) a + S4x8x128.size a ≤ S21781x8x128.size a)
theorem k0_off29_inb : ∀ (v1489 : BitVec 32) (k0_hw10 : k0_chk10 v1489), ∀ a, (k0_off29 v1489) a + S4x8x128.size a ≤ S21781x8x128.size a := fun v1489 k0_hw10 => k0_hw10.1
theorem k0_off30_inb : ∀ (v1489 : BitVec 32) (k0_hw10 : k0_chk10 v1489), ∀ a, (k0_off30 v1489) a + S4x8x128.size a ≤ S21781x8x128.size a := fun v1489 k0_hw10 => k0_hw10.2

def k0_off31 (i : grid0.Coords) : Fin 2 → Nat :=
  let c2_i32_833 : BitVec 32 := 2#32
  let arg0 : BitVec 32 := BitVec.ofNat 32 (i 0).val
  let v1623 : BitVec 32 := Scalar.muli c2_i32_833 arg0
  let c1_i32_834 : BitVec 32 := 1#32
  let v1624 : BitVec 32 := Scalar.addi v1623 c1_i32_834
  let v1625 : Index := Scalar.indexCast v1624
  let c2_835 : Index := 2#32
  ![v1625.toNat, 2]
def k0_off32 (v1626 : BitVec 32) : Fin 3 → Nat :=
  let c7_i32_836 : BitVec 32 := 7#32
  let v1627 : BitVec 32 := Scalar.shrui v1626 c7_i32_836
  let v1628 : Index := Scalar.indexCast v1627
  let c0_837 : Index := 0#32
  let c0_838 : Index := 0#32
  ![v1628.toNat, 0, 0]

def k0_off33 (v1626 : BitVec 32) : Fin 3 → Nat :=
  let c7_i32_836 : BitVec 32 := 7#32
  let v1627 : BitVec 32 := Scalar.shrui v1626 c7_i32_836
  let c4_i32_839 : BitVec 32 := 4#32
  let v1632 : BitVec 32 := Scalar.addi v1627 c4_i32_839
  let v1633 : Index := Scalar.indexCast v1632
  let c0_840 : Index := 0#32
  let c0_841 : Index := 0#32
  ![v1633.toNat, 0, 0]

def k0_chk11 (v1626 : BitVec 32) : Prop :=
  (∀ a, (k0_off32 v1626) a + S4x8x128.size a ≤ S21781x8x128.size a) ∧
  (∀ a, (k0_off33 v1626) a + S4x8x128.size a ≤ S21781x8x128.size a)
theorem k0_off32_inb : ∀ (v1626 : BitVec 32) (k0_hw11 : k0_chk11 v1626), ∀ a, (k0_off32 v1626) a + S4x8x128.size a ≤ S21781x8x128.size a := fun v1626 k0_hw11 => k0_hw11.1
theorem k0_off33_inb : ∀ (v1626 : BitVec 32) (k0_hw11 : k0_chk11 v1626), ∀ a, (k0_off33 v1626) a + S4x8x128.size a ≤ S21781x8x128.size a := fun v1626 k0_hw11 => k0_hw11.2

def k0_off34 (i : grid0.Coords) : Fin 2 → Nat :=
  let c2_i32_905 : BitVec 32 := 2#32
  let arg0 : BitVec 32 := BitVec.ofNat 32 (i 0).val
  let v1760 : BitVec 32 := Scalar.muli c2_i32_905 arg0
  let c1_i32_906 : BitVec 32 := 1#32
  let v1761 : BitVec 32 := Scalar.addi v1760 c1_i32_906
  let v1762 : Index := Scalar.indexCast v1761
  let c3_907 : Index := 3#32
  ![v1762.toNat, 3]
def k0_off35 (v1763 : BitVec 32) : Fin 3 → Nat :=
  let c7_i32_908 : BitVec 32 := 7#32
  let v1764 : BitVec 32 := Scalar.shrui v1763 c7_i32_908
  let v1765 : Index := Scalar.indexCast v1764
  let c0_909 : Index := 0#32
  let c0_910 : Index := 0#32
  ![v1765.toNat, 0, 0]

def k0_off36 (v1763 : BitVec 32) : Fin 3 → Nat :=
  let c7_i32_908 : BitVec 32 := 7#32
  let v1764 : BitVec 32 := Scalar.shrui v1763 c7_i32_908
  let c4_i32_911 : BitVec 32 := 4#32
  let v1769 : BitVec 32 := Scalar.addi v1764 c4_i32_911
  let v1770 : Index := Scalar.indexCast v1769
  let c0_912 : Index := 0#32
  let c0_913 : Index := 0#32
  ![v1770.toNat, 0, 0]

def k0_chk12 (v1763 : BitVec 32) : Prop :=
  (∀ a, (k0_off35 v1763) a + S4x8x128.size a ≤ S21781x8x128.size a) ∧
  (∀ a, (k0_off36 v1763) a + S4x8x128.size a ≤ S21781x8x128.size a)
theorem k0_off35_inb : ∀ (v1763 : BitVec 32) (k0_hw12 : k0_chk12 v1763), ∀ a, (k0_off35 v1763) a + S4x8x128.size a ≤ S21781x8x128.size a := fun v1763 k0_hw12 => k0_hw12.1
theorem k0_off36_inb : ∀ (v1763 : BitVec 32) (k0_hw12 : k0_chk12 v1763), ∀ a, (k0_off36 v1763) a + S4x8x128.size a ≤ S21781x8x128.size a := fun v1763 k0_hw12 => k0_hw12.2

def k0_off37 (i : grid0.Coords) : Fin 2 → Nat :=
  let c2_i32_977 : BitVec 32 := 2#32
  let arg0 : BitVec 32 := BitVec.ofNat 32 (i 0).val
  let v1897 : BitVec 32 := Scalar.muli c2_i32_977 arg0
  let c1_i32_978 : BitVec 32 := 1#32
  let v1898 : BitVec 32 := Scalar.addi v1897 c1_i32_978
  let v1899 : Index := Scalar.indexCast v1898
  let c4_979 : Index := 4#32
  ![v1899.toNat, 4]
def k0_off38 (v1900 : BitVec 32) : Fin 3 → Nat :=
  let c7_i32_980 : BitVec 32 := 7#32
  let v1901 : BitVec 32 := Scalar.shrui v1900 c7_i32_980
  let v1902 : Index := Scalar.indexCast v1901
  let c0_981 : Index := 0#32
  let c0_982 : Index := 0#32
  ![v1902.toNat, 0, 0]

def k0_off39 (v1900 : BitVec 32) : Fin 3 → Nat :=
  let c7_i32_980 : BitVec 32 := 7#32
  let v1901 : BitVec 32 := Scalar.shrui v1900 c7_i32_980
  let c4_i32_983 : BitVec 32 := 4#32
  let v1906 : BitVec 32 := Scalar.addi v1901 c4_i32_983
  let v1907 : Index := Scalar.indexCast v1906
  let c0_984 : Index := 0#32
  let c0_985 : Index := 0#32
  ![v1907.toNat, 0, 0]

def k0_chk13 (v1900 : BitVec 32) : Prop :=
  (∀ a, (k0_off38 v1900) a + S4x8x128.size a ≤ S21781x8x128.size a) ∧
  (∀ a, (k0_off39 v1900) a + S4x8x128.size a ≤ S21781x8x128.size a)
theorem k0_off38_inb : ∀ (v1900 : BitVec 32) (k0_hw13 : k0_chk13 v1900), ∀ a, (k0_off38 v1900) a + S4x8x128.size a ≤ S21781x8x128.size a := fun v1900 k0_hw13 => k0_hw13.1
theorem k0_off39_inb : ∀ (v1900 : BitVec 32) (k0_hw13 : k0_chk13 v1900), ∀ a, (k0_off39 v1900) a + S4x8x128.size a ≤ S21781x8x128.size a := fun v1900 k0_hw13 => k0_hw13.2

def k0_off40 (i : grid0.Coords) : Fin 2 → Nat :=
  let c2_i32_1049 : BitVec 32 := 2#32
  let arg0 : BitVec 32 := BitVec.ofNat 32 (i 0).val
  let v2034 : BitVec 32 := Scalar.muli c2_i32_1049 arg0
  let c1_i32_1050 : BitVec 32 := 1#32
  let v2035 : BitVec 32 := Scalar.addi v2034 c1_i32_1050
  let v2036 : Index := Scalar.indexCast v2035
  let c5_1051 : Index := 5#32
  ![v2036.toNat, 5]
def k0_off41 (v2037 : BitVec 32) : Fin 3 → Nat :=
  let c7_i32_1052 : BitVec 32 := 7#32
  let v2038 : BitVec 32 := Scalar.shrui v2037 c7_i32_1052
  let v2039 : Index := Scalar.indexCast v2038
  let c0_1053 : Index := 0#32
  let c0_1054 : Index := 0#32
  ![v2039.toNat, 0, 0]

def k0_off42 (v2037 : BitVec 32) : Fin 3 → Nat :=
  let c7_i32_1052 : BitVec 32 := 7#32
  let v2038 : BitVec 32 := Scalar.shrui v2037 c7_i32_1052
  let c4_i32_1055 : BitVec 32 := 4#32
  let v2043 : BitVec 32 := Scalar.addi v2038 c4_i32_1055
  let v2044 : Index := Scalar.indexCast v2043
  let c0_1056 : Index := 0#32
  let c0_1057 : Index := 0#32
  ![v2044.toNat, 0, 0]

def k0_chk14 (v2037 : BitVec 32) : Prop :=
  (∀ a, (k0_off41 v2037) a + S4x8x128.size a ≤ S21781x8x128.size a) ∧
  (∀ a, (k0_off42 v2037) a + S4x8x128.size a ≤ S21781x8x128.size a)
theorem k0_off41_inb : ∀ (v2037 : BitVec 32) (k0_hw14 : k0_chk14 v2037), ∀ a, (k0_off41 v2037) a + S4x8x128.size a ≤ S21781x8x128.size a := fun v2037 k0_hw14 => k0_hw14.1
theorem k0_off42_inb : ∀ (v2037 : BitVec 32) (k0_hw14 : k0_chk14 v2037), ∀ a, (k0_off42 v2037) a + S4x8x128.size a ≤ S21781x8x128.size a := fun v2037 k0_hw14 => k0_hw14.2

def k0_off43 (i : grid0.Coords) : Fin 2 → Nat :=
  let c2_i32_1121 : BitVec 32 := 2#32
  let arg0 : BitVec 32 := BitVec.ofNat 32 (i 0).val
  let v2171 : BitVec 32 := Scalar.muli c2_i32_1121 arg0
  let c1_i32_1122 : BitVec 32 := 1#32
  let v2172 : BitVec 32 := Scalar.addi v2171 c1_i32_1122
  let v2173 : Index := Scalar.indexCast v2172
  let c6_1123 : Index := 6#32
  ![v2173.toNat, 6]
def k0_off44 (v2174 : BitVec 32) : Fin 3 → Nat :=
  let c7_i32_1124 : BitVec 32 := 7#32
  let v2175 : BitVec 32 := Scalar.shrui v2174 c7_i32_1124
  let v2176 : Index := Scalar.indexCast v2175
  let c0_1125 : Index := 0#32
  let c0_1126 : Index := 0#32
  ![v2176.toNat, 0, 0]

def k0_off45 (v2174 : BitVec 32) : Fin 3 → Nat :=
  let c7_i32_1124 : BitVec 32 := 7#32
  let v2175 : BitVec 32 := Scalar.shrui v2174 c7_i32_1124
  let c4_i32_1127 : BitVec 32 := 4#32
  let v2180 : BitVec 32 := Scalar.addi v2175 c4_i32_1127
  let v2181 : Index := Scalar.indexCast v2180
  let c0_1128 : Index := 0#32
  let c0_1129 : Index := 0#32
  ![v2181.toNat, 0, 0]

def k0_chk15 (v2174 : BitVec 32) : Prop :=
  (∀ a, (k0_off44 v2174) a + S4x8x128.size a ≤ S21781x8x128.size a) ∧
  (∀ a, (k0_off45 v2174) a + S4x8x128.size a ≤ S21781x8x128.size a)
theorem k0_off44_inb : ∀ (v2174 : BitVec 32) (k0_hw15 : k0_chk15 v2174), ∀ a, (k0_off44 v2174) a + S4x8x128.size a ≤ S21781x8x128.size a := fun v2174 k0_hw15 => k0_hw15.1
theorem k0_off45_inb : ∀ (v2174 : BitVec 32) (k0_hw15 : k0_chk15 v2174), ∀ a, (k0_off45 v2174) a + S4x8x128.size a ≤ S21781x8x128.size a := fun v2174 k0_hw15 => k0_hw15.2

def k0_off46 (i : grid0.Coords) : Fin 2 → Nat :=
  let c2_i32_1193 : BitVec 32 := 2#32
  let arg0 : BitVec 32 := BitVec.ofNat 32 (i 0).val
  let v2308 : BitVec 32 := Scalar.muli c2_i32_1193 arg0
  let c1_i32_1194 : BitVec 32 := 1#32
  let v2309 : BitVec 32 := Scalar.addi v2308 c1_i32_1194
  let v2310 : Index := Scalar.indexCast v2309
  let c7_1195 : Index := 7#32
  ![v2310.toNat, 7]
def k0_off47 (v2311 : BitVec 32) : Fin 3 → Nat :=
  let c7_i32_1196 : BitVec 32 := 7#32
  let v2312 : BitVec 32 := Scalar.shrui v2311 c7_i32_1196
  let v2313 : Index := Scalar.indexCast v2312
  let c0_1197 : Index := 0#32
  let c0_1198 : Index := 0#32
  ![v2313.toNat, 0, 0]

def k0_off48 (v2311 : BitVec 32) : Fin 3 → Nat :=
  let c7_i32_1196 : BitVec 32 := 7#32
  let v2312 : BitVec 32 := Scalar.shrui v2311 c7_i32_1196
  let c4_i32_1199 : BitVec 32 := 4#32
  let v2317 : BitVec 32 := Scalar.addi v2312 c4_i32_1199
  let v2318 : Index := Scalar.indexCast v2317
  let c0_1200 : Index := 0#32
  let c0_1201 : Index := 0#32
  ![v2318.toNat, 0, 0]

def k0_chk16 (v2311 : BitVec 32) : Prop :=
  (∀ a, (k0_off47 v2311) a + S4x8x128.size a ≤ S21781x8x128.size a) ∧
  (∀ a, (k0_off48 v2311) a + S4x8x128.size a ≤ S21781x8x128.size a)
theorem k0_off47_inb : ∀ (v2311 : BitVec 32) (k0_hw16 : k0_chk16 v2311), ∀ a, (k0_off47 v2311) a + S4x8x128.size a ≤ S21781x8x128.size a := fun v2311 k0_hw16 => k0_hw16.1
theorem k0_off48_inb : ∀ (v2311 : BitVec 32) (k0_hw16 : k0_chk16 v2311), ∀ a, (k0_off48 v2311) a + S4x8x128.size a ≤ S21781x8x128.size a := fun v2311 k0_hw16 => k0_hw16.2

@[reducible] def k0_t1_loop : Scf.Loop 32 :=
  let c0_i32_1267 : BitVec 32 := 0#32
  let c28_i32 : BitVec 32 := 28#32
  let v2449 : BitVec 32 := Scalar.addi c0_i32_1267 c28_i32
  let c1_i32_1268 : BitVec 32 := 1#32
  ⟨c0_i32_1267, v2449, c1_i32_1268⟩
def k0_cond2 (k0_t1 : Fin k0_t1_loop.trips) : BitVec 1 :=
  let c0_i32_1267 : BitVec 32 := 0#32
  let c1_i32_1268 : BitVec 32 := 1#32
  let arg13 : BitVec 32 := Scf.iv c0_i32_1267 c1_i32_1268 k0_t1
  let c1_i32_1274 : BitVec 32 := 1#32
  let v2453 : BitVec 32 := Scalar.addi arg13 c1_i32_1274
  let c28_i32_1275 : BitVec 32 := 28#32
  let v2454 : BitVec 1 := Scalar.cmpi .slt v2453 c28_i32_1275
  let v2455 : BitVec 32 := Scalar.extui v2454
  let c0_i32_1276 : BitVec 32 := 0#32
  let v2456 : BitVec 1 := Scalar.cmpi .ne v2455 c0_i32_1276
  v2456

def k0_mult3 (k0_t1 : Fin k0_t1_loop.trips) : BitVec 32 :=
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1299 : BitVec 32 := 8#32
  let v2488 : BitVec 32 := Scalar.muli v2485 c8_i32_1299
  v2488
def k0_off49 (k0_t1 : Fin k0_t1_loop.trips) : Fin 2 → Nat :=
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1299 : BitVec 32 := 8#32
  let v2488 : BitVec 32 := Scalar.muli v2485 c8_i32_1299
  let v2489 : BitVec 32 := v2488
  let v2490 : Index := Scalar.indexCast v2489
  let c0_1300 : Index := 0#32
  ![v2490.toNat, 0]
def k0_off50 (i : grid0.Coords) (k0_t1 : Fin k0_t1_loop.trips) : Fin 2 → Nat :=
  let c2_i32_1362 : BitVec 32 := 2#32
  let arg0 : BitVec 32 := BitVec.ofNat 32 (i 0).val
  let v2566 : BitVec 32 := Scalar.muli c2_i32_1362 arg0
  let c0_i32_1363 : BitVec 32 := 0#32
  let v2567 : BitVec 32 := Scalar.addi v2566 c0_i32_1363
  let v2570 : Index := Scalar.indexCast v2567
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1364 : BitVec 32 := 8#32
  let v2568 : BitVec 32 := Scalar.muli v2485 c8_i32_1364
  let c0_i32_1365 : BitVec 32 := 0#32
  let v2569 : BitVec 32 := Scalar.addi v2568 c0_i32_1365
  let v2571 : Index := Scalar.indexCast v2569
  ![v2570.toNat, v2571.toNat]
def k0_off51 (v2572 : BitVec 32) : Fin 3 → Nat :=
  let c7_i32_1366 : BitVec 32 := 7#32
  let v2573 : BitVec 32 := Scalar.shrui v2572 c7_i32_1366
  let v2574 : Index := Scalar.indexCast v2573
  let c0_1367 : Index := 0#32
  let c0_1368 : Index := 0#32
  ![v2574.toNat, 0, 0]

def k0_off52 (v2572 : BitVec 32) : Fin 3 → Nat :=
  let c7_i32_1366 : BitVec 32 := 7#32
  let v2573 : BitVec 32 := Scalar.shrui v2572 c7_i32_1366
  let c4_i32_1369 : BitVec 32 := 4#32
  let v2578 : BitVec 32 := Scalar.addi v2573 c4_i32_1369
  let v2579 : Index := Scalar.indexCast v2578
  let c0_1370 : Index := 0#32
  let c0_1371 : Index := 0#32
  ![v2579.toNat, 0, 0]

def k0_chk17 (k0_t1 : Fin k0_t1_loop.trips) (v2572 : BitVec 32) : Prop :=
  (∀ (k0_h2 : k0_cond2 k0_t1 = 1#1), ∀ a, (k0_off51 v2572) a + S4x8x128.size a ≤ S21781x8x128.size a) ∧
  (∀ (k0_h2 : k0_cond2 k0_t1 = 1#1), ∀ a, (k0_off52 v2572) a + S4x8x128.size a ≤ S21781x8x128.size a)
theorem k0_off51_inb : ∀ (k0_t1 : Fin k0_t1_loop.trips) (v2572 : BitVec 32) (k0_hw17 : k0_chk17 k0_t1 v2572), ∀ (k0_h2 : k0_cond2 k0_t1 = 1#1), ∀ a, (k0_off51 v2572) a + S4x8x128.size a ≤ S21781x8x128.size a := fun k0_t1 v2572 k0_hw17 k0_h2 => k0_hw17.1 k0_h2
theorem k0_off52_inb : ∀ (k0_t1 : Fin k0_t1_loop.trips) (v2572 : BitVec 32) (k0_hw17 : k0_chk17 k0_t1 v2572), ∀ (k0_h2 : k0_cond2 k0_t1 = 1#1), ∀ a, (k0_off52 v2572) a + S4x8x128.size a ≤ S21781x8x128.size a := fun k0_t1 v2572 k0_hw17 k0_h2 => k0_hw17.2 k0_h2

def k0_off53 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v2700 : Index := Scalar.indexCast v2487
  let c0_1427 : Index := 0#32
  let c0_1428 : Index := 0#32
  let c0_1429 : Index := 0#32
  ![v2700.toNat, 0, 0, 0, 0]
def k0_off54 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v2704 : Index := Scalar.indexCast v2487
  let c0_1430 : Index := 0#32
  let c8_1431 : Index := 8#32
  let c0_1432 : Index := 0#32
  ![v2704.toNat, 0, 8, 0, 0]
def k0_off55 (i : grid0.Coords) (k0_t1 : Fin k0_t1_loop.trips) : Fin 2 → Nat :=
  let c2_i32_1433 : BitVec 32 := 2#32
  let arg0 : BitVec 32 := BitVec.ofNat 32 (i 0).val
  let v2708 : BitVec 32 := Scalar.muli c2_i32_1433 arg0
  let c0_i32_1434 : BitVec 32 := 0#32
  let v2709 : BitVec 32 := Scalar.addi v2708 c0_i32_1434
  let v2712 : Index := Scalar.indexCast v2709
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1435 : BitVec 32 := 8#32
  let v2710 : BitVec 32 := Scalar.muli v2485 c8_i32_1435
  let c1_i32_1436 : BitVec 32 := 1#32
  let v2711 : BitVec 32 := Scalar.addi v2710 c1_i32_1436
  let v2713 : Index := Scalar.indexCast v2711
  ![v2712.toNat, v2713.toNat]
def k0_off56 (v2714 : BitVec 32) : Fin 3 → Nat :=
  let c7_i32_1437 : BitVec 32 := 7#32
  let v2715 : BitVec 32 := Scalar.shrui v2714 c7_i32_1437
  let v2716 : Index := Scalar.indexCast v2715
  let c0_1438 : Index := 0#32
  let c0_1439 : Index := 0#32
  ![v2716.toNat, 0, 0]

def k0_off57 (v2714 : BitVec 32) : Fin 3 → Nat :=
  let c7_i32_1437 : BitVec 32 := 7#32
  let v2715 : BitVec 32 := Scalar.shrui v2714 c7_i32_1437
  let c4_i32_1440 : BitVec 32 := 4#32
  let v2720 : BitVec 32 := Scalar.addi v2715 c4_i32_1440
  let v2721 : Index := Scalar.indexCast v2720
  let c0_1441 : Index := 0#32
  let c0_1442 : Index := 0#32
  ![v2721.toNat, 0, 0]

def k0_chk18 (k0_t1 : Fin k0_t1_loop.trips) (v2714 : BitVec 32) : Prop :=
  (∀ (k0_h2 : k0_cond2 k0_t1 = 1#1), ∀ a, (k0_off56 v2714) a + S4x8x128.size a ≤ S21781x8x128.size a) ∧
  (∀ (k0_h2 : k0_cond2 k0_t1 = 1#1), ∀ a, (k0_off57 v2714) a + S4x8x128.size a ≤ S21781x8x128.size a)
theorem k0_off56_inb : ∀ (k0_t1 : Fin k0_t1_loop.trips) (v2714 : BitVec 32) (k0_hw18 : k0_chk18 k0_t1 v2714), ∀ (k0_h2 : k0_cond2 k0_t1 = 1#1), ∀ a, (k0_off56 v2714) a + S4x8x128.size a ≤ S21781x8x128.size a := fun k0_t1 v2714 k0_hw18 k0_h2 => k0_hw18.1 k0_h2
theorem k0_off57_inb : ∀ (k0_t1 : Fin k0_t1_loop.trips) (v2714 : BitVec 32) (k0_hw18 : k0_chk18 k0_t1 v2714), ∀ (k0_h2 : k0_cond2 k0_t1 = 1#1), ∀ a, (k0_off57 v2714) a + S4x8x128.size a ≤ S21781x8x128.size a := fun k0_t1 v2714 k0_hw18 k0_h2 => k0_hw18.2 k0_h2

def k0_off58 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v2842 : Index := Scalar.indexCast v2487
  let c0_1498 : Index := 0#32
  let c16_1499 : Index := 16#32
  let c0_1500 : Index := 0#32
  ![v2842.toNat, 0, 16, 0, 0]
def k0_off59 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v2846 : Index := Scalar.indexCast v2487
  let c0_1501 : Index := 0#32
  let c24_1502 : Index := 24#32
  let c0_1503 : Index := 0#32
  ![v2846.toNat, 0, 24, 0, 0]
def k0_off60 (i : grid0.Coords) (k0_t1 : Fin k0_t1_loop.trips) : Fin 2 → Nat :=
  let c2_i32_1504 : BitVec 32 := 2#32
  let arg0 : BitVec 32 := BitVec.ofNat 32 (i 0).val
  let v2850 : BitVec 32 := Scalar.muli c2_i32_1504 arg0
  let c0_i32_1505 : BitVec 32 := 0#32
  let v2851 : BitVec 32 := Scalar.addi v2850 c0_i32_1505
  let v2854 : Index := Scalar.indexCast v2851
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1506 : BitVec 32 := 8#32
  let v2852 : BitVec 32 := Scalar.muli v2485 c8_i32_1506
  let c2_i32_1507 : BitVec 32 := 2#32
  let v2853 : BitVec 32 := Scalar.addi v2852 c2_i32_1507
  let v2855 : Index := Scalar.indexCast v2853
  ![v2854.toNat, v2855.toNat]
def k0_off61 (v2856 : BitVec 32) : Fin 3 → Nat :=
  let c7_i32_1508 : BitVec 32 := 7#32
  let v2857 : BitVec 32 := Scalar.shrui v2856 c7_i32_1508
  let v2858 : Index := Scalar.indexCast v2857
  let c0_1509 : Index := 0#32
  let c0_1510 : Index := 0#32
  ![v2858.toNat, 0, 0]

def k0_off62 (v2856 : BitVec 32) : Fin 3 → Nat :=
  let c7_i32_1508 : BitVec 32 := 7#32
  let v2857 : BitVec 32 := Scalar.shrui v2856 c7_i32_1508
  let c4_i32_1511 : BitVec 32 := 4#32
  let v2862 : BitVec 32 := Scalar.addi v2857 c4_i32_1511
  let v2863 : Index := Scalar.indexCast v2862
  let c0_1512 : Index := 0#32
  let c0_1513 : Index := 0#32
  ![v2863.toNat, 0, 0]

def k0_chk19 (k0_t1 : Fin k0_t1_loop.trips) (v2856 : BitVec 32) : Prop :=
  (∀ (k0_h2 : k0_cond2 k0_t1 = 1#1), ∀ a, (k0_off61 v2856) a + S4x8x128.size a ≤ S21781x8x128.size a) ∧
  (∀ (k0_h2 : k0_cond2 k0_t1 = 1#1), ∀ a, (k0_off62 v2856) a + S4x8x128.size a ≤ S21781x8x128.size a)
theorem k0_off61_inb : ∀ (k0_t1 : Fin k0_t1_loop.trips) (v2856 : BitVec 32) (k0_hw19 : k0_chk19 k0_t1 v2856), ∀ (k0_h2 : k0_cond2 k0_t1 = 1#1), ∀ a, (k0_off61 v2856) a + S4x8x128.size a ≤ S21781x8x128.size a := fun k0_t1 v2856 k0_hw19 k0_h2 => k0_hw19.1 k0_h2
theorem k0_off62_inb : ∀ (k0_t1 : Fin k0_t1_loop.trips) (v2856 : BitVec 32) (k0_hw19 : k0_chk19 k0_t1 v2856), ∀ (k0_h2 : k0_cond2 k0_t1 = 1#1), ∀ a, (k0_off62 v2856) a + S4x8x128.size a ≤ S21781x8x128.size a := fun k0_t1 v2856 k0_hw19 k0_h2 => k0_hw19.2 k0_h2

def k0_off63 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v2984 : Index := Scalar.indexCast v2487
  let c0_1569 : Index := 0#32
  let c32_1570 : Index := 32#32
  let c0_1571 : Index := 0#32
  ![v2984.toNat, 0, 32, 0, 0]
def k0_off64 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v2988 : Index := Scalar.indexCast v2487
  let c0_1572 : Index := 0#32
  let c40_1573 : Index := 40#32
  let c0_1574 : Index := 0#32
  ![v2988.toNat, 0, 40, 0, 0]
def k0_off65 (i : grid0.Coords) (k0_t1 : Fin k0_t1_loop.trips) : Fin 2 → Nat :=
  let c2_i32_1575 : BitVec 32 := 2#32
  let arg0 : BitVec 32 := BitVec.ofNat 32 (i 0).val
  let v2992 : BitVec 32 := Scalar.muli c2_i32_1575 arg0
  let c0_i32_1576 : BitVec 32 := 0#32
  let v2993 : BitVec 32 := Scalar.addi v2992 c0_i32_1576
  let v2996 : Index := Scalar.indexCast v2993
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1577 : BitVec 32 := 8#32
  let v2994 : BitVec 32 := Scalar.muli v2485 c8_i32_1577
  let c3_i32_1578 : BitVec 32 := 3#32
  let v2995 : BitVec 32 := Scalar.addi v2994 c3_i32_1578
  let v2997 : Index := Scalar.indexCast v2995
  ![v2996.toNat, v2997.toNat]
def k0_off66 (v2998 : BitVec 32) : Fin 3 → Nat :=
  let c7_i32_1579 : BitVec 32 := 7#32
  let v2999 : BitVec 32 := Scalar.shrui v2998 c7_i32_1579
  let v3000 : Index := Scalar.indexCast v2999
  let c0_1580 : Index := 0#32
  let c0_1581 : Index := 0#32
  ![v3000.toNat, 0, 0]

def k0_off67 (v2998 : BitVec 32) : Fin 3 → Nat :=
  let c7_i32_1579 : BitVec 32 := 7#32
  let v2999 : BitVec 32 := Scalar.shrui v2998 c7_i32_1579
  let c4_i32_1582 : BitVec 32 := 4#32
  let v3004 : BitVec 32 := Scalar.addi v2999 c4_i32_1582
  let v3005 : Index := Scalar.indexCast v3004
  let c0_1583 : Index := 0#32
  let c0_1584 : Index := 0#32
  ![v3005.toNat, 0, 0]

def k0_chk20 (k0_t1 : Fin k0_t1_loop.trips) (v2998 : BitVec 32) : Prop :=
  (∀ (k0_h2 : k0_cond2 k0_t1 = 1#1), ∀ a, (k0_off66 v2998) a + S4x8x128.size a ≤ S21781x8x128.size a) ∧
  (∀ (k0_h2 : k0_cond2 k0_t1 = 1#1), ∀ a, (k0_off67 v2998) a + S4x8x128.size a ≤ S21781x8x128.size a)
theorem k0_off66_inb : ∀ (k0_t1 : Fin k0_t1_loop.trips) (v2998 : BitVec 32) (k0_hw20 : k0_chk20 k0_t1 v2998), ∀ (k0_h2 : k0_cond2 k0_t1 = 1#1), ∀ a, (k0_off66 v2998) a + S4x8x128.size a ≤ S21781x8x128.size a := fun k0_t1 v2998 k0_hw20 k0_h2 => k0_hw20.1 k0_h2
theorem k0_off67_inb : ∀ (k0_t1 : Fin k0_t1_loop.trips) (v2998 : BitVec 32) (k0_hw20 : k0_chk20 k0_t1 v2998), ∀ (k0_h2 : k0_cond2 k0_t1 = 1#1), ∀ a, (k0_off67 v2998) a + S4x8x128.size a ≤ S21781x8x128.size a := fun k0_t1 v2998 k0_hw20 k0_h2 => k0_hw20.2 k0_h2

def k0_off68 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3126 : Index := Scalar.indexCast v2487
  let c0_1640 : Index := 0#32
  let c48_1641 : Index := 48#32
  let c0_1642 : Index := 0#32
  ![v3126.toNat, 0, 48, 0, 0]
def k0_off69 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3130 : Index := Scalar.indexCast v2487
  let c0_1643 : Index := 0#32
  let c56_1644 : Index := 56#32
  let c0_1645 : Index := 0#32
  ![v3130.toNat, 0, 56, 0, 0]
def k0_off70 (i : grid0.Coords) (k0_t1 : Fin k0_t1_loop.trips) : Fin 2 → Nat :=
  let c2_i32_1646 : BitVec 32 := 2#32
  let arg0 : BitVec 32 := BitVec.ofNat 32 (i 0).val
  let v3134 : BitVec 32 := Scalar.muli c2_i32_1646 arg0
  let c0_i32_1647 : BitVec 32 := 0#32
  let v3135 : BitVec 32 := Scalar.addi v3134 c0_i32_1647
  let v3138 : Index := Scalar.indexCast v3135
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1648 : BitVec 32 := 8#32
  let v3136 : BitVec 32 := Scalar.muli v2485 c8_i32_1648
  let c4_i32_1649 : BitVec 32 := 4#32
  let v3137 : BitVec 32 := Scalar.addi v3136 c4_i32_1649
  let v3139 : Index := Scalar.indexCast v3137
  ![v3138.toNat, v3139.toNat]
def k0_off71 (v3140 : BitVec 32) : Fin 3 → Nat :=
  let c7_i32_1650 : BitVec 32 := 7#32
  let v3141 : BitVec 32 := Scalar.shrui v3140 c7_i32_1650
  let v3142 : Index := Scalar.indexCast v3141
  let c0_1651 : Index := 0#32
  let c0_1652 : Index := 0#32
  ![v3142.toNat, 0, 0]

def k0_off72 (v3140 : BitVec 32) : Fin 3 → Nat :=
  let c7_i32_1650 : BitVec 32 := 7#32
  let v3141 : BitVec 32 := Scalar.shrui v3140 c7_i32_1650
  let c4_i32_1653 : BitVec 32 := 4#32
  let v3146 : BitVec 32 := Scalar.addi v3141 c4_i32_1653
  let v3147 : Index := Scalar.indexCast v3146
  let c0_1654 : Index := 0#32
  let c0_1655 : Index := 0#32
  ![v3147.toNat, 0, 0]

def k0_chk21 (k0_t1 : Fin k0_t1_loop.trips) (v3140 : BitVec 32) : Prop :=
  (∀ (k0_h2 : k0_cond2 k0_t1 = 1#1), ∀ a, (k0_off71 v3140) a + S4x8x128.size a ≤ S21781x8x128.size a) ∧
  (∀ (k0_h2 : k0_cond2 k0_t1 = 1#1), ∀ a, (k0_off72 v3140) a + S4x8x128.size a ≤ S21781x8x128.size a)
theorem k0_off71_inb : ∀ (k0_t1 : Fin k0_t1_loop.trips) (v3140 : BitVec 32) (k0_hw21 : k0_chk21 k0_t1 v3140), ∀ (k0_h2 : k0_cond2 k0_t1 = 1#1), ∀ a, (k0_off71 v3140) a + S4x8x128.size a ≤ S21781x8x128.size a := fun k0_t1 v3140 k0_hw21 k0_h2 => k0_hw21.1 k0_h2
theorem k0_off72_inb : ∀ (k0_t1 : Fin k0_t1_loop.trips) (v3140 : BitVec 32) (k0_hw21 : k0_chk21 k0_t1 v3140), ∀ (k0_h2 : k0_cond2 k0_t1 = 1#1), ∀ a, (k0_off72 v3140) a + S4x8x128.size a ≤ S21781x8x128.size a := fun k0_t1 v3140 k0_hw21 k0_h2 => k0_hw21.2 k0_h2

def k0_off73 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3268 : Index := Scalar.indexCast v2487
  let c0_1711 : Index := 0#32
  let c64_1712 : Index := 64#32
  let c0_1713 : Index := 0#32
  ![v3268.toNat, 0, 64, 0, 0]
def k0_off74 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3272 : Index := Scalar.indexCast v2487
  let c0_1714 : Index := 0#32
  let c72_1715 : Index := 72#32
  let c0_1716 : Index := 0#32
  ![v3272.toNat, 0, 72, 0, 0]
def k0_off75 (i : grid0.Coords) (k0_t1 : Fin k0_t1_loop.trips) : Fin 2 → Nat :=
  let c2_i32_1717 : BitVec 32 := 2#32
  let arg0 : BitVec 32 := BitVec.ofNat 32 (i 0).val
  let v3276 : BitVec 32 := Scalar.muli c2_i32_1717 arg0
  let c0_i32_1718 : BitVec 32 := 0#32
  let v3277 : BitVec 32 := Scalar.addi v3276 c0_i32_1718
  let v3280 : Index := Scalar.indexCast v3277
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1719 : BitVec 32 := 8#32
  let v3278 : BitVec 32 := Scalar.muli v2485 c8_i32_1719
  let c5_i32 : BitVec 32 := 5#32
  let v3279 : BitVec 32 := Scalar.addi v3278 c5_i32
  let v3281 : Index := Scalar.indexCast v3279
  ![v3280.toNat, v3281.toNat]
def k0_off76 (v3282 : BitVec 32) : Fin 3 → Nat :=
  let c7_i32_1720 : BitVec 32 := 7#32
  let v3283 : BitVec 32 := Scalar.shrui v3282 c7_i32_1720
  let v3284 : Index := Scalar.indexCast v3283
  let c0_1721 : Index := 0#32
  let c0_1722 : Index := 0#32
  ![v3284.toNat, 0, 0]

def k0_off77 (v3282 : BitVec 32) : Fin 3 → Nat :=
  let c7_i32_1720 : BitVec 32 := 7#32
  let v3283 : BitVec 32 := Scalar.shrui v3282 c7_i32_1720
  let c4_i32_1723 : BitVec 32 := 4#32
  let v3288 : BitVec 32 := Scalar.addi v3283 c4_i32_1723
  let v3289 : Index := Scalar.indexCast v3288
  let c0_1724 : Index := 0#32
  let c0_1725 : Index := 0#32
  ![v3289.toNat, 0, 0]

def k0_chk22 (k0_t1 : Fin k0_t1_loop.trips) (v3282 : BitVec 32) : Prop :=
  (∀ (k0_h2 : k0_cond2 k0_t1 = 1#1), ∀ a, (k0_off76 v3282) a + S4x8x128.size a ≤ S21781x8x128.size a) ∧
  (∀ (k0_h2 : k0_cond2 k0_t1 = 1#1), ∀ a, (k0_off77 v3282) a + S4x8x128.size a ≤ S21781x8x128.size a)
theorem k0_off76_inb : ∀ (k0_t1 : Fin k0_t1_loop.trips) (v3282 : BitVec 32) (k0_hw22 : k0_chk22 k0_t1 v3282), ∀ (k0_h2 : k0_cond2 k0_t1 = 1#1), ∀ a, (k0_off76 v3282) a + S4x8x128.size a ≤ S21781x8x128.size a := fun k0_t1 v3282 k0_hw22 k0_h2 => k0_hw22.1 k0_h2
theorem k0_off77_inb : ∀ (k0_t1 : Fin k0_t1_loop.trips) (v3282 : BitVec 32) (k0_hw22 : k0_chk22 k0_t1 v3282), ∀ (k0_h2 : k0_cond2 k0_t1 = 1#1), ∀ a, (k0_off77 v3282) a + S4x8x128.size a ≤ S21781x8x128.size a := fun k0_t1 v3282 k0_hw22 k0_h2 => k0_hw22.2 k0_h2

def k0_off78 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3410 : Index := Scalar.indexCast v2487
  let c0_1781 : Index := 0#32
  let c80_1782 : Index := 80#32
  let c0_1783 : Index := 0#32
  ![v3410.toNat, 0, 80, 0, 0]
def k0_off79 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3414 : Index := Scalar.indexCast v2487
  let c0_1784 : Index := 0#32
  let c88_1785 : Index := 88#32
  let c0_1786 : Index := 0#32
  ![v3414.toNat, 0, 88, 0, 0]
def k0_off80 (i : grid0.Coords) (k0_t1 : Fin k0_t1_loop.trips) : Fin 2 → Nat :=
  let c2_i32_1787 : BitVec 32 := 2#32
  let arg0 : BitVec 32 := BitVec.ofNat 32 (i 0).val
  let v3418 : BitVec 32 := Scalar.muli c2_i32_1787 arg0
  let c0_i32_1788 : BitVec 32 := 0#32
  let v3419 : BitVec 32 := Scalar.addi v3418 c0_i32_1788
  let v3422 : Index := Scalar.indexCast v3419
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1789 : BitVec 32 := 8#32
  let v3420 : BitVec 32 := Scalar.muli v2485 c8_i32_1789
  let c6_i32 : BitVec 32 := 6#32
  let v3421 : BitVec 32 := Scalar.addi v3420 c6_i32
  let v3423 : Index := Scalar.indexCast v3421
  ![v3422.toNat, v3423.toNat]
def k0_off81 (v3424 : BitVec 32) : Fin 3 → Nat :=
  let c7_i32_1790 : BitVec 32 := 7#32
  let v3425 : BitVec 32 := Scalar.shrui v3424 c7_i32_1790
  let v3426 : Index := Scalar.indexCast v3425
  let c0_1791 : Index := 0#32
  let c0_1792 : Index := 0#32
  ![v3426.toNat, 0, 0]

def k0_off82 (v3424 : BitVec 32) : Fin 3 → Nat :=
  let c7_i32_1790 : BitVec 32 := 7#32
  let v3425 : BitVec 32 := Scalar.shrui v3424 c7_i32_1790
  let c4_i32_1793 : BitVec 32 := 4#32
  let v3430 : BitVec 32 := Scalar.addi v3425 c4_i32_1793
  let v3431 : Index := Scalar.indexCast v3430
  let c0_1794 : Index := 0#32
  let c0_1795 : Index := 0#32
  ![v3431.toNat, 0, 0]

def k0_chk23 (k0_t1 : Fin k0_t1_loop.trips) (v3424 : BitVec 32) : Prop :=
  (∀ (k0_h2 : k0_cond2 k0_t1 = 1#1), ∀ a, (k0_off81 v3424) a + S4x8x128.size a ≤ S21781x8x128.size a) ∧
  (∀ (k0_h2 : k0_cond2 k0_t1 = 1#1), ∀ a, (k0_off82 v3424) a + S4x8x128.size a ≤ S21781x8x128.size a)
theorem k0_off81_inb : ∀ (k0_t1 : Fin k0_t1_loop.trips) (v3424 : BitVec 32) (k0_hw23 : k0_chk23 k0_t1 v3424), ∀ (k0_h2 : k0_cond2 k0_t1 = 1#1), ∀ a, (k0_off81 v3424) a + S4x8x128.size a ≤ S21781x8x128.size a := fun k0_t1 v3424 k0_hw23 k0_h2 => k0_hw23.1 k0_h2
theorem k0_off82_inb : ∀ (k0_t1 : Fin k0_t1_loop.trips) (v3424 : BitVec 32) (k0_hw23 : k0_chk23 k0_t1 v3424), ∀ (k0_h2 : k0_cond2 k0_t1 = 1#1), ∀ a, (k0_off82 v3424) a + S4x8x128.size a ≤ S21781x8x128.size a := fun k0_t1 v3424 k0_hw23 k0_h2 => k0_hw23.2 k0_h2

def k0_off83 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3552 : Index := Scalar.indexCast v2487
  let c0_1851 : Index := 0#32
  let c96_1852 : Index := 96#32
  let c0_1853 : Index := 0#32
  ![v3552.toNat, 0, 96, 0, 0]
def k0_off84 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3556 : Index := Scalar.indexCast v2487
  let c0_1854 : Index := 0#32
  let c104_1855 : Index := 104#32
  let c0_1856 : Index := 0#32
  ![v3556.toNat, 0, 104, 0, 0]
def k0_off85 (i : grid0.Coords) (k0_t1 : Fin k0_t1_loop.trips) : Fin 2 → Nat :=
  let c2_i32_1857 : BitVec 32 := 2#32
  let arg0 : BitVec 32 := BitVec.ofNat 32 (i 0).val
  let v3560 : BitVec 32 := Scalar.muli c2_i32_1857 arg0
  let c0_i32_1858 : BitVec 32 := 0#32
  let v3561 : BitVec 32 := Scalar.addi v3560 c0_i32_1858
  let v3564 : Index := Scalar.indexCast v3561
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1859 : BitVec 32 := 8#32
  let v3562 : BitVec 32 := Scalar.muli v2485 c8_i32_1859
  let c7_i32_1860 : BitVec 32 := 7#32
  let v3563 : BitVec 32 := Scalar.addi v3562 c7_i32_1860
  let v3565 : Index := Scalar.indexCast v3563
  ![v3564.toNat, v3565.toNat]
def k0_off86 (v3566 : BitVec 32) : Fin 3 → Nat :=
  let c7_i32_1861 : BitVec 32 := 7#32
  let v3567 : BitVec 32 := Scalar.shrui v3566 c7_i32_1861
  let v3568 : Index := Scalar.indexCast v3567
  let c0_1862 : Index := 0#32
  let c0_1863 : Index := 0#32
  ![v3568.toNat, 0, 0]

def k0_off87 (v3566 : BitVec 32) : Fin 3 → Nat :=
  let c7_i32_1861 : BitVec 32 := 7#32
  let v3567 : BitVec 32 := Scalar.shrui v3566 c7_i32_1861
  let c4_i32_1864 : BitVec 32 := 4#32
  let v3572 : BitVec 32 := Scalar.addi v3567 c4_i32_1864
  let v3573 : Index := Scalar.indexCast v3572
  let c0_1865 : Index := 0#32
  let c0_1866 : Index := 0#32
  ![v3573.toNat, 0, 0]

def k0_chk24 (k0_t1 : Fin k0_t1_loop.trips) (v3566 : BitVec 32) : Prop :=
  (∀ (k0_h2 : k0_cond2 k0_t1 = 1#1), ∀ a, (k0_off86 v3566) a + S4x8x128.size a ≤ S21781x8x128.size a) ∧
  (∀ (k0_h2 : k0_cond2 k0_t1 = 1#1), ∀ a, (k0_off87 v3566) a + S4x8x128.size a ≤ S21781x8x128.size a)
theorem k0_off86_inb : ∀ (k0_t1 : Fin k0_t1_loop.trips) (v3566 : BitVec 32) (k0_hw24 : k0_chk24 k0_t1 v3566), ∀ (k0_h2 : k0_cond2 k0_t1 = 1#1), ∀ a, (k0_off86 v3566) a + S4x8x128.size a ≤ S21781x8x128.size a := fun k0_t1 v3566 k0_hw24 k0_h2 => k0_hw24.1 k0_h2
theorem k0_off87_inb : ∀ (k0_t1 : Fin k0_t1_loop.trips) (v3566 : BitVec 32) (k0_hw24 : k0_chk24 k0_t1 v3566), ∀ (k0_h2 : k0_cond2 k0_t1 = 1#1), ∀ a, (k0_off87 v3566) a + S4x8x128.size a ≤ S21781x8x128.size a := fun k0_t1 v3566 k0_hw24 k0_h2 => k0_hw24.2 k0_h2

def k0_off88 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3694 : Index := Scalar.indexCast v2487
  let c0_1922 : Index := 0#32
  let c112_1923 : Index := 112#32
  let c0_1924 : Index := 0#32
  ![v3694.toNat, 0, 112, 0, 0]
def k0_off89 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3698 : Index := Scalar.indexCast v2487
  let c0_1925 : Index := 0#32
  let c120_1926 : Index := 120#32
  let c0_1927 : Index := 0#32
  ![v3698.toNat, 0, 120, 0, 0]
def k0_mult4 (k0_t1 : Fin k0_t1_loop.trips) : BitVec 32 :=
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1928 : BitVec 32 := 8#32
  let v3702 : BitVec 32 := Scalar.muli v2485 c8_i32_1928
  v3702
def k0_off90 (k0_t1 : Fin k0_t1_loop.trips) : Fin 2 → Nat :=
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1928 : BitVec 32 := 8#32
  let v3702 : BitVec 32 := Scalar.muli v2485 c8_i32_1928
  let v3703 : BitVec 32 := v3702
  let v3704 : Index := Scalar.indexCast v3703
  let c128_1929 : Index := 128#32
  ![v3704.toNat, 128]
def k0_off91 (i : grid0.Coords) (k0_t1 : Fin k0_t1_loop.trips) : Fin 2 → Nat :=
  let c2_i32_1991 : BitVec 32 := 2#32
  let arg0 : BitVec 32 := BitVec.ofNat 32 (i 0).val
  let v3780 : BitVec 32 := Scalar.muli c2_i32_1991 arg0
  let c1_i32_1992 : BitVec 32 := 1#32
  let v3781 : BitVec 32 := Scalar.addi v3780 c1_i32_1992
  let v3784 : Index := Scalar.indexCast v3781
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_1993 : BitVec 32 := 8#32
  let v3782 : BitVec 32 := Scalar.muli v2485 c8_i32_1993
  let c0_i32_1994 : BitVec 32 := 0#32
  let v3783 : BitVec 32 := Scalar.addi v3782 c0_i32_1994
  let v3785 : Index := Scalar.indexCast v3783
  ![v3784.toNat, v3785.toNat]
def k0_off92 (v3786 : BitVec 32) : Fin 3 → Nat :=
  let c7_i32_1995 : BitVec 32 := 7#32
  let v3787 : BitVec 32 := Scalar.shrui v3786 c7_i32_1995
  let v3788 : Index := Scalar.indexCast v3787
  let c0_1996 : Index := 0#32
  let c0_1997 : Index := 0#32
  ![v3788.toNat, 0, 0]

def k0_off93 (v3786 : BitVec 32) : Fin 3 → Nat :=
  let c7_i32_1995 : BitVec 32 := 7#32
  let v3787 : BitVec 32 := Scalar.shrui v3786 c7_i32_1995
  let c4_i32_1998 : BitVec 32 := 4#32
  let v3792 : BitVec 32 := Scalar.addi v3787 c4_i32_1998
  let v3793 : Index := Scalar.indexCast v3792
  let c0_1999 : Index := 0#32
  let c0_2000 : Index := 0#32
  ![v3793.toNat, 0, 0]

def k0_chk25 (k0_t1 : Fin k0_t1_loop.trips) (v3786 : BitVec 32) : Prop :=
  (∀ (k0_h2 : k0_cond2 k0_t1 = 1#1), ∀ a, (k0_off92 v3786) a + S4x8x128.size a ≤ S21781x8x128.size a) ∧
  (∀ (k0_h2 : k0_cond2 k0_t1 = 1#1), ∀ a, (k0_off93 v3786) a + S4x8x128.size a ≤ S21781x8x128.size a)
theorem k0_off92_inb : ∀ (k0_t1 : Fin k0_t1_loop.trips) (v3786 : BitVec 32) (k0_hw25 : k0_chk25 k0_t1 v3786), ∀ (k0_h2 : k0_cond2 k0_t1 = 1#1), ∀ a, (k0_off92 v3786) a + S4x8x128.size a ≤ S21781x8x128.size a := fun k0_t1 v3786 k0_hw25 k0_h2 => k0_hw25.1 k0_h2
theorem k0_off93_inb : ∀ (k0_t1 : Fin k0_t1_loop.trips) (v3786 : BitVec 32) (k0_hw25 : k0_chk25 k0_t1 v3786), ∀ (k0_h2 : k0_cond2 k0_t1 = 1#1), ∀ a, (k0_off93 v3786) a + S4x8x128.size a ≤ S21781x8x128.size a := fun k0_t1 v3786 k0_hw25 k0_h2 => k0_hw25.2 k0_h2

def k0_off94 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3914 : Index := Scalar.indexCast v2487
  let c1_2056 : Index := 1#32
  let c0_2057 : Index := 0#32
  let c0_2058 : Index := 0#32
  ![v3914.toNat, 1, 0, 0, 0]
def k0_off95 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v3918 : Index := Scalar.indexCast v2487
  let c1_2059 : Index := 1#32
  let c8_2060 : Index := 8#32
  let c0_2061 : Index := 0#32
  ![v3918.toNat, 1, 8, 0, 0]
def k0_off96 (i : grid0.Coords) (k0_t1 : Fin k0_t1_loop.trips) : Fin 2 → Nat :=
  let c2_i32_2062 : BitVec 32 := 2#32
  let arg0 : BitVec 32 := BitVec.ofNat 32 (i 0).val
  let v3922 : BitVec 32 := Scalar.muli c2_i32_2062 arg0
  let c1_i32_2063 : BitVec 32 := 1#32
  let v3923 : BitVec 32 := Scalar.addi v3922 c1_i32_2063
  let v3926 : Index := Scalar.indexCast v3923
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2064 : BitVec 32 := 8#32
  let v3924 : BitVec 32 := Scalar.muli v2485 c8_i32_2064
  let c1_i32_2065 : BitVec 32 := 1#32
  let v3925 : BitVec 32 := Scalar.addi v3924 c1_i32_2065
  let v3927 : Index := Scalar.indexCast v3925
  ![v3926.toNat, v3927.toNat]
def k0_off97 (v3928 : BitVec 32) : Fin 3 → Nat :=
  let c7_i32_2066 : BitVec 32 := 7#32
  let v3929 : BitVec 32 := Scalar.shrui v3928 c7_i32_2066
  let v3930 : Index := Scalar.indexCast v3929
  let c0_2067 : Index := 0#32
  let c0_2068 : Index := 0#32
  ![v3930.toNat, 0, 0]

def k0_off98 (v3928 : BitVec 32) : Fin 3 → Nat :=
  let c7_i32_2066 : BitVec 32 := 7#32
  let v3929 : BitVec 32 := Scalar.shrui v3928 c7_i32_2066
  let c4_i32_2069 : BitVec 32 := 4#32
  let v3934 : BitVec 32 := Scalar.addi v3929 c4_i32_2069
  let v3935 : Index := Scalar.indexCast v3934
  let c0_2070 : Index := 0#32
  let c0_2071 : Index := 0#32
  ![v3935.toNat, 0, 0]

def k0_chk26 (k0_t1 : Fin k0_t1_loop.trips) (v3928 : BitVec 32) : Prop :=
  (∀ (k0_h2 : k0_cond2 k0_t1 = 1#1), ∀ a, (k0_off97 v3928) a + S4x8x128.size a ≤ S21781x8x128.size a) ∧
  (∀ (k0_h2 : k0_cond2 k0_t1 = 1#1), ∀ a, (k0_off98 v3928) a + S4x8x128.size a ≤ S21781x8x128.size a)
theorem k0_off97_inb : ∀ (k0_t1 : Fin k0_t1_loop.trips) (v3928 : BitVec 32) (k0_hw26 : k0_chk26 k0_t1 v3928), ∀ (k0_h2 : k0_cond2 k0_t1 = 1#1), ∀ a, (k0_off97 v3928) a + S4x8x128.size a ≤ S21781x8x128.size a := fun k0_t1 v3928 k0_hw26 k0_h2 => k0_hw26.1 k0_h2
theorem k0_off98_inb : ∀ (k0_t1 : Fin k0_t1_loop.trips) (v3928 : BitVec 32) (k0_hw26 : k0_chk26 k0_t1 v3928), ∀ (k0_h2 : k0_cond2 k0_t1 = 1#1), ∀ a, (k0_off98 v3928) a + S4x8x128.size a ≤ S21781x8x128.size a := fun k0_t1 v3928 k0_hw26 k0_h2 => k0_hw26.2 k0_h2

def k0_off99 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4056 : Index := Scalar.indexCast v2487
  let c1_2127 : Index := 1#32
  let c16_2128 : Index := 16#32
  let c0_2129 : Index := 0#32
  ![v4056.toNat, 1, 16, 0, 0]
def k0_off100 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4060 : Index := Scalar.indexCast v2487
  let c1_2130 : Index := 1#32
  let c24_2131 : Index := 24#32
  let c0_2132 : Index := 0#32
  ![v4060.toNat, 1, 24, 0, 0]
def k0_off101 (i : grid0.Coords) (k0_t1 : Fin k0_t1_loop.trips) : Fin 2 → Nat :=
  let c2_i32_2133 : BitVec 32 := 2#32
  let arg0 : BitVec 32 := BitVec.ofNat 32 (i 0).val
  let v4064 : BitVec 32 := Scalar.muli c2_i32_2133 arg0
  let c1_i32_2134 : BitVec 32 := 1#32
  let v4065 : BitVec 32 := Scalar.addi v4064 c1_i32_2134
  let v4068 : Index := Scalar.indexCast v4065
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2135 : BitVec 32 := 8#32
  let v4066 : BitVec 32 := Scalar.muli v2485 c8_i32_2135
  let c2_i32_2136 : BitVec 32 := 2#32
  let v4067 : BitVec 32 := Scalar.addi v4066 c2_i32_2136
  let v4069 : Index := Scalar.indexCast v4067
  ![v4068.toNat, v4069.toNat]
def k0_off102 (v4070 : BitVec 32) : Fin 3 → Nat :=
  let c7_i32_2137 : BitVec 32 := 7#32
  let v4071 : BitVec 32 := Scalar.shrui v4070 c7_i32_2137
  let v4072 : Index := Scalar.indexCast v4071
  let c0_2138 : Index := 0#32
  let c0_2139 : Index := 0#32
  ![v4072.toNat, 0, 0]

def k0_off103 (v4070 : BitVec 32) : Fin 3 → Nat :=
  let c7_i32_2137 : BitVec 32 := 7#32
  let v4071 : BitVec 32 := Scalar.shrui v4070 c7_i32_2137
  let c4_i32_2140 : BitVec 32 := 4#32
  let v4076 : BitVec 32 := Scalar.addi v4071 c4_i32_2140
  let v4077 : Index := Scalar.indexCast v4076
  let c0_2141 : Index := 0#32
  let c0_2142 : Index := 0#32
  ![v4077.toNat, 0, 0]

def k0_chk27 (k0_t1 : Fin k0_t1_loop.trips) (v4070 : BitVec 32) : Prop :=
  (∀ (k0_h2 : k0_cond2 k0_t1 = 1#1), ∀ a, (k0_off102 v4070) a + S4x8x128.size a ≤ S21781x8x128.size a) ∧
  (∀ (k0_h2 : k0_cond2 k0_t1 = 1#1), ∀ a, (k0_off103 v4070) a + S4x8x128.size a ≤ S21781x8x128.size a)
theorem k0_off102_inb : ∀ (k0_t1 : Fin k0_t1_loop.trips) (v4070 : BitVec 32) (k0_hw27 : k0_chk27 k0_t1 v4070), ∀ (k0_h2 : k0_cond2 k0_t1 = 1#1), ∀ a, (k0_off102 v4070) a + S4x8x128.size a ≤ S21781x8x128.size a := fun k0_t1 v4070 k0_hw27 k0_h2 => k0_hw27.1 k0_h2
theorem k0_off103_inb : ∀ (k0_t1 : Fin k0_t1_loop.trips) (v4070 : BitVec 32) (k0_hw27 : k0_chk27 k0_t1 v4070), ∀ (k0_h2 : k0_cond2 k0_t1 = 1#1), ∀ a, (k0_off103 v4070) a + S4x8x128.size a ≤ S21781x8x128.size a := fun k0_t1 v4070 k0_hw27 k0_h2 => k0_hw27.2 k0_h2

def k0_off104 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4198 : Index := Scalar.indexCast v2487
  let c1_2198 : Index := 1#32
  let c32_2199 : Index := 32#32
  let c0_2200 : Index := 0#32
  ![v4198.toNat, 1, 32, 0, 0]
def k0_off105 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4202 : Index := Scalar.indexCast v2487
  let c1_2201 : Index := 1#32
  let c40_2202 : Index := 40#32
  let c0_2203 : Index := 0#32
  ![v4202.toNat, 1, 40, 0, 0]
def k0_off106 (i : grid0.Coords) (k0_t1 : Fin k0_t1_loop.trips) : Fin 2 → Nat :=
  let c2_i32_2204 : BitVec 32 := 2#32
  let arg0 : BitVec 32 := BitVec.ofNat 32 (i 0).val
  let v4206 : BitVec 32 := Scalar.muli c2_i32_2204 arg0
  let c1_i32_2205 : BitVec 32 := 1#32
  let v4207 : BitVec 32 := Scalar.addi v4206 c1_i32_2205
  let v4210 : Index := Scalar.indexCast v4207
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2206 : BitVec 32 := 8#32
  let v4208 : BitVec 32 := Scalar.muli v2485 c8_i32_2206
  let c3_i32_2207 : BitVec 32 := 3#32
  let v4209 : BitVec 32 := Scalar.addi v4208 c3_i32_2207
  let v4211 : Index := Scalar.indexCast v4209
  ![v4210.toNat, v4211.toNat]
def k0_off107 (v4212 : BitVec 32) : Fin 3 → Nat :=
  let c7_i32_2208 : BitVec 32 := 7#32
  let v4213 : BitVec 32 := Scalar.shrui v4212 c7_i32_2208
  let v4214 : Index := Scalar.indexCast v4213
  let c0_2209 : Index := 0#32
  let c0_2210 : Index := 0#32
  ![v4214.toNat, 0, 0]

def k0_off108 (v4212 : BitVec 32) : Fin 3 → Nat :=
  let c7_i32_2208 : BitVec 32 := 7#32
  let v4213 : BitVec 32 := Scalar.shrui v4212 c7_i32_2208
  let c4_i32_2211 : BitVec 32 := 4#32
  let v4218 : BitVec 32 := Scalar.addi v4213 c4_i32_2211
  let v4219 : Index := Scalar.indexCast v4218
  let c0_2212 : Index := 0#32
  let c0_2213 : Index := 0#32
  ![v4219.toNat, 0, 0]

def k0_chk28 (k0_t1 : Fin k0_t1_loop.trips) (v4212 : BitVec 32) : Prop :=
  (∀ (k0_h2 : k0_cond2 k0_t1 = 1#1), ∀ a, (k0_off107 v4212) a + S4x8x128.size a ≤ S21781x8x128.size a) ∧
  (∀ (k0_h2 : k0_cond2 k0_t1 = 1#1), ∀ a, (k0_off108 v4212) a + S4x8x128.size a ≤ S21781x8x128.size a)
theorem k0_off107_inb : ∀ (k0_t1 : Fin k0_t1_loop.trips) (v4212 : BitVec 32) (k0_hw28 : k0_chk28 k0_t1 v4212), ∀ (k0_h2 : k0_cond2 k0_t1 = 1#1), ∀ a, (k0_off107 v4212) a + S4x8x128.size a ≤ S21781x8x128.size a := fun k0_t1 v4212 k0_hw28 k0_h2 => k0_hw28.1 k0_h2
theorem k0_off108_inb : ∀ (k0_t1 : Fin k0_t1_loop.trips) (v4212 : BitVec 32) (k0_hw28 : k0_chk28 k0_t1 v4212), ∀ (k0_h2 : k0_cond2 k0_t1 = 1#1), ∀ a, (k0_off108 v4212) a + S4x8x128.size a ≤ S21781x8x128.size a := fun k0_t1 v4212 k0_hw28 k0_h2 => k0_hw28.2 k0_h2

def k0_off109 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4340 : Index := Scalar.indexCast v2487
  let c1_2269 : Index := 1#32
  let c48_2270 : Index := 48#32
  let c0_2271 : Index := 0#32
  ![v4340.toNat, 1, 48, 0, 0]
def k0_off110 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4344 : Index := Scalar.indexCast v2487
  let c1_2272 : Index := 1#32
  let c56_2273 : Index := 56#32
  let c0_2274 : Index := 0#32
  ![v4344.toNat, 1, 56, 0, 0]
def k0_off111 (i : grid0.Coords) (k0_t1 : Fin k0_t1_loop.trips) : Fin 2 → Nat :=
  let c2_i32_2275 : BitVec 32 := 2#32
  let arg0 : BitVec 32 := BitVec.ofNat 32 (i 0).val
  let v4348 : BitVec 32 := Scalar.muli c2_i32_2275 arg0
  let c1_i32_2276 : BitVec 32 := 1#32
  let v4349 : BitVec 32 := Scalar.addi v4348 c1_i32_2276
  let v4352 : Index := Scalar.indexCast v4349
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2277 : BitVec 32 := 8#32
  let v4350 : BitVec 32 := Scalar.muli v2485 c8_i32_2277
  let c4_i32_2278 : BitVec 32 := 4#32
  let v4351 : BitVec 32 := Scalar.addi v4350 c4_i32_2278
  let v4353 : Index := Scalar.indexCast v4351
  ![v4352.toNat, v4353.toNat]
def k0_off112 (v4354 : BitVec 32) : Fin 3 → Nat :=
  let c7_i32_2279 : BitVec 32 := 7#32
  let v4355 : BitVec 32 := Scalar.shrui v4354 c7_i32_2279
  let v4356 : Index := Scalar.indexCast v4355
  let c0_2280 : Index := 0#32
  let c0_2281 : Index := 0#32
  ![v4356.toNat, 0, 0]

def k0_off113 (v4354 : BitVec 32) : Fin 3 → Nat :=
  let c7_i32_2279 : BitVec 32 := 7#32
  let v4355 : BitVec 32 := Scalar.shrui v4354 c7_i32_2279
  let c4_i32_2282 : BitVec 32 := 4#32
  let v4360 : BitVec 32 := Scalar.addi v4355 c4_i32_2282
  let v4361 : Index := Scalar.indexCast v4360
  let c0_2283 : Index := 0#32
  let c0_2284 : Index := 0#32
  ![v4361.toNat, 0, 0]

def k0_chk29 (k0_t1 : Fin k0_t1_loop.trips) (v4354 : BitVec 32) : Prop :=
  (∀ (k0_h2 : k0_cond2 k0_t1 = 1#1), ∀ a, (k0_off112 v4354) a + S4x8x128.size a ≤ S21781x8x128.size a) ∧
  (∀ (k0_h2 : k0_cond2 k0_t1 = 1#1), ∀ a, (k0_off113 v4354) a + S4x8x128.size a ≤ S21781x8x128.size a)
theorem k0_off112_inb : ∀ (k0_t1 : Fin k0_t1_loop.trips) (v4354 : BitVec 32) (k0_hw29 : k0_chk29 k0_t1 v4354), ∀ (k0_h2 : k0_cond2 k0_t1 = 1#1), ∀ a, (k0_off112 v4354) a + S4x8x128.size a ≤ S21781x8x128.size a := fun k0_t1 v4354 k0_hw29 k0_h2 => k0_hw29.1 k0_h2
theorem k0_off113_inb : ∀ (k0_t1 : Fin k0_t1_loop.trips) (v4354 : BitVec 32) (k0_hw29 : k0_chk29 k0_t1 v4354), ∀ (k0_h2 : k0_cond2 k0_t1 = 1#1), ∀ a, (k0_off113 v4354) a + S4x8x128.size a ≤ S21781x8x128.size a := fun k0_t1 v4354 k0_hw29 k0_h2 => k0_hw29.2 k0_h2

def k0_off114 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4482 : Index := Scalar.indexCast v2487
  let c1_2340 : Index := 1#32
  let c64_2341 : Index := 64#32
  let c0_2342 : Index := 0#32
  ![v4482.toNat, 1, 64, 0, 0]
def k0_off115 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4486 : Index := Scalar.indexCast v2487
  let c1_2343 : Index := 1#32
  let c72_2344 : Index := 72#32
  let c0_2345 : Index := 0#32
  ![v4486.toNat, 1, 72, 0, 0]
def k0_off116 (i : grid0.Coords) (k0_t1 : Fin k0_t1_loop.trips) : Fin 2 → Nat :=
  let c2_i32_2346 : BitVec 32 := 2#32
  let arg0 : BitVec 32 := BitVec.ofNat 32 (i 0).val
  let v4490 : BitVec 32 := Scalar.muli c2_i32_2346 arg0
  let c1_i32_2347 : BitVec 32 := 1#32
  let v4491 : BitVec 32 := Scalar.addi v4490 c1_i32_2347
  let v4494 : Index := Scalar.indexCast v4491
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2348 : BitVec 32 := 8#32
  let v4492 : BitVec 32 := Scalar.muli v2485 c8_i32_2348
  let c5_i32_2349 : BitVec 32 := 5#32
  let v4493 : BitVec 32 := Scalar.addi v4492 c5_i32_2349
  let v4495 : Index := Scalar.indexCast v4493
  ![v4494.toNat, v4495.toNat]
def k0_off117 (v4496 : BitVec 32) : Fin 3 → Nat :=
  let c7_i32_2350 : BitVec 32 := 7#32
  let v4497 : BitVec 32 := Scalar.shrui v4496 c7_i32_2350
  let v4498 : Index := Scalar.indexCast v4497
  let c0_2351 : Index := 0#32
  let c0_2352 : Index := 0#32
  ![v4498.toNat, 0, 0]

def k0_off118 (v4496 : BitVec 32) : Fin 3 → Nat :=
  let c7_i32_2350 : BitVec 32 := 7#32
  let v4497 : BitVec 32 := Scalar.shrui v4496 c7_i32_2350
  let c4_i32_2353 : BitVec 32 := 4#32
  let v4502 : BitVec 32 := Scalar.addi v4497 c4_i32_2353
  let v4503 : Index := Scalar.indexCast v4502
  let c0_2354 : Index := 0#32
  let c0_2355 : Index := 0#32
  ![v4503.toNat, 0, 0]

def k0_chk30 (k0_t1 : Fin k0_t1_loop.trips) (v4496 : BitVec 32) : Prop :=
  (∀ (k0_h2 : k0_cond2 k0_t1 = 1#1), ∀ a, (k0_off117 v4496) a + S4x8x128.size a ≤ S21781x8x128.size a) ∧
  (∀ (k0_h2 : k0_cond2 k0_t1 = 1#1), ∀ a, (k0_off118 v4496) a + S4x8x128.size a ≤ S21781x8x128.size a)
theorem k0_off117_inb : ∀ (k0_t1 : Fin k0_t1_loop.trips) (v4496 : BitVec 32) (k0_hw30 : k0_chk30 k0_t1 v4496), ∀ (k0_h2 : k0_cond2 k0_t1 = 1#1), ∀ a, (k0_off117 v4496) a + S4x8x128.size a ≤ S21781x8x128.size a := fun k0_t1 v4496 k0_hw30 k0_h2 => k0_hw30.1 k0_h2
theorem k0_off118_inb : ∀ (k0_t1 : Fin k0_t1_loop.trips) (v4496 : BitVec 32) (k0_hw30 : k0_chk30 k0_t1 v4496), ∀ (k0_h2 : k0_cond2 k0_t1 = 1#1), ∀ a, (k0_off118 v4496) a + S4x8x128.size a ≤ S21781x8x128.size a := fun k0_t1 v4496 k0_hw30 k0_h2 => k0_hw30.2 k0_h2

def k0_off119 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4624 : Index := Scalar.indexCast v2487
  let c1_2411 : Index := 1#32
  let c80_2412 : Index := 80#32
  let c0_2413 : Index := 0#32
  ![v4624.toNat, 1, 80, 0, 0]
def k0_off120 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4628 : Index := Scalar.indexCast v2487
  let c1_2414 : Index := 1#32
  let c88_2415 : Index := 88#32
  let c0_2416 : Index := 0#32
  ![v4628.toNat, 1, 88, 0, 0]
def k0_off121 (i : grid0.Coords) (k0_t1 : Fin k0_t1_loop.trips) : Fin 2 → Nat :=
  let c2_i32_2417 : BitVec 32 := 2#32
  let arg0 : BitVec 32 := BitVec.ofNat 32 (i 0).val
  let v4632 : BitVec 32 := Scalar.muli c2_i32_2417 arg0
  let c1_i32_2418 : BitVec 32 := 1#32
  let v4633 : BitVec 32 := Scalar.addi v4632 c1_i32_2418
  let v4636 : Index := Scalar.indexCast v4633
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2419 : BitVec 32 := 8#32
  let v4634 : BitVec 32 := Scalar.muli v2485 c8_i32_2419
  let c6_i32_2420 : BitVec 32 := 6#32
  let v4635 : BitVec 32 := Scalar.addi v4634 c6_i32_2420
  let v4637 : Index := Scalar.indexCast v4635
  ![v4636.toNat, v4637.toNat]
def k0_off122 (v4638 : BitVec 32) : Fin 3 → Nat :=
  let c7_i32_2421 : BitVec 32 := 7#32
  let v4639 : BitVec 32 := Scalar.shrui v4638 c7_i32_2421
  let v4640 : Index := Scalar.indexCast v4639
  let c0_2422 : Index := 0#32
  let c0_2423 : Index := 0#32
  ![v4640.toNat, 0, 0]

def k0_off123 (v4638 : BitVec 32) : Fin 3 → Nat :=
  let c7_i32_2421 : BitVec 32 := 7#32
  let v4639 : BitVec 32 := Scalar.shrui v4638 c7_i32_2421
  let c4_i32_2424 : BitVec 32 := 4#32
  let v4644 : BitVec 32 := Scalar.addi v4639 c4_i32_2424
  let v4645 : Index := Scalar.indexCast v4644
  let c0_2425 : Index := 0#32
  let c0_2426 : Index := 0#32
  ![v4645.toNat, 0, 0]

def k0_chk31 (k0_t1 : Fin k0_t1_loop.trips) (v4638 : BitVec 32) : Prop :=
  (∀ (k0_h2 : k0_cond2 k0_t1 = 1#1), ∀ a, (k0_off122 v4638) a + S4x8x128.size a ≤ S21781x8x128.size a) ∧
  (∀ (k0_h2 : k0_cond2 k0_t1 = 1#1), ∀ a, (k0_off123 v4638) a + S4x8x128.size a ≤ S21781x8x128.size a)
theorem k0_off122_inb : ∀ (k0_t1 : Fin k0_t1_loop.trips) (v4638 : BitVec 32) (k0_hw31 : k0_chk31 k0_t1 v4638), ∀ (k0_h2 : k0_cond2 k0_t1 = 1#1), ∀ a, (k0_off122 v4638) a + S4x8x128.size a ≤ S21781x8x128.size a := fun k0_t1 v4638 k0_hw31 k0_h2 => k0_hw31.1 k0_h2
theorem k0_off123_inb : ∀ (k0_t1 : Fin k0_t1_loop.trips) (v4638 : BitVec 32) (k0_hw31 : k0_chk31 k0_t1 v4638), ∀ (k0_h2 : k0_cond2 k0_t1 = 1#1), ∀ a, (k0_off123 v4638) a + S4x8x128.size a ≤ S21781x8x128.size a := fun k0_t1 v4638 k0_hw31 k0_h2 => k0_hw31.2 k0_h2

def k0_off124 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4766 : Index := Scalar.indexCast v2487
  let c1_2482 : Index := 1#32
  let c96_2483 : Index := 96#32
  let c0_2484 : Index := 0#32
  ![v4766.toNat, 1, 96, 0, 0]
def k0_off125 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4770 : Index := Scalar.indexCast v2487
  let c1_2485 : Index := 1#32
  let c104_2486 : Index := 104#32
  let c0_2487 : Index := 0#32
  ![v4770.toNat, 1, 104, 0, 0]
def k0_off126 (i : grid0.Coords) (k0_t1 : Fin k0_t1_loop.trips) : Fin 2 → Nat :=
  let c2_i32_2488 : BitVec 32 := 2#32
  let arg0 : BitVec 32 := BitVec.ofNat 32 (i 0).val
  let v4774 : BitVec 32 := Scalar.muli c2_i32_2488 arg0
  let c1_i32_2489 : BitVec 32 := 1#32
  let v4775 : BitVec 32 := Scalar.addi v4774 c1_i32_2489
  let v4778 : Index := Scalar.indexCast v4775
  let c0_i32_1267 : BitVec 32 := 0#32
  let c1_i32_1268 : BitVec 32 := 1#32
  let arg13 : BitVec 32 := Scf.iv c0_i32_1267 c1_i32_1268 k0_t1
  let c1_i32_1296 : BitVec 32 := 1#32
  let v2485 : BitVec 32 := Scalar.addi arg13 c1_i32_1296
  let c8_i32_2490 : BitVec 32 := 8#32
  let v4776 : BitVec 32 := Scalar.muli v2485 c8_i32_2490
  let c7_i32_2491 : BitVec 32 := 7#32
  let v4777 : BitVec 32 := Scalar.addi v4776 c7_i32_2491
  let v4779 : Index := Scalar.indexCast v4777
  ![v4778.toNat, v4779.toNat]
def k0_off127 (v4780 : BitVec 32) : Fin 3 → Nat :=
  let c7_i32_2492 : BitVec 32 := 7#32
  let v4781 : BitVec 32 := Scalar.shrui v4780 c7_i32_2492
  let v4782 : Index := Scalar.indexCast v4781
  let c0_2493 : Index := 0#32
  let c0_2494 : Index := 0#32
  ![v4782.toNat, 0, 0]

def k0_off128 (v4780 : BitVec 32) : Fin 3 → Nat :=
  let c7_i32_2492 : BitVec 32 := 7#32
  let v4781 : BitVec 32 := Scalar.shrui v4780 c7_i32_2492
  let c4_i32_2495 : BitVec 32 := 4#32
  let v4786 : BitVec 32 := Scalar.addi v4781 c4_i32_2495
  let v4787 : Index := Scalar.indexCast v4786
  let c0_2496 : Index := 0#32
  let c0_2497 : Index := 0#32
  ![v4787.toNat, 0, 0]

def k0_chk32 (k0_t1 : Fin k0_t1_loop.trips) (v4780 : BitVec 32) : Prop :=
  (∀ (k0_h2 : k0_cond2 k0_t1 = 1#1), ∀ a, (k0_off127 v4780) a + S4x8x128.size a ≤ S21781x8x128.size a) ∧
  (∀ (k0_h2 : k0_cond2 k0_t1 = 1#1), ∀ a, (k0_off128 v4780) a + S4x8x128.size a ≤ S21781x8x128.size a)
theorem k0_off127_inb : ∀ (k0_t1 : Fin k0_t1_loop.trips) (v4780 : BitVec 32) (k0_hw32 : k0_chk32 k0_t1 v4780), ∀ (k0_h2 : k0_cond2 k0_t1 = 1#1), ∀ a, (k0_off127 v4780) a + S4x8x128.size a ≤ S21781x8x128.size a := fun k0_t1 v4780 k0_hw32 k0_h2 => k0_hw32.1 k0_h2
theorem k0_off128_inb : ∀ (k0_t1 : Fin k0_t1_loop.trips) (v4780 : BitVec 32) (k0_hw32 : k0_chk32 k0_t1 v4780), ∀ (k0_h2 : k0_cond2 k0_t1 = 1#1), ∀ a, (k0_off128 v4780) a + S4x8x128.size a ≤ S21781x8x128.size a := fun k0_t1 v4780 k0_hw32 k0_h2 => k0_hw32.2 k0_h2

def k0_off129 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4908 : Index := Scalar.indexCast v2487
  let c1_2553 : Index := 1#32
  let c112_2554 : Index := 112#32
  let c0_2555 : Index := 0#32
  ![v4908.toNat, 1, 112, 0, 0]
def k0_off130 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1297 : BitVec 32 := 1#32
  let v2486 : BitVec 32 := Scalar.addi arg13 c1_i32_1297
  let c1_i32_1298 : BitVec 32 := 1#32
  let v2487 : BitVec 32 := Scalar.andi v2486 c1_i32_1298
  let v4912 : Index := Scalar.indexCast v2487
  let c1_2556 : Index := 1#32
  let c120_2557 : Index := 120#32
  let c0_2558 : Index := 0#32
  ![v4912.toNat, 1, 120, 0, 0]
def k0_off131 (k0_t1 : Fin k0_t1_loop.trips) : Fin 3 → Nat :=
  let c2_i32_1278 : BitVec 32 := 2#32
  let c0_i32_1267 : BitVec 32 := 0#32
  let c1_i32_1268 : BitVec 32 := 1#32
  let arg13 : BitVec 32 := Scf.iv c0_i32_1267 c1_i32_1268 k0_t1
  let v2458 : BitVec 32 := Scalar.muli c2_i32_1278 arg13
  let v2459 : Index := Scalar.indexCast v2458
  let c0_1279 : Index := 0#32
  let c0_1280 : Index := 0#32
  ![v2459.toNat, 0, 0]
def k0_off132 (k0_t1 : Fin k0_t1_loop.trips) : Fin 3 → Nat :=
  let c2_i32_1281 : BitVec 32 := 2#32
  let c0_i32_1267 : BitVec 32 := 0#32
  let c1_i32_1268 : BitVec 32 := 1#32
  let arg13 : BitVec 32 := Scf.iv c0_i32_1267 c1_i32_1268 k0_t1
  let v2463 : BitVec 32 := Scalar.muli c2_i32_1281 arg13
  let c1_i32_1282 : BitVec 32 := 1#32
  let v2464 : BitVec 32 := Scalar.addi v2463 c1_i32_1282
  let v2465 : Index := Scalar.indexCast v2464
  let c0_1283 : Index := 0#32
  let c0_1284 : Index := 0#32
  ![v2465.toNat, 0, 0]
def k0_off133 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1277 : BitVec 32 := 1#32
  let v2457 : BitVec 32 := Scalar.andi arg13 c1_i32_1277
  let v2470 : Index := Scalar.indexCast v2457
  let c0_1285 : Index := 0#32
  let c0_1286 : Index := 0#32
  let c0_1287 : Index := 0#32
  ![v2470.toNat, 0, 0, 0, 0]
def k0_off134 (k0_t1 : Fin k0_t1_loop.trips) : Fin 5 → Nat :=
  let c0_i32_1267 : BitVec 32 := 0#32
  let c1_i32_1268 : BitVec 32 := 1#32
  let arg13 : BitVec 32 := Scf.iv c0_i32_1267 c1_i32_1268 k0_t1
  let c1_i32_1277 : BitVec 32 := 1#32
  let v2457 : BitVec 32 := Scalar.andi arg13 c1_i32_1277
  let v2474 : Index := Scalar.indexCast v2457
  let c1_1288 : Index := 1#32
  let c0_1289 : Index := 0#32
  let c0_1290 : Index := 0#32
  ![v2474.toNat, 1, 0, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S9x8x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S36x224 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S224x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S22295336 : Shape := ⟨1, ![22295336]⟩
abbrev S56x768x128 : Shape := ⟨3, ![56, 768, 128]⟩
abbrev S36x224 : Shape := ⟨2, ![36, 224]⟩
abbrev S224x4608 : Shape := ⟨2, ![224, 4608]⟩
abbrev S_ : Shape := ⟨0, ![]⟩
abbrev S224x36 : Shape := ⟨2, ![224, 36]⟩
abbrev S224x36x128 : Shape := ⟨3, ![224, 36, 128]⟩
abbrev S32 : Shape := ⟨1, ![32]⟩
abbrev S224x4608x1 : Shape := ⟨3, ![224, 4608, 1]⟩
abbrev S1x1x32 : Shape := ⟨3, ![1, 1, 32]⟩
abbrev S224x4608x32 : Shape := ⟨3, ![224, 4608, 32]⟩
abbrev S224x4608x32x1 : Shape := ⟨4, ![224, 4608, 32, 1]⟩
abbrev S4608x224x32 : Shape := ⟨3, ![4608, 224, 32]⟩
abbrev S4608x7168 : Shape := ⟨2, ![4608, 7168]⟩
abbrev S56x768x128x2 : Shape := ⟨4, ![56, 768, 128, 2]⟩
abbrev S768x2x56x128 : Shape := ⟨4, ![768, 2, 56, 128]⟩
abbrev S1536x7168 : Shape := ⟨2, ![1536, 7168]⟩
abbrev S1536x4608 : Shape := ⟨2, ![1536, 4608]⟩

abbrev nBuf : Space → Nat
  | .hbm => 215
  | .vmem => 0
  | .smem => 0
  | _ => 0

abbrev hbmTy0_0 (i : Nat) : BufTy := match i % 128 with
  | 0 => ⟨S22295336, .i8⟩
  | 1 => ⟨S56x768x128, .i32⟩
  | 2 => ⟨S36x224, .i32⟩
  | 3 => ⟨S224x4608, .i32⟩
  | 4 => ⟨S_, .i32⟩
  | 5 => ⟨S224x4608, .i32⟩
  | 6 => ⟨S224x4608, .i32⟩
  | 7 => ⟨S_, .i32⟩
  | 8 => ⟨S224x4608, .i32⟩
  | 9 => ⟨S224x4608, .i32⟩
  | 10 => ⟨S_, .i32⟩
  | 11 => ⟨S224x4608, .i32⟩
  | 12 => ⟨S224x4608, .i32⟩
  | 13 => ⟨S224x36, .i32⟩
  | 14 => ⟨S224x36x128, .i32⟩
  | 15 => ⟨S224x4608, .i32⟩
  | 16 => ⟨S_, .i32⟩
  | 17 => ⟨S224x4608, .i32⟩
  | 18 => ⟨S224x4608, .i32⟩
  | 19 => ⟨S_, .i32⟩
  | 20 => ⟨S224x4608, .i32⟩
  | 21 => ⟨S224x4608, .i32⟩
  | 22 => ⟨S_, .i32⟩
  | 23 => ⟨S224x4608, .i32⟩
  | 24 => ⟨S224x4608, .i32⟩
  | 25 => ⟨S_, .i32⟩
  | 26 => ⟨S224x4608, .i32⟩
  | 27 => ⟨S224x4608, .i32⟩
  | 28 => ⟨S224x4608, .i32⟩
  | 29 => ⟨S_, .i32⟩
  | 30 => ⟨S224x4608, .i32⟩
  | 31 => ⟨S224x4608, .i32⟩
  | 32 => ⟨S224x4608, .i32⟩
  | 33 => ⟨S_, .i32⟩
  | 34 => ⟨S224x4608, .i32⟩
  | 35 => ⟨S224x4608, .i32⟩
  | 36 => ⟨S224x4608, .i32⟩
  | 37 => ⟨S_, .i32⟩
  | 38 => ⟨S224x4608, .i32⟩
  | 39 => ⟨S224x4608, .i32⟩
  | 40 => ⟨S32, .i32⟩
  | 41 => ⟨S_, .i32⟩
  | 42 => ⟨S224x4608, .i32⟩
  | 43 => ⟨S224x4608, .i1⟩
  | 44 => ⟨S_, .i32⟩
  | 45 => ⟨S224x4608, .i32⟩
  | 46 => ⟨S224x4608, .i1⟩
  | 47 => ⟨S_, .i32⟩
  | 48 => ⟨S_, .i32⟩
  | 49 => ⟨S224x4608, .i32⟩
  | 50 => ⟨S224x4608, .i32⟩
  | 51 => ⟨S224x4608, .i32⟩
  | 52 => ⟨S_, .i32⟩
  | 53 => ⟨S224x4608, .i32⟩
  | 54 => ⟨S224x4608, .i32⟩
  | 55 => ⟨S224x4608x1, .i32⟩
  | 56 => ⟨S224x4608x1, .i32⟩
  | 57 => ⟨S1x1x32, .i32⟩
  | 58 => ⟨S224x4608x32, .i32⟩
  | 59 => ⟨S224x4608x32, .i32⟩
  | 60 => ⟨S224x4608x32, .i32⟩
  | 61 => ⟨S224x4608x1, .i32⟩
  | 62 => ⟨S_, .i32⟩
  | 63 => ⟨S224x4608x32, .i32⟩
  | 64 => ⟨S224x4608x32, .i32⟩
  | 65 => ⟨S224x4608x32, .i32⟩
  | 66 => ⟨S224x4608x32, .i32⟩
  | 67 => ⟨S224x4608x32x1, .i32⟩
  | 68 => ⟨S224x4608x32, .i8⟩
  | 69 => ⟨S224x4608x32, .i32⟩
  | 70 => ⟨S_, .i32⟩
  | 71 => ⟨S224x4608x32, .i32⟩
  | 72 => ⟨S224x4608x32, .i32⟩
  | 73 => ⟨S224x4608x32x1, .i32⟩
  | 74 => ⟨S224x4608x32, .i8⟩
  | 75 => ⟨S224x4608x32, .i32⟩
  | 76 => ⟨S_, .i32⟩
  | 77 => ⟨S224x4608x32, .i32⟩
  | 78 => ⟨S224x4608x32, .i32⟩
  | 79 => ⟨S224x4608x32, .i32⟩
  | 80 => ⟨S_, .i32⟩
  | 81 => ⟨S224x4608x32, .i32⟩
  | 82 => ⟨S224x4608x32, .i32⟩
  | 83 => ⟨S224x4608x32, .i32⟩
  | 84 => ⟨S_, .i32⟩
  | 85 => ⟨S224x4608x1, .i32⟩
  | 86 => ⟨S224x4608x1, .i32⟩
  | 87 => ⟨S_, .i32⟩
  | 88 => ⟨S224x4608x1, .i32⟩
  | 89 => ⟨S224x4608x1, .i32⟩
  | 90 => ⟨S224x4608x1, .i32⟩
  | 91 => ⟨S224x4608x32, .i32⟩
  | 92 => ⟨S224x4608x32, .i32⟩
  | 93 => ⟨S_, .i32⟩
  | 94 => ⟨S224x4608, .i32⟩
  | 95 => ⟨S224x4608, .i1⟩
  | 96 => ⟨S_, .i32⟩
  | 97 => ⟨S_, .i32⟩
  | 98 => ⟨S224x4608, .i32⟩
  | 99 => ⟨S224x4608, .i32⟩
  | 100 => ⟨S224x4608, .i32⟩
  | 101 => ⟨S224x4608x1, .i32⟩
  | 102 => ⟨S_, .i32⟩
  | 103 => ⟨S224x4608, .i32⟩
  | 104 => ⟨S224x4608, .i1⟩
  | 105 => ⟨S_, .i32⟩
  | 106 => ⟨S_, .i32⟩
  | 107 => ⟨S224x4608, .i32⟩
  | 108 => ⟨S224x4608, .i32⟩
  | 109 => ⟨S224x4608, .i32⟩
  | 110 => ⟨S224x4608x1, .i32⟩
  | 111 => ⟨S_, .i32⟩
  | 112 => ⟨S224x4608, .i32⟩
  | 113 => ⟨S224x4608, .i1⟩
  | 114 => ⟨S_, .i32⟩
  | 115 => ⟨S_, .i32⟩
  | 116 => ⟨S224x4608, .i32⟩
  | 117 => ⟨S224x4608, .i32⟩
  | 118 => ⟨S224x4608, .i32⟩
  | 119 => ⟨S224x4608x1, .i32⟩
  | 120 => ⟨S_, .i32⟩
  | 121 => ⟨S224x4608x1, .i32⟩
  | 122 => ⟨S224x4608x1, .i32⟩
  | 123 => ⟨S224x4608x1, .i32⟩
  | 124 => ⟨S224x4608x32, .i32⟩
  | 125 => ⟨S224x4608x32, .i32⟩
  | 126 => ⟨S_, .i32⟩
  | 127 => ⟨S224x4608x32, .i32⟩
  | _ => ⟨S22295336, .i8⟩

abbrev hbmTy0_1 (i : Nat) : BufTy := match i % 128 with
  | 0 => ⟨S224x4608x32, .i32⟩
  | 1 => ⟨S224x4608x1, .i32⟩
  | 2 => ⟨S224x4608x32, .i32⟩
  | 3 => ⟨S224x4608x32, .i32⟩
  | 4 => ⟨S224x4608x1, .i32⟩
  | 5 => ⟨S224x4608x32, .i32⟩
  | 6 => ⟨S224x4608x32, .i32⟩
  | 7 => ⟨S_, .i32⟩
  | 8 => ⟨S224x4608x1, .i32⟩
  | 9 => ⟨S224x4608x1, .i32⟩
  | 10 => ⟨S_, .i32⟩
  | 11 => ⟨S224x4608x1, .i32⟩
  | 12 => ⟨S224x4608x1, .i32⟩
  | 13 => ⟨S224x4608x1, .i32⟩
  | 14 => ⟨S224x4608x32, .i32⟩
  | 15 => ⟨S224x4608x32, .i32⟩
  | 16 => ⟨S224x4608x32, .f32⟩
  | 17 => ⟨S_, .i32⟩
  | 18 => ⟨S224x4608x1, .i32⟩
  | 19 => ⟨S224x4608x1, .i32⟩
  | 20 => ⟨S224x4608x1, .f32⟩
  | 21 => ⟨S224x4608x32, .f32⟩
  | 22 => ⟨S224x4608x32, .f32⟩
  | 23 => ⟨S_, .i32⟩
  | 24 => ⟨S224x4608x32, .i32⟩
  | 25 => ⟨S224x4608x32, .i1⟩
  | 26 => ⟨S_, .i32⟩
  | 27 => ⟨S224x4608x1, .i32⟩
  | 28 => ⟨S224x4608x1, .i32⟩
  | 29 => ⟨S224x4608x1, .f32⟩
  | 30 => ⟨S_, .f32⟩
  | 31 => ⟨S224x4608x1, .f32⟩
  | 32 => ⟨S224x4608x1, .f32⟩
  | 33 => ⟨S224x4608x32, .f32⟩
  | 34 => ⟨S224x4608x32, .f32⟩
  | 35 => ⟨S_, .f32⟩
  | 36 => ⟨S224x4608x32, .f32⟩
  | 37 => ⟨S224x4608x32, .f32⟩
  | 38 => ⟨S224x4608x1, .i32⟩
  | 39 => ⟨S224x4608x32, .i32⟩
  | 40 => ⟨S224x4608x32, .i32⟩
  | 41 => ⟨S224x4608x32, .f32⟩
  | 42 => ⟨S_, .f32⟩
  | 43 => ⟨S224x4608x32, .f32⟩
  | 44 => ⟨S224x4608x32, .f32⟩
  | 45 => ⟨S224x4608x32, .f32⟩
  | 46 => ⟨S224x4608x32, .f32⟩
  | 47 => ⟨S_, .i32⟩
  | 48 => ⟨S224x4608x32, .i32⟩
  | 49 => ⟨S224x4608x32, .i1⟩
  | 50 => ⟨S224x4608x32, .f32⟩
  | 51 => ⟨S224x4608x32, .f32⟩
  | 52 => ⟨S224x4608x1, .i32⟩
  | 53 => ⟨S_, .i32⟩
  | 54 => ⟨S224x4608x1, .i32⟩
  | 55 => ⟨S224x4608x1, .i1⟩
  | 56 => ⟨S_, .i32⟩
  | 57 => ⟨S224x4608x32, .i32⟩
  | 58 => ⟨S224x4608x32, .i32⟩
  | 59 => ⟨S_, .i32⟩
  | 60 => ⟨S224x4608x32, .i32⟩
  | 61 => ⟨S224x4608x32, .i1⟩
  | 62 => ⟨S224x4608x32, .i1⟩
  | 63 => ⟨S224x4608x32, .i1⟩
  | 64 => ⟨S_, .f32⟩
  | 65 => ⟨S_, .f32⟩
  | 66 => ⟨S224x4608x32, .f32⟩
  | 67 => ⟨S224x4608x32, .f32⟩
  | 68 => ⟨S224x4608x32, .bf16⟩
  | 69 => ⟨S_, .i32⟩
  | 70 => ⟨S224x4608, .i32⟩
  | 71 => ⟨S224x4608, .i32⟩
  | 72 => ⟨S224x4608, .f32⟩
  | 73 => ⟨S_, .f32⟩
  | 74 => ⟨S224x4608, .f32⟩
  | 75 => ⟨S224x4608, .f32⟩
  | 76 => ⟨S224x4608, .bf16⟩
  | 77 => ⟨S224x4608x1, .bf16⟩
  | 78 => ⟨S224x4608x32, .bf16⟩
  | 79 => ⟨S224x4608x32, .bf16⟩
  | 80 => ⟨S4608x224x32, .bf16⟩
  | 81 => ⟨S4608x7168, .bf16⟩
  | 82 => ⟨S56x768x128x2, .bf16⟩
  | 83 => ⟨S768x2x56x128, .bf16⟩
  | 84 => ⟨S1536x7168, .bf16⟩
  | 85 => ⟨S1536x4608, .f32⟩
  | 86 => ⟨S1536x4608, .bf16⟩
  | _ => ⟨S22295336, .i8⟩

abbrev hbmTy (i : Nat) : BufTy := match i / 128 with
  | 0 => hbmTy0_0 i
  | 1 => hbmTy0_1 i
  | _ => ⟨S22295336, .i8⟩

abbrev bufTy : (tb : Table) → Fin (tcTables nBuf tb) → BufTy
  | .hbm, ⟨i, _⟩ => hbmTy i
  | _, _ => ⟨S22295336, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_c_11 : Ref sig .tc := ⟨.hbm, 47, rfl⟩
abbrev main_c_12 : Ref sig .tc := ⟨.hbm, 48, rfl⟩
abbrev main_call0_v0 : Ref sig .tc := ⟨.hbm, 49, rfl⟩
abbrev main_call0_v1 : Ref sig .tc := ⟨.hbm, 50, rfl⟩
abbrev main_v31 : Ref sig .tc := ⟨.hbm, 51, rfl⟩
abbrev main_c_13 : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_14 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩
abbrev main_c_15 : Ref sig .tc := ⟨.hbm, 70, rfl⟩
abbrev main_v46 : Ref sig .tc := ⟨.hbm, 71, rfl⟩
abbrev main_v47 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩
abbrev main_c_16 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_17 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_18 : Ref sig .tc := ⟨.hbm, 84, rfl⟩
abbrev main_v56 : Ref sig .tc := ⟨.hbm, 85, rfl⟩
abbrev main_v57 : Ref sig .tc := ⟨.hbm, 86, rfl⟩
abbrev main_c_19 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_20 : Ref sig .tc := ⟨.hbm, 93, rfl⟩
abbrev main_v63 : Ref sig .tc := ⟨.hbm, 94, rfl⟩
abbrev main_v64 : Ref sig .tc := ⟨.hbm, 95, rfl⟩
abbrev main_c_21 : Ref sig .tc := ⟨.hbm, 96, rfl⟩
abbrev main_c_22 : Ref sig .tc := ⟨.hbm, 97, rfl⟩
abbrev main_call4_v0 : Ref sig .tc := ⟨.hbm, 98, rfl⟩
abbrev main_call4_v1 : Ref sig .tc := ⟨.hbm, 99, rfl⟩
abbrev main_v65 : Ref sig .tc := ⟨.hbm, 100, rfl⟩
abbrev main_v66 : Ref sig .tc := ⟨.hbm, 101, rfl⟩
abbrev main_c_23 : Ref sig .tc := ⟨.hbm, 102, rfl⟩
abbrev main_v67 : Ref sig .tc := ⟨.hbm, 103, rfl⟩
abbrev main_v68 : Ref sig .tc := ⟨.hbm, 104, rfl⟩
abbrev main_c_24 : Ref sig .tc := ⟨.hbm, 105, rfl⟩
abbrev main_c_25 : Ref sig .tc := ⟨.hbm, 106, rfl⟩
abbrev main_call5_v0 : Ref sig .tc := ⟨.hbm, 107, rfl⟩
abbrev main_call5_v1 : Ref sig .tc := ⟨.hbm, 108, rfl⟩
abbrev main_v69 : Ref sig .tc := ⟨.hbm, 109, rfl⟩
abbrev main_v70 : Ref sig .tc := ⟨.hbm, 110, rfl⟩
abbrev main_c_26 : Ref sig .tc := ⟨.hbm, 111, rfl⟩
abbrev main_v71 : Ref sig .tc := ⟨.hbm, 112, rfl⟩
abbrev main_v72 : Ref sig .tc := ⟨.hbm, 113, rfl⟩
abbrev main_c_27 : Ref sig .tc := ⟨.hbm, 114, rfl⟩
abbrev main_c_28 : Ref sig .tc := ⟨.hbm, 115, rfl⟩
abbrev main_call6_v0 : Ref sig .tc := ⟨.hbm, 116, rfl⟩
abbrev main_call6_v1 : Ref sig .tc := ⟨.hbm, 117, rfl⟩
abbrev main_v73 : Ref sig .tc := ⟨.hbm, 118, rfl⟩
abbrev main_v74 : Ref sig .tc := ⟨.hbm, 119, rfl⟩
abbrev main_c_29 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_30 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_31 : Ref sig .tc := ⟨.hbm, 135, rfl⟩
abbrev main_v88 : Ref sig .tc := ⟨.hbm, 136, rfl⟩
abbrev main_v89 : Ref sig .tc := ⟨.hbm, 137, rfl⟩
abbrev main_c_32 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_33 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_34 : Ref sig .tc := ⟨.hbm, 151, rfl⟩
abbrev main_v101 : Ref sig .tc := ⟨.hbm, 152, rfl⟩
abbrev main_v102 : Ref sig .tc := ⟨.hbm, 153, rfl⟩
abbrev main_c_35 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_36 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_37 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_c_38 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_39 : Ref sig .tc := ⟨.hbm, 181, rfl⟩
abbrev main_v125 : Ref sig .tc := ⟨.hbm, 182, rfl⟩
abbrev main_v126 : Ref sig .tc := ⟨.hbm, 183, rfl⟩
abbrev main_c_40 : Ref sig .tc := ⟨.hbm, 184, rfl⟩
abbrev main_v127 : Ref sig .tc := ⟨.hbm, 185, rfl⟩
abbrev main_v128 : Ref sig .tc := ⟨.hbm, 186, rfl⟩
abbrev main_c_41 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_42 : Ref sig .tc := ⟨.hbm, 192, rfl⟩
abbrev main_call9_v0 : Ref sig .tc := ⟨.hbm, 193, rfl⟩
abbrev main_call9_v1 : Ref sig .tc := ⟨.hbm, 194, rfl⟩
abbrev main_v133 : Ref sig .tc := ⟨.hbm, 195, rfl⟩
abbrev main_v134 : Ref sig .tc := ⟨.hbm, 196, rfl⟩
abbrev main_c_43 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_44 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩

abbrev nD : Nat := 1
abbrev τ : Topo := Topo.v7x

variable {F : FTy → Type} [FloatOps F]
-- ==== Proof.Block.lean ====
/-
  One block of the decode (32 inputs of 128 output columns), as the kernel's body performs it sixteen times per weight tile,
  written once over the offsets that differ from block to block.
-/
module

public import proofs.«01_k».proof.Proof.Gen.MainIdeal

@[expose] public section

namespace Cert.MainIdeal.Hand

open Cert.MainIdeal Cert.MainIdeal.Gen
open Idealize.ShloMosaic Idealize.SL.Sem

variable {F : FTy → Type} [FloatOps F]

/-- The constant words the body computes once from the sublane and lane numbers. -/
structure Lanes where
  v3 : IVec S8x128 32
  v57 : IVec S8x128 32
  v59 : IVec S8x128 32
  v61 : IVec S8x128 32
  v68 : IVec S8x128 32
  v72 : IVec S8x128 1
  v75 : IVec S8x128 32
  v80 : IVec S8x128 32
  v92 : IVec S8x128 32
  v98 : IVec S8x128 32

/-- The decoded words of one block: word (s, l) holds the e4m3 codes of inputs 4s .. 4s + 3 of column l. `a` and `b` are the
    two 4096-byte pieces of the stream from the tile's block on, `st` the tile's start and `r0` .. `r6` the rows made from
    the block's meta words. -/
def decWord (K : Lanes) (st : BitVec 32) (a b r0 r1 r2 r3 r4 r5 r6 : IVec S8x128 32) : IVec S8x128 32 :=
  let c127_i32_1408 : BitVec 32 := 127#32
  let v2601 : BitVec 32 := Scalar.andi st c127_i32_1408
  let c16843009_i32_1409 : BitVec 32 := 16843009#32
  let v2602 : BitVec 32 := Scalar.muli v2601 c16843009_i32_1409
  have v2603 : IVec S8x128 32 := broadcast S8x128 v2602
  have v2604 : IVec S8x128 32 := subi K.v57 v2603
  let c_m2139062144_i32_1410 : BitVec 32 := 2155905152#32
  have v2605 : IVec S8x128 32 := broadcast S8x128 c_m2139062144_i32_1410
  have v2606 : IVec S8x128 32 := andi v2604 v2605
  let c7_i32_1411 : BitVec 32 := 7#32
  have v2607 : IVec S8x128 32 := broadcast S8x128 c7_i32_1411
  have v2608 : IVec S8x128 32 := shrui v2606 v2607
  have v2609 : IVec S8x128 32 := subi v2606 v2608
  have v2610 : IVec S8x128 32 := ori v2609 v2606
  have v2611 : IVec S8x128 32 := xori a b
  have v2612 : IVec S8x128 32 := andi v2611 v2610
  have v2613 : IVec S8x128 32 := xori b v2612
  have v2614 : IVec S8x128x1 32 := shapeCast S8x128x1 K.v59 shapeCasts_S8x128_S8x128x1
  have v2615 : IVec S8x128 32 := shapeCast S8x128 v2614 shapeCasts_S8x128x1_S8x128
  have v2616 : IVec S8x128 32 := dynamicGather 1 v2613 v2615
  let c16_i32_1412 : BitVec 32 := 16#32
  have v2617 : IVec S8x128 32 := broadcast S8x128 c16_i32_1412
  have v2618 : IVec S8x128 32 := shli v2616 v2617
  let c16_i32_1413 : BitVec 32 := 16#32
  have v2619 : IVec S8x128 32 := broadcast S8x128 c16_i32_1413
  have v2620 : IVec S8x128 32 := shrui v2616 v2619
  have v2621 : IVec S8x128 32 := ori v2618 v2620
  have v2622 : IVec S8x128 32 := xori v2613 v2621
  have v2623 : IVec S8x128 32 := andi v2622 K.v68
  have v2624 : IVec S8x128 32 := xori v2621 v2623
  have v2625 : IVec S8x128x1 32 := shapeCast S8x128x1 K.v61 shapeCasts_S8x128_S8x128x1
  have v2626 : IVec S8x128 32 := shapeCast S8x128 v2625 shapeCasts_S8x128x1_S8x128
  have v2627 : IVec S8x128 32 := dynamicGather 1 v2624 v2626
  let c8_i32_1414 : BitVec 32 := 8#32
  have v2628 : IVec S8x128 32 := broadcast S8x128 c8_i32_1414
  have v2629 : IVec S8x128 32 := shli v2627 v2628
  let c8_i32_1415 : BitVec 32 := 8#32
  have v2630 : IVec S8x128 32 := broadcast S8x128 c8_i32_1415
  have v2631 : IVec S8x128 32 := shrui v2627 v2630
  have v2632 : IVec S8x128 32 := select K.v72 v2629 v2631
  have v2633 : IVec S8x128 32 := xori v2624 v2632
  have v2634 : IVec S8x128 32 := andi v2633 K.v75
  have v2635 : IVec S8x128 32 := xori v2632 v2634
  have v2636 : IVec S8x128x1 32 := shapeCast S8x128x1 K.v92 shapeCasts_S8x128_S8x128x1
  have v2637 : IVec S8x128 32 := shapeCast S8x128 v2636 shapeCasts_S8x128x1_S8x128
  have v2638 : IVec S8x128 32 := dynamicGather 1 v2635 v2637
  have v2639 : IVec S8x128x1 32 := shapeCast S8x128x1 K.v80 shapeCasts_S8x128_S8x128x1
  have v2640 : IVec S8x128 32 := shapeCast S8x128 v2639 shapeCasts_S8x128x1_S8x128
  have v2641 : IVec S8x128 32 := dynamicGather 0 v2638 v2640
  have v2642 : IVec S8x128 32 := addi r0 K.v98
  let c25_i32_1416 : BitVec 32 := 25#32
  have v2643 : IVec S8x128 32 := broadcast S8x128 c25_i32_1416
  have v2644 : IVec S8x128 32 := shrui v2642 v2643
  have v2645 : IVec S8x128x1 32 := shapeCast S8x128x1 v2644 shapeCasts_S8x128_S8x128x1
  have v2646 : IVec S8x128 32 := shapeCast S8x128 v2645 shapeCasts_S8x128x1_S8x128
  have v2647 : IVec S8x128 32 := dynamicGather 1 v2641 v2646
  have v2648 : IVec S8x128 32 := muli r2 K.v3
  have v2649 : IVec S8x128 32 := addi r1 v2648
  let c29_i32_1417 : BitVec 32 := 29#32
  have v2650 : IVec S8x128 32 := broadcast S8x128 c29_i32_1417
  have v2651 : IVec S8x128 32 := shrui v2649 v2650
  have v2652 : IVec S8x128x1 32 := shapeCast S8x128x1 v2651 shapeCasts_S8x128_S8x128x1
  have v2653 : IVec S8x128 32 := shapeCast S8x128 v2652 shapeCasts_S8x128x1_S8x128
  have v2654 : IVec S8x128 32 := dynamicGather 0 v2647 v2653
  have v2655 : IVec S8x128 32 := addi v2649 r3
  let c29_i32_1418 : BitVec 32 := 29#32
  have v2656 : IVec S8x128 32 := broadcast S8x128 c29_i32_1418
  have v2657 : IVec S8x128 32 := shrui v2655 v2656
  have v2658 : IVec S8x128x1 32 := shapeCast S8x128x1 v2657 shapeCasts_S8x128_S8x128x1
  have v2659 : IVec S8x128 32 := shapeCast S8x128 v2658 shapeCasts_S8x128x1_S8x128
  have v2660 : IVec S8x128 32 := dynamicGather 0 v2647 v2659
  let c24_i32_1419 : BitVec 32 := 24#32
  have v2661 : IVec S8x128 32 := broadcast S8x128 c24_i32_1419
  have v2662 : IVec S8x128 32 := shrui v2649 v2661
  let c31_i32_1420 : BitVec 32 := 31#32
  have v2663 : IVec S8x128 32 := broadcast S8x128 c31_i32_1420
  have v2664 : IVec S8x128 32 := andi v2662 v2663
  have v2665 : IVec S8x128 32 := shrui v2654 v2664
  let c32_i32_1421 : BitVec 32 := 32#32
  have v2666 : IVec S8x128 32 := broadcast S8x128 c32_i32_1421
  have v2667 : IVec S8x128 32 := subi v2666 v2664
  have v2668 : IVec S8x128 32 := shli v2660 v2667
  have v2669 : IVec S8x128 32 := ori v2665 v2668
  let c65535_i32_1422 : BitVec 32 := 65535#32
  have v2670 : IVec S8x128 32 := broadcast S8x128 c65535_i32_1422
  have v2671 : IVec S8x128 32 := andi v2669 v2670
  have v2672 : IVec S8x128 32 := shli v2669 r4
  have v2673 : IVec S8x128 32 := shli v2672 r4
  let c_m65536_i32_1423 : BitVec 32 := 4294901760#32
  have v2674 : IVec S8x128 32 := broadcast S8x128 c_m65536_i32_1423
  have v2675 : IVec S8x128 32 := andi v2673 v2674
  have v2676 : IVec S8x128 32 := ori v2671 v2675
  let c16711935_i32_1424 : BitVec 32 := 16711935#32
  have v2677 : IVec S8x128 32 := broadcast S8x128 c16711935_i32_1424
  have v2678 : IVec S8x128 32 := andi v2676 v2677
  have v2679 : IVec S8x128 32 := shli v2676 r4
  let c_m16711936_i32_1425 : BitVec 32 := 4278255360#32
  have v2680 : IVec S8x128 32 := broadcast S8x128 c_m16711936_i32_1425
  have v2681 : IVec S8x128 32 := andi v2679 v2680
  have v2682 : IVec S8x128 32 := ori v2678 v2681
  have v2683 : IVec S8x128 32 := andi v2682 r5
  let c2_i32_1426 : BitVec 32 := 2#32
  have v2684 : IVec S8x128 32 := broadcast S8x128 c2_i32_1426
  have v2685 : IVec S8x128 32 := shli v2682 v2684
  have v2686 : IVec S8x128 32 := andi v2685 r6
  have v2687 : IVec S8x128 32 := ori v2683 v2686
  v2687

/-- Sixteen of the block's 32 rows of weights, from row `o` on: the codes' values times the format's factor times the scale. -/
noncomputable def decHalf (o : Fin 2 → Nat) (ho : S32x128.Slices o S16x128) (z sc fx : IVec S8x128 32) : FVec F S16x128 .bf16 :=
  mulf (mulf (extractStridedSlice S16x128 o
      (extf .bf16 (bitcastToFloat .fp8e4m3 (bitcast S32x128 8 z bitcasts_S8x128_w32_S32x128_w8) : FVec F S32x128 .fp8e4m3) bitsLt_fp8e4m3_bf16) ho)
    (bitcastToFloat .bf16 (bitcast S16x128 16 fx bitcasts_S8x128_w32_S16x128_w16)))
    (bitcastToFloat .bf16 (bitcast S16x128 16 sc bitcasts_S8x128_w32_S16x128_w16))

/-- Sixteen rows as the weight buffer holds them: eight pairs of rows. -/
noncomputable def asPairs (w : FVec F S16x128 .bf16) : Vec F S1x1x8x2x128 .bf16 :=
  interleaveRows S1x1x8x2x128
    (shapeCast S1x1x8x1x128 (shapeCast S1x1x8x128 (rowsOfParity 0 S8x128 w bitcasts_S16x128_w16_S8x128_w32) shapeCasts_S8x128_S1x1x8x128) shapeCasts_S1x1x8x128_S1x1x8x1x128)
    (shapeCast S1x1x8x1x128 (shapeCast S1x1x8x128 (rowsOfParity 1 S8x128 w bitcasts_S16x128_w16_S8x128_w32) shapeCasts_S8x128_S1x1x8x128) shapeCasts_S1x1x8x128_S1x1x8x1x128)
    bitcasts_S1x1x8x2x128_w16_S1x1x8x1x128_w32

/-- A 4096-byte piece of the stream as 32-bit words. -/
def asWords (v : Vec F S4x8x128 .i8) : IVec S8x128 32 :=
  bitcast S8x128 32 (shapeCast S32x128 v shapeCasts_S4x8x128_S32x128) bitcasts_S32x128_w8_S8x128_w32

theorem rowInb (ns r j : Nat) (hns : ns < 2) (hr : r < 9) (hj : j < 8) :
    ∀ a, S1x1x8x128.size a = 0 ∨ (![ns, r, j, 0] : Fin 4 → Nat) a + (![1, 1, 0, 1] : Fin 4 → Nat) a * (S1x1x8x128.size a - 1) < S2x9x8x128.size a := by
  intro a; right
  match a with
  | ⟨0, _⟩ => show ns + 1 * (1 - 1) < 2; omega
  | ⟨1, _⟩ => show r + 1 * (1 - 1) < 9; omega
  | ⟨2, _⟩ => show j + 0 * (8 - 1) < 8; omega
  | ⟨3, _⟩ => show 0 + 1 * (128 - 1) < 128; omega

/-- Row `j` of the block's meta words number `r`, read once per sublane. -/
def rowRect (ns r j : Nat) (hns : ns < 2) (hr : r < 9) (hj : j < 8) : LoadRect S2x9x8x128 :=
  ⟨![ns, r, j, 0], S1x1x8x128.size, ![1, 1, 0, 1], rowInb ns r j hns hr hj⟩

def asRow (v : Vec F S1x1x8x128 .i32) : IVec S8x128 32 := shapeCast S8x128 v shapeCasts_S1x1x8x128_S8x128

/-- The offsets one block reads and writes at, as the body computes them, and the check it makes on the tile's start. -/
structure BlockOffs where
  oc : Fin 2 → Nat
  hoc : ∀ a, oc a + S1x1.size a ≤ S36x224.size a
  chk : BitVec 32 → Prop
  dec : ∀ v, Decidable (chk v)
  oa : BitVec 32 → Fin 3 → Nat
  ob : BitVec 32 → Fin 3 → Nat
  hoa : ∀ v, chk v → ∀ a, oa v a + S4x8x128.size a ≤ S21781x8x128.size a
  hob : ∀ v, chk v → ∀ a, ob v a + S4x8x128.size a ≤ S21781x8x128.size a
  o0 : Fin 5 → Nat
  o1 : Fin 5 → Nat
  h0 : ∀ a, o0 a + S1x1x8x2x128.size a ≤ S2x2x128x2x128.size a
  h1 : ∀ a, o1 a + S1x1x8x2x128.size a ≤ S2x2x128x2x128.size a
  hz0 : o0 (S2x2x128x2x128.rowAx rank2_S2x2x128x2x128) = 0
  hz1 : o1 (S2x2x128x2x128.rowAx rank2_S2x2x128x2x128) = 0

/-- Block `j` of column half `ns`. -/
noncomputable def blockP (K : Lanes)
    (arg4 : Memref sig .tc .smem S36x224 .i32) (arg7 : Memref sig .tc .vmem S21781x8x128 .i8)
    (arg9 : Memref sig .tc .vmem S2x2x128x2x128 .bf16) (harg9 : arg9.IsWhole) (arg10 : Memref sig .tc .vmem S2x9x8x128 .i32)
    (ns j : Nat) (hns : ns < 2) (hj : j < 8) (B : BlockOffs) :
    Prog (TpuEff nD τ sig (Elt F) Λ₀ .tc) PUnit := do
  let st : Elt F .i32 ← smemLoad arg4 (Rect.unit (s := S36x224) B.oc S1x1.size B.hoc) numel1_S1x1 rfl
  have hw : B.chk st := (← Prog.lift (TpuEff.assume (B.chk st) (B.dec st))).down
  let a : Vec F S4x8x128 .i8 ← Prog.lift (.load arg7 (Rect.unit (s := S21781x8x128) (B.oa st) S4x8x128.size (B.hoa st hw)).toLoadRect (View.loadsAt_vmem h_S4x8x128))
  let b : Vec F S4x8x128 .i8 ← Prog.lift (.load arg7 (Rect.unit (s := S21781x8x128) (B.ob st) S4x8x128.size (B.hob st hw)).toLoadRect (View.loadsAt_vmem h_S4x8x128))
  let q0 : Vec F S1x1x8x128 .i32 ← Prog.lift (.load arg10 (rowRect ns 0 j hns (by decide) hj) (View.loadsAt_vmem h_S1x1x8x128))
  let q1 : Vec F S1x1x8x128 .i32 ← Prog.lift (.load arg10 (rowRect ns 1 j hns (by decide) hj) (View.loadsAt_vmem h_S1x1x8x128))
  let q2 : Vec F S1x1x8x128 .i32 ← Prog.lift (.load arg10 (rowRect ns 2 j hns (by decide) hj) (View.loadsAt_vmem h_S1x1x8x128))
  let q3 : Vec F S1x1x8x128 .i32 ← Prog.lift (.load arg10 (rowRect ns 3 j hns (by decide) hj) (View.loadsAt_vmem h_S1x1x8x128))
  let q4 : Vec F S1x1x8x128 .i32 ← Prog.lift (.load arg10 (rowRect ns 4 j hns (by decide) hj) (View.loadsAt_vmem h_S1x1x8x128))
  let q5 : Vec F S1x1x8x128 .i32 ← Prog.lift (.load arg10 (rowRect ns 5 j hns (by decide) hj) (View.loadsAt_vmem h_S1x1x8x128))
  let q6 : Vec F S1x1x8x128 .i32 ← Prog.lift (.load arg10 (rowRect ns 6 j hns (by decide) hj) (View.loadsAt_vmem h_S1x1x8x128))
  let q7 : Vec F S1x1x8x128 .i32 ← Prog.lift (.load arg10 (rowRect ns 7 j hns (by decide) hj) (View.loadsAt_vmem h_S1x1x8x128))
  let q8 : Vec F S1x1x8x128 .i32 ← Prog.lift (.load arg10 (rowRect ns 8 j hns (by decide) hj) (View.loadsAt_vmem h_S1x1x8x128))
  let z := decWord K st (asWords a) (asWords b) (asRow q0) (asRow q1) (asRow q2) (asRow q3) (asRow q4) (asRow q5) (asRow q6)
  let _ : Vec F S1x1x8x2x128 .bf16 ← Prog.lift (.load arg9 (Rect.unit (s := S2x2x128x2x128) B.o0 S1x1x8x2x128.size B.h0).toLoadRect (View.loadsAt_vmem h_S1x1x8x2x128))
  Prog.lift (.store arg9 (Rect.unit (s := S2x2x128x2x128) B.o0 S1x1x8x2x128.size B.h0) (asPairs (decHalf ![0, 0] slices_S32x128_o0_0_S16x128 z (asRow q7) (asRow q8))) Finset.univ (View.stores_vmem h_S1x1x8x2x128 ((harg9.pairWhole rank2_S2x2x128x2x128).storeExact_slice rfl _ (Rect.wholeRows_unit rank2_S2x2x128x2x128 B.hz0 rfl) pairs_S2x2x128x2x128_bf16) (fun _ => rfl)) (.inl rfl))
  let _ : Vec F S1x1x8x2x128 .bf16 ← Prog.lift (.load arg9 (Rect.unit (s := S2x2x128x2x128) B.o1 S1x1x8x2x128.size B.h1).toLoadRect (View.loadsAt_vmem h_S1x1x8x2x128))
  Prog.lift (.store arg9 (Rect.unit (s := S2x2x128x2x128) B.o1 S1x1x8x2x128.size B.h1) (asPairs (decHalf ![16, 0] slices_S32x128_o16_0_S16x128 z (asRow q7) (asRow q8))) Finset.univ (View.stores_vmem h_S1x1x8x2x128 ((harg9.pairWhole rank2_S2x2x128x2x128).storeExact_slice rfl _ (Rect.wholeRows_unit rank2_S2x2x128x2x128 B.hz1 rfl) pairs_S2x2x128x2x128_bf16) (fun _ => rfl)) (.inl rfl))

end Cert.MainIdeal.Hand
-- ==== Proof.Tile.lean ====
/-
  One weight tile's decode: for each of the two column halves, nine rows of words made from the block's meta words are stored,
  and then the half's eight blocks are decoded. The kernel's body does this before its loop and inside it; here it is written
  once over the offsets, and the two printed forms are shown equal to it.
-/
module

public import proofs.«01_k».proof.Proof.Block

@[expose] public section

namespace Cert.MainIdeal.Hand

open Cert.MainIdeal Cert.MainIdeal.Gen
open Idealize.ShloMosaic Idealize.SL.Sem

variable {F : FTy → Type} [FloatOps F]

/-- The nine rows of words made from a block's meta words. -/
def metaRows (m : IVec S8x128 32) : Fin 9 → IVec S8x128 32 :=
  let c8_i32_1301 : BitVec 32 := 8#32
  have v2492 : IVec S8x128 32 := broadcast S8x128 c8_i32_1301
  have v2493 : IVec S8x128 32 := shrsi m v2492
  let c3_i32_1302 : BitVec 32 := 3#32
  have v2494 : IVec S8x128 32 := broadcast S8x128 c3_i32_1302
  have v2495 : IVec S8x128 32 := andi v2493 v2494
  let c0_i32_1303 : BitVec 32 := 0#32
  have v2496 : IVec S8x128 32 := broadcast S8x128 c0_i32_1303
  have v2497 : IVec S8x128 1 := cmpi .eq v2495 v2496
  let c2_i32_1304 : BitVec 32 := 2#32
  have v2498 : IVec S8x128 32 := broadcast S8x128 c2_i32_1304
  have v2499 : IVec S8x128 1 := cmpi .eq v2495 v2498
  let c7_i32_1305 : BitVec 32 := 7#32
  have v2500 : IVec S8x128 32 := broadcast S8x128 c7_i32_1305
  have v2501 : IVec S8x128 32 := shli m v2500
  let c33554432_i32_1306 : BitVec 32 := 33554432#32
  let c0_i32_1307 : BitVec 32 := 0#32
  have v2502 : IVec S8x128 32 := broadcast S8x128 c33554432_i32_1306
  have v2503 : IVec S8x128 32 := broadcast S8x128 c0_i32_1307
  have v2504 : IVec S8x128 32 := select v2497 v2502 v2503
  have v2505 : IVec S8x128 32 := subi v2501 v2504
  let c2_i32_1308 : BitVec 32 := 2#32
  have v2506 : IVec S8x128 32 := broadcast S8x128 c2_i32_1308
  have v2507 : IVec S8x128 32 := addi v2495 v2506
  let c27_i32_1309 : BitVec 32 := 27#32
  have v2508 : IVec S8x128 32 := broadcast S8x128 c27_i32_1309
  have v2509 : IVec S8x128 32 := shli v2507 v2508
  let c31_i32_1310 : BitVec 32 := 31#32
  let c23_i32_1311 : BitVec 32 := 23#32
  have v2510 : IVec S8x128 32 := broadcast S8x128 c31_i32_1310
  have v2511 : IVec S8x128 32 := broadcast S8x128 c23_i32_1311
  have v2512 : IVec S8x128 32 := select v2499 v2510 v2511
  let c17_i32_1312 : BitVec 32 := 17#32
  have v2513 : IVec S8x128 32 := broadcast S8x128 c17_i32_1312
  have v2514 : IVec S8x128 32 := select v2497 v2513 v2512
  let c24_i32_1313 : BitVec 32 := 24#32
  have v2515 : IVec S8x128 32 := broadcast S8x128 c24_i32_1313
  have v2516 : IVec S8x128 32 := shli v2514 v2515
  let c2_i32_1314 : BitVec 32 := 2#32
  have v2517 : IVec S8x128 32 := broadcast S8x128 c2_i32_1314
  have v2518 : IVec S8x128 32 := muli v2517 v2495
  let c4_i32_1315 : BitVec 32 := 4#32
  have v2519 : IVec S8x128 32 := broadcast S8x128 c4_i32_1315
  have v2520 : IVec S8x128 32 := subi v2519 v2518
  let c_m1_i32_1316 : BitVec 32 := 4294967295#32
  let c522133279_i32_1317 : BitVec 32 := 522133279#32
  have v2521 : IVec S8x128 32 := broadcast S8x128 c_m1_i32_1316
  have v2522 : IVec S8x128 32 := broadcast S8x128 c522133279_i32_1317
  have v2523 : IVec S8x128 32 := select v2499 v2521 v2522
  let c471604252_i32_1318 : BitVec 32 := 471604252#32
  have v2524 : IVec S8x128 32 := broadcast S8x128 c471604252_i32_1318
  have v2525 : IVec S8x128 32 := select v2497 v2524 v2523
  let c0_i32_1319 : BitVec 32 := 0#32
  let c_m2139062144_i32_1320 : BitVec 32 := 2155905152#32
  have v2526 : IVec S8x128 32 := broadcast S8x128 c0_i32_1319
  have v2527 : IVec S8x128 32 := broadcast S8x128 c_m2139062144_i32_1320
  have v2528 : IVec S8x128 32 := select v2499 v2526 v2527
  let c255_i32_1321 : BitVec 32 := 255#32
  have v2529 : IVec S8x128 32 := broadcast S8x128 c255_i32_1321
  have v2530 : IVec S8x128 32 := andi m v2529
  let c7_i32_1322 : BitVec 32 := 7#32
  have v2531 : IVec S8x128 32 := broadcast S8x128 c7_i32_1322
  have v2532 : IVec S8x128 32 := shli v2530 v2531
  let c16_i32_1323 : BitVec 32 := 16#32
  have v2533 : IVec S8x128 32 := broadcast S8x128 c16_i32_1323
  have v2534 : IVec S8x128 32 := shli v2532 v2533
  have v2535 : IVec S8x128 32 := ori v2532 v2534
  let c1065369472_i32_1324 : BitVec 32 := 1065369472#32
  let c1115701888_i32_1325 : BitVec 32 := 1115701888#32
  have v2536 : IVec S8x128 32 := broadcast S8x128 c1065369472_i32_1324
  have v2537 : IVec S8x128 32 := broadcast S8x128 c1115701888_i32_1325
  have v2538 : IVec S8x128 32 := select v2499 v2536 v2537
  ![m, v2505, v2509, v2516, v2520, v2525, v2528, v2535, v2538]

theorem rowsInb (ns r : Nat) (hns : ns < 2) (hr : r < 9) : ∀ a, (![ns, r, 0, 0] : Fin 4 → Nat) a + S1x1x8x128.size a ≤ S2x9x8x128.size a := by
  intro a
  match a with
  | ⟨0, _⟩ => show ns + 1 ≤ 2; omega
  | ⟨1, _⟩ => show r + 1 ≤ 9; omega
  | ⟨2, _⟩ => show 0 + 8 ≤ 8; omega
  | ⟨3, _⟩ => show 0 + 128 ≤ 128; omega

/-- One of the nine rows stored: the rows' eight words of every column. -/
noncomputable def rowP (arg10 : Memref sig .tc .vmem S2x9x8x128 .i32) (ns r : Nat) (hns : ns < 2) (hr : r < 9) (v : IVec S8x128 32) :
    Prog (TpuEff nD τ sig (Elt F) Λ₀ .tc) PUnit := do
  let _ : Vec F S1x1x8x128 .i32 ← Prog.lift (.load arg10 (Rect.unit (s := S2x9x8x128) ![ns, r, 0, 0] S1x1x8x128.size (rowsInb ns r hns hr)).toLoadRect (View.loadsAt_vmem h_S1x1x8x128))
  Prog.lift (.store arg10 (Rect.unit (s := S2x9x8x128) ![ns, r, 0, 0] S1x1x8x128.size (rowsInb ns r hns hr)) (shapeCast S1x1x8x128 v shapeCasts_S8x128_S1x1x8x128) Finset.univ (View.stores_vmem_bits_univ h_S1x1x8x128 rfl) (.inl rfl))

/-- One column half of a tile. -/
noncomputable def halfP (K : Lanes)
    (arg4 : Memref sig .tc .smem S36x224 .i32) (arg5 : Memref sig .tc .vmem S224x256 .i32) (arg7 : Memref sig .tc .vmem S21781x8x128 .i8)
    (arg9 : Memref sig .tc .vmem S2x2x128x2x128 .bf16) (harg9 : arg9.IsWhole) (arg10 : Memref sig .tc .vmem S2x9x8x128 .i32)
    (ns : Nat) (hns : ns < 2) (om : Fin 2 → Nat) (hom : ∀ a, om a + S8x128.size a ≤ S224x256.size a) (B0 B1 B2 B3 B4 B5 B6 B7 : BlockOffs) :
    Prog (TpuEff nD τ sig (Elt F) Λ₀ .tc) PUnit := do
  let m : Vec F S8x128 .i32 ← Prog.lift (.load arg5 (Rect.unit (s := S224x256) om S8x128.size hom).toLoadRect (View.loadsAt_vmem h_S8x128))
  rowP arg10 ns 0 hns (by decide) (metaRows m 0)
  rowP arg10 ns 1 hns (by decide) (metaRows m 1)
  rowP arg10 ns 2 hns (by decide) (metaRows m 2)
  rowP arg10 ns 3 hns (by decide) (metaRows m 3)
  rowP arg10 ns 4 hns (by decide) (metaRows m 4)
  rowP arg10 ns 5 hns (by decide) (metaRows m 5)
  rowP arg10 ns 6 hns (by decide) (metaRows m 6)
  rowP arg10 ns 7 hns (by decide) (metaRows m 7)
  rowP arg10 ns 8 hns (by decide) (metaRows m 8)
  blockP K arg4 arg7 arg9 harg9 arg10 ns 0 hns (by decide) B0
  blockP K arg4 arg7 arg9 harg9 arg10 ns 1 hns (by decide) B1
  blockP K arg4 arg7 arg9 harg9 arg10 ns 2 hns (by decide) B2
  blockP K arg4 arg7 arg9 harg9 arg10 ns 3 hns (by decide) B3
  blockP K arg4 arg7 arg9 harg9 arg10 ns 4 hns (by decide) B4
  blockP K arg4 arg7 arg9 harg9 arg10 ns 5 hns (by decide) B5
  blockP K arg4 arg7 arg9 harg9 arg10 ns 6 hns (by decide) B6
  blockP K arg4 arg7 arg9 harg9 arg10 ns 7 hns (by decide) B7

/-- The decode of one tile. -/
noncomputable def tileP (K : Lanes)
    (arg4 : Memref sig .tc .smem S36x224 .i32) (arg5 : Memref sig .tc .vmem S224x256 .i32) (arg7 : Memref sig .tc .vmem S21781x8x128 .i8)
    (arg9 : Memref sig .tc .vmem S2x2x128x2x128 .bf16) (harg9 : arg9.IsWhole) (arg10 : Memref sig .tc .vmem S2x9x8x128 .i32)
    (om0 om1 : Fin 2 → Nat) (hom0 : ∀ a, om0 a + S8x128.size a ≤ S224x256.size a) (hom1 : ∀ a, om1 a + S8x128.size a ≤ S224x256.size a)
    (B : Fin 2 → Fin 8 → BlockOffs) :
    Prog (TpuEff nD τ sig (Elt F) Λ₀ .tc) PUnit := do
  halfP K arg4 arg5 arg7 arg9 harg9 arg10 0 (by decide) om0 hom0 (B 0 0) (B 0 1) (B 0 2) (B 0 3) (B 0 4) (B 0 5) (B 0 6) (B 0 7)
  halfP K arg4 arg5 arg7 arg9 harg9 arg10 1 (by decide) om1 hom1 (B 1 0) (B 1 1) (B 1 2) (B 1 3) (B 1 4) (B 1 5) (B 1 6) (B 1 7)

/-- The offsets of the blocks of the tile decoded before the loop, and of the tile decoded in it. -/
@[reducible] def first00 (i : grid0.Coords) : BlockOffs :=
  ⟨k0_off1 i, k0_off1_inb i, k0_chk1, k0_chk1.dec, k0_off2, k0_off3, fun v w => k0_off2_inb v w, fun v w => k0_off3_inb v w, ![0, 0, 0, 0, 0], ![0, 0, 8, 0, 0], inb_S2x2x128x2x128_S1x1x8x2x128_0_0_0_0_0, inb_S2x2x128x2x128_S1x1x8x2x128_0_0_8_0_0, rfl, rfl⟩
@[reducible] def first01 (i : grid0.Coords) : BlockOffs :=
  ⟨k0_off4 i, k0_off4_inb i, k0_chk2, k0_chk2.dec, k0_off5, k0_off6, fun v w => k0_off5_inb v w, fun v w => k0_off6_inb v w, ![0, 0, 16, 0, 0], ![0, 0, 24, 0, 0], inb_S2x2x128x2x128_S1x1x8x2x128_0_0_16_0_0, inb_S2x2x128x2x128_S1x1x8x2x128_0_0_24_0_0, rfl, rfl⟩
@[reducible] def first02 (i : grid0.Coords) : BlockOffs :=
  ⟨k0_off7 i, k0_off7_inb i, k0_chk3, k0_chk3.dec, k0_off8, k0_off9, fun v w => k0_off8_inb v w, fun v w => k0_off9_inb v w, ![0, 0, 32, 0, 0], ![0, 0, 40, 0, 0], inb_S2x2x128x2x128_S1x1x8x2x128_0_0_32_0_0, inb_S2x2x128x2x128_S1x1x8x2x128_0_0_40_0_0, rfl, rfl⟩
@[reducible] def first03 (i : grid0.Coords) : BlockOffs :=
  ⟨k0_off10 i, k0_off10_inb i, k0_chk4, k0_chk4.dec, k0_off11, k0_off12, fun v w => k0_off11_inb v w, fun v w => k0_off12_inb v w, ![0, 0, 48, 0, 0], ![0, 0, 56, 0, 0], inb_S2x2x128x2x128_S1x1x8x2x128_0_0_48_0_0, inb_S2x2x128x2x128_S1x1x8x2x128_0_0_56_0_0, rfl, rfl⟩
@[reducible] def first04 (i : grid0.Coords) : BlockOffs :=
  ⟨k0_off13 i, k0_off13_inb i, k0_chk5, k0_chk5.dec, k0_off14, k0_off15, fun v w => k0_off14_inb v w, fun v w => k0_off15_inb v w, ![0, 0, 64, 0, 0], ![0, 0, 72, 0, 0], inb_S2x2x128x2x128_S1x1x8x2x128_0_0_64_0_0, inb_S2x2x128x2x128_S1x1x8x2x128_0_0_72_0_0, rfl, rfl⟩
@[reducible] def first05 (i : grid0.Coords) : BlockOffs :=
  ⟨k0_off16 i, k0_off16_inb i, k0_chk6, k0_chk6.dec, k0_off17, k0_off18, fun v w => k0_off17_inb v w, fun v w => k0_off18_inb v w, ![0, 0, 80, 0, 0], ![0, 0, 88, 0, 0], inb_S2x2x128x2x128_S1x1x8x2x128_0_0_80_0_0, inb_S2x2x128x2x128_S1x1x8x2x128_0_0_88_0_0, rfl, rfl⟩
@[reducible] def first06 (i : grid0.Coords) : BlockOffs :=
  ⟨k0_off19 i, k0_off19_inb i, k0_chk7, k0_chk7.dec, k0_off20, k0_off21, fun v w => k0_off20_inb v w, fun v w => k0_off21_inb v w, ![0, 0, 96, 0, 0], ![0, 0, 104, 0, 0], inb_S2x2x128x2x128_S1x1x8x2x128_0_0_96_0_0, inb_S2x2x128x2x128_S1x1x8x2x128_0_0_104_0_0, rfl, rfl⟩
@[reducible] def first07 (i : grid0.Coords) : BlockOffs :=
  ⟨k0_off22 i, k0_off22_inb i, k0_chk8, k0_chk8.dec, k0_off23, k0_off24, fun v w => k0_off23_inb v w, fun v w => k0_off24_inb v w, ![0, 0, 112, 0, 0], ![0, 0, 120, 0, 0], inb_S2x2x128x2x128_S1x1x8x2x128_0_0_112_0_0, inb_S2x2x128x2x128_S1x1x8x2x128_0_0_120_0_0, rfl, rfl⟩
@[reducible] def first10 (i : grid0.Coords) : BlockOffs :=
  ⟨k0_off25 i, k0_off25_inb i, k0_chk9, k0_chk9.dec, k0_off26, k0_off27, fun v w => k0_off26_inb v w, fun v w => k0_off27_inb v w, ![0, 1, 0, 0, 0], ![0, 1, 8, 0, 0], inb_S2x2x128x2x128_S1x1x8x2x128_0_1_0_0_0, inb_S2x2x128x2x128_S1x1x8x2x128_0_1_8_0_0, rfl, rfl⟩
@[reducible] def first11 (i : grid0.Coords) : BlockOffs :=
  ⟨k0_off28 i, k0_off28_inb i, k0_chk10, k0_chk10.dec, k0_off29, k0_off30, fun v w => k0_off29_inb v w, fun v w => k0_off30_inb v w, ![0, 1, 16, 0, 0], ![0, 1, 24, 0, 0], inb_S2x2x128x2x128_S1x1x8x2x128_0_1_16_0_0, inb_S2x2x128x2x128_S1x1x8x2x128_0_1_24_0_0, rfl, rfl⟩
@[reducible] def first12 (i : grid0.Coords) : BlockOffs :=
  ⟨k0_off31 i, k0_off31_inb i, k0_chk11, k0_chk11.dec, k0_off32, k0_off33, fun v w => k0_off32_inb v w, fun v w => k0_off33_inb v w, ![0, 1, 32, 0, 0], ![0, 1, 40, 0, 0], inb_S2x2x128x2x128_S1x1x8x2x128_0_1_32_0_0, inb_S2x2x128x2x128_S1x1x8x2x128_0_1_40_0_0, rfl, rfl⟩
@[reducible] def first13 (i : grid0.Coords) : BlockOffs :=
  ⟨k0_off34 i, k0_off34_inb i, k0_chk12, k0_chk12.dec, k0_off35, k0_off36, fun v w => k0_off35_inb v w, fun v w => k0_off36_inb v w, ![0, 1, 48, 0, 0], ![0, 1, 56, 0, 0], inb_S2x2x128x2x128_S1x1x8x2x128_0_1_48_0_0, inb_S2x2x128x2x128_S1x1x8x2x128_0_1_56_0_0, rfl, rfl⟩
@[reducible] def first14 (i : grid0.Coords) : BlockOffs :=
  ⟨k0_off37 i, k0_off37_inb i, k0_chk13, k0_chk13.dec, k0_off38, k0_off39, fun v w => k0_off38_inb v w, fun v w => k0_off39_inb v w, ![0, 1, 64, 0, 0], ![0, 1, 72, 0, 0], inb_S2x2x128x2x128_S1x1x8x2x128_0_1_64_0_0, inb_S2x2x128x2x128_S1x1x8x2x128_0_1_72_0_0, rfl, rfl⟩
@[reducible] def first15 (i : grid0.Coords) : BlockOffs :=
  ⟨k0_off40 i, k0_off40_inb i, k0_chk14, k0_chk14.dec, k0_off41, k0_off42, fun v w => k0_off41_inb v w, fun v w => k0_off42_inb v w, ![0, 1, 80, 0, 0], ![0, 1, 88, 0, 0], inb_S2x2x128x2x128_S1x1x8x2x128_0_1_80_0_0, inb_S2x2x128x2x128_S1x1x8x2x128_0_1_88_0_0, rfl, rfl⟩
@[reducible] def first16 (i : grid0.Coords) : BlockOffs :=
  ⟨k0_off43 i, k0_off43_inb i, k0_chk15, k0_chk15.dec, k0_off44, k0_off45, fun v w => k0_off44_inb v w, fun v w => k0_off45_inb v w, ![0, 1, 96, 0, 0], ![0, 1, 104, 0, 0], inb_S2x2x128x2x128_S1x1x8x2x128_0_1_96_0_0, inb_S2x2x128x2x128_S1x1x8x2x128_0_1_104_0_0, rfl, rfl⟩
@[reducible] def first17 (i : grid0.Coords) : BlockOffs :=
  ⟨k0_off46 i, k0_off46_inb i, k0_chk16, k0_chk16.dec, k0_off47, k0_off48, fun v w => k0_off47_inb v w, fun v w => k0_off48_inb v w, ![0, 1, 112, 0, 0], ![0, 1, 120, 0, 0], inb_S2x2x128x2x128_S1x1x8x2x128_0_1_112_0_0, inb_S2x2x128x2x128_S1x1x8x2x128_0_1_120_0_0, rfl, rfl⟩
@[reducible] def next00 (i : grid0.Coords) (k : Fin k0_t1_loop.trips) (h : k0_cond2 k = 1#1) : BlockOffs :=
  ⟨k0_off50 i k, k0_off50_inb i k h, k0_chk17 k, k0_chk17.dec k, k0_off51, k0_off52, fun v w => k0_off51_inb k v w h, fun v w => k0_off52_inb k v w h, k0_off53 k, k0_off54 k, k0_off53_inb k h, k0_off54_inb k h, rfl, rfl⟩
@[reducible] def next01 (i : grid0.Coords) (k : Fin k0_t1_loop.trips) (h : k0_cond2 k = 1#1) : BlockOffs :=
  ⟨k0_off55 i k, k0_off55_inb i k h, k0_chk18 k, k0_chk18.dec k, k0_off56, k0_off57, fun v w => k0_off56_inb k v w h, fun v w => k0_off57_inb k v w h, k0_off58 k, k0_off59 k, k0_off58_inb k h, k0_off59_inb k h, rfl, rfl⟩
@[reducible] def next02 (i : grid0.Coords) (k : Fin k0_t1_loop.trips) (h : k0_cond2 k = 1#1) : BlockOffs :=
  ⟨k0_off60 i k, k0_off60_inb i k h, k0_chk19 k, k0_chk19.dec k, k0_off61, k0_off62, fun v w => k0_off61_inb k v w h, fun v w => k0_off62_inb k v w h, k0_off63 k, k0_off64 k, k0_off63_inb k h, k0_off64_inb k h, rfl, rfl⟩
@[reducible] def next03 (i : grid0.Coords) (k : Fin k0_t1_loop.trips) (h : k0_cond2 k = 1#1) : BlockOffs :=
  ⟨k0_off65 i k, k0_off65_inb i k h, k0_chk20 k, k0_chk20.dec k, k0_off66, k0_off67, fun v w => k0_off66_inb k v w h, fun v w => k0_off67_inb k v w h, k0_off68 k, k0_off69 k, k0_off68_inb k h, k0_off69_inb k h, rfl, rfl⟩
@[reducible] def next04 (i : grid0.Coords) (k : Fin k0_t1_loop.trips) (h : k0_cond2 k = 1#1) : BlockOffs :=
  ⟨k0_off70 i k, k0_off70_inb i k h, k0_chk21 k, k0_chk21.dec k, k0_off71, k0_off72, fun v w => k0_off71_inb k v w h, fun v w => k0_off72_inb k v w h, k0_off73 k, k0_off74 k, k0_off73_inb k h, k0_off74_inb k h, rfl, rfl⟩
@[reducible] def next05 (i : grid0.Coords) (k : Fin k0_t1_loop.trips) (h : k0_cond2 k = 1#1) : BlockOffs :=
  ⟨k0_off75 i k, k0_off75_inb i k h, k0_chk22 k, k0_chk22.dec k, k0_off76, k0_off77, fun v w => k0_off76_inb k v w h, fun v w => k0_off77_inb k v w h, k0_off78 k, k0_off79 k, k0_off78_inb k h, k0_off79_inb k h, rfl, rfl⟩
@[reducible] def next06 (i : grid0.Coords) (k : Fin k0_t1_loop.trips) (h : k0_cond2 k = 1#1) : BlockOffs :=
  ⟨k0_off80 i k, k0_off80_inb i k h, k0_chk23 k, k0_chk23.dec k, k0_off81, k0_off82, fun v w => k0_off81_inb k v w h, fun v w => k0_off82_inb k v w h, k0_off83 k, k0_off84 k, k0_off83_inb k h, k0_off84_inb k h, rfl, rfl⟩
@[reducible] def next07 (i : grid0.Coords) (k : Fin k0_t1_loop.trips) (h : k0_cond2 k = 1#1) : BlockOffs :=
  ⟨k0_off85 i k, k0_off85_inb i k h, k0_chk24 k, k0_chk24.dec k, k0_off86, k0_off87, fun v w => k0_off86_inb k v w h, fun v w => k0_off87_inb k v w h, k0_off88 k, k0_off89 k, k0_off88_inb k h, k0_off89_inb k h, rfl, rfl⟩
@[reducible] def next10 (i : grid0.Coords) (k : Fin k0_t1_loop.trips) (h : k0_cond2 k = 1#1) : BlockOffs :=
  ⟨k0_off91 i k, k0_off91_inb i k h, k0_chk25 k, k0_chk25.dec k, k0_off92, k0_off93, fun v w => k0_off92_inb k v w h, fun v w => k0_off93_inb k v w h, k0_off94 k, k0_off95 k, k0_off94_inb k h, k0_off95_inb k h, rfl, rfl⟩
@[reducible] def next11 (i : grid0.Coords) (k : Fin k0_t1_loop.trips) (h : k0_cond2 k = 1#1) : BlockOffs :=
  ⟨k0_off96 i k, k0_off96_inb i k h, k0_chk26 k, k0_chk26.dec k, k0_off97, k0_off98, fun v w => k0_off97_inb k v w h, fun v w => k0_off98_inb k v w h, k0_off99 k, k0_off100 k, k0_off99_inb k h, k0_off100_inb k h, rfl, rfl⟩
@[reducible] def next12 (i : grid0.Coords) (k : Fin k0_t1_loop.trips) (h : k0_cond2 k = 1#1) : BlockOffs :=
  ⟨k0_off101 i k, k0_off101_inb i k h, k0_chk27 k, k0_chk27.dec k, k0_off102, k0_off103, fun v w => k0_off102_inb k v w h, fun v w => k0_off103_inb k v w h, k0_off104 k, k0_off105 k, k0_off104_inb k h, k0_off105_inb k h, rfl, rfl⟩
@[reducible] def next13 (i : grid0.Coords) (k : Fin k0_t1_loop.trips) (h : k0_cond2 k = 1#1) : BlockOffs :=
  ⟨k0_off106 i k, k0_off106_inb i k h, k0_chk28 k, k0_chk28.dec k, k0_off107, k0_off108, fun v w => k0_off107_inb k v w h, fun v w => k0_off108_inb k v w h, k0_off109 k, k0_off110 k, k0_off109_inb k h, k0_off110_inb k h, rfl, rfl⟩
@[reducible] def next14 (i : grid0.Coords) (k : Fin k0_t1_loop.trips) (h : k0_cond2 k = 1#1) : BlockOffs :=
  ⟨k0_off111 i k, k0_off111_inb i k h, k0_chk29 k, k0_chk29.dec k, k0_off112, k0_off113, fun v w => k0_off112_inb k v w h, fun v w => k0_off113_inb k v w h, k0_off114 k, k0_off115 k, k0_off114_inb k h, k0_off115_inb k h, rfl, rfl⟩
@[reducible] def next15 (i : grid0.Coords) (k : Fin k0_t1_loop.trips) (h : k0_cond2 k = 1#1) : BlockOffs :=
  ⟨k0_off116 i k, k0_off116_inb i k h, k0_chk30 k, k0_chk30.dec k, k0_off117, k0_off118, fun v w => k0_off117_inb k v w h, fun v w => k0_off118_inb k v w h, k0_off119 k, k0_off120 k, k0_off119_inb k h, k0_off120_inb k h, rfl, rfl⟩
@[reducible] def next16 (i : grid0.Coords) (k : Fin k0_t1_loop.trips) (h : k0_cond2 k = 1#1) : BlockOffs :=
  ⟨k0_off121 i k, k0_off121_inb i k h, k0_chk31 k, k0_chk31.dec k, k0_off122, k0_off123, fun v w => k0_off122_inb k v w h, fun v w => k0_off123_inb k v w h, k0_off124 k, k0_off125 k, k0_off124_inb k h, k0_off125_inb k h, rfl, rfl⟩
@[reducible] def next17 (i : grid0.Coords) (k : Fin k0_t1_loop.trips) (h : k0_cond2 k = 1#1) : BlockOffs :=
  ⟨k0_off126 i k, k0_off126_inb i k h, k0_chk32 k, k0_chk32.dec k, k0_off127, k0_off128, fun v w => k0_off127_inb k v w h, fun v w => k0_off128_inb k v w h, k0_off129 k, k0_off130 k, k0_off129_inb k h, k0_off130_inb k h, rfl, rfl⟩

/-- The offsets of the tile decoded before the loop. -/
def firstOffs (i : grid0.Coords) (ns : Fin 2) (j : Fin 8) : BlockOffs :=
  match ns, j with
  | 0, 0 => first00 i
  | 0, 1 => first01 i
  | 0, 2 => first02 i
  | 0, 3 => first03 i
  | 0, 4 => first04 i
  | 0, 5 => first05 i
  | 0, 6 => first06 i
  | 0, 7 => first07 i
  | 1, 0 => first10 i
  | 1, 1 => first11 i
  | 1, 2 => first12 i
  | 1, 3 => first13 i
  | 1, 4 => first14 i
  | 1, 5 => first15 i
  | 1, 6 => first16 i
  | 1, 7 => first17 i

/-- The offsets of the tile decoded in the loop. -/
def nextOffs (i : grid0.Coords) (k : Fin k0_t1_loop.trips) (h : k0_cond2 k = 1#1) (ns : Fin 2) (j : Fin 8) : BlockOffs :=
  match ns, j with
  | 0, 0 => next00 i k h
  | 0, 1 => next01 i k h
  | 0, 2 => next02 i k h
  | 0, 3 => next03 i k h
  | 0, 4 => next04 i k h
  | 0, 5 => next05 i k h
  | 0, 6 => next06 i k h
  | 0, 7 => next07 i k h
  | 1, 0 => next10 i k h
  | 1, 1 => next11 i k h
  | 1, 2 => next12 i k h
  | 1, 3 => next13 i k h
  | 1, 4 => next14 i k h
  | 1, 5 => next15 i k h
  | 1, 6 => next16 i k h
  | 1, 7 => next17 i k h

end Cert.MainIdeal.Hand
-- ==== Proof.Printed.lean ====
/-
  The kernel's printed body written over the tile's decode: the copies of the first grid step, the first tile, and a loop that
  decodes the next tile and adds the product of the current one.
-/
module

public import proofs.«01_k».proof.Proof.Tile

@[expose] public section

namespace Cert.MainIdeal.Hand

open Cert.MainIdeal Cert.MainIdeal.Gen
open Idealize.ShloMosaic Idealize.SL.Sem

variable {F : FTy → Type} [FloatOps F]

/-- Two programs that begin with the same effect and go on alike are equal. -/
theorem opc {E : Type → Type} {α : Type} {β : Type} (e : E β) (k k' : β → Prog E α) (h : ∀ r, k r = k' r) :
    Prog.op e k = Prog.op e k' := by
  rw [funext h]

theorem bindc {E : Type → Type} {α β : Type} (m : Prog E β) (k k' : β → Prog E α) (h : ∀ r, k r = k' r) :
    m.bind k = m.bind k' := by
  rw [funext h]

/-- The constant words of the body. -/
def lanes : Lanes :=
  have v3 : IVec S8x128 32 := iota .tc S8x128 32 [0] iota_S8x128_d0_w32
  have v4 : IVec S8x128 32 := iota .tc S8x128 32 [1] iota_S8x128_d1_w32
  let c64_i32 : BitVec 32 := 64#32
  have v5 : IVec S8x128 32 := broadcast S8x128 c64_i32
  have v6 : IVec S8x128 32 := muli v5 v3
  let c0_i32_1 : BitVec 32 := 0#32
  have v7 : IVec S8x128 32 := broadcast S8x128 c0_i32_1
  have v8 : IVec S8x128 32 := addi v6 v7
  let c3_i32 : BitVec 32 := 3#32
  have v9 : IVec S8x128 32 := broadcast S8x128 c3_i32
  have v10 : IVec S8x128 32 := shrsi v4 v9
  have v11 : IVec S8x128 32 := addi v8 v10
  let c127_i32 : BitVec 32 := 127#32
  have v12 : IVec S8x128 32 := broadcast S8x128 c127_i32
  have v13 : IVec S8x128 32 := minsi v11 v12
  let c128_i32 : BitVec 32 := 128#32
  have v14 : IVec S8x128 32 := broadcast S8x128 c128_i32
  have v15 : IVec S8x128 32 := ori v13 v14
  let c64_i32_2 : BitVec 32 := 64#32
  have v16 : IVec S8x128 32 := broadcast S8x128 c64_i32_2
  have v17 : IVec S8x128 32 := muli v16 v3
  let c16_i32 : BitVec 32 := 16#32
  have v18 : IVec S8x128 32 := broadcast S8x128 c16_i32
  have v19 : IVec S8x128 32 := addi v17 v18
  let c3_i32_3 : BitVec 32 := 3#32
  have v20 : IVec S8x128 32 := broadcast S8x128 c3_i32_3
  have v21 : IVec S8x128 32 := shrsi v4 v20
  have v22 : IVec S8x128 32 := addi v19 v21
  let c127_i32_4 : BitVec 32 := 127#32
  have v23 : IVec S8x128 32 := broadcast S8x128 c127_i32_4
  have v24 : IVec S8x128 32 := minsi v22 v23
  let c128_i32_5 : BitVec 32 := 128#32
  have v25 : IVec S8x128 32 := broadcast S8x128 c128_i32_5
  have v26 : IVec S8x128 32 := ori v24 v25
  let c64_i32_6 : BitVec 32 := 64#32
  have v27 : IVec S8x128 32 := broadcast S8x128 c64_i32_6
  have v28 : IVec S8x128 32 := muli v27 v3
  let c32_i32 : BitVec 32 := 32#32
  have v29 : IVec S8x128 32 := broadcast S8x128 c32_i32
  have v30 : IVec S8x128 32 := addi v28 v29
  let c3_i32_7 : BitVec 32 := 3#32
  have v31 : IVec S8x128 32 := broadcast S8x128 c3_i32_7
  have v32 : IVec S8x128 32 := shrsi v4 v31
  have v33 : IVec S8x128 32 := addi v30 v32
  let c127_i32_8 : BitVec 32 := 127#32
  have v34 : IVec S8x128 32 := broadcast S8x128 c127_i32_8
  have v35 : IVec S8x128 32 := minsi v33 v34
  let c128_i32_9 : BitVec 32 := 128#32
  have v36 : IVec S8x128 32 := broadcast S8x128 c128_i32_9
  have v37 : IVec S8x128 32 := ori v35 v36
  let c64_i32_10 : BitVec 32 := 64#32
  have v38 : IVec S8x128 32 := broadcast S8x128 c64_i32_10
  have v39 : IVec S8x128 32 := muli v38 v3
  let c48_i32 : BitVec 32 := 48#32
  have v40 : IVec S8x128 32 := broadcast S8x128 c48_i32
  have v41 : IVec S8x128 32 := addi v39 v40
  let c3_i32_11 : BitVec 32 := 3#32
  have v42 : IVec S8x128 32 := broadcast S8x128 c3_i32_11
  have v43 : IVec S8x128 32 := shrsi v4 v42
  have v44 : IVec S8x128 32 := addi v41 v43
  let c127_i32_12 : BitVec 32 := 127#32
  have v45 : IVec S8x128 32 := broadcast S8x128 c127_i32_12
  have v46 : IVec S8x128 32 := minsi v44 v45
  let c128_i32_13 : BitVec 32 := 128#32
  have v47 : IVec S8x128 32 := broadcast S8x128 c128_i32_13
  have v48 : IVec S8x128 32 := ori v46 v47
  let c8_i32 : BitVec 32 := 8#32
  have v49 : IVec S8x128 32 := broadcast S8x128 c8_i32
  have v50 : IVec S8x128 32 := shli v26 v49
  have v51 : IVec S8x128 32 := ori v15 v50
  let c16_i32_14 : BitVec 32 := 16#32
  have v52 : IVec S8x128 32 := broadcast S8x128 c16_i32_14
  have v53 : IVec S8x128 32 := shli v37 v52
  have v54 : IVec S8x128 32 := ori v51 v53
  let c24_i32 : BitVec 32 := 24#32
  have v55 : IVec S8x128 32 := broadcast S8x128 c24_i32
  have v56 : IVec S8x128 32 := shli v48 v55
  have v57 : IVec S8x128 32 := ori v54 v56
  let c2_i32 : BitVec 32 := 2#32
  have v58 : IVec S8x128 32 := broadcast S8x128 c2_i32
  have v59 : IVec S8x128 32 := xori v4 v58
  let c1_i32 : BitVec 32 := 1#32
  have v60 : IVec S8x128 32 := broadcast S8x128 c1_i32
  have v61 : IVec S8x128 32 := xori v4 v60
  let c2_i32_15 : BitVec 32 := 2#32
  have v62 : IVec S8x128 32 := broadcast S8x128 c2_i32_15
  have v63 : IVec S8x128 32 := andi v4 v62
  let c0_i32_16 : BitVec 32 := 0#32
  have v64 : IVec S8x128 32 := broadcast S8x128 c0_i32_16
  have v65 : IVec S8x128 1 := cmpi .eq v63 v64
  let c65535_i32 : BitVec 32 := 65535#32
  let c_m65536_i32 : BitVec 32 := 4294901760#32
  have v66 : IVec S8x128 32 := broadcast S8x128 c65535_i32
  have v67 : IVec S8x128 32 := broadcast S8x128 c_m65536_i32
  have v68 : IVec S8x128 32 := select v65 v66 v67
  let c1_i32_17 : BitVec 32 := 1#32
  have v69 : IVec S8x128 32 := broadcast S8x128 c1_i32_17
  have v70 : IVec S8x128 32 := andi v4 v69
  let c0_i32_18 : BitVec 32 := 0#32
  have v71 : IVec S8x128 32 := broadcast S8x128 c0_i32_18
  have v72 : IVec S8x128 1 := cmpi .eq v70 v71
  let c16711935_i32 : BitVec 32 := 16711935#32
  let c_m16711936_i32 : BitVec 32 := 4278255360#32
  have v73 : IVec S8x128 32 := broadcast S8x128 c16711935_i32
  have v74 : IVec S8x128 32 := broadcast S8x128 c_m16711936_i32
  have v75 : IVec S8x128 32 := select v72 v73 v74
  let c4_i32 : BitVec 32 := 4#32
  have v76 : IVec S8x128 32 := broadcast S8x128 c4_i32
  have v77 : IVec S8x128 32 := shrsi v4 v76
  have v78 : IVec S8x128 32 := subi v77 v3
  let c7_i32 : BitVec 32 := 7#32
  have v79 : IVec S8x128 32 := broadcast S8x128 c7_i32
  have v80 : IVec S8x128 32 := andi v78 v79
  let c3_i32_19 : BitVec 32 := 3#32
  have v81 : IVec S8x128 32 := broadcast S8x128 c3_i32_19
  have v82 : IVec S8x128 32 := andi v4 v81
  let c8_i32_20 : BitVec 32 := 8#32
  have v83 : IVec S8x128 32 := broadcast S8x128 c8_i32_20
  have v84 : IVec S8x128 32 := muli v83 v82
  have v85 : IVec S8x128 32 := addi v84 v80
  let c4_i32_21 : BitVec 32 := 4#32
  have v86 : IVec S8x128 32 := broadcast S8x128 c4_i32_21
  have v87 : IVec S8x128 32 := muli v86 v85
  let c2_i32_22 : BitVec 32 := 2#32
  have v88 : IVec S8x128 32 := broadcast S8x128 c2_i32_22
  have v89 : IVec S8x128 32 := shrsi v4 v88
  let c3_i32_23 : BitVec 32 := 3#32
  have v90 : IVec S8x128 32 := broadcast S8x128 c3_i32_23
  have v91 : IVec S8x128 32 := andi v89 v90
  have v92 : IVec S8x128 32 := addi v87 v91
  let c127_i32_24 : BitVec 32 := 127#32
  have v93 : IVec S8x128 32 := broadcast S8x128 c127_i32_24
  have v94 : IVec S8x128 32 := muli v93 v3
  let c7_i32_25 : BitVec 32 := 7#32
  have v95 : IVec S8x128 32 := broadcast S8x128 c7_i32_25
  have v96 : IVec S8x128 32 := addi v95 v94
  let c22_i32 : BitVec 32 := 22#32
  have v97 : IVec S8x128 32 := broadcast S8x128 c22_i32
  have v98 : IVec S8x128 32 := shli v96 v97
  ⟨v3, v57, v59, v61, v68, v72, v75, v80, v92, v98⟩

/-- The first grid step's copies: the stream and the activation words into their buffers, the stream's tail stored after it. -/
noncomputable def copyP (arg1 : Memref sig .tc .hbm S21772x8x128 .i8) (harg1 : arg1.IsWhole) (arg2 : Memref sig .tc .vmem S9x8x128 .i8) (arg3 : Memref sig .tc .hbm S56x768x128 .i32) (harg3 : arg3.IsWhole) (arg7 : Memref sig .tc .vmem S21781x8x128 .i8) (harg7 : arg7.IsWhole) (arg8 : Memref sig .tc .vmem S56x768x128 .i32) (harg8 : arg8.IsWhole) (arg12 : DmaSems sig S2) :
    Prog (TpuEff nD τ sig (Elt F) Λ₀ .tc) PUnit := do
  let c0_i32_1274 : BitVec 32 := 0#32
  let v2453 : DmaSems sig S1 := arg12.slice (Rect.unit (s := S2) ![0] S1.size inb_S2_S1_0)
  let v2454 : DmaSems sig S_ := v2453.squeeze S_ squeezes_S1_S_
  let c0_i32_1275 : BitVec 32 := 0#32
  let c0_i32_1276 : BitVec 32 := 0#32
  let c0_i32_1277 : BitVec 32 := 0#32
  let v2455 : Memref sig .tc .vmem S21772x8x128 .i8 := arg7.slice (Rect.unit (s := S21781x8x128) ![0, 0, 0] S21772x8x128.size inb_S21781x8x128_S21772x8x128_0_0_0) (fun _ => rfl)
  Prog.lift (.enqueueDma arg1 (.here v2455) (.dma v2454.sem) harg1.wordExact (harg7.wordExact_slice rfl _ wordsi8_S21781x8x128_S21772x8x128_0_0_0) ⟨Or.inl rfl, trivial⟩)
  let c1_i32_1278 : BitVec 32 := 1#32
  let v2456 : DmaSems sig S1 := arg12.slice (Rect.unit (s := S2) ![1] S1.size inb_S2_S1_1)
  let v2457 : DmaSems sig S_ := v2456.squeeze S_ squeezes_S1_S_
  Prog.lift (.enqueueDma arg3 (.here arg8) (.dma v2457.sem) harg3.wordExact harg8.wordExact ⟨Or.inl rfl, trivial⟩)
  let c0_1279 : Index := 0#32
  let c0_1280 : Index := 0#32
  let c0_1281 : Index := 0#32
  let v2458 : Vec F S9x8x128 .i8 ← Prog.lift (.load arg2 (Rect.unit (s := S9x8x128) ![0, 0, 0] S9x8x128.size inb_S9x8x128_S9x8x128_0_0_0).toLoadRect (View.loadsAt_vmem h_S9x8x128))
  have v2459 : IVec S9x8x128 8 := shapeCast S9x8x128 v2458 shapeCasts_S9x8x128_S9x8x128
  let c21772 : Index := 21772#32
  let c0_1282 : Index := 0#32
  let c0_1283 : Index := 0#32
  let v2460 : Vec F S9x8x128 .i8 ← Prog.lift (.load arg7 (Rect.unit (s := S21781x8x128) ![21772, 0, 0] S9x8x128.size inb_S21781x8x128_S9x8x128_21772_0_0).toLoadRect (View.loadsAt_vmem h_S9x8x128))
  have v2461 : IVec S9x8x128 8 := shapeCast S9x8x128 v2460 shapeCasts_S9x8x128_S9x8x128
  have v2462 : IVec S9x8x128 8 := shapeCast S9x8x128 v2459 shapeCasts_S9x8x128_S9x8x128
  Prog.lift (.store arg7 (Rect.unit (s := S21781x8x128) ![21772, 0, 0] S9x8x128.size inb_S21781x8x128_S9x8x128_21772_0_0) v2462 Finset.univ (View.stores_vmem h_S9x8x128 (harg7.storeExact_slice rfl _ packedi8_S21781x8x128_S9x8x128_21772_0_0) (fun _ => rfl)) (.inl rfl))
  let c0_i32_1284 : BitVec 32 := 0#32
  let v2463 : DmaSems sig S1 := arg12.slice (Rect.unit (s := S2) ![0] S1.size inb_S2_S1_0)
  let v2464 : DmaSems sig S_ := v2463.squeeze S_ squeezes_S1_S_
  let c0_i32_1285 : BitVec 32 := 0#32
  let c0_i32_1286 : BitVec 32 := 0#32
  let c0_i32_1287 : BitVec 32 := 0#32
  let v2465 : Memref sig .tc .vmem S21772x8x128 .i8 := arg7.slice (Rect.unit (s := S21781x8x128) ![0, 0, 0] S21772x8x128.size inb_S21781x8x128_S21772x8x128_0_0_0) (fun _ => rfl)
  Prog.lift (.waitDma2 v2464.sem arg1 v2465 harg1.wordExact (harg7.wordExact_slice rfl _ wordsi8_S21781x8x128_S21772x8x128_0_0_0))
  let c1_i32_1288 : BitVec 32 := 1#32
  let v2466 : DmaSems sig S1 := arg12.slice (Rect.unit (s := S2) ![1] S1.size inb_S2_S1_1)
  let v2467 : DmaSems sig S_ := v2466.squeeze S_ squeezes_S1_S_
  Prog.lift (.waitDma2 v2467.sem arg3 arg8 harg3.wordExact harg8.wordExact)
  pure ⟨⟩

/-- The loop's second half: the product of the current tile added to the accumulator. -/
noncomputable def mulP (arg8 : Memref sig .tc .vmem S56x768x128 .i32) (arg9 : Memref sig .tc .vmem S2x2x128x2x128 .bf16) (arg11 : Memref sig .tc .vmem S1536x256 .f32) (k0_t1 : Fin k0_t1_loop.trips) :
    Prog (TpuEff nD τ sig (Elt F) Λ₀ .tc) PUnit := do
  let c0_i32_1267 : BitVec 32 := 0#32
  let c1_i32_1268 : BitVec 32 := 1#32
  let arg13 : BitVec 32 := Scf.iv c0_i32_1267 c1_i32_1268 k0_t1
  let c1_i32_1277 : BitVec 32 := 1#32
  let v2457 : BitVec 32 := Scalar.andi arg13 c1_i32_1277
  let c2_i32_1278 : BitVec 32 := 2#32
  let v2458 : BitVec 32 := Scalar.muli c2_i32_1278 arg13
  let v2459 : Index := Scalar.indexCast v2458
  let c0_1279 : Index := 0#32
  let c0_1280 : Index := 0#32
  let v2460 : Vec F S1x768x128 .i32 ← Prog.lift (.load arg8 (Rect.unit (s := S56x768x128) (k0_off131 k0_t1) S1x768x128.size (k0_off131_inb k0_t1)).toLoadRect (View.loadsAt_vmem h_S1x768x128))
  have v2461 : IVec S768x128 32 := shapeCast S768x128 v2460 shapeCasts_S1x768x128_S768x128
  have v2462 : FVec F S1536x128 .bf16 := bitcastToFloat .bf16 (bitcast S1536x128 16 v2461 bitcasts_S768x128_w32_S1536x128_w16)
  let c2_i32_1281 : BitVec 32 := 2#32
  let v2463 : BitVec 32 := Scalar.muli c2_i32_1281 arg13
  let c1_i32_1282 : BitVec 32 := 1#32
  let v2464 : BitVec 32 := Scalar.addi v2463 c1_i32_1282
  let v2465 : Index := Scalar.indexCast v2464
  let c0_1283 : Index := 0#32
  let c0_1284 : Index := 0#32
  let v2466 : Vec F S1x768x128 .i32 ← Prog.lift (.load arg8 (Rect.unit (s := S56x768x128) (k0_off132 k0_t1) S1x768x128.size (k0_off132_inb k0_t1)).toLoadRect (View.loadsAt_vmem h_S1x768x128))
  have v2467 : IVec S768x128 32 := shapeCast S768x128 v2466 shapeCasts_S1x768x128_S768x128
  have v2468 : FVec F S1536x128 .bf16 := bitcastToFloat .bf16 (bitcast S1536x128 16 v2467 bitcasts_S768x128_w32_S1536x128_w16)
  have v2469 : FVec F S1536x256 .bf16 := concatenate S1536x256 1 [⟨S1536x128, v2462⟩, ⟨S1536x128, v2468⟩] concatenates_S1536x128_S1536x128_S1536x256_d1
  let v2470 : Index := Scalar.indexCast v2457
  let c0_1285 : Index := 0#32
  let c0_1286 : Index := 0#32
  let c0_1287 : Index := 0#32
  let v2471_raw : Vec F S1x1x128x2x128 .bf16 ← Prog.lift (.load arg9 (Rect.unit (s := S2x2x128x2x128) (k0_off133 k0_t1) S1x1x128x2x128.size (k0_off133_inb k0_t1)).toLoadRect (View.loadsAt_vmem h_S1x1x128x2x128))
  have v2471_lo : FVec F S1x1x128x128 .bf16 := shapeCast S1x1x128x128 (rowsOfParity 0 S1x1x128x1x128 v2471_raw bitcasts_S1x1x128x2x128_w16_S1x1x128x1x128_w32) shapeCasts_S1x1x128x1x128_S1x1x128x128
  have v2471_hi : FVec F S1x1x128x128 .bf16 := shapeCast S1x1x128x128 (rowsOfParity 1 S1x1x128x1x128 v2471_raw bitcasts_S1x1x128x2x128_w16_S1x1x128x1x128_w32) shapeCasts_S1x1x128x1x128_S1x1x128x128
  have v2472_lo : FVec F S128x128 .bf16 := shapeCast S128x128 v2471_lo shapeCasts_S1x1x128x128_S128x128
  have v2472_hi : FVec F S128x128 .bf16 := shapeCast S128x128 v2471_hi shapeCasts_S1x1x128x128_S128x128
  have v2473 : FVec F S256x128 .bf16 := interleaveRows S256x128 v2472_lo v2472_hi bitcasts_S256x128_w16_S128x128_w32
  let v2474 : Index := Scalar.indexCast v2457
  let c1_1288 : Index := 1#32
  let c0_1289 : Index := 0#32
  let c0_1290 : Index := 0#32
  let v2475_raw : Vec F S1x1x128x2x128 .bf16 ← Prog.lift (.load arg9 (Rect.unit (s := S2x2x128x2x128) (k0_off134 k0_t1) S1x1x128x2x128.size (k0_off134_inb k0_t1)).toLoadRect (View.loadsAt_vmem h_S1x1x128x2x128))
  have v2475_lo : FVec F S1x1x128x128 .bf16 := shapeCast S1x1x128x128 (rowsOfParity 0 S1x1x128x1x128 v2475_raw bitcasts_S1x1x128x2x128_w16_S1x1x128x1x128_w32) shapeCasts_S1x1x128x1x128_S1x1x128x128
  have v2475_hi : FVec F S1x1x128x128 .bf16 := shapeCast S1x1x128x128 (rowsOfParity 1 S1x1x128x1x128 v2475_raw bitcasts_S1x1x128x2x128_w16_S1x1x128x1x128_w32) shapeCasts_S1x1x128x1x128_S1x1x128x128
  have v2476_lo : FVec F S128x128 .bf16 := shapeCast S128x128 v2475_lo shapeCasts_S1x1x128x128_S128x128
  have v2476_hi : FVec F S128x128 .bf16 := shapeCast S128x128 v2475_hi shapeCasts_S1x1x128x128_S128x128
  have v2477 : FVec F S256x128 .bf16 := interleaveRows S256x128 v2476_lo v2476_hi bitcasts_S256x128_w16_S128x128_w32
  have v2478 : FVec F S256x256 .bf16 := concatenate S256x256 1 [⟨S256x128, v2473⟩, ⟨S256x128, v2477⟩] concatenates_S256x128_S256x128_S256x256_d1
  let c0_1291 : Index := 0#32
  let c0_1292 : Index := 0#32
  let v2479 : Vec F S1536x256 .f32 ← Prog.lift (.load arg11 (Rect.unit (s := S1536x256) ![0, 0] S1536x256.size inb_S1536x256_S1536x256_0_0).toLoadRect (View.loadsAt_vmem h_S1536x256))
  have cst_1293 : FVec F S1536x256 .f32 := constant S1536x256 .f32 0x00000000#32
  have v2480 : FVec F S1536x256 .f32 := matmul dot_S1536x256_S256x256_S1536x256_1_0_0_1_n_n none v2469 v2478 cst_1293
  have v2481 : FVec F S1536x256 .f32 := addf v2479 v2480
  let c0_1294 : Index := 0#32
  let c0_1295 : Index := 0#32
  let v2482 : Vec F S1536x256 .f32 ← Prog.lift (.load arg11 (Rect.unit (s := S1536x256) ![0, 0] S1536x256.size inb_S1536x256_S1536x256_0_0).toLoadRect (View.loadsAt_vmem h_S1536x256))

  have v2483 : FVec F S1536x256 .f32 := shapeCast S1536x256 v2482 shapeCasts_S1536x256_S1536x256
  have v2484 : FVec F S1536x256 .f32 := shapeCast S1536x256 v2481 shapeCasts_S1536x256_S1536x256
  Prog.lift (.store arg11 (Rect.unit (s := S1536x256) ![0, 0] S1536x256.size inb_S1536x256_S1536x256_0_0) v2484 Finset.univ (View.stores_vmem_bits_univ h_S1536x256 rfl) (.inl rfl))

/-- The loop's body at trip `k0_t1`. -/
noncomputable def tripP (K : Lanes) (i : grid0.Coords) (arg4 : Memref sig .tc .smem S36x224 .i32) (arg5 : Memref sig .tc .vmem S224x256 .i32) (arg7 : Memref sig .tc .vmem S21781x8x128 .i8) (arg8 : Memref sig .tc .vmem S56x768x128 .i32)
    (arg9 : Memref sig .tc .vmem S2x2x128x2x128 .bf16) (harg9 : arg9.IsWhole) (arg10 : Memref sig .tc .vmem S2x9x8x128 .i32) (arg11 : Memref sig .tc .vmem S1536x256 .f32) (k0_t1 : Fin k0_t1_loop.trips) :
    Prog (TpuEff nD τ sig (Elt F) Λ₀ .tc) PUnit := do
  if k0_h2 : k0_cond2 k0_t1 = 1#1 then
    tileP K arg4 arg5 arg7 arg9 harg9 arg10 (k0_off49 k0_t1) (k0_off90 k0_t1) (k0_off49_inb k0_t1 k0_h2) (k0_off90_inb k0_t1 k0_h2) (nextOffs i k0_t1 k0_h2)
  else pure ⟨⟩
  mulP arg8 arg9 arg11 k0_t1

/-- The accumulator set to zero. -/
noncomputable def zeroP (arg11 : Memref sig .tc .vmem S1536x256 .f32) : Prog (TpuEff nD τ sig (Elt F) Λ₀ .tc) PUnit := do
  have cst : F .f32 := Scalar.ofBits .f32 0x00000000#32
  have v2445 : FVec F S1536x256 .f32 := broadcast S1536x256 cst
  let c0_1265 : Index := 0#32
  let c0_1266 : Index := 0#32
  let v2446 : Vec F S1536x256 .f32 ← Prog.lift (.load arg11 (Rect.unit (s := S1536x256) ![0, 0] S1536x256.size inb_S1536x256_S1536x256_0_0).toLoadRect (View.loadsAt_vmem h_S1536x256))
  have v2447 : FVec F S1536x256 .f32 := shapeCast S1536x256 v2446 shapeCasts_S1536x256_S1536x256
  have v2448 : FVec F S1536x256 .f32 := shapeCast S1536x256 v2445 shapeCasts_S1536x256_S1536x256
  Prog.lift (.store arg11 (Rect.unit (s := S1536x256) ![0, 0] S1536x256.size inb_S1536x256_S1536x256_0_0) v2448 Finset.univ (View.stores_vmem_bits_univ h_S1536x256 rfl) (.inl rfl))

/-- The accumulator, rounded, stored to the output block. -/
noncomputable def outP (arg6 : Memref sig .tc .vmem S1536x256 .bf16) (harg6 : arg6.IsWhole) (arg11 : Memref sig .tc .vmem S1536x256 .f32) : Prog (TpuEff nD τ sig (Elt F) Λ₀ .tc) PUnit := do
  let c28_i32_1269 : BitVec 32 := 28#32
  let c0_1270 : Index := 0#32
  let c0_1271 : Index := 0#32
  let v2450 : Vec F S1536x256 .f32 ← Prog.lift (.load arg11 (Rect.unit (s := S1536x256) ![0, 0] S1536x256.size inb_S1536x256_S1536x256_0_0).toLoadRect (View.loadsAt_vmem h_S1536x256))
  have v2451 : FVec F S1536x256 .bf16 := truncf .bf16 v2450 bitsLt_bf16_f32
  let c0_1272 : Index := 0#32
  let c0_1273 : Index := 0#32
  let v2452 : Vec F S1536x256 .bf16 ← Prog.lift (.load arg6 (Rect.unit (s := S1536x256) ![0, 0] S1536x256.size inb_S1536x256_S1536x256_0_0).toLoadRect (View.loadsAt_vmem h_S1536x256))
  Prog.lift (.store arg6 (Rect.unit (s := S1536x256) ![0, 0] S1536x256.size inb_S1536x256_S1536x256_0_0) v2451 Finset.univ (View.stores_vmem h_S1536x256 (harg6.storeExact_slice rfl _ packedbf16_S1536x256_S1536x256_0_0) (fun _ => rfl)) (.inl rfl))
  pure ⟨⟩

/-- The first grid step's test, as the body computes it. -/
def cond1 (i : grid0.Coords) : BitVec 1 := Scalar.cmpi .ne (Scalar.extui (Scalar.cmpi .eq (BitVec.ofNat 32 (i 0).val) 0#32) : BitVec 32) 0#32

/-- The first grid step's copies; nothing at the later ones. -/
noncomputable def stageP (i : grid0.Coords) (arg1 : Memref sig .tc .hbm S21772x8x128 .i8) (harg1 : arg1.IsWhole) (arg2 : Memref sig .tc .vmem S9x8x128 .i8) (arg3 : Memref sig .tc .hbm S56x768x128 .i32) (harg3 : arg3.IsWhole) (arg7 : Memref sig .tc .vmem S21781x8x128 .i8) (harg7 : arg7.IsWhole) (arg8 : Memref sig .tc .vmem S56x768x128 .i32) (harg8 : arg8.IsWhole) (arg12 : DmaSems sig S2) :
    Prog (TpuEff nD τ sig (Elt F) Λ₀ .tc) PUnit :=
  if cond1 i = 1#1 then copyP arg1 harg1 arg2 arg3 harg3 arg7 harg7 arg8 harg8 arg12 else pure ⟨⟩

/-- The kernel's body. -/
noncomputable def bodyP (i : grid0.Coords) (arg1 : Memref sig .tc .hbm S21772x8x128 .i8) (harg1 : arg1.IsWhole) (arg2 : Memref sig .tc .vmem S9x8x128 .i8) (harg2 : arg2.IsWhole) (arg3 : Memref sig .tc .hbm S56x768x128 .i32) (harg3 : arg3.IsWhole) (arg4 : Memref sig .tc .smem S36x224 .i32) (harg4 : arg4.IsWhole) (arg5 : Memref sig .tc .vmem S224x256 .i32) (harg5 : arg5.IsWhole) (arg6 : Memref sig .tc .vmem S1536x256 .bf16) (harg6 : arg6.IsWhole) (arg7 : Memref sig .tc .vmem S21781x8x128 .i8) (harg7 : arg7.IsWhole) (arg8 : Memref sig .tc .vmem S56x768x128 .i32) (harg8 : arg8.IsWhole) (arg9 : Memref sig .tc .vmem S2x2x128x2x128 .bf16) (harg9 : arg9.IsWhole) (arg10 : Memref sig .tc .vmem S2x9x8x128 .i32) (harg10 : arg10.IsWhole) (arg11 : Memref sig .tc .vmem S1536x256 .f32) (harg11 : arg11.IsWhole) (arg12 : DmaSems sig S2) :
    Prog (TpuEff nD τ sig (Elt F) Λ₀ .tc) PUnit := do
  stageP i arg1 harg1 arg2 arg3 harg3 arg7 harg7 arg8 harg8 arg12
  tileP lanes arg4 arg5 arg7 arg9 harg9 arg10 ![0, 0] ![0, 128] inb_S224x256_S8x128_0_0 inb_S224x256_S8x128_0_128 (firstOffs i)
  zeroP arg11
  Scf.Loop.for k0_t1_loop k0_t1_ok ⟨⟩ fun k0_t1 _ => tripP lanes i arg4 arg5 arg7 arg8 arg9 harg9 arg10 arg11 k0_t1
  outP arg6 harg6 arg11

set_option maxRecDepth 100000 in
set_option maxHeartbeats 4000000 in
/-- The decode in the loop as printed is the tile's decode. -/
theorem part67_eq (i : grid0.Coords) (arg1 : Memref sig .tc .hbm S21772x8x128 .i8) (harg1 : arg1.IsWhole) (arg2 : Memref sig .tc .vmem S9x8x128 .i8) (harg2 : arg2.IsWhole) (arg3 : Memref sig .tc .hbm S56x768x128 .i32) (harg3 : arg3.IsWhole) (arg4 : Memref sig .tc .smem S36x224 .i32) (harg4 : arg4.IsWhole) (arg5 : Memref sig .tc .vmem S224x256 .i32) (harg5 : arg5.IsWhole) (arg6 : Memref sig .tc .vmem S1536x256 .bf16) (harg6 : arg6.IsWhole) (arg7 : Memref sig .tc .vmem S21781x8x128 .i8) (harg7 : arg7.IsWhole) (arg8 : Memref sig .tc .vmem S56x768x128 .i32) (harg8 : arg8.IsWhole) (arg9 : Memref sig .tc .vmem S2x2x128x2x128 .bf16) (harg9 : arg9.IsWhole) (arg10 : Memref sig .tc .vmem S2x9x8x128 .i32) (harg10 : arg10.IsWhole) (arg11 : Memref sig .tc .vmem S1536x256 .f32) (harg11 : arg11.IsWhole) (arg12 : DmaSems sig S2) (arg0 : BitVec 32) (v3 : IVec S8x128 32) (v57 : IVec S8x128 32) (v59 : IVec S8x128 32) (v61 : IVec S8x128 32) (v68 : IVec S8x128 32) (v72 : IVec S8x128 1) (v75 : IVec S8x128 32) (v80 : IVec S8x128 32) (v92 : IVec S8x128 32) (v98 : IVec S8x128 32) (k0_t1 : Fin k0_t1_loop.trips) (arg13 : BitVec 32) (k0_h2 : k0_cond2 k0_t1 = 1#1) :
    k0_part67 (F := F) i arg1 harg1 arg2 harg2 arg3 harg3 arg4 harg4 arg5 harg5 arg6 harg6 arg7 harg7 arg8 harg8 arg9 harg9 arg10 harg10 arg11 harg11 arg12 arg0 v3 v57 v59 v61 v68 v72 v75 v80 v92 v98 k0_t1 arg13 k0_h2 = tileP ⟨v3, v57, v59, v61, v68, v72, v75, v80, v92, v98⟩ arg4 arg5 arg7 arg9 harg9 arg10 (k0_off49 k0_t1) (k0_off90 k0_t1) (k0_off49_inb k0_t1 k0_h2) (k0_off90_inb k0_t1 k0_h2) (nextOffs i k0_t1 k0_h2) := by
  show _ = (do
    halfP ⟨v3, v57, v59, v61, v68, v72, v75, v80, v92, v98⟩ arg4 arg5 arg7 arg9 harg9 arg10 0 (by decide) (k0_off49 k0_t1) (k0_off49_inb k0_t1 k0_h2) (next00 i k0_t1 k0_h2) (next01 i k0_t1 k0_h2) (next02 i k0_t1 k0_h2) (next03 i k0_t1 k0_h2) (next04 i k0_t1 k0_h2) (next05 i k0_t1 k0_h2) (next06 i k0_t1 k0_h2) (next07 i k0_t1 k0_h2)
    halfP ⟨v3, v57, v59, v61, v68, v72, v75, v80, v92, v98⟩ arg4 arg5 arg7 arg9 harg9 arg10 1 (by decide) (k0_off90 k0_t1) (k0_off90_inb k0_t1 k0_h2) (next10 i k0_t1 k0_h2) (next11 i k0_t1 k0_h2) (next12 i k0_t1 k0_h2) (next13 i k0_t1 k0_h2) (next14 i k0_t1 k0_h2) (next15 i k0_t1 k0_h2) (next16 i k0_t1 k0_h2) (next17 i k0_t1 k0_h2))
  dsimp only [halfP, blockP]
  iterate 310 (refine opc _ _ _ fun r => ?_)
  rfl

theorem bind_assoc' {E : Type → Type} {α β γ : Type} (m : Prog E α) (f : α → Prog E β) (g : β → Prog E γ) :
    (m.bind f).bind g = m.bind fun r => (f r).bind g := by
  induction m with
  | ret a => rfl
  | op e k ih => exact opc _ _ _ ih

theorem forc {α : Type} (b b' : Fin k0_t1_loop.trips → PUnit → Prog (TpuEff nD τ sig (Elt F) Λ₀ .tc) PUnit) (k k' : PUnit → Prog (TpuEff nD τ sig (Elt F) Λ₀ .tc) α)
    (hb : ∀ t s, b t s = b' t s) (hk : ∀ r, k r = k' r) :
    (Scf.Loop.for k0_t1_loop k0_t1_ok ⟨⟩ b).bind k = (Scf.Loop.for k0_t1_loop k0_t1_ok ⟨⟩ b').bind k' := by
  rw [funext fun t => funext (hb t), funext hk]

set_option maxRecDepth 100000 in
set_option maxHeartbeats 4000000 in
/-- The loop's trip as printed. -/
theorem trip_eq (i : grid0.Coords) (arg1 : Memref sig .tc .hbm S21772x8x128 .i8) (harg1 : arg1.IsWhole) (arg2 : Memref sig .tc .vmem S9x8x128 .i8) (harg2 : arg2.IsWhole) (arg3 : Memref sig .tc .hbm S56x768x128 .i32) (harg3 : arg3.IsWhole) (arg4 : Memref sig .tc .smem S36x224 .i32) (harg4 : arg4.IsWhole) (arg5 : Memref sig .tc .vmem S224x256 .i32) (harg5 : arg5.IsWhole) (arg6 : Memref sig .tc .vmem S1536x256 .bf16) (harg6 : arg6.IsWhole) (arg7 : Memref sig .tc .vmem S21781x8x128 .i8) (harg7 : arg7.IsWhole) (arg8 : Memref sig .tc .vmem S56x768x128 .i32) (harg8 : arg8.IsWhole) (arg9 : Memref sig .tc .vmem S2x2x128x2x128 .bf16) (harg9 : arg9.IsWhole) (arg10 : Memref sig .tc .vmem S2x9x8x128 .i32) (harg10 : arg10.IsWhole) (arg11 : Memref sig .tc .vmem S1536x256 .f32) (harg11 : arg11.IsWhole) (arg12 : DmaSems sig S2) (arg0 : BitVec 32) (v3 : IVec S8x128 32) (v57 : IVec S8x128 32) (v59 : IVec S8x128 32) (v61 : IVec S8x128 32) (v68 : IVec S8x128 32) (v72 : IVec S8x128 1) (v75 : IVec S8x128 32) (v80 : IVec S8x128 32) (v92 : IVec S8x128 32) (v98 : IVec S8x128 32) (k0_t1 : Fin k0_t1_loop.trips) :
    (do
      let ⟨v2481, v2482⟩ : Σ' (v2481 : FVec F S1536x256 .f32), Vec F S1536x256 .f32 ← k0_part68 i arg1 harg1 arg2 harg2 arg3 harg3 arg4 harg4 arg5 harg5 arg6 harg6 arg7 harg7 arg8 harg8 arg9 harg9 arg10 harg10 arg11 harg11 arg12 arg0 v3 v57 v59 v61 v68 v72 v75 v80 v92 v98 0#32 1#32 k0_t1
      have v2483 : FVec F S1536x256 .f32 := shapeCast S1536x256 v2482 shapeCasts_S1536x256_S1536x256
      have v2484 : FVec F S1536x256 .f32 := shapeCast S1536x256 v2481 shapeCasts_S1536x256_S1536x256
      Prog.lift (.store arg11 (Rect.unit (s := S1536x256) ![0, 0] S1536x256.size inb_S1536x256_S1536x256_0_0) v2484 Finset.univ (View.stores_vmem_bits_univ h_S1536x256 rfl) (.inl rfl))
      pure ⟨⟩ : Prog (TpuEff nD τ sig (Elt F) Λ₀ .tc) PUnit)
      = tripP ⟨v3, v57, v59, v61, v68, v72, v75, v80, v92, v98⟩ i arg4 arg5 arg7 arg8 arg9 harg9 arg10 arg11 k0_t1 := by
  unfold k0_part68 tripP mulP
  by_cases h : k0_cond2 k0_t1 = 1#1
  · simp only [dif_pos h, part67_eq]
    refine (bind_assoc' _ _ _).trans ?_
    refine (bind_assoc' _ _ _).trans ?_
    refine bindc _ _ _ fun r => ?_
    rfl
  · simp only [dif_neg h]
    rfl

set_option maxRecDepth 100000 in
set_option maxHeartbeats 4000000 in
/-- The printed body is `bodyP`. -/
theorem body_eq (i : grid0.Coords) (arg1 : Memref sig .tc .hbm S21772x8x128 .i8) (harg1 : arg1.IsWhole) (arg2 : Memref sig .tc .vmem S9x8x128 .i8) (harg2 : arg2.IsWhole) (arg3 : Memref sig .tc .hbm S56x768x128 .i32) (harg3 : arg3.IsWhole) (arg4 : Memref sig .tc .smem S36x224 .i32) (harg4 : arg4.IsWhole) (arg5 : Memref sig .tc .vmem S224x256 .i32) (harg5 : arg5.IsWhole) (arg6 : Memref sig .tc .vmem S1536x256 .bf16) (harg6 : arg6.IsWhole) (arg7 : Memref sig .tc .vmem S21781x8x128 .i8) (harg7 : arg7.IsWhole) (arg8 : Memref sig .tc .vmem S56x768x128 .i32) (harg8 : arg8.IsWhole) (arg9 : Memref sig .tc .vmem S2x2x128x2x128 .bf16) (harg9 : arg9.IsWhole) (arg10 : Memref sig .tc .vmem S2x9x8x128 .i32) (harg10 : arg10.IsWhole) (arg11 : Memref sig .tc .vmem S1536x256 .f32) (harg11 : arg11.IsWhole) (arg12 : DmaSems sig S2) : cc0_main_kernel (F := F) i arg1 harg1 arg2 harg2 arg3 harg3 arg4 harg4 arg5 harg5 arg6 harg6 arg7 harg7 arg8 harg8 arg9 harg9 arg10 harg10 arg11 harg11 arg12 = bodyP i arg1 harg1 arg2 harg2 arg3 harg3 arg4 harg4 arg5 harg5 arg6 harg6 arg7 harg7 arg8 harg8 arg9 harg9 arg10 harg10 arg11 harg11 arg12 := by
  have e0 : bodyP (F := F) i arg1 harg1 arg2 harg2 arg3 harg3 arg4 harg4 arg5 harg5 arg6 harg6 arg7 harg7 arg8 harg8 arg9 harg9 arg10 harg10 arg11 harg11 arg12 = (do
      stageP i arg1 harg1 arg2 arg3 harg3 arg7 harg7 arg8 harg8 arg12
      halfP lanes arg4 arg5 arg7 arg9 harg9 arg10 0 (by decide) ![0, 0] inb_S224x256_S8x128_0_0 (first00 i) (first01 i) (first02 i) (first03 i) (first04 i) (first05 i) (first06 i) (first07 i)
      halfP lanes arg4 arg5 arg7 arg9 harg9 arg10 1 (by decide) ![0, 128] inb_S224x256_S8x128_0_128 (first10 i) (first11 i) (first12 i) (first13 i) (first14 i) (first15 i) (first16 i) (first17 i)
      zeroP arg11
      Scf.Loop.for k0_t1_loop k0_t1_ok ⟨⟩ fun k0_t1 _ => tripP lanes i arg4 arg5 arg7 arg8 arg9 harg9 arg10 arg11 k0_t1
      outP arg6 harg6 arg11) := by
    unfold bodyP
    refine bindc _ _ _ fun r => ?_
    exact bind_assoc' _ _ _
  rw [e0]
  unfold cc0_main_kernel k0_part136 k0_part69
  dsimp only [halfP, blockP]
  unfold stageP
  by_cases h : cond1 i = 1#1
  · rw [if_pos h]
    have h' : Scalar.cmpi .ne (Scalar.extui (Scalar.cmpi .eq (BitVec.ofNat 32 (i 0).val) 0#32) : BitVec 32) 0#32 = 1#1 := h
    simp only [dif_pos h']
    iterate 319 (refine opc _ _ _ fun r => ?_)
    refine forc _ _ _ _ (fun k _ => ?_) fun r => ?_
    · exact trip_eq ..
    · rfl
  · rw [if_neg h]
    have h' : ¬ Scalar.cmpi .ne (Scalar.extui (Scalar.cmpi .eq (BitVec.ofNat 32 (i 0).val) 0#32) : BitVec 32) 0#32 = 1#1 := h
    simp only [dif_neg h']
    iterate 312 (refine opc _ _ _ fun r => ?_)
    refine forc _ _ _ _ (fun k _ => ?_) fun r => ?_
    · exact trip_eq ..
    · rfl

end Cert.MainIdeal.Hand
-- ==== Proof.Steps.lean ====
/-
  The pieces of the kernel's body as steps on what its scratch buffers hold.
-/
module

public import proofs.«01_k».proof.Proof.Tile
public import proofs.«01_k».proof.Proof.Gen.MainIdeal.Frame
public import Idealize.ShloMosaic.Lib.Pipeline.Frame
public import Idealize.ShloMosaic.Lib.Tactic
public import Idealize.ShloMosaic.Lib.Transfers
public import Idealize.ShloMosaic.Lib.WritesUnit
public import Idealize.ShloMosaic.Lib.VecWindow
public import Idealize.ShloMosaic.Lib.Pointwise

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- A whole buffer held at its contents. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev wpB (c : Dev nD) {α : Type} (p : Prog (TpuEff nD τ sig (Elt F) Λ₀ .tc) α) (K : α → sProp 𝕄) : sProp 𝕄 :=
  wp frame (wpE (defs₀ (F := F)) Variants.none c none) Set.univ p K

/-- The body's operands. -/
structure Ops where
  arg4 : Memref sig .tc .smem S36x224 .i32
  arg5 : Memref sig .tc .vmem S224x256 .i32
  arg7 : Memref sig .tc .vmem S21781x8x128 .i8
  arg8 : Memref sig .tc .vmem S56x768x128 .i32
  arg9 : Memref sig .tc .vmem S2x2x128x2x128 .bf16
  arg10 : Memref sig .tc .vmem S2x9x8x128 .i32
  arg11 : Memref sig .tc .vmem S1536x256 .f32

/-- What the buffers the body only reads hold. -/
structure Ins (F : FTy → Type) [FloatOps F] where
  R4 : Vec F S36x224 .i32
  R5 : Vec F S224x256 .i32
  R7 : Vec F S21781x8x128 .i8
  R8 : Vec F S56x768x128 .i32

/-- What the three buffers the body computes in hold. -/
abbrev Work (F : FTy → Type) [FloatOps F] := Vec F S2x2x128x2x128 .bf16 → Vec F S2x9x8x128 .i32 → Vec F S1536x256 .f32 → Prop

/-- The buffers the body reads are held at their contents, and the three it computes in at contents of which `φ` holds. -/
def St (c : Dev nD) (o : Ops) (I : Ins F) (φ : Work F) : sProp 𝕄 :=
  iprop(∃ f4 f5 f7 f8 f9 f10 f11, pt c o.arg4 f4 ∗ pt c o.arg5 f5 ∗ pt c o.arg7 f7 ∗ pt c o.arg8 f8 ∗ pt c o.arg9 f9 ∗ pt c o.arg10 f10 ∗ pt c o.arg11 f11
    ∗ ⌜o.arg4.view.read (Elt F) f4 = I.R4 ∧ o.arg5.view.read (Elt F) f5 = I.R5 ∧ o.arg7.view.read (Elt F) f7 = I.R7 ∧ o.arg8.view.read (Elt F) f8 = I.R8
      ∧ φ (o.arg9.view.read (Elt F) f9) (o.arg10.view.read (Elt F) f10) (o.arg11.view.read (Elt F) f11)⌝)

/-- What the rows' buffer reads after row `r` of half `ns` is stored. -/
def RowUpd (ns r : Nat) (v : IVec S8x128 32) (R R' : Vec F S2x9x8x128 .i32) : Prop :=
  ∀ (a : Fin 2) (b : Fin 9) (s : Fin 8) (l : Fin 128), R' (ix4 a b s l) = if a.val = ns ∧ b.val = r then v (ix2 s l) else R (ix4 a b s l)

theorem rowP_step (c : Dev nD) (o : Ops) (I : Ins F) (φ ψ : Work F) (ns r : Nat) (hns : ns < 2) (hr : r < 9) (v : IVec S8x128 32)
    (h : ∀ R9 R10 R11 R10', φ R9 R10 R11 → RowUpd (F := F) ns r v R10 R10' → ψ R9 R10' R11) :
    St c o I φ ⊢ wpB c (rowP o.arg10 ns r hns hr v) (fun _ => St c o I ψ) := by
  unfold St rowP pt wpB
  iintro ⟨%f4, %f5, %f7, %f8, %f9, %f10, %f11, H4, H5, H7, H8, H9, H10, H11, %hφ⟩
  sl_exec
  sl_step
  iexists f4, f5, f7, f8, f9, _, f11
  iframe
  ipureintro
  refine ⟨hφ.1, hφ.2.1, hφ.2.2.1, hφ.2.2.2.1, h _ _ _ _ hφ.2.2.2.2 fun a b s l => ?_⟩
  by_cases hy : a.val = ns ∧ b.val = r
  · rw [if_pos hy]
    rw [View.read_writes_cons_unit_of_mem _ _ _ _ _ _ (ix4 (0 : Fin 1) (0 : Fin 1) s l) rfl (fun x => by
      match x with
      | ⟨0, _⟩ => show a.val = ns + 0; omega
      | ⟨1, _⟩ => show b.val = r + 0; omega
      | ⟨2, _⟩ => show s.val = 0 + s.val; omega
      | ⟨3, _⟩ => show l.val = 0 + l.val; omega)]
    pointwise
  · rw [if_neg hy]
    rcases not_and_or.mp hy with hy | hy
    · rw [View.read_writes_cons_unit_of_not_mem _ _ _ _ _ _ rfl (0 : Fin 4) (by show a.val < ns ∨ ns + 1 ≤ a.val; omega)]; rfl
    · rw [View.read_writes_cons_unit_of_not_mem _ _ _ _ _ _ rfl (1 : Fin 4) (by show b.val < r ∨ r + 1 ≤ b.val; omega)]; rfl

/-- The 4096 bytes of the stream's buffer from its block `n` on. -/
def wnd (R7 : Vec F S21781x8x128 .i8) (n : Nat) : Vec F S4x8x128 .i8 :=
  if h : ∀ a, (![n, 0, 0] : Fin 3 → Nat) a + S4x8x128.size a ≤ S21781x8x128.size a then VecWindow.window R7 ![n, 0, 0] S4x8x128.size h else fun _ => 0#8

/-- Row `j` of the `r`-th row of words, in every sublane. -/
def rowOf (m : IVec S8x128 32) (r : Fin 9) (j : Fin 8) : IVec S8x128 32 := fun y => metaRows m r (ix2 j (y 1))

/-- A block's decoded words. -/
def blkZ (K : Lanes) (st : BitVec 32) (R7 : Vec F S21781x8x128 .i8) (m : IVec S8x128 32) (j : Fin 8) : IVec S8x128 32 :=
  decWord K st (asWords (wnd R7 (st >>> 7).toNat)) (asWords (wnd R7 ((st >>> 7) + 4#32).toNat)) (rowOf m 0 j) (rowOf m 1 j) (rowOf m 2 j) (rowOf m 3 j)
    (rowOf m 4 j) (rowOf m 5 j) (rowOf m 6 j)

/-- What the weights' buffer reads where a tile is decoded: `sts` the starts of its sixteen blocks, `ms` the meta words of its halves. -/
def tileVal (K : Lanes) (R7 : Vec F S21781x8x128 .i8) (sts : Fin 2 → Fin 8 → BitVec 32) (ms : Fin 2 → IVec S8x128 32)
    (ns : Fin 2) (p : Fin 128) (b : Fin 2) (l : Fin 128) : F .bf16 :=
  let j : Fin 8 := ⟨p.val / 16, by omega⟩
  if h : p.val % 16 < 8 then
    asPairs (decHalf ![0, 0] slices_S32x128_o0_0_S16x128 (blkZ K (sts ns j) R7 (ms ns) j) (rowOf (ms ns) 7 j) (rowOf (ms ns) 8 j)) (ix5 (0 : Fin 1) (0 : Fin 1) ⟨p.val % 16, h⟩ b l)
  else
    asPairs (decHalf ![16, 0] slices_S32x128_o16_0_S16x128 (blkZ K (sts ns j) R7 (ms ns) j) (rowOf (ms ns) 7 j) (rowOf (ms ns) 8 j)) (ix5 (0 : Fin 1) (0 : Fin 1) ⟨p.val % 16 - 8, by omega⟩ b l)

/-- The weights' buffer after a block is decoded into it. -/
def BlkUpd (slot ns j : Nat) (W : Fin 2 → Fin 128 → Fin 2 → Fin 128 → F .bf16) (R R' : Vec F S2x2x128x2x128 .bf16) : Prop :=
  ∀ (a b : Fin 2) (p : Fin 128) (q : Fin 2) (l : Fin 128), R' (ix5 a b p q l) = if a.val = slot ∧ b.val = ns ∧ p.val / 16 = j then W b p q l else R (ix5 a b p q l)

/-- The rows' buffer holds the rows made from `m` in half `ns`. -/
def RowsOk (ns : Nat) (m : IVec S8x128 32) (R : Vec F S2x9x8x128 .i32) : Prop :=
  ∀ (a : Fin 2) (b : Fin 9) (s : Fin 8) (l : Fin 128), a.val = ns → R (ix4 a b s l) = metaRows m b (ix2 s l)

/-- The offsets are those of block `j` of half `ns` with the tile start at row `r` and column `q`, decoded into `slot`. -/
structure Good (B : BlockOffs) (r : Fin 36) (q : Fin 224) (slot ns j : Nat) : Prop where
  oc : B.oc = ![r.val, q.val]
  chk : ∀ v : BitVec 32, (v >>> 7).toNat + 8 ≤ 21781 → B.chk v
  oa : ∀ v : BitVec 32, B.oa v = ![(v >>> 7).toNat, 0, 0]
  ob : ∀ v : BitVec 32, B.ob v = ![((v >>> 7) + 4#32).toNat, 0, 0]
  o0 : B.o0 = ![slot, ns, 16 * j, 0, 0]
  o1 : B.o1 = ![slot, ns, 16 * j + 8, 0, 0]

theorem readAt_cell {κ : Kind} (arg4 : Memref sig κ .smem S36x224 .i32) (f : arg4.view.ty.Contents (Elt F)) (oc : Fin 2 → Nat) (h : ∀ a, oc a + S1x1.size a ≤ S36x224.size a)
    (r : Fin 36) (q : Fin 224) (e : oc = ![r.val, q.val]) (x : S1x1.Idx) :
    View.readAt (Elt F) arg4.view (Rect.unit (s := S36x224) oc S1x1.size h).toLoadRect f x = arg4.view.read (Elt F) f (ix2 r q) := by
  subst e
  rw [View.readAt_apply]
  congr 1
  funext a
  apply Fin.ext
  have h0 : (x 0).val = 0 := by have := (x 0).isLt; simpa using this
  have h1 : (x 1).val = 0 := by have := (x 1).isLt; simpa using this
  match a with
  | ⟨0, _⟩ => show r.val + 1 * (x 0).val = r.val; omega
  | ⟨1, _⟩ => show q.val + 1 * (x 1).val = q.val; omega

theorem asRow_row (arg10 : Memref sig .tc .vmem S2x9x8x128 .i32) (f : arg10.view.ty.Contents (Elt F)) (ns j : Nat) (hns : ns < 2) (hj : j < 8)
    (m : IVec S8x128 32) (h : RowsOk (F := F) ns m (arg10.view.read (Elt F) f)) (r : Fin 9) :
    asRow (F := F) (View.readAt (Elt F) arg10.view (rowRect ns r.val j hns r.isLt hj) f) = rowOf m r ⟨j, hj⟩ := by
  funext y
  obtain ⟨s, l, rfl⟩ : ∃ (s : Fin 8) (l : Fin 128), y = ix2 s l := ⟨y 0, y 1, by funext a; match a with | ⟨0, _⟩ => rfl | ⟨1, _⟩ => rfl⟩
  unfold asRow rowOf
  rw [show (ix2 s l 1 : Fin 128) = l from rfl, ← h ⟨ns, hns⟩ r ⟨j, hj⟩ l rfl]
  pointwise
  refine congrArg (arg10.view.read (Elt F) f) (?_ : (rowRect ns r.val j hns r.isLt hj).idx (ix4 (0 : Fin 1) (0 : Fin 1) s l) = ix4 ⟨ns, hns⟩ r ⟨j, hj⟩ l)
  funext a
  apply Fin.ext
  match a with
  | ⟨0, _⟩ => rfl
  | ⟨1, _⟩ => rfl
  | ⟨2, _⟩ => show j + 0 * s.val = j; omega
  | ⟨3, _⟩ => show 0 + 1 * l.val = l.val; omega

theorem wnd_eq (arg7 : Memref sig .tc .vmem S21781x8x128 .i8) (f : arg7.view.ty.Contents (Elt F)) (n : Nat) (hn : n + 4 ≤ 21781) (o : Fin 3 → Nat)
    (ho : ∀ a, o a + S4x8x128.size a ≤ S21781x8x128.size a) (e : o = ![n, 0, 0]) :
    View.readAt (Elt F) arg7.view (Rect.unit (s := S21781x8x128) o S4x8x128.size ho).toLoadRect f = wnd (arg7.view.read (Elt F) f) n := by
  have h : ∀ a, (![n, 0, 0] : Fin 3 → Nat) a + S4x8x128.size a ≤ S21781x8x128.size a := e ▸ ho
  unfold wnd
  rw [dif_pos h]
  exact View.readAt_unit _ _ ho e h

theorem blockP_step (c : Dev nD) (K₀ : Lanes) (o : Ops) (harg9 : o.arg9.IsWhole) (I : Ins F) (φ ψ : Work F) (sts : Fin 2 → Fin 8 → BitVec 32)
    (ms : Fin 2 → IVec S8x128 32) (slot : Nat) (ns : Fin 2) (j : Fin 8) (B : BlockOffs) (r : Fin 36) (q : Fin 224) (hB : Good B r q slot ns.val j.val)
    (hst : I.R4 (ix2 r q) = sts ns j) (hv : (sts ns j >>> 7).toNat + 8 ≤ 21781)
    (hφ' : ∀ R9 R10 R11, φ R9 R10 R11 → RowsOk (F := F) ns.val (ms ns) R10)
    (h : ∀ R9 R10 R11 R9', φ R9 R10 R11 → BlkUpd slot ns.val j.val (tileVal K₀ I.R7 sts ms) R9 R9' → ψ R9' R10 R11) :
    St c o I φ ⊢ wpB c (blockP K₀ o.arg4 o.arg7 o.arg9 harg9 o.arg10 ns.val j.val ns.isLt j.isLt B) (fun _ => St c o I ψ) := by
  unfold St blockP pt wpB
  iintro ⟨%f4, %f5, %f7, %f8, %f9, %f10, %f11, H4, H5, H7, H8, H9, H10, H11, %hφ⟩
  have e4 : ∀ x, View.readAt (Elt F) o.arg4.view (Rect.unit (s := S36x224) B.oc S1x1.size B.hoc).toLoadRect f4 x = sts ns j := fun x => by
    rw [readAt_cell o.arg4 f4 B.oc B.hoc r q hB.oc x, hφ.1, hst]
  sl_exec (disch := exact (congrArg B.chk (e4 _)).mpr (hB.chk _ hv))
  sl_step
  iexists f4, f5, f7, f8, _, f10, f11
  iframe
  ipureintro
  refine ⟨hφ.1, hφ.2.1, hφ.2.2.1, hφ.2.2.2.1, h _ _ _ _ hφ.2.2.2.2 ?_⟩
  sl_unfold_words
  have hr := asRow_row o.arg10 f10 ns.val j.val ns.isLt j.isLt (ms ns) (hφ' _ _ _ hφ.2.2.2.2)
  have hr0 := hr 0
  have hr1 := hr 1
  have hr2 := hr 2
  have hr3 := hr 3
  have hr4 := hr 4
  have hr5 := hr 5
  have hr6 := hr 6
  have hr7 := hr 7
  have hr8 := hr 8
  have n4 : ((sts ns j >>> 7) + 4#32).toNat = (sts ns j >>> 7).toNat + 4 := by
    rw [BitVec.toNat_add]
    have : (4#32 : BitVec 32).toNat = 4 := rfl
    omega
  rw [wnd_eq o.arg7 f7 (sts ns j >>> 7).toNat (by omega) _ _ (by rw [e4, hB.oa]),
    wnd_eq o.arg7 f7 ((sts ns j >>> 7) + 4#32).toNat (by omega) _ _ (by rw [e4, hB.ob])]
  rw [e4, hφ.2.2.1]
  erw [hr0, hr1, hr2, hr3, hr4, hr5, hr6, hr7, hr8]
  intro a b p x l
  by_cases hy : a.val = slot ∧ b.val = ns.val ∧ p.val / 16 = j.val
  · rw [if_pos hy]
    obtain rfl : b = ns := Fin.ext hy.2.1
    have ej : (⟨p.val / 16, by omega⟩ : Fin 8) = j := Fin.ext hy.2.2
    unfold tileVal
    dsimp only
    rw [ej]
    have hb : b.val < 2 := b.isLt
    by_cases hp : p.val % 16 < 8
    · rw [dif_pos hp]
      rw [View.read_writes_cons_unit_of_not_mem _ _ _ _ _ _ hB.o1 (2 : Fin 5) (by show p.val < 16 * j.val + 8 ∨ 16 * j.val + 8 + 8 ≤ p.val; omega)]
      rw [View.read_writes_cons_unit_of_mem _ _ _ _ _ _ (ix5 (0 : Fin 1) (0 : Fin 1) ⟨p.val % 16, hp⟩ x l) hB.o0 (fun z => by
        match z with
        | ⟨0, _⟩ => show a.val = slot + 0; omega
        | ⟨1, _⟩ => show b.val = b.val + 0; omega
        | ⟨2, _⟩ => show p.val = 16 * j.val + p.val % 16; omega
        | ⟨3, _⟩ => show x.val = 0 + x.val; omega
        | ⟨4, _⟩ => show l.val = 0 + l.val; omega)]
      rfl
    · rw [dif_neg hp]
      rw [View.read_writes_cons_unit_of_mem _ _ _ _ _ _ (ix5 (0 : Fin 1) (0 : Fin 1) ⟨p.val % 16 - 8, by omega⟩ x l) hB.o1 (fun z => by
        match z with
        | ⟨0, _⟩ => show a.val = slot + 0; omega
        | ⟨1, _⟩ => show b.val = b.val + 0; omega
        | ⟨2, _⟩ => show p.val = 16 * j.val + 8 + (p.val % 16 - 8); omega
        | ⟨3, _⟩ => show x.val = 0 + x.val; omega
        | ⟨4, _⟩ => show l.val = 0 + l.val; omega)]
      rfl
  · rw [if_neg hy]
    have hy' : a.val ≠ slot ∨ b.val ≠ ns.val ∨ p.val / 16 ≠ j.val := by
      by_cases h0 : a.val = slot
      · by_cases h1 : b.val = ns.val
        · exact .inr (.inr fun h2 => hy ⟨h0, h1, h2⟩)
        · exact .inr (.inl h1)
      · exact .inl h0
    rcases hy' with hy | hy | hy
    · rw [View.read_writes_cons_unit_of_not_mem _ _ _ _ _ _ hB.o1 (0 : Fin 5) (by show a.val < slot ∨ slot + 1 ≤ a.val; omega),
        View.read_writes_cons_unit_of_not_mem _ _ _ _ _ _ hB.o0 (0 : Fin 5) (by show a.val < slot ∨ slot + 1 ≤ a.val; omega)]; rfl
    · rw [View.read_writes_cons_unit_of_not_mem _ _ _ _ _ _ hB.o1 (1 : Fin 5) (by show b.val < ns.val ∨ ns.val + 1 ≤ b.val; omega),
        View.read_writes_cons_unit_of_not_mem _ _ _ _ _ _ hB.o0 (1 : Fin 5) (by show b.val < ns.val ∨ ns.val + 1 ≤ b.val; omega)]; rfl
    · rw [View.read_writes_cons_unit_of_not_mem _ _ _ _ _ _ hB.o1 (2 : Fin 5) (by show p.val < 16 * j.val + 8 ∨ 16 * j.val + 8 + 8 ≤ p.val; omega),
        View.read_writes_cons_unit_of_not_mem _ _ _ _ _ _ hB.o0 (2 : Fin 5) (by show p.val < 16 * j.val ∨ 16 * j.val + 8 ≤ p.val; omega)]; rfl

end Cert.MainIdeal.Hand
end
-- ==== Proof.Copy.lean ====
/-
  The copies of the first grid step: the whole tiles of the stream and the activation words moved on chip, the stream's tail stored after them.
-/
module

public import proofs.«01_k».proof.Proof.Printed
public import proofs.«01_k».proof.Proof.Steps
public import Idealize.ShloMosaic.Lib.Transfers

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

abbrev hbStream : Memref sig .tc .hbm S21772x8x128 .i8 := Memref.whole main_v4
abbrev hbAct : Memref sig .tc .hbm S56x768x128 .i32 := Memref.whole main_arg1
abbrev scStream : Memref sig .tc .vmem S21781x8x128 .i8 := Memref.whole cc0_scratch0
abbrev scAct : Memref sig .tc .vmem S56x768x128 .i32 := Memref.whole cc0_scratch1

/-- The stream on chip: its whole tiles, then its tail. -/
def bufOf (R1 : Vec F S21772x8x128 .i8) (R2 : Vec F S9x8x128 .i8) : Vec F S21781x8x128 .i8 := fun y =>
  if h : (y 0).val < 21772 then R1 (ix3 ⟨(y 0).val, h⟩ (y 1) (y 2))
  else R2 (ix3 ⟨(y 0).val - 21772, by have h1 : (y 0).val < 21781 := (y 0).isLt; omega⟩ (y 1) (y 2))

theorem idx3 {a b d : Nat} (y : (⟨3, ![a, b, d]⟩ : Shape).Idx) : y = ix3 (y 0) (y 1) (y 2) := by
  funext q
  match q with
  | ⟨0, _⟩ => rfl
  | ⟨1, _⟩ => rfl
  | ⟨2, _⟩ => rfl

set_option sl_exec.dmaWindow true in
theorem copyP_step (c : Dev nD) (arg2 : Memref sig .tc .vmem S9x8x128 .i8) (f1 : Buf (Elt F) (hbStream.view.loc (c : Thread nD τ))) (f2 : Buf (Elt F) (arg2.view.loc (c : Thread nD τ)))
    (f3 : Buf (Elt F) (hbAct.view.loc (c : Thread nD τ))) (f7 : Buf (Elt F) (scStream.view.loc (c : Thread nD τ))) (f8 : Buf (Elt F) (scAct.view.loc (c : Thread nD τ)))
    (W : Waits sig Unit) (K : PUnit → sProp 𝕄) :
    iprop(pt c hbStream f1 ∗ pt c arg2 f2 ∗ pt c hbAct f3 ∗ pt c scStream f7 ∗ pt c scAct f8
        ∗ semVal ((c : Thread nD τ), SemLoc.dma 6) 0 ∗ semVal ((c : Thread nD τ), SemLoc.dma 7) 0 ∗ owes (c : Thread nD τ) 0 W
        ∗ (iprop(pt c hbStream f1 ∗ pt c arg2 f2 ∗ pt c hbAct f3 ∗ (∃ g, pt c scStream g ∗ ⌜scStream.view.read (Elt F) g = bufOf (hbStream.view.read (Elt F) f1) (arg2.view.read (Elt F) f2)⌝)
              ∗ (∃ g, pt c scAct g ∗ ⌜scAct.view.read (Elt F) g = hbAct.view.read (Elt F) f3⌝)
              ∗ semVal ((c : Thread nD τ), SemLoc.dma 6) 0 ∗ semVal ((c : Thread nD τ), SemLoc.dma 7) 0 ∗ ∃ W', owes (c : Thread nD τ) 0 W') -∗ K ⟨⟩))
      ⊢ wpB c (copyP hbStream (Memref.isWhole_whole _) arg2 hbAct (Memref.isWhole_whole _) scStream (Memref.isWhole_whole _) scAct (Memref.isWhole_whole _) cc0_scratch5) K := by
  unfold copyP pt wpB
  iintro ⟨H1, H2, H3, H7, H8, Hq0, Hq1, HW, Hk⟩
  sl_exec
  sl_step
  iapply Hk
  isplitl [H1]; · iexact H1
  isplitl [H2]; · iexact H2
  isplitl [H3]; · iexact H3
  isplitl [H7]
  · iexists _
    isplitl [H7]; · iexact H7
    ipureintro
    funext y
    rw [idx3 y]
    generalize y 0 = a
    generalize y 1 = b
    generalize y 2 = d
    by_cases h : a.val < 21772
    · refine Eq.trans ?_ (dif_pos (show (ix3 (n0 := 21781) (n1 := 8) (n2 := 128) a b d 0).val < 21772 from h)).symm
      refine (View.read_writes_cons_unit_of_not_mem _ _ _ _ _ _ rfl (0 : Fin 3) (Or.inl h)).trans ?_
      have hx : ∀ q : Fin 3, ((ix3 a b d : S21781x8x128.Idx) q).val = (![0, 0, 0] : Fin 3 → Nat) q + ((ix3 (⟨a.val, h⟩ : Fin 21772) b d : S21772x8x128.Idx) q).val := by
        intro q
        match q with
        | ⟨0, _⟩ => exact (Nat.zero_add _).symm
        | ⟨1, _⟩ => exact (Nat.zero_add _).symm
        | ⟨2, _⟩ => exact (Nat.zero_add _).symm
      exact View.read_writes_cons_unit_of_mem (Val := Elt F) scStream.view _ _ _ _ _ (ix3 (⟨a.val, h⟩ : Fin 21772) b d) rfl hx
    · refine Eq.trans ?_ (dif_neg h).symm
      have ha : a.val < 21781 := a.isLt
      have hx : ∀ q : Fin 3, ((ix3 a b d : S21781x8x128.Idx) q).val = (![21772, 0, 0] : Fin 3 → Nat) q + ((ix3 (⟨a.val - 21772, by omega⟩ : Fin 9) b d : S9x8x128.Idx) q).val := by
        intro q
        match q with
        | ⟨0, _⟩ => show a.val = 21772 + (a.val - 21772); exact (Nat.add_sub_cancel' (not_lt.mp h)).symm
        | ⟨1, _⟩ => exact (Nat.zero_add _).symm
        | ⟨2, _⟩ => exact (Nat.zero_add _).symm
      refine (View.read_writes_cons_unit_of_mem (Val := Elt F) scStream.view _ _ _ _ _ (ix3 (⟨a.val - 21772, by omega⟩ : Fin 9) b d) rfl hx).trans ?_
      refine congrFun ((Idealize.ShloMosaic.shapeCast_self _ _).trans ((Idealize.ShloMosaic.shapeCast_self _ _).trans (View.readAt_full (Val := Elt F) arg2.view f2 inb_S9x8x128_S9x8x128_0_0_0))) _
  isplitl [H8]
  · iexists _
    isplitl [H8]; · iexact H8
    ipureintro
    exact View.read_write_univ _ _
  isplitl [Hq0]; · iexact Hq0
  isplitl [Hq1]; · iexact Hq1
  iexists _; iexact HW

end Cert.MainIdeal.Hand
end
-- ==== Proof.TileStep.lean ====
/-
  A whole tile's decode, and the product of one trip, as steps on what the scratch buffers hold.
-/
module

public import proofs.«01_k».proof.Proof.Steps
public import proofs.«01_k».proof.Proof.Printed

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- Two steps in a row. -/
theorem seq_step {α β : Type} (c : Dev nD) {p : Prog (TpuEff nD τ sig (Elt F) Λ₀ .tc) α} {k : α → Prog (TpuEff nD τ sig (Elt F) Λ₀ .tc) β} {P : sProp 𝕄} {M : α → sProp 𝕄} {Q : β → sProp 𝕄}
    (h1 : P ⊢ wpB c p M) (h2 : ∀ a, M a ⊢ wpB c (k a) Q) : P ⊢ wpB c (p.bind k) Q := by
  show P ⊢ wp frame (wpE (defs₀ (F := F)) Variants.none c none) Set.univ (p >>= k) Q
  rw [wp_bind]
  exact h1.trans (wp_mono _ _ _ h2)

theorem pure_step {p : Prop} {P Q : sProp 𝕄} (h : p → P ⊢ Q) : iprop(⌜p⌝ ∗ P) ⊢ Q := by
  iintro ⟨%hp, H⟩
  iapply (h hp)
  iexact H

theorem weaken_step (c : Dev nD) (o : Ops) (I : Ins F) (φ ψ : Work F) (h : ∀ a b d, φ a b d → ψ a b d) : St c o I φ ⊢ St c o I ψ := by
  unfold St
  iintro ⟨%f4, %f5, %f7, %f8, %f9, %f10, %f11, H4, H5, H7, H8, H9, H10, H11, %hφ⟩
  iexists f4, f5, f7, f8, f9, f10, f11
  iframe
  ipureintro
  exact ⟨hφ.1, hφ.2.1, hφ.2.2.1, hφ.2.2.2.1, h _ _ _ hφ.2.2.2.2⟩

/-- Rows `0` to `n - 1` of half `ns` are those made from `m`. -/
def RowsN (ns : Nat) (m : IVec S8x128 32) (n : Nat) (R : Vec F S2x9x8x128 .i32) : Prop :=
  ∀ (a : Fin 2) (b : Fin 9) (s : Fin 8) (l : Fin 128), a.val = ns → b.val < n → R (ix4 a b s l) = metaRows m b (ix2 s l)

theorem rowsN_succ (ns : Nat) (m : IVec S8x128 32) (r : Fin 9) (R R' : Vec F S2x9x8x128 .i32) (h : RowsN ns m r.val R) (hu : RowUpd ns r.val (metaRows m r) R R') :
    RowsN ns m (r.val + 1) R' := by
  intro a b s l ha hb
  rw [hu a b s l]
  by_cases e : b.val = r.val
  · obtain rfl : b = r := Fin.ext e
    rw [if_pos ⟨ha, rfl⟩]
  · rw [if_neg (fun h => e h.2)]
    exact h a b s l ha (by omega)

/-- The weights' buffer after the first `n` blocks of half `ns` are decoded into it. -/
def HalfUpd (slot ns n : Nat) (W : Fin 2 → Fin 128 → Fin 2 → Fin 128 → F .bf16) (R R' : Vec F S2x2x128x2x128 .bf16) : Prop :=
  ∀ (a b : Fin 2) (p : Fin 128) (q : Fin 2) (l : Fin 128), R' (ix5 a b p q l) = if a.val = slot ∧ b.val = ns ∧ p.val / 16 < n then W b p q l else R (ix5 a b p q l)

theorem halfUpd_zero (slot ns : Nat) (W : Fin 2 → Fin 128 → Fin 2 → Fin 128 → F .bf16) (R : Vec F S2x2x128x2x128 .bf16) : HalfUpd slot ns 0 W R R := by
  intro a b p q l
  rw [if_neg (fun h => by omega)]

theorem halfUpd_succ (slot ns j : Nat) (W : Fin 2 → Fin 128 → Fin 2 → Fin 128 → F .bf16) (R R' R'' : Vec F S2x2x128x2x128 .bf16)
    (h : HalfUpd slot ns j W R R') (hu : BlkUpd slot ns j W R' R'') : HalfUpd slot ns (j + 1) W R R'' := by
  intro a b p q l
  rw [hu a b p q l, h a b p q l]
  by_cases h1 : a.val = slot ∧ b.val = ns ∧ p.val / 16 = j
  · rw [if_pos h1, if_pos ⟨h1.1, h1.2.1, by omega⟩]
  · rw [if_neg h1]
    by_cases h2 : a.val = slot ∧ b.val = ns ∧ p.val / 16 < j
    · rw [if_pos h2, if_pos ⟨h2.1, h2.2.1, by omega⟩]
    · rw [if_neg h2, if_neg (fun h3 => by
        rcases Nat.lt_succ_iff_lt_or_eq.mp h3.2.2 with h4 | h4
        · exact h2 ⟨h3.1, h3.2.1, h4⟩
        · exact h1 ⟨h3.1, h3.2.1, h4⟩)]

/-- The weights' buffer after a tile is decoded into its slot. -/
def TileUpd (slot : Nat) (W : Fin 2 → Fin 128 → Fin 2 → Fin 128 → F .bf16) (R R' : Vec F S2x2x128x2x128 .bf16) : Prop :=
  ∀ (a b : Fin 2) (p : Fin 128) (q : Fin 2) (l : Fin 128), R' (ix5 a b p q l) = if a.val = slot then W b p q l else R (ix5 a b p q l)

theorem tileUpd_of (slot : Nat) (W : Fin 2 → Fin 128 → Fin 2 → Fin 128 → F .bf16) (R R' R'' : Vec F S2x2x128x2x128 .bf16)
    (h0 : HalfUpd slot 0 8 W R R') (h1 : HalfUpd slot 1 8 W R' R'') : TileUpd slot W R R'' := by
  intro a b p q l
  rw [h1 a b p q l, h0 a b p q l]
  have hp : p.val / 16 < 8 := by omega
  by_cases h : a.val = slot
  · rw [if_pos h]
    by_cases hb : b.val = 1
    · rw [if_pos ⟨h, hb, hp⟩]
    · rw [if_neg (fun x => hb x.2.1), if_pos ⟨h, by omega, hp⟩]
  · rw [if_neg h, if_neg (fun x => h x.1), if_neg (fun x => h x.1)]

/-- The meta words one half reads. -/
theorem meta_step (c : Dev nD) (o : Ops) (I : Ins F) (φ : Work F) (om : Fin 2 → Nat) (hom : ∀ a, om a + S8x128.size a ≤ S224x256.size a) (m : IVec S8x128 32)
    (hm : ∀ (s : Fin 8) (l : Fin 128) (x : Fin 224) (y : Fin 256), x.val = om 0 + s.val → y.val = om 1 + l.val → I.R5 (ix2 x y) = m (ix2 s l)) :
    St c o I φ ⊢ wpB c (Prog.lift (.load o.arg5 (Rect.unit (s := S224x256) om S8x128.size hom).toLoadRect (View.loadsAt_vmem h_S8x128)) : Prog (TpuEff nD τ sig (Elt F) Λ₀ .tc) (Vec F S8x128 .i32))
      (fun v => iprop(⌜v = m⌝ ∗ St c o I φ)) := by
  unfold St pt wpB
  iintro ⟨%f4, %f5, %f7, %f8, %f9, %f10, %f11, H4, H5, H7, H8, H9, H10, H11, %hφ⟩
  sl_exec
  sl_step
  isplitr
  · ipureintro
    funext y
    obtain ⟨s, l, rfl⟩ : ∃ (s : Fin 8) (l : Fin 128), y = ix2 s l := ⟨y 0, y 1, by funext a; match a with | ⟨0, _⟩ => rfl | ⟨1, _⟩ => rfl⟩
    have h0 : om 0 + 8 ≤ 224 := hom 0
    have h1 : om 1 + 128 ≤ 256 := hom 1
    rw [← hm s l ⟨om 0 + s.val, by omega⟩ ⟨om 1 + l.val, by omega⟩ rfl rfl, ← hφ.2.1]
    refine congrArg (o.arg5.view.read (Elt F) f5) (?_ : (Rect.unit (s := S224x256) om S8x128.size hom).toLoadRect.idx (ix2 s l) = ix2 _ _)
    funext a
    apply Fin.ext
    match a with
    | ⟨0, _⟩ => show om 0 + 1 * s.val = om 0 + s.val; omega
    | ⟨1, _⟩ => show om 1 + 1 * l.val = om 1 + l.val; omega
  · iexists f4, f5, f7, f8, f9, f10, f11
    iframe
    ipureintro
    exact hφ

theorem row_step (c : Dev nD) (o : Ops) (I : Ins F) (θ : Vec F S2x2x128x2x128 .bf16 → Vec F S1536x256 .f32 → Prop) (ns : Nat) (hns : ns < 2) (m : IVec S8x128 32) (r : Fin 9) :
    St c o I (fun R9 R10 R11 => θ R9 R11 ∧ RowsN (F := F) ns m r.val R10)
      ⊢ wpB c (rowP o.arg10 ns r.val hns r.isLt (metaRows m r)) (fun _ => St c o I (fun R9 R10 R11 => θ R9 R11 ∧ RowsN (F := F) ns m (r.val + 1) R10)) :=
  rowP_step c o I _ _ ns r.val hns r.isLt _ fun R9 R10 R11 R10' h hu => ⟨h.1, rowsN_succ ns m r R10 R10' h.2 hu⟩

theorem block_step (c : Dev nD) (K₀ : Lanes) (o : Ops) (harg9 : o.arg9.IsWhole) (I : Ins F) (θ : Vec F S2x2x128x2x128 .bf16 → Vec F S1536x256 .f32 → Prop) (sts : Fin 2 → Fin 8 → BitVec 32)
    (ms : Fin 2 → IVec S8x128 32) (slot : Nat) (ns : Fin 2) (j : Fin 8) (B : BlockOffs) (r : Fin 36) (q : Fin 224) (hB : Good B r q slot ns.val j.val)
    (hst : I.R4 (ix2 r q) = sts ns j) (hv : (sts ns j >>> 7).toNat + 8 ≤ 21781) :
    St c o I (fun R9 R10 R11 => ∃ R, θ R R11 ∧ RowsN (F := F) ns.val (ms ns) 9 R10 ∧ HalfUpd slot ns.val j.val (tileVal K₀ I.R7 sts ms) R R9)
      ⊢ wpB c (blockP K₀ o.arg4 o.arg7 o.arg9 harg9 o.arg10 ns.val j.val ns.isLt j.isLt B)
        (fun _ => St c o I (fun R9 R10 R11 => ∃ R, θ R R11 ∧ RowsN (F := F) ns.val (ms ns) 9 R10 ∧ HalfUpd slot ns.val (j.val + 1) (tileVal K₀ I.R7 sts ms) R R9)) :=
  blockP_step c K₀ o harg9 I _ _ sts ms slot ns j B r q hB hst hv (fun R9 R10 R11 ⟨R, _, h, _⟩ a b s l ha => h a b s l ha b.isLt)
    fun R9 R10 R11 R9' ⟨R, h1, h2, h3⟩ hu => ⟨R, h1, h2, halfUpd_succ slot ns.val j.val _ R R9 R9' h3 hu⟩

theorem halfP_step (c : Dev nD) (K₀ : Lanes) (o : Ops) (harg9 : o.arg9.IsWhole) (I : Ins F) (θ : Vec F S2x2x128x2x128 .bf16 → Vec F S1536x256 .f32 → Prop) (sts : Fin 2 → Fin 8 → BitVec 32)
    (ms : Fin 2 → IVec S8x128 32) (slot : Nat) (ns : Fin 2) (B : Fin 8 → BlockOffs) (r : Fin 36) (q : Fin 8 → Fin 224) (hB : ∀ j, Good (B j) r (q j) slot ns.val j.val)
    (hst : ∀ j, I.R4 (ix2 r (q j)) = sts ns j) (hv : ∀ j, (sts ns j >>> 7).toNat + 8 ≤ 21781)
    (om : Fin 2 → Nat) (hom : ∀ a, om a + S8x128.size a ≤ S224x256.size a)
    (hm : ∀ (s : Fin 8) (l : Fin 128) (x : Fin 224) (y : Fin 256), x.val = om 0 + s.val → y.val = om 1 + l.val → I.R5 (ix2 x y) = ms ns (ix2 s l)) :
    St c o I (fun R9 R10 R11 => θ R9 R11)
      ⊢ wpB c (halfP K₀ o.arg4 o.arg5 o.arg7 o.arg9 harg9 o.arg10 ns.val ns.isLt om hom (B 0) (B 1) (B 2) (B 3) (B 4) (B 5) (B 6) (B 7))
        (fun _ => St c o I (fun R9 R10 R11 => ∃ R, θ R R11 ∧ HalfUpd slot ns.val 8 (tileVal K₀ I.R7 sts ms) R R9)) := by
  unfold halfP
  refine seq_step c (meta_step c o I _ om hom (ms ns) hm) fun v => ?_
  refine pure_step fun hv' => ?_
  subst hv'
  refine seq_step c ((weaken_step c o I _ _ fun _ _ _ h => ⟨h, fun _ _ _ _ _ h => by omega⟩ : _ ⊢ St c o I (fun R9 R10 R11 => θ R9 R11 ∧ RowsN (F := F) ns.val (ms ns) 0 R10)).trans (row_step c o I θ ns.val ns.isLt (ms ns) 0)) fun _ => ?_
  refine seq_step c (row_step c o I θ ns.val ns.isLt (ms ns) 1) fun _ => ?_
  refine seq_step c (row_step c o I θ ns.val ns.isLt (ms ns) 2) fun _ => ?_
  refine seq_step c (row_step c o I θ ns.val ns.isLt (ms ns) 3) fun _ => ?_
  refine seq_step c (row_step c o I θ ns.val ns.isLt (ms ns) 4) fun _ => ?_
  refine seq_step c (row_step c o I θ ns.val ns.isLt (ms ns) 5) fun _ => ?_
  refine seq_step c (row_step c o I θ ns.val ns.isLt (ms ns) 6) fun _ => ?_
  refine seq_step c (row_step c o I θ ns.val ns.isLt (ms ns) 7) fun _ => ?_
  refine seq_step c (row_step c o I θ ns.val ns.isLt (ms ns) 8) fun _ => ?_
  have b := fun j => block_step c K₀ o harg9 I θ sts ms slot ns j (B j) r (q j) (hB j) (hst j) (hv j)
  refine seq_step c ((weaken_step c o I _ _ fun R9 _ _ h => ⟨R9, h.1, h.2, halfUpd_zero slot ns.val _ R9⟩).trans (b 0)) fun _ => ?_
  refine seq_step c (b 1) fun _ => ?_
  refine seq_step c (b 2) fun _ => ?_
  refine seq_step c (b 3) fun _ => ?_
  refine seq_step c (b 4) fun _ => ?_
  refine seq_step c (b 5) fun _ => ?_
  refine seq_step c (b 6) fun _ => ?_
  exact (b 7).trans (wp_mono _ _ _ fun _ => weaken_step c o I _ _ fun R9 _ _ ⟨R, h1, _, h3⟩ => ⟨R, h1, h3⟩)

theorem tileP_step (c : Dev nD) (K₀ : Lanes) (o : Ops) (harg9 : o.arg9.IsWhole) (I : Ins F) (θ : Vec F S2x2x128x2x128 .bf16 → Vec F S1536x256 .f32 → Prop) (sts : Fin 2 → Fin 8 → BitVec 32)
    (ms : Fin 2 → IVec S8x128 32) (slot : Nat) (B : Fin 2 → Fin 8 → BlockOffs) (r : Fin 2 → Fin 36) (q : Fin 8 → Fin 224) (hB : ∀ ns j, Good (B ns j) (r ns) (q j) slot ns.val j.val)
    (hst : ∀ ns j, I.R4 (ix2 (r ns) (q j)) = sts ns j) (hv : ∀ ns j, (sts ns j >>> 7).toNat + 8 ≤ 21781)
    (om0 om1 : Fin 2 → Nat) (hom0 : ∀ a, om0 a + S8x128.size a ≤ S224x256.size a) (hom1 : ∀ a, om1 a + S8x128.size a ≤ S224x256.size a)
    (hm0 : ∀ (s : Fin 8) (l : Fin 128) (x : Fin 224) (y : Fin 256), x.val = om0 0 + s.val → y.val = om0 1 + l.val → I.R5 (ix2 x y) = ms 0 (ix2 s l))
    (hm1 : ∀ (s : Fin 8) (l : Fin 128) (x : Fin 224) (y : Fin 256), x.val = om1 0 + s.val → y.val = om1 1 + l.val → I.R5 (ix2 x y) = ms 1 (ix2 s l)) :
    St c o I (fun R9 R10 R11 => θ R9 R11)
      ⊢ wpB c (tileP K₀ o.arg4 o.arg5 o.arg7 o.arg9 harg9 o.arg10 om0 om1 hom0 hom1 B)
        (fun _ => St c o I (fun R9 R10 R11 => ∃ R, θ R R11 ∧ TileUpd slot (tileVal K₀ I.R7 sts ms) R R9)) := by
  unfold tileP
  refine seq_step c (halfP_step c K₀ o harg9 I θ sts ms slot 0 (B 0) (r 0) q (hB 0) (hst 0) (hv 0) om0 hom0 hm0) fun _ => ?_
  refine (halfP_step c K₀ o harg9 I _ sts ms slot 1 (B 1) (r 1) q (hB 1) (hst 1) (hv 1) om1 hom1 hm1).trans (wp_mono _ _ _ fun _ => weaken_step c o I _ _ ?_)
  rintro R9 R10 R11 ⟨R', ⟨R, h0, h1⟩, h2⟩
  exact ⟨R, h0, tileUpd_of slot _ R R' R9 h1 h2⟩

end Cert.MainIdeal.Hand
end
-- ==== Proof.LoopStep.lean ====
/-
  The trips of the kernel's loop: the product of the current tile added to the accumulator while the next tile is decoded.
-/
module

public import proofs.«01_k».proof.Proof.TileStep

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

theorem trips_eq : k0_t1_loop.trips = 28 := by decide +kernel

/-- The left factor of trip `k`: two 128-column groups of the activation words, as rows of bf16 pairs. -/
def lhsOf (a0 a1 : Vec F S1x768x128 .i32) : FVec F S1536x256 .bf16 :=
  concatenate S1536x256 1 [⟨S1536x128, (bitcastToFloat .bf16 (bitcast S1536x128 16 (shapeCast S768x128 a0 shapeCasts_S1x768x128_S768x128) bitcasts_S768x128_w32_S1536x128_w16) : FVec F S1536x128 .bf16)⟩,
    ⟨S1536x128, (bitcastToFloat .bf16 (bitcast S1536x128 16 (shapeCast S768x128 a1 shapeCasts_S1x768x128_S768x128) bitcasts_S768x128_w32_S1536x128_w16) : FVec F S1536x128 .bf16)⟩] concatenates_S1536x128_S1536x128_S1536x256_d1

/-- One half of the right factor: the decoded weights' pairs of rows laid out as rows. -/
def rhsHalf (w : Vec F S1x1x128x2x128 .bf16) : FVec F S256x128 .bf16 :=
  interleaveRows S256x128
    (shapeCast S128x128 (shapeCast S1x1x128x128 (rowsOfParity 0 S1x1x128x1x128 w bitcasts_S1x1x128x2x128_w16_S1x1x128x1x128_w32) shapeCasts_S1x1x128x1x128_S1x1x128x128) shapeCasts_S1x1x128x128_S128x128)
    (shapeCast S128x128 (shapeCast S1x1x128x128 (rowsOfParity 1 S1x1x128x1x128 w bitcasts_S1x1x128x2x128_w16_S1x1x128x1x128_w32) shapeCasts_S1x1x128x1x128_S1x1x128x128) shapeCasts_S1x1x128x128_S128x128)
    bitcasts_S256x128_w16_S128x128_w32

def rhsOf (w0 w1 : Vec F S1x1x128x2x128 .bf16) : FVec F S256x256 .bf16 :=
  concatenate S256x256 1 [⟨S256x128, rhsHalf w0⟩, ⟨S256x128, rhsHalf w1⟩] concatenates_S256x128_S256x128_S256x256_d1

/-- The accumulator after one trip. -/
def accUpd (a0 a1 : Vec F S1x768x128 .i32) (w0 w1 : Vec F S1x1x128x2x128 .bf16) (R11 : Vec F S1536x256 .f32) : Vec F S1536x256 .f32 :=
  addf R11 (matmul dot_S1536x256_S256x256_S1536x256_1_0_0_1_n_n none (lhsOf a0 a1) (rhsOf w0 w1) (constant S1536x256 .f32 0x00000000#32))

/-- The `j`-th group of 128 columns of the activation words. -/
def actOf (R8 : Vec F S56x768x128 .i32) (j : Fin 56) : Vec F S1x768x128 .i32 := fun y => R8 (ix3 j (y 1) (y 2))

/-- One half of the current slot of the weights' buffer. -/
def wtOf (R9 : Vec F S2x2x128x2x128 .bf16) (a b : Fin 2) : Vec F S1x1x128x2x128 .bf16 := fun y => R9 (ix5 a b (y 2) (y 3) (y 4))

theorem off131 : ∀ k : Fin k0_t1_loop.trips, k0_off131 k = ![2 * k.val, 0, 0] := by decide +kernel
theorem off132 : ∀ k : Fin k0_t1_loop.trips, k0_off132 k = ![2 * k.val + 1, 0, 0] := by decide +kernel
theorem off133 : ∀ k : Fin k0_t1_loop.trips, k0_off133 k = ![k.val % 2, 0, 0, 0, 0] := by decide +kernel
theorem off134 : ∀ k : Fin k0_t1_loop.trips, k0_off134 k = ![k.val % 2, 1, 0, 0, 0] := by decide +kernel

theorem readAt_act (arg8 : Memref sig .tc .vmem S56x768x128 .i32) (f : arg8.view.ty.Contents (Elt F)) (o : Fin 3 → Nat) (h : ∀ a, o a + S1x768x128.size a ≤ S56x768x128.size a)
    (j : Fin 56) (e : o = ![j.val, 0, 0]) :
    View.readAt (Elt F) arg8.view (Rect.unit (s := S56x768x128) o S1x768x128.size h).toLoadRect f = actOf (arg8.view.read (Elt F) f) j := by
  subst e
  funext y
  refine congrArg (arg8.view.read (Elt F) f) (?_ : (Rect.unit (s := S56x768x128) _ S1x768x128.size h).toLoadRect.idx y = ix3 j (y 1) (y 2))
  funext a
  apply Fin.ext
  have h0 : (y 0).val = 0 := by have := (y 0).isLt; simpa using this
  match a with
  | ⟨0, _⟩ => show j.val + 1 * (y 0).val = j.val; omega
  | ⟨1, _⟩ => show 0 + 1 * (y 1).val = (y 1).val; omega
  | ⟨2, _⟩ => show 0 + 1 * (y 2).val = (y 2).val; omega

theorem readAt_wt (arg9 : Memref sig .tc .vmem S2x2x128x2x128 .bf16) (f : arg9.view.ty.Contents (Elt F)) (o : Fin 5 → Nat) (h : ∀ a, o a + S1x1x128x2x128.size a ≤ S2x2x128x2x128.size a)
    (p b : Fin 2) (e : o = ![p.val, b.val, 0, 0, 0]) :
    View.readAt (Elt F) arg9.view (Rect.unit (s := S2x2x128x2x128) o S1x1x128x2x128.size h).toLoadRect f = wtOf (arg9.view.read (Elt F) f) p b := by
  subst e
  funext y
  refine congrArg (arg9.view.read (Elt F) f) (?_ : (Rect.unit (s := S2x2x128x2x128) _ S1x1x128x2x128.size h).toLoadRect.idx y = ix5 p b (y 2) (y 3) (y 4))
  funext a
  apply Fin.ext
  have h0 : (y 0).val = 0 := by have := (y 0).isLt; simpa using this
  have h1 : (y 1).val = 0 := by have := (y 1).isLt; simpa using this
  match a with
  | ⟨0, _⟩ => show p.val + 1 * (y 0).val = p.val; omega
  | ⟨1, _⟩ => show b.val + 1 * (y 1).val = b.val; omega
  | ⟨2, _⟩ => show 0 + 1 * (y 2).val = (y 2).val; omega
  | ⟨3, _⟩ => show 0 + 1 * (y 3).val = (y 3).val; omega
  | ⟨4, _⟩ => show 0 + 1 * (y 4).val = (y 4).val; omega

theorem mulP_step (c : Dev nD) (o : Ops) (I : Ins F) (φ ψ : Work F) (k : Fin k0_t1_loop.trips) (j0 j1 : Fin 56) (h0 : j0.val = 2 * k.val) (h1 : j1.val = 2 * k.val + 1) (s : Fin 2) (hs : s.val = k.val % 2)
    (h : ∀ R9 R10 R11, φ R9 R10 R11 → ψ R9 R10 (accUpd (actOf I.R8 j0) (actOf I.R8 j1) (wtOf R9 s 0) (wtOf R9 s 1) R11)) :
    St c o I φ ⊢ wpB c (mulP o.arg8 o.arg9 o.arg11 k) (fun _ => St c o I ψ) := by
  unfold St mulP pt wpB
  iintro ⟨%f4, %f5, %f7, %f8, %f9, %f10, %f11, H4, H5, H7, H8, H9, H10, H11, %hφ⟩
  sl_exec
  sl_step
  iexists f4, f5, f7, f8, f9, f10, _
  iframe
  ipureintro
  refine ⟨hφ.1, hφ.2.1, hφ.2.2.1, hφ.2.2.2.1, ?_⟩
  have e0 := readAt_act o.arg8 f8 _ (k0_off131_inb k) j0 (by rw [off131, h0])
  have e1 := readAt_act o.arg8 f8 _ (k0_off132_inb k) j1 (by rw [off132, h1])
  have e2 := readAt_wt o.arg9 f9 _ (k0_off133_inb k) s 0 (by rw [off133, hs]; rfl)
  have e3 := readAt_wt o.arg9 f9 _ (k0_off134_inb k) s 1 (by rw [off134, hs]; rfl)
  have e4 := View.readAt_full (Val := Elt F) o.arg11.view f11 inb_S1536x256_S1536x256_0_0
  refine Eq.mp (congrArg (fun X => ψ _ _ X) ?_) (h _ _ _ hφ.2.2.2.2)
  rw [← hφ.2.2.2.1, ← e0, ← e1, ← e2, ← e3, ← e4]
  refine Eq.trans ?_ (View.read_writes_full _ _ _ _ _).symm
  refine Eq.trans ?_ (Idealize.ShloMosaic.shapeCast_self _ _).symm
  rfl

theorem zeroP_step (c : Dev nD) (o : Ops) (I : Ins F) (φ ψ : Work F)
    (h : ∀ R9 R10 R11, φ R9 R10 R11 → ψ R9 R10 (broadcast S1536x256 (Scalar.ofBits .f32 0x00000000#32 : F .f32))) :
    St c o I φ ⊢ wpB c (zeroP o.arg11) (fun _ => St c o I ψ) := by
  unfold St zeroP pt wpB
  iintro ⟨%f4, %f5, %f7, %f8, %f9, %f10, %f11, H4, H5, H7, H8, H9, H10, H11, %hφ⟩
  sl_exec
  sl_step
  iexists f4, f5, f7, f8, f9, f10, _
  iframe
  ipureintro
  refine ⟨hφ.1, hφ.2.1, hφ.2.2.1, hφ.2.2.2.1, ?_⟩
  refine Eq.mp (congrArg (fun X => ψ _ _ X) ?_) (h _ _ _ hφ.2.2.2.2)
  refine Eq.trans ?_ (View.read_writes_full _ _ _ _ _).symm
  refine Eq.trans ?_ (Idealize.ShloMosaic.shapeCast_self _ _).symm
  rfl

end Cert.MainIdeal.Hand
end
-- ==== Proof.Offs.lean ====
/-
  The trips of the kernel's loop: the product of the current tile added to the accumulator while the next tile is decoded.
-/
module

public import proofs.«01_k».proof.Proof.LoopStep

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! The offsets of the blocks, closed. -/

theorem inbA (o : Fin 3 → Nat) (n : Nat) (e : o = ![n, 0, 0]) (h : n + 4 ≤ 21781) : ∀ a, o a + S4x8x128.size a ≤ S21781x8x128.size a := by
  subst e
  intro a
  match a with
  | ⟨0, _⟩ => exact h
  | ⟨1, _⟩ => show 0 + 8 ≤ 8; omega
  | ⟨2, _⟩ => show 0 + 128 ≤ 128; omega

theorem add4 (v : BitVec 32) (h : (v >>> 7).toNat + 8 ≤ 21781) : ((v >>> 7) + 4#32).toNat + 4 ≤ 21781 := by
  rw [BitVec.toNat_add]
  have : (4#32 : BitVec 32).toNat = 4 := rfl
  omega

theorem first_oc : ∀ (ns : Fin 2) (j : Fin 8) (i : grid0.Coords), (firstOffs i ns j).oc = ![2 * (i 0).val + ns.val, j.val] := by decide +kernel
theorem first_o0 : ∀ (ns : Fin 2) (j : Fin 8) (i : grid0.Coords), (firstOffs i ns j).o0 = ![0, ns.val, 16 * j.val, 0, 0] := by decide +kernel
theorem first_o1 : ∀ (ns : Fin 2) (j : Fin 8) (i : grid0.Coords), (firstOffs i ns j).o1 = ![0, ns.val, 16 * j.val + 8, 0, 0] := by decide +kernel
theorem next_oc : ∀ (ns : Fin 2) (j : Fin 8) (i : grid0.Coords) (k : Fin k0_t1_loop.trips) (h : k0_cond2 k = 1#1), (nextOffs i k h ns j).oc = ![2 * (i 0).val + ns.val, 8 * (k.val + 1) + j.val] := by decide +kernel
theorem next_o0 : ∀ (ns : Fin 2) (j : Fin 8) (i : grid0.Coords) (k : Fin k0_t1_loop.trips) (h : k0_cond2 k = 1#1), (nextOffs i k h ns j).o0 = ![(k.val + 1) % 2, ns.val, 16 * j.val, 0, 0] := by decide +kernel
theorem next_o1 : ∀ (ns : Fin 2) (j : Fin 8) (i : grid0.Coords) (k : Fin k0_t1_loop.trips) (h : k0_cond2 k = 1#1), (nextOffs i k h ns j).o1 = ![(k.val + 1) % 2, ns.val, 16 * j.val + 8, 0, 0] := by decide +kernel
theorem next_om0 : ∀ (k : Fin k0_t1_loop.trips), k0_off49 k = ![8 * (k.val + 1), 0] := by decide +kernel
theorem next_om1 : ∀ (k : Fin k0_t1_loop.trips), k0_off90 k = ![8 * (k.val + 1), 128] := by decide +kernel
theorem cond2_iff : ∀ (k : Fin k0_t1_loop.trips), k0_cond2 k = 1#1 ↔ k.val + 1 < 28 := by decide +kernel

theorem first_oa (ns : Fin 2) (j : Fin 8) (i : grid0.Coords) (v : BitVec 32) : (firstOffs i ns j).oa v = ![(v >>> 7).toNat, 0, 0] := by
  match ns, j with
  | 0, 0 => rfl
  | 0, 1 => rfl
  | 0, 2 => rfl
  | 0, 3 => rfl
  | 0, 4 => rfl
  | 0, 5 => rfl
  | 0, 6 => rfl
  | 0, 7 => rfl
  | 1, 0 => rfl
  | 1, 1 => rfl
  | 1, 2 => rfl
  | 1, 3 => rfl
  | 1, 4 => rfl
  | 1, 5 => rfl
  | 1, 6 => rfl
  | 1, 7 => rfl
theorem first_ob (ns : Fin 2) (j : Fin 8) (i : grid0.Coords) (v : BitVec 32) : (firstOffs i ns j).ob v = ![((v >>> 7) + 4#32).toNat, 0, 0] := by
  match ns, j with
  | 0, 0 => rfl
  | 0, 1 => rfl
  | 0, 2 => rfl
  | 0, 3 => rfl
  | 0, 4 => rfl
  | 0, 5 => rfl
  | 0, 6 => rfl
  | 0, 7 => rfl
  | 1, 0 => rfl
  | 1, 1 => rfl
  | 1, 2 => rfl
  | 1, 3 => rfl
  | 1, 4 => rfl
  | 1, 5 => rfl
  | 1, 6 => rfl
  | 1, 7 => rfl
theorem next_oa (ns : Fin 2) (j : Fin 8) (i : grid0.Coords) (k : Fin k0_t1_loop.trips) (h : k0_cond2 k = 1#1) (v : BitVec 32) : (nextOffs i k h ns j).oa v = ![(v >>> 7).toNat, 0, 0] := by
  match ns, j with
  | 0, 0 => rfl
  | 0, 1 => rfl
  | 0, 2 => rfl
  | 0, 3 => rfl
  | 0, 4 => rfl
  | 0, 5 => rfl
  | 0, 6 => rfl
  | 0, 7 => rfl
  | 1, 0 => rfl
  | 1, 1 => rfl
  | 1, 2 => rfl
  | 1, 3 => rfl
  | 1, 4 => rfl
  | 1, 5 => rfl
  | 1, 6 => rfl
  | 1, 7 => rfl
theorem next_ob (ns : Fin 2) (j : Fin 8) (i : grid0.Coords) (k : Fin k0_t1_loop.trips) (h : k0_cond2 k = 1#1) (v : BitVec 32) : (nextOffs i k h ns j).ob v = ![((v >>> 7) + 4#32).toNat, 0, 0] := by
  match ns, j with
  | 0, 0 => rfl
  | 0, 1 => rfl
  | 0, 2 => rfl
  | 0, 3 => rfl
  | 0, 4 => rfl
  | 0, 5 => rfl
  | 0, 6 => rfl
  | 0, 7 => rfl
  | 1, 0 => rfl
  | 1, 1 => rfl
  | 1, 2 => rfl
  | 1, 3 => rfl
  | 1, 4 => rfl
  | 1, 5 => rfl
  | 1, 6 => rfl
  | 1, 7 => rfl
theorem first_chk (ns : Fin 2) (j : Fin 8) (i : grid0.Coords) (v : BitVec 32) (hv : (v >>> 7).toNat + 8 ≤ 21781) : (firstOffs i ns j).chk v := by
  have a := inbA _ _ (first_oa ns j i v) (by omega)
  have b := inbA _ _ (first_ob ns j i v) (add4 v hv)
  revert a b
  match ns, j with
  | 0, 0 => exact fun a b => And.intro a b
  | 0, 1 => exact fun a b => And.intro a b
  | 0, 2 => exact fun a b => And.intro a b
  | 0, 3 => exact fun a b => And.intro a b
  | 0, 4 => exact fun a b => And.intro a b
  | 0, 5 => exact fun a b => And.intro a b
  | 0, 6 => exact fun a b => And.intro a b
  | 0, 7 => exact fun a b => And.intro a b
  | 1, 0 => exact fun a b => And.intro a b
  | 1, 1 => exact fun a b => And.intro a b
  | 1, 2 => exact fun a b => And.intro a b
  | 1, 3 => exact fun a b => And.intro a b
  | 1, 4 => exact fun a b => And.intro a b
  | 1, 5 => exact fun a b => And.intro a b
  | 1, 6 => exact fun a b => And.intro a b
  | 1, 7 => exact fun a b => And.intro a b
theorem next_chk (ns : Fin 2) (j : Fin 8) (i : grid0.Coords) (k : Fin k0_t1_loop.trips) (h : k0_cond2 k = 1#1) (v : BitVec 32) (hv : (v >>> 7).toNat + 8 ≤ 21781) : (nextOffs i k h ns j).chk v := by
  have a := inbA _ _ (next_oa ns j i k h v) (by omega)
  have b := inbA _ _ (next_ob ns j i k h v) (add4 v hv)
  revert a b
  match ns, j with
  | 0, 0 => exact fun a b => And.intro (fun _ => a) (fun _ => b)
  | 0, 1 => exact fun a b => And.intro (fun _ => a) (fun _ => b)
  | 0, 2 => exact fun a b => And.intro (fun _ => a) (fun _ => b)
  | 0, 3 => exact fun a b => And.intro (fun _ => a) (fun _ => b)
  | 0, 4 => exact fun a b => And.intro (fun _ => a) (fun _ => b)
  | 0, 5 => exact fun a b => And.intro (fun _ => a) (fun _ => b)
  | 0, 6 => exact fun a b => And.intro (fun _ => a) (fun _ => b)
  | 0, 7 => exact fun a b => And.intro (fun _ => a) (fun _ => b)
  | 1, 0 => exact fun a b => And.intro (fun _ => a) (fun _ => b)
  | 1, 1 => exact fun a b => And.intro (fun _ => a) (fun _ => b)
  | 1, 2 => exact fun a b => And.intro (fun _ => a) (fun _ => b)
  | 1, 3 => exact fun a b => And.intro (fun _ => a) (fun _ => b)
  | 1, 4 => exact fun a b => And.intro (fun _ => a) (fun _ => b)
  | 1, 5 => exact fun a b => And.intro (fun _ => a) (fun _ => b)
  | 1, 6 => exact fun a b => And.intro (fun _ => a) (fun _ => b)
  | 1, 7 => exact fun a b => And.intro (fun _ => a) (fun _ => b)
theorem first_good (i : grid0.Coords) (ns : Fin 2) (j : Fin 8) (r : Fin 36) (q : Fin 224) (hr : r.val = 2 * (i 0).val + ns.val) (hq : q.val = j.val) :
    Good (firstOffs i ns j) r q 0 ns.val j.val where
  oc := by rw [first_oc, hr, hq]
  chk v hv := first_chk ns j i v hv
  oa := first_oa ns j i
  ob := first_ob ns j i
  o0 := first_o0 ns j i
  o1 := first_o1 ns j i

theorem next_good (i : grid0.Coords) (k : Fin k0_t1_loop.trips) (h : k0_cond2 k = 1#1) (ns : Fin 2) (j : Fin 8) (r : Fin 36) (q : Fin 224) (hr : r.val = 2 * (i 0).val + ns.val)
    (hq : q.val = 8 * (k.val + 1) + j.val) : Good (nextOffs i k h ns j) r q ((k.val + 1) % 2) ns.val j.val where
  oc := by rw [next_oc, hr, hq]
  chk v hv := next_chk ns j i k h v hv
  oa := next_oa ns j i k h
  ob := next_ob ns j i k h
  o0 := next_o0 ns j i k h
  o1 := next_o1 ns j i k h

end Cert.MainIdeal.Hand
end
-- ==== Proof.Loop.lean ====
/-
  The trips of the kernel's loop: the product of the current tile added to the accumulator while the next tile is decoded.
-/
module

public import proofs.«01_k».proof.Proof.Offs

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! The loop's invariant. -/

/-- The starts of the blocks of tile `k` at grid step `t`. -/
def stsAt (I : Ins F) (t : Fin 18) (k : Fin 28) (ns : Fin 2) (j : Fin 8) : BitVec 32 := I.R4 (ix2 ⟨2 * t.val + ns.val, by omega⟩ ⟨8 * k.val + j.val, by omega⟩)

/-- The meta words of tile `k`. -/
def msAt (I : Ins F) (k : Fin 28) (ns : Fin 2) : IVec S8x128 32 := fun y => I.R5 (ix2 (⟨8 * k.val + (y 0).val, by have := (y 0).isLt; simp only [S8x128] at this; have h : (y 0).val < 8 := this; omega⟩ : Fin 224) (⟨128 * ns.val + (y 1).val, by have h : (y 1).val < 128 := (y 1).isLt; omega⟩ : Fin 256))

/-- The decoded weights of tile `k`. -/
def tileAt (K : Lanes) (I : Ins F) (t : Fin 18) (k : Fin 28) : Fin 2 → Fin 128 → Fin 2 → Fin 128 → F .bf16 := tileVal K I.R7 (stsAt I t k) (msAt I k)

def wtVal (W : Fin 2 → Fin 128 → Fin 2 → Fin 128 → F .bf16) (b : Fin 2) : Vec F S1x1x128x2x128 .bf16 := fun y => W b (y 2) (y 3) (y 4)

/-- The accumulator before trip `k`. -/
def accAt (K : Lanes) (I : Ins F) (t : Fin 18) : Nat → Vec F S1536x256 .f32
  | 0 => broadcast S1536x256 (Scalar.ofBits .f32 0x00000000#32 : F .f32)
  | k + 1 => if h : k < 28 then accUpd (actOf I.R8 ⟨2 * k, by omega⟩) (actOf I.R8 ⟨2 * k + 1, by omega⟩) (wtVal (tileAt K I t ⟨k, h⟩) 0) (wtVal (tileAt K I t ⟨k, h⟩) 1) (accAt K I t k) else accAt K I t k

/-- Before trip `k` the accumulator holds the sum of the trips before it, and the current slot the decoded weights of tile `k`. -/
def InvAt (K : Lanes) (I : Ins F) (t : Fin 18) (k : Nat) (R9 : Vec F S2x2x128x2x128 .bf16) (R11 : Vec F S1536x256 .f32) : Prop :=
  R11 = accAt K I t k ∧ ∀ (h : k < 28) (b : Fin 2) (p : Fin 128) (q : Fin 2) (l : Fin 128), R9 (ix5 ⟨k % 2, by omega⟩ b p q l) = tileAt K I t ⟨k, h⟩ b p q l

theorem mul_inv (c : Dev nD) (K : Lanes) (o : Ops) (I : Ins F) (t : Fin 18) (k : Fin k0_t1_loop.trips) (hk : k.val < 28) (φ : Work F)
    (h : ∀ R9 R10 R11, φ R9 R10 R11 → R11 = accAt K I t k.val ∧ (∀ b p q l, R9 (ix5 ⟨k.val % 2, by omega⟩ b p q l) = tileAt K I t ⟨k.val, hk⟩ b p q l)
      ∧ (∀ (h : k.val + 1 < 28) (b : Fin 2) (p : Fin 128) (q : Fin 2) (l : Fin 128), R9 (ix5 ⟨(k.val + 1) % 2, by omega⟩ b p q l) = tileAt K I t ⟨k.val + 1, h⟩ b p q l)) :
    St c o I φ ⊢ wpB c (mulP o.arg8 o.arg9 o.arg11 k) (fun _ => St c o I (fun R9 _ R11 => InvAt K I t (k.val + 1) R9 R11)) := by
  refine mulP_step c o I _ _ k ⟨2 * k.val, by omega⟩ ⟨2 * k.val + 1, by omega⟩ rfl rfl ⟨k.val % 2, by omega⟩ rfl fun R9 R10 R11 hφ => ?_
  obtain ⟨h1, h2, h3⟩ := h R9 R10 R11 hφ
  refine ⟨?_, h3⟩
  have e : ∀ b, wtOf R9 ⟨k.val % 2, by omega⟩ b = wtVal (tileAt K I t ⟨k.val, hk⟩) b := fun b => funext fun y => h2 b _ _ _
  rw [e 0, e 1, h1]
  show _ = (if h : k.val < 28 then _ else _)
  rw [dif_pos hk]

set_option maxRecDepth 20000 in
theorem tripP_step (c : Dev nD) (K : Lanes) (o : Ops) (harg9 : o.arg9.IsWhole) (I : Ins F) (i : grid0.Coords) (t : Fin 18) (ht : (i 0).val = t.val)
    (hv : ∀ r q, (I.R4 (ix2 r q) >>> 7 : BitVec 32).toNat + 8 ≤ 21781) (k : Fin k0_t1_loop.trips) :
    St c o I (fun R9 _ R11 => InvAt K I t k.val R9 R11)
      ⊢ wpB c (tripP K i o.arg4 o.arg5 o.arg7 o.arg8 o.arg9 harg9 o.arg10 o.arg11 k) (fun _ => St c o I (fun R9 _ R11 => InvAt K I t (k.val + 1) R9 R11)) := by
  have hk : k.val < 28 := lt_of_lt_of_eq k.isLt trips_eq
  unfold tripP
  by_cases hc : k0_cond2 k = 1#1
  · have hk1 := (cond2_iff k).mp hc
    rw [dif_pos hc]
    have hB : ∀ (ns : Fin 2) (j : Fin 8), Good (nextOffs i k hc ns j) (⟨2 * t.val + ns.val, by omega⟩ : Fin 36) (⟨8 * (k.val + 1) + j.val, by omega⟩ : Fin 224) ((k.val + 1) % 2) ns.val j.val :=
      fun ns j => next_good i k hc ns j _ _ (congrArg (fun n => 2 * n + ns.val) ht.symm) rfl
    refine seq_step c (tileP_step c K o harg9 I _ (stsAt I t ⟨k.val + 1, hk1⟩) (msAt I ⟨k.val + 1, hk1⟩) ((k.val + 1) % 2) (nextOffs i k hc)
      (fun ns => ⟨2 * t.val + ns.val, by omega⟩) (fun j => ⟨8 * (k.val + 1) + j.val, by omega⟩)
      hB (fun ns j => rfl) (fun ns j => hv _ _) _ _ _ _ ?_ ?_) fun _ => ?_
    · intro s l x y hx hy
      rw [next_om0] at hx hy
      refine congrArg I.R5 (congrArg₂ ix2 (Fin.ext hx) (Fin.ext (hy.trans ?_)))
      show 0 + l.val = 128 * 0 + l.val
      omega
    · intro s l x y hx hy
      rw [next_om1] at hx hy
      exact congrArg I.R5 (congrArg₂ ix2 (Fin.ext hx) (Fin.ext hy))
    · refine mul_inv c K o I t k hk _ ?_
      rintro R9 R10 R11 ⟨R, ⟨h1, h2⟩, hu⟩
      refine ⟨h1, fun b p q l => ?_, fun h b p q l => ?_⟩
      · rw [hu, if_neg (by show ¬ k.val % 2 = (k.val + 1) % 2; omega)]
        exact h2 hk b p q l
      · rw [hu, if_pos rfl]; rfl
  · rw [dif_neg hc]
    refine mul_inv c K o I t k hk _ ?_
    rintro R9 R10 R11 ⟨h1, h2⟩
    exact ⟨h1, fun b p q l => h2 hk b p q l, fun h => absurd ((cond2_iff k).mpr h) hc⟩

theorem loop_step (c : Dev nD) (K : Lanes) (o : Ops) (harg9 : o.arg9.IsWhole) (I : Ins F) (i : grid0.Coords) (t : Fin 18) (ht : (i 0).val = t.val)
    (hv : ∀ r q, (I.R4 (ix2 r q) >>> 7 : BitVec 32).toNat + 8 ≤ 21781) :
    St c o I (fun R9 _ R11 => InvAt K I t 0 R9 R11)
      ⊢ wpB c (Scf.Loop.for k0_t1_loop k0_t1_ok ⟨⟩ fun k0_t1 _ => tripP K i o.arg4 o.arg5 o.arg7 o.arg8 o.arg9 harg9 o.arg10 o.arg11 k0_t1)
        (fun _ => St c o I (fun R9 _ R11 => R11 = accAt K I t 28)) := by
  refine BIBase.Entails.trans ?_ (Scf.wp_for frame (wpE (defs₀ (F := F)) Variants.none c none) Set.univ k0_t1_loop.lb k0_t1_loop.ub k0_t1_loop.st k0_t1_ok (⟨⟩ : PUnit) _
    (fun k _ => St c o I (fun R9 _ R11 => InvAt K I t k R9 R11)) (fun k _ => tripP_step c K o harg9 I i t ht hv k))
  iintro H
  isplitl [H]
  · iexact H
  · iintro %_ H
    iapply (weaken_step c o I (fun R9 _ R11 => InvAt K I t (Scf.trips k0_t1_loop.lb k0_t1_loop.ub k0_t1_loop.st) R9 R11) _ (fun R9 _ R11 h => h.1.trans (congrArg _ trips_eq)))
    iexact H

theorem seq_stepF {α β : Type} (c : Dev nD) {p : Prog (TpuEff nD τ sig (Elt F) Λ₀ .tc) α} {k : α → Prog (TpuEff nD τ sig (Elt F) Λ₀ .tc) β} {P R : sProp 𝕄} {M : α → sProp 𝕄} {Q : β → sProp 𝕄}
    (h1 : P ⊢ wpB c p M) (h2 : ∀ a, iprop(M a ∗ R) ⊢ wpB c (k a) Q) : iprop(P ∗ R) ⊢ wpB c (p.bind k) Q := by
  refine seq_step c (M := fun a => iprop(M a ∗ R)) ?_ h2
  refine BIBase.Entails.trans ?_ (wp_frame_r frame (wpE (defs₀ (F := F)) Variants.none c none) Set.univ)
  iintro ⟨HP, HR⟩
  isplitl [HP]
  · iapply h1; iexact HP
  · iexact HR

set_option maxRecDepth 20000 in
/-- The body after its copies and before it stores its result. -/
theorem core_step (c : Dev nD) (K : Lanes) (o : Ops) (harg9 : o.arg9.IsWhole) (I : Ins F) (i : grid0.Coords) (t : Fin 18) (ht : (i 0).val = t.val)
    (hv : ∀ r q, (I.R4 (ix2 r q) >>> 7 : BitVec 32).toNat + 8 ≤ 21781) {α : Type} (rest : Prog (TpuEff nD τ sig (Elt F) Λ₀ .tc) α) (Q : α → sProp 𝕄) (R : sProp 𝕄)
    (hrest : iprop(St c o I (fun R9 _ R11 => R11 = accAt K I t 28) ∗ R) ⊢ wpB c rest Q) :
    iprop(St c o I (fun _ _ _ => True) ∗ R)
      ⊢ wpB c (do
          tileP K o.arg4 o.arg5 o.arg7 o.arg9 harg9 o.arg10 ![0, 0] ![0, 128] inb_S224x256_S8x128_0_0 inb_S224x256_S8x128_0_128 (firstOffs i)
          zeroP o.arg11
          Scf.Loop.for k0_t1_loop k0_t1_ok ⟨⟩ fun k0_t1 _ => tripP K i o.arg4 o.arg5 o.arg7 o.arg8 o.arg9 harg9 o.arg10 o.arg11 k0_t1
          rest) Q := by
  have hB : ∀ (ns : Fin 2) (j : Fin 8), Good (firstOffs i ns j) (⟨2 * t.val + ns.val, by omega⟩ : Fin 36) (⟨j.val, by omega⟩ : Fin 224) 0 ns.val j.val :=
    fun ns j => first_good i ns j _ _ (congrArg (fun n => 2 * n + ns.val) ht.symm) rfl
  refine seq_stepF c (tileP_step c K o harg9 I (fun _ _ => True) (stsAt I t 0) (msAt I 0) 0 (firstOffs i)
      (fun ns => ⟨2 * t.val + ns.val, by omega⟩) (fun j => ⟨j.val, by omega⟩)
      hB (fun ns j => ?_) (fun ns j => hv _ _) _ _ _ _ ?_ ?_) fun _ => ?_
  · refine congrArg I.R4 (congrArg₂ ix2 rfl (Fin.ext ?_))
    show j.val = 8 * 0 + j.val
    omega
  · intro s l x y hx hy
    refine congrArg I.R5 (congrArg₂ ix2 (Fin.ext (hx.trans ?_)) (Fin.ext (hy.trans ?_)))
    · show 0 + s.val = 8 * 0 + s.val; omega
    · show 0 + l.val = 128 * 0 + l.val; omega
  · intro s l x y hx hy
    refine congrArg I.R5 (congrArg₂ ix2 (Fin.ext (hx.trans ?_)) (Fin.ext (hy.trans ?_)))
    · show 0 + s.val = 8 * 0 + s.val; omega
    · show 128 + l.val = 128 * 1 + l.val; omega
  · refine seq_stepF c (zeroP_step c o I _ (fun R9 _ R11 => InvAt K I t 0 R9 R11) ?_) fun _ => ?_
    · rintro R9 R10 R11 ⟨R, _, hu⟩
      refine ⟨rfl, fun h b p q l => ?_⟩
      rw [hu, if_pos rfl]; rfl
    · exact seq_stepF c (loop_step c K o harg9 I i t ht hv) fun _ => hrest

end Cert.MainIdeal.Hand
end
-- ==== Proof.Body.lean ====
/-
  The kernel's body, run once at a grid step.
-/
module

public import proofs.«01_k».proof.Proof.Copy
public import proofs.«01_k».proof.Proof.Loop

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

abbrev scW : Memref sig .tc .vmem S2x2x128x2x128 .bf16 := Memref.whole cc0_scratch2
abbrev scRows : Memref sig .tc .vmem S2x9x8x128 .i32 := Memref.whole cc0_scratch3
abbrev scAcc : Memref sig .tc .vmem S1536x256 .f32 := Memref.whole cc0_scratch4

/-- What the body stores of its accumulator. -/
def outVal (a : Vec F S1536x256 .f32) : Vec F S1536x256 .bf16 := truncf .bf16 a bitsLt_bf16_f32

theorem cond1_iff : ∀ i : grid0.Coords, cond1 i = 1#1 ↔ (i 0).val = 0 := by decide +kernel

theorem outP_step (c : Dev nD) (arg6 : Memref sig .tc .vmem S1536x256 .bf16) (harg6 : arg6.IsWhole) (f6 : Buf (Elt F) (arg6.view.loc (c : Thread nD τ)))
    (f11 : Buf (Elt F) (scAcc.view.loc (c : Thread nD τ))) (K : PUnit → sProp 𝕄) :
    iprop(pt c arg6 f6 ∗ pt c scAcc f11 ∗ (iprop((∃ g, pt c arg6 g ∗ ⌜arg6.view.read (Elt F) g = outVal (scAcc.view.read (Elt F) f11)⌝) ∗ pt c scAcc f11) -∗ K ⟨⟩))
      ⊢ wpB c (outP arg6 harg6 scAcc) K := by
  unfold outP pt wpB
  iintro ⟨H6, H11, Hk⟩
  sl_exec
  sl_step
  iapply Hk
  isplitl [H6]
  · iexists _
    isplitl [H6]; · iexact H6
    ipureintro
    refine (View.read_writes_full _ _ _ _ _).trans ?_
    exact congrArg outVal (View.readAt_full (Val := Elt F) scAcc.view f11 inb_S1536x256_S1536x256_0_0)
  iexact H11

/-- The inputs of the body at a grid step. -/
abbrev insOf (R1 : Vec F S21772x8x128 .i8) (R2 : Vec F S9x8x128 .i8) (R3 : Vec F S56x768x128 .i32) (R4 : Vec F S36x224 .i32) (R5 : Vec F S224x256 .i32) : Ins F :=
  ⟨R4, R5, bufOf R1 R2, R3⟩

abbrev opsOf (arg4 : Memref sig .tc .smem S36x224 .i32) (arg5 : Memref sig .tc .vmem S224x256 .i32) : Ops := ⟨arg4, arg5, scStream, scAct, scW, scRows, scAcc⟩

/-- The copies, or at a later step the contents they left. -/
theorem stageP_step (c : Dev nD) (i : grid0.Coords) (arg2 : Memref sig .tc .vmem S9x8x128 .i8) (f1 : Buf (Elt F) (hbStream.view.loc (c : Thread nD τ))) (f2 : Buf (Elt F) (arg2.view.loc (c : Thread nD τ)))
    (f3 : Buf (Elt F) (hbAct.view.loc (c : Thread nD τ))) (f7 : Buf (Elt F) (scStream.view.loc (c : Thread nD τ))) (f8 : Buf (Elt F) (scAct.view.loc (c : Thread nD τ)))
    (hst : (i 0).val ≠ 0 → scStream.view.read (Elt F) f7 = bufOf (hbStream.view.read (Elt F) f1) (arg2.view.read (Elt F) f2) ∧ scAct.view.read (Elt F) f8 = hbAct.view.read (Elt F) f3)
    (W : Waits sig Unit) (K : PUnit → sProp 𝕄) :
    iprop(pt c hbStream f1 ∗ pt c arg2 f2 ∗ pt c hbAct f3 ∗ pt c scStream f7 ∗ pt c scAct f8
        ∗ semVal ((c : Thread nD τ), SemLoc.dma 6) 0 ∗ semVal ((c : Thread nD τ), SemLoc.dma 7) 0 ∗ owes (c : Thread nD τ) 0 W
        ∗ (iprop(pt c hbStream f1 ∗ pt c arg2 f2 ∗ pt c hbAct f3 ∗ (∃ g, pt c scStream g ∗ ⌜scStream.view.read (Elt F) g = bufOf (hbStream.view.read (Elt F) f1) (arg2.view.read (Elt F) f2)⌝)
              ∗ (∃ g, pt c scAct g ∗ ⌜scAct.view.read (Elt F) g = hbAct.view.read (Elt F) f3⌝)
              ∗ semVal ((c : Thread nD τ), SemLoc.dma 6) 0 ∗ semVal ((c : Thread nD τ), SemLoc.dma 7) 0 ∗ ∃ W', owes (c : Thread nD τ) 0 W') -∗ K ⟨⟩))
      ⊢ wpB c (stageP i hbStream (Memref.isWhole_whole _) arg2 hbAct (Memref.isWhole_whole _) scStream (Memref.isWhole_whole _) scAct (Memref.isWhole_whole _) cc0_scratch5) K := by
  unfold stageP
  by_cases h : cond1 i = 1#1
  · rw [if_pos h]
    exact copyP_step c arg2 f1 f2 f3 f7 f8 W K
  · rw [if_neg h]
    have h0 := hst fun e => h ((cond1_iff i).mpr e)
    unfold wpB
    iintro ⟨H1, H2, H3, H7, H8, Hq0, Hq1, HW, Hk⟩
    sl_step
    iapply Hk
    isplitl [H1]; · iexact H1
    isplitl [H2]; · iexact H2
    isplitl [H3]; · iexact H3
    isplitl [H7]
    · iexists _
      isplitl [H7]; · iexact H7
      ipureintro
      exact h0.1
    isplitl [H8]
    · iexists _
      isplitl [H8]; · iexact H8
      ipureintro
      exact h0.2
    isplitl [Hq0]; · iexact Hq0
    isplitl [Hq1]; · iexact Hq1
    iexists _; iexact HW

/-- What the body holds besides the buffers it computes in. -/
abbrev Rest (c : Dev nD) (arg2 : Memref sig .tc .vmem S9x8x128 .i8) (arg6 : Memref sig .tc .vmem S1536x256 .bf16)
    (f1 : Buf (Elt F) (hbStream.view.loc (c : Thread nD τ))) (f2 : Buf (Elt F) (arg2.view.loc (c : Thread nD τ))) (f3 : Buf (Elt F) (hbAct.view.loc (c : Thread nD τ))) : sProp 𝕄 :=
  iprop(pt c hbStream f1 ∗ pt c arg2 f2 ∗ pt c hbAct f3 ∗ semVal ((c : Thread nD τ), SemLoc.dma 6) 0 ∗ semVal ((c : Thread nD τ), SemLoc.dma 7) 0 ∗ ∃ W', owes (c : Thread nD τ) 0 W')

set_option maxRecDepth 20000 in
theorem bodyP_step (c : Dev nD) (i : grid0.Coords) (t : Fin 18) (ht : (i 0).val = t.val) (arg2 : Memref sig .tc .vmem S9x8x128 .i8) (harg2 : arg2.IsWhole)
    (arg4 : Memref sig .tc .smem S36x224 .i32) (harg4 : arg4.IsWhole) (arg5 : Memref sig .tc .vmem S224x256 .i32) (harg5 : arg5.IsWhole) (arg6 : Memref sig .tc .vmem S1536x256 .bf16) (harg6 : arg6.IsWhole)
    (f1 : Buf (Elt F) (hbStream.view.loc (c : Thread nD τ))) (f2 : Buf (Elt F) (arg2.view.loc (c : Thread nD τ)))
    (f3 : Buf (Elt F) (hbAct.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (scStream.view.loc (c : Thread nD τ))) (f8 : Buf (Elt F) (scAct.view.loc (c : Thread nD τ)))
    (f9 : Buf (Elt F) (scW.view.loc (c : Thread nD τ))) (f10 : Buf (Elt F) (scRows.view.loc (c : Thread nD τ))) (f11 : Buf (Elt F) (scAcc.view.loc (c : Thread nD τ)))
    (hst : (i 0).val ≠ 0 → scStream.view.read (Elt F) f7 = bufOf (hbStream.view.read (Elt F) f1) (arg2.view.read (Elt F) f2) ∧ scAct.view.read (Elt F) f8 = hbAct.view.read (Elt F) f3)
    (R1 : Vec F S21772x8x128 .i8) (R2 : Vec F S9x8x128 .i8) (R3 : Vec F S56x768x128 .i32) (R4 : Vec F S36x224 .i32) (R5 : Vec F S224x256 .i32)
    (h1 : hbStream.view.read (Elt F) f1 = R1) (h2 : arg2.view.read (Elt F) f2 = R2) (h3 : hbAct.view.read (Elt F) f3 = R3) (h4 : arg4.view.read (Elt F) f4 = R4) (h5 : arg5.view.read (Elt F) f5 = R5)
    (hv : ∀ r q, (R4 (ix2 r q) >>> 7 : BitVec 32).toNat + 8 ≤ 21781) (W : Waits sig Unit) (K : PUnit → sProp 𝕄) :
    iprop(pt c hbStream f1 ∗ pt c arg2 f2 ∗ pt c hbAct f3 ∗ pt c arg4 f4 ∗ pt c arg5 f5 ∗ pt c arg6 f6 ∗ pt c scStream f7 ∗ pt c scAct f8 ∗ pt c scW f9 ∗ pt c scRows f10 ∗ pt c scAcc f11
        ∗ semVal ((c : Thread nD τ), SemLoc.dma 6) 0 ∗ semVal ((c : Thread nD τ), SemLoc.dma 7) 0 ∗ owes (c : Thread nD τ) 0 W
        ∗ (iprop((∃ g, pt c arg6 g ∗ ⌜arg6.view.read (Elt F) g = outVal (accAt lanes (insOf R1 R2 R3 R4 R5) t 28)⌝)
            ∗ St c (opsOf arg4 arg5) (insOf R1 R2 R3 R4 R5) (fun _ _ _ => True) ∗ Rest c arg2 arg6 f1 f2 f3) -∗ K ⟨⟩))
      ⊢ wpB c (bodyP i hbStream (Memref.isWhole_whole _) arg2 harg2 hbAct (Memref.isWhole_whole _) arg4 harg4 arg5 harg5 arg6 harg6 scStream (Memref.isWhole_whole _) scAct (Memref.isWhole_whole _)
          scW (Memref.isWhole_whole _) scRows (Memref.isWhole_whole _) scAcc (Memref.isWhole_whole _) cc0_scratch5) K := by
  subst h1 h2 h3
  unfold bodyP
  refine seq_step c (M := fun _ => iprop(St c (opsOf arg4 arg5) (insOf (hbStream.view.read (Elt F) f1) (arg2.view.read (Elt F) f2) (hbAct.view.read (Elt F) f3) R4 R5) (fun _ _ _ => True)
      ∗ (pt c arg6 f6 ∗ Rest c arg2 arg6 f1 f2 f3 ∗ (iprop((∃ g, pt c arg6 g ∗ ⌜arg6.view.read (Elt F) g = outVal (accAt lanes (insOf (hbStream.view.read (Elt F) f1) (arg2.view.read (Elt F) f2) (hbAct.view.read (Elt F) f3) R4 R5) t 28)⌝)
            ∗ St c (opsOf arg4 arg5) (insOf (hbStream.view.read (Elt F) f1) (arg2.view.read (Elt F) f2) (hbAct.view.read (Elt F) f3) R4 R5) (fun _ _ _ => True) ∗ Rest c arg2 arg6 f1 f2 f3) -∗ K ⟨⟩)))) ?_ fun _ => ?_
  · iintro ⟨H1, H2, H3, H4, H5, H6, H7, H8, H9, H10, H11, Hq0, Hq1, HW, Hk⟩
    iapply (stageP_step c i arg2 f1 f2 f3 f7 f8 hst W _)
    isplitl [H1]; · iexact H1
    isplitl [H2]; · iexact H2
    isplitl [H3]; · iexact H3
    isplitl [H7]; · iexact H7
    isplitl [H8]; · iexact H8
    isplitl [Hq0]; · iexact Hq0
    isplitl [Hq1]; · iexact Hq1
    isplitl [HW]; · iexact HW
    iintro ⟨H1, H2, H3, ⟨%g7, H7, %e7⟩, ⟨%g8, H8, %e8⟩, Hq0, Hq1, ⟨%W', HW⟩⟩
    isplitl [H4 H5 H7 H8 H9 H10 H11]
    · unfold St
      iexists _, _, _, _, _, _, _
      isplitl [H4]; · iexact H4
      isplitl [H5]; · iexact H5
      isplitl [H7]; · iexact H7
      isplitl [H8]; · iexact H8
      isplitl [H9]; · iexact H9
      isplitl [H10]; · iexact H10
      isplitl [H11]; · iexact H11
      ipureintro
      exact ⟨h4, h5, e7, e8, trivial⟩
    isplitl [H6]; · iexact H6
    isplitl [H1 H2 H3 Hq0 Hq1 HW]
    · isplitl [H1]; · iexact H1
      isplitl [H2]; · iexact H2
      isplitl [H3]; · iexact H3
      isplitl [Hq0]; · iexact Hq0
      isplitl [Hq1]; · iexact Hq1
      iexists _; iexact HW
    iexact Hk
  · refine core_step c lanes (opsOf arg4 arg5) (Memref.isWhole_whole cc0_scratch2) (insOf (hbStream.view.read (Elt F) f1) (arg2.view.read (Elt F) f2) (hbAct.view.read (Elt F) f3) R4 R5) i t ht hv
      (outP arg6 harg6 scAcc) K _ ?_
    unfold St
    iintro ⟨⟨%g4, %g5, %g7, %g8, %g9, %g10, %g11, H4, H5, H7, H8, H9, H10, H11, %hφ⟩, H6, HR, Hk⟩
    iapply (outP_step c arg6 harg6 f6 g11 _)
    isplitl [H6]; · iexact H6
    isplitl [H11]; · iexact H11
    iintro ⟨⟨%g6, H6, %e6⟩, H11⟩
    iapply Hk
    isplitl [H6]
    · iexists _
      isplitl [H6]; · iexact H6
      ipureintro
      exact e6.trans (congrArg outVal hφ.2.2.2.2)
    isplitl [H4 H5 H7 H8 H9 H10 H11]
    · iexists _, _, _, _, _, _, _
      isplitl [H4]; · iexact H4
      isplitl [H5]; · iexact H5
      isplitl [H7]; · iexact H7
      isplitl [H8]; · iexact H8
      isplitl [H9]; · iexact H9
      isplitl [H10]; · iexact H10
      isplitl [H11]; · iexact H11
      ipureintro
      exact ⟨hφ.1, hφ.2.1, hφ.2.2.1, hφ.2.2.2.1, trivial⟩
    iexact HR

end Cert.MainIdeal.Hand
end
-- ==== Proof.Run.lean ====
/-
  The kernel's launch: the body's run at every grid step, and from it the run of the whole program.
-/
module

public import proofs.«01_k».proof.Proof.Body
public import proofs.«01_k».proof.Proof.Gen.MainIdeal.Frame
public import Idealize.ShloMosaic.Lib.Pipeline.Frame

@[expose] public section

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the kernel holds besides its windows -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl

/-- The two operands the body copies itself. -/
def H0 : Finset (Ref sig .tc) := {main_v4, main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(pt c hbStream (V m c main_v4) ∗ pt c hbAct (V m c main_arg1)) := by
  rw [BI.bigSep_eq_bigSepL_of_eq [main_v4, main_arg1] (by decide) (by decide)]; rfl

theorem PhiD0_eq (c : Dev nD) :
    (Pipeline.ΦD osem0 spec0 H0 (V m) c : sProp 𝕄)
      = iprop(iprop((∃ d, owns (c : Thread nD τ) scStream fullShare d) ∗ (∃ d, owns (c : Thread nD τ) scAct fullShare d) ∗ (∃ d, owns (c : Thread nD τ) scW fullShare d)
            ∗ (∃ d, owns (c : Thread nD τ) scRows fullShare d) ∗ (∃ d, owns (c : Thread nD τ) scAcc fullShare d)) ∗ (∃ r, prngReg c r)
          ∗ iprop(semVal ((c : Thread nD τ), SemLoc.dma 6) 0 ∗ semVal ((c : Thread nD τ), SemLoc.dma 7) 0)
          ∗ iprop(pt c hbStream (V m c main_v4) ∗ pt c hbAct (V m c main_arg1))) := by
  rw [Pipeline.ΦD_eq, scopedRest0_eq, ownSems00_eq, hbmPts0_eq]; simp only [scStream, scAct, scW, scRows, scAcc, owns_whole]; try rfl

/-! ## The proof data -/

abbrev stream1 (c : Dev nD) : Vec F S21772x8x128 .i8 := hbStream.view.read (Elt F) (V m c main_v4)
abbrev act1 (c : Dev nD) : Vec F S56x768x128 .i32 := hbAct.view.read (Elt F) (V m c main_arg1)
abbrev tail1 (c : Dev nD) : Vec F S9x8x128 .i8 := iblk m c 0 ⟨0, by decide⟩

theorem iblk0_eq (c : Dev nD) (t : Fin cfg0.N) : iblk m c 0 t = tail1 m c := rfl

/-- The contents the body reads at grid step `t`. -/
abbrev insAt (c : Dev nD) (t : Fin cfg0.N) : Ins F := insOf (stream1 m c) (tail1 m c) (act1 m c) (iblk m c 1 t) (iblk m c 2 t)

/-- The block of the result the body leaves at grid step `t`. -/
def outAt (c : Dev nD) (t : Fin cfg0.N) : Vec F S1536x256 .bf16 := outVal (accAt lanes (insAt m c t) (grid0.coords t 0) 28)

/-- Between grid steps: after the first the stream and the activation words are on chip. -/
def Phi (c : Dev nD) (t : ℕ) : sProp 𝕄 :=
  iprop(iprop((∃ d, owns (c : Thread nD τ) scStream fullShare d ∗ ⌜t ≠ 0 → d = bufOf (stream1 m c) (tail1 m c)⌝) ∗ (∃ d, owns (c : Thread nD τ) scAct fullShare d ∗ ⌜t ≠ 0 → d = act1 m c⌝)
        ∗ (∃ d, owns (c : Thread nD τ) scW fullShare d) ∗ (∃ d, owns (c : Thread nD τ) scRows fullShare d) ∗ (∃ d, owns (c : Thread nD τ) scAcc fullShare d)) ∗ (∃ r, prngReg c r)
      ∗ iprop(semVal ((c : Thread nD τ), SemLoc.dma 6) 0 ∗ semVal ((c : Thread nD τ), SemLoc.dma 7) 0)
      ∗ iprop(pt c hbStream (V m c main_v4) ∗ pt c hbAct (V m c main_arg1)))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

/-- The tiles' starts, as the body reads them. -/
abbrev startsAt (c : Dev nD) (t : Fin cfg0.N) : Vec F S36x224 .i32 := iblk m c 1 t

/-- Every tile's window lies inside the stream's buffer. -/
def InRange : Prop := ∀ (c : Dev nD) (t : Fin cfg0.N) (r : Fin 36) (q : Fin 224), (startsAt m c t (ix2 r q) >>> 7 : BitVec 32).toNat + 8 ≤ 21781

theorem ownsM (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

variable {m} in
set_option maxHeartbeats 1000000 in
theorem sound_body (hv : InRange m) (c : Dev nD) (t : Fin cfg0.N) :
    bodyPre m c t ⊢ wpB c (bodyAt0 t) (fun _ => bodyPost m c t) := by
  unfold bodyPre bodyPost bodyAt0
  simp only [before0_0, before0_1, before0_2, after0_0, after0_1, after0_2, after0_3]
  rw [body_eq]
  rw [show (dats m 0 c).Φ t.succ = Phi m c (t.val + 1) from rfl, show (dats m 0 c).Φ t.castSucc = Phi m c t.val from rfl]
  unfold Dat.owesAt Pipeline.owesWithin Phi
  rw [show (dats m 0 c).owed t.castSucc = 0 from rfl, show (dats m 0 c).owed t.succ = 0 from rfl]
  simp only [ownsM c (st0_0 t) (hstage0_0 ((cfg0.slots t 0).cast nbuf0_0)), ownsM c (st0_1 t) (hstage0_1 ((cfg0.slots t 1).cast nbuf0_1)), ownsM c (st0_2 t) (hstage0_2 ((cfg0.slots t 2).cast nbuf0_2)),
    ownsM c (st0_3 t) (hstage0_3 ((cfg0.slots t 3).cast nbuf0_3)), ownsM c scStream (Memref.isWhole_whole _), ownsM c scAct (Memref.isWhole_whole _), ownsM c scW (Memref.isWhole_whole _),
    ownsM c scRows (Memref.isWhole_whole _), ownsM c scAcc (Memref.isWhole_whole _)]
  iintro ⟨⟨⟨⟨%d7, ⟨%f7, %e7, H7⟩, %h7⟩, ⟨%d8, ⟨%f8, %e8, H8⟩, %h8⟩, ⟨%d9, %f9, %e9, H9⟩, ⟨%d10, %f10, %e10, H10⟩, ⟨%d11, %f11, %e11, H11⟩⟩, Hg, ⟨Hq0, Hq1⟩, ⟨H1, H3⟩⟩, ⟨%W, %hW, HW⟩,
    ⟨%d2, %f2, %e2, H2⟩, ⟨%d4, %f4, %e4, H4⟩, ⟨%d5, %f5, %e5, H5⟩, ⟨%d6, %f6, %e6, H6⟩⟩
  have hst : (grid0.coords t 0).val ≠ 0 → scStream.view.read (Elt F) f7 = bufOf (hbStream.view.read (Elt F) (V m c main_v4)) ((st0_0 t).view.read (Elt F) f2)
      ∧ scAct.view.read (Elt F) f8 = hbAct.view.read (Elt F) (V m c main_arg1) := by
    intro h
    have ht : t.val ≠ 0 := by
      intro h0
      exact h (by rw [show t = ⟨0, by decide⟩ from Fin.ext h0]; decide)
    rw [e2, e7, e8]
    exact ⟨h7 ht, h8 ht⟩
  iapply (bodyP_step c (grid0.coords t) (grid0.coords t 0) rfl (st0_0 t) _ (st0_1 t) _ (st0_2 t) _ (st0_3 t) _ (V m c main_v4) f2 (V m c main_arg1) f4 f5 f6 f7 f8 f9 f10 f11 hst
    (stream1 m c) (tail1 m c) (act1 m c) (iblk m c 1 t) (iblk m c 2 t) rfl e2 rfl e4 e5 (hv c t) W _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hq0]; · iexact Hq0
  isplitl [Hq1]; · iexact Hq1
  isplitl [HW]; · iexact HW
  unfold St
  iintro ⟨⟨%g6, H6, %e6'⟩, ⟨%g4, %g5, %g7, %g8, %g9, %g10, %g11, H4, H5, H7, H8, H9, H10, H11, %hφ⟩, H1, H2, H3, Hq0, Hq1, ⟨%W', HW⟩⟩
  isplitl [H7 H8 H9 H10 H11 Hg Hq0 Hq1 H1 H3]
  · isplitl [H7 H8 H9 H10 H11]
    · isplitl [H7]
      · iexists _
        isplitl [H7]
        · iexists _; isplitr; swap; · iexact H7
          ipureintro; rfl
        · ipureintro; exact fun _ => hφ.2.2.1
      isplitl [H8]
      · iexists _
        isplitl [H8]
        · iexists _; isplitr; swap; · iexact H8
          ipureintro; rfl
        · ipureintro; exact fun _ => hφ.2.2.2.1
      isplitl [H9]
      · iexists _, _; isplitr; swap; · iexact H9
        ipureintro; rfl
      isplitl [H10]
      · iexists _, _; isplitr; swap; · iexact H10
        ipureintro; rfl
      iexists _, _; isplitr; swap; · iexact H11
      ipureintro; rfl
    isplitl [Hg]; · iexact Hg
    isplitl [Hq0 Hq1]
    · isplitl [Hq0]; · iexact Hq0
      iexact Hq1
    isplitl [H1]; · iexact H1
    iexact H3
  isplitl [HW]
  · iexists W'; isplitr; · ipureintro; exact fun _ _ => Or.inl trivial
    iexact HW
  isplitl [H2]
  · iexists _; isplitr; swap; · iexact H2
    ipureintro; exact e2
  isplitl [H4]
  · iexists _; isplitr; swap; · iexact H4
    ipureintro; exact hφ.1
  isplitl [H5]
  · iexists _; isplitr; swap; · iexact H5
    ipureintro; exact hφ.2.1
  iexists _; isplitr; swap; · iexact H6
  ipureintro; exact e6'

theorem defs₀_row (t : Fin cfg0.N) : defs₀ (F := F) .tc cfg0.body (cfg0.bodyArgs t (cfg0.slots t)) = bodyAt0 t := by
  unfold defs₀; rw [Defs.onTc_tc]

variable {m} in
theorem body_obligation (hv : InRange m) (c : Dev nD) : BodyObligation (dats (F := F) m 0 c) (defs₀ (F := F)) Variants.none () Set.univ := fun t => by
  rw [bigSep_W0, bigSep_W0, defs₀_row]
  exact triple_restated (sound_body hv c t) rfl .rfl fun _ => .rfl

/-! ## The launch -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem phi_in (c : Dev nD) : (Pipeline.ΦD osem0 spec0 H0 (V m) c : sProp 𝕄) ⊢ Phi m c 0 := by
  rw [PhiD0_eq]
  unfold Phi
  iintro ⟨⟨⟨%d7, H7⟩, ⟨%d8, H8⟩, H9, H10, H11⟩, HR⟩
  isplitl [H7 H8 H9 H10 H11]
  · isplitl [H7]
    · iexists _; isplitl [H7]; · iexact H7
      ipureintro; exact fun h => absurd rfl h
    isplitl [H8]
    · iexists _; isplitl [H8]; · iexact H8
      ipureintro; exact fun h => absurd rfl h
    isplitl [H9]; · iexact H9
    isplitl [H10]; · iexact H10
    iexact H11
  iexact HR

theorem phi_out (c : Dev nD) (t : ℕ) : Phi m c t ⊢ (Pipeline.ΦD osem0 spec0 H0 (V m) c : sProp 𝕄) := by
  rw [PhiD0_eq]
  unfold Phi
  iintro ⟨⟨⟨%d7, H7, %h7⟩, ⟨%d8, H8, %h8⟩, H9, H10, H11⟩, HR⟩
  isplitl [H7 H8 H9 H10 H11]
  · isplitl [H7]
    · iexists _; iexact H7
    isplitl [H8]
    · iexists _; iexact H8
    isplitl [H9]; · iexact H9
    isplitl [H10]; · iexact H10
    iexact H11
  iexact HR

set_option backward.isDefEq.respectTransparency.types false in
variable {m} in
/-- Every run of the program ends with the result's blocks as `outAt` states and with every counter at zero. -/
theorem run_main (hv : InRange m) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation hv c).loose) (hshare := fun c => (dats m 0 c).share_full fun _ => rfl)
    (howed := fun _ _ => rfl) (V := V m) (hmain := hmainD m Variants.none) (hA := A_eq m)
    (hin := fun c => phi_in m c) (hout := fun c => phi_out m c _)

theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c)))⟩

end Cert.MainIdeal.Hand
end
-- ==== Proof.Range.lean ====
/-
  The precondition `in_range`, read as the bound the launch needs: every tile's window lies inside the stream buffer.
-/
module

public import proofs.«01_k».proof.Defs
public import proofs.«01_k».proof.Proof.Gen.Pre_in_range
public import proofs.«01_k».proof.Proof.Run

@[expose] public section

noncomputable section

namespace Cert.MainIdeal.Hand

open Cert.MainIdeal Cert.MainIdeal.Gen
open Idealize.ShloMosaic Idealize.ShloMosaic.TcCoe

variable {F : FTy → Type} [FloatOps F] [∀ e, Nonempty (Elt F e)]
variable (m : (ℓ : Loc nD τ sig) → Buf (Elt F) ℓ)

/-- The window of tile starts is the whole array. -/
theorem emb1 (t : Fin cfg0.N) (z : S36x224.Idx) : ((cfg0.win 1).blk t).view.emb z = z := by
  have e0 : win0_1.index t (0 : Fin 2) = 0 := rfl
  have e1 : win0_1.index t (1 : Fin 2) = 0 := rfl
  funext a; apply Fin.ext
  match a with
  | ⟨0, _⟩ => show win0_1.index t (0 : Fin 2) * 36 + 1 * (z 0).val = (z 0).val; omega
  | ⟨1, _⟩ => show win0_1.index t (1 : Fin 2) * 224 + 1 * (z 1).val = (z 1).val; omega

/-- The grid step's block of tile starts is the whole argument. -/
theorem startsAt_eq (c : Dev nD) (t : Fin cfg0.N) : startsAt m c t = m ((c.tc : Thread nD τ).loc main_arg2) := by
  rw [← V_main_arg2 m c]
  funext y
  show V m c main_arg2 (((cfg0.win 1).blk t).view.emb y) = V m c main_arg2 y
  rw [emb1]

/-- A start that is at least 0 and less than 128 · 21774 lies in a window that the buffer holds. -/
theorem start_bound (x : BitVec 32) (h0 : 0 ≤ x.toInt) (h1 : x.toInt < 2787072) : (x >>> 7).toNat + 8 ≤ 21781 := by
  have h := BitVec.toInt_eq_toNat_cond x
  have : (x >>> 7).toNat = x.toNat / 128 := by simp [BitVec.toNat_ushiftRight, Nat.shiftRight_eq_div_pow]
  split at h <;> omega

/-- Every start of `chunk` in range. -/
theorem inRange_of (h : ∀ (c : Dev nD) (r : Fin 36) (q : Fin 224), 0 ≤ ((m ((c.tc : Thread nD τ).loc main_arg2) : Vec F S36x224 .i32) (ix2 r q) : BitVec 32).toInt
      ∧ ((m ((c.tc : Thread nD τ).loc main_arg2) : Vec F S36x224 .i32) (ix2 r q) : BitVec 32).toInt < 2787072) : InRange m := by
  intro c t r q
  have := start_bound _ (h c r q).1 (h c r q).2
  rw [startsAt_eq]
  exact this

/-- One element of the predicate `in_range`. -/
theorem in_range_elem {a0 : IVec Cert.Pre_in_range.S22295336 8} {a1 : IVec Cert.Pre_in_range.S56x768x128 32} {a2 : IVec Cert.Pre_in_range.S36x224 32}
    {a3 : IVec Cert.Pre_in_range.S224x4608 32} (i : Cert.Pre_in_range.S36x224.Idx) (e : Cert.Pre_in_range.fn (F := F) a0 a1 a2 a3 i = 1#1) :
    0 ≤ (a2 i).toInt ∧ (a2 i).toInt < 2787072 := by
  simp only [Cert.Pre_in_range.fn, andi, cmpi, broadcastInDim, constantI] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e
  have h0 : (0#32 : BitVec 32).toInt = 0 := by decide
  have h4 : (2787072#32 : BitVec 32).toInt = 2787072 := by decide
  omega

end Cert.MainIdeal.Hand

namespace Cert.Proof

open Idealize.ShloMosaic Cert.MainIdeal Cert.MainIdeal.Hand

theorem inRange_of_pre (m : (ℓ : Loc nD τ sig) → Buf (Elt Ideal) ℓ) (h : Cert.Pre_MainIdeal m) : InRange m :=
  inRange_of m fun c r q => in_range_elem (ix2 r q) (congrFun (h c) (ix2 r q))

/-- `Cert.quiescent_MainIdeal` (Defs.lean). -/
theorem frame_MainIdeal : Cert.quiescent_MainIdeal := fun m ρ hpre =>
  (θ_run defs _ _).mono (fun _ h => ⟨fun c => kept m h.1 c, h.2⟩) (run_main (F := Ideal) ρ (inRange_of_pre m hpre))

end Cert.Proof
end
-- ==== Proof.Words.lean ====
/-
  The decode of a block's words in four stages: the choice between the window's two halves, the fixed permutation of bytes, the
  pick of the bits a column's block needs, and their spread into one byte per input.
-/
module

public import proofs.«01_k».proof.Proof.Printed
public import Idealize.ShloMosaic.Lib.ValueIdx
public import Idealize.ShloMosaic.Lib.Pointwise
public import Idealize.ShloMosaic.Lib.BitcastFour
public import Mathlib.Tactic.IntervalCases

@[expose] public section

namespace Cert.MainIdeal.Hand

open Cert.MainIdeal Cert.MainIdeal.Gen
open Idealize.ShloMosaic
open Idealize.ShloMosaic.ValueIdx hiding ix0 ix1 ix2 ix3 ix4 ix5

/-- The choice, per byte, between the window's first and second 4096 bytes. -/
def selV (K : Lanes) (st : BitVec 32) (a b : IVec S8x128 32) : IVec S8x128 32 :=
  let c127_i32_1408 : BitVec 32 := 127#32
  let v2601 : BitVec 32 := Scalar.andi st c127_i32_1408
  let c16843009_i32_1409 : BitVec 32 := 16843009#32
  let v2602 : BitVec 32 := Scalar.muli v2601 c16843009_i32_1409
  have v2603 : IVec S8x128 32 := broadcast S8x128 v2602
  have v2604 : IVec S8x128 32 := subi K.v57 v2603
  let c_m2139062144_i32_1410 : BitVec 32 := 2155905152#32
  have v2605 : IVec S8x128 32 := broadcast S8x128 c_m2139062144_i32_1410
  have v2606 : IVec S8x128 32 := andi v2604 v2605
  let c7_i32_1411 : BitVec 32 := 7#32
  have v2607 : IVec S8x128 32 := broadcast S8x128 c7_i32_1411
  have v2608 : IVec S8x128 32 := shrui v2606 v2607
  have v2609 : IVec S8x128 32 := subi v2606 v2608
  have v2610 : IVec S8x128 32 := ori v2609 v2606
  have v2611 : IVec S8x128 32 := xori a b
  have v2612 : IVec S8x128 32 := andi v2611 v2610
  have v2613 : IVec S8x128 32 := xori b v2612
  v2613

/-- The fixed permutation of the window's bytes. -/
def permV (K : Lanes) (v2613 : IVec S8x128 32) : IVec S8x128 32 :=
  have v2614 : IVec S8x128x1 32 := shapeCast S8x128x1 K.v59 shapeCasts_S8x128_S8x128x1
  have v2615 : IVec S8x128 32 := shapeCast S8x128 v2614 shapeCasts_S8x128x1_S8x128
  have v2616 : IVec S8x128 32 := dynamicGather 1 v2613 v2615
  let c16_i32_1412 : BitVec 32 := 16#32
  have v2617 : IVec S8x128 32 := broadcast S8x128 c16_i32_1412
  have v2618 : IVec S8x128 32 := shli v2616 v2617
  let c16_i32_1413 : BitVec 32 := 16#32
  have v2619 : IVec S8x128 32 := broadcast S8x128 c16_i32_1413
  have v2620 : IVec S8x128 32 := shrui v2616 v2619
  have v2621 : IVec S8x128 32 := ori v2618 v2620
  have v2622 : IVec S8x128 32 := xori v2613 v2621
  have v2623 : IVec S8x128 32 := andi v2622 K.v68
  have v2624 : IVec S8x128 32 := xori v2621 v2623
  have v2625 : IVec S8x128x1 32 := shapeCast S8x128x1 K.v61 shapeCasts_S8x128_S8x128x1
  have v2626 : IVec S8x128 32 := shapeCast S8x128 v2625 shapeCasts_S8x128x1_S8x128
  have v2627 : IVec S8x128 32 := dynamicGather 1 v2624 v2626
  let c8_i32_1414 : BitVec 32 := 8#32
  have v2628 : IVec S8x128 32 := broadcast S8x128 c8_i32_1414
  have v2629 : IVec S8x128 32 := shli v2627 v2628
  let c8_i32_1415 : BitVec 32 := 8#32
  have v2630 : IVec S8x128 32 := broadcast S8x128 c8_i32_1415
  have v2631 : IVec S8x128 32 := shrui v2627 v2630
  have v2632 : IVec S8x128 32 := select K.v72 v2629 v2631
  have v2633 : IVec S8x128 32 := xori v2624 v2632
  have v2634 : IVec S8x128 32 := andi v2633 K.v75
  have v2635 : IVec S8x128 32 := xori v2632 v2634
  have v2636 : IVec S8x128x1 32 := shapeCast S8x128x1 K.v92 shapeCasts_S8x128_S8x128x1
  have v2637 : IVec S8x128 32 := shapeCast S8x128 v2636 shapeCasts_S8x128x1_S8x128
  have v2638 : IVec S8x128 32 := dynamicGather 1 v2635 v2637
  have v2639 : IVec S8x128x1 32 := shapeCast S8x128x1 K.v80 shapeCasts_S8x128_S8x128x1
  have v2640 : IVec S8x128 32 := shapeCast S8x128 v2639 shapeCasts_S8x128x1_S8x128
  have v2641 : IVec S8x128 32 := dynamicGather 0 v2638 v2640
  v2641

/-- The bits a column's four inputs need. -/
def pickV (K : Lanes) (v2641 r0 r1 r2 r3 : IVec S8x128 32) : IVec S8x128 32 :=
  have v2642 : IVec S8x128 32 := addi r0 K.v98
  let c25_i32_1416 : BitVec 32 := 25#32
  have v2643 : IVec S8x128 32 := broadcast S8x128 c25_i32_1416
  have v2644 : IVec S8x128 32 := shrui v2642 v2643
  have v2645 : IVec S8x128x1 32 := shapeCast S8x128x1 v2644 shapeCasts_S8x128_S8x128x1
  have v2646 : IVec S8x128 32 := shapeCast S8x128 v2645 shapeCasts_S8x128x1_S8x128
  have v2647 : IVec S8x128 32 := dynamicGather 1 v2641 v2646
  have v2648 : IVec S8x128 32 := muli r2 K.v3
  have v2649 : IVec S8x128 32 := addi r1 v2648
  let c29_i32_1417 : BitVec 32 := 29#32
  have v2650 : IVec S8x128 32 := broadcast S8x128 c29_i32_1417
  have v2651 : IVec S8x128 32 := shrui v2649 v2650
  have v2652 : IVec S8x128x1 32 := shapeCast S8x128x1 v2651 shapeCasts_S8x128_S8x128x1
  have v2653 : IVec S8x128 32 := shapeCast S8x128 v2652 shapeCasts_S8x128x1_S8x128
  have v2654 : IVec S8x128 32 := dynamicGather 0 v2647 v2653
  have v2655 : IVec S8x128 32 := addi v2649 r3
  let c29_i32_1418 : BitVec 32 := 29#32
  have v2656 : IVec S8x128 32 := broadcast S8x128 c29_i32_1418
  have v2657 : IVec S8x128 32 := shrui v2655 v2656
  have v2658 : IVec S8x128x1 32 := shapeCast S8x128x1 v2657 shapeCasts_S8x128_S8x128x1
  have v2659 : IVec S8x128 32 := shapeCast S8x128 v2658 shapeCasts_S8x128x1_S8x128
  have v2660 : IVec S8x128 32 := dynamicGather 0 v2647 v2659
  let c24_i32_1419 : BitVec 32 := 24#32
  have v2661 : IVec S8x128 32 := broadcast S8x128 c24_i32_1419
  have v2662 : IVec S8x128 32 := shrui v2649 v2661
  let c31_i32_1420 : BitVec 32 := 31#32
  have v2663 : IVec S8x128 32 := broadcast S8x128 c31_i32_1420
  have v2664 : IVec S8x128 32 := andi v2662 v2663
  have v2665 : IVec S8x128 32 := shrui v2654 v2664
  let c32_i32_1421 : BitVec 32 := 32#32
  have v2666 : IVec S8x128 32 := broadcast S8x128 c32_i32_1421
  have v2667 : IVec S8x128 32 := subi v2666 v2664
  have v2668 : IVec S8x128 32 := shli v2660 v2667
  have v2669 : IVec S8x128 32 := ori v2665 v2668
  v2669

/-- The spread of those bits into four bytes. -/
def unpackV (v2669 r4 r5 r6 : IVec S8x128 32) : IVec S8x128 32 :=
  let c65535_i32_1422 : BitVec 32 := 65535#32
  have v2670 : IVec S8x128 32 := broadcast S8x128 c65535_i32_1422
  have v2671 : IVec S8x128 32 := andi v2669 v2670
  have v2672 : IVec S8x128 32 := shli v2669 r4
  have v2673 : IVec S8x128 32 := shli v2672 r4
  let c_m65536_i32_1423 : BitVec 32 := 4294901760#32
  have v2674 : IVec S8x128 32 := broadcast S8x128 c_m65536_i32_1423
  have v2675 : IVec S8x128 32 := andi v2673 v2674
  have v2676 : IVec S8x128 32 := ori v2671 v2675
  let c16711935_i32_1424 : BitVec 32 := 16711935#32
  have v2677 : IVec S8x128 32 := broadcast S8x128 c16711935_i32_1424
  have v2678 : IVec S8x128 32 := andi v2676 v2677
  have v2679 : IVec S8x128 32 := shli v2676 r4
  let c_m16711936_i32_1425 : BitVec 32 := 4278255360#32
  have v2680 : IVec S8x128 32 := broadcast S8x128 c_m16711936_i32_1425
  have v2681 : IVec S8x128 32 := andi v2679 v2680
  have v2682 : IVec S8x128 32 := ori v2678 v2681
  have v2683 : IVec S8x128 32 := andi v2682 r5
  let c2_i32_1426 : BitVec 32 := 2#32
  have v2684 : IVec S8x128 32 := broadcast S8x128 c2_i32_1426
  have v2685 : IVec S8x128 32 := shli v2682 v2684
  have v2686 : IVec S8x128 32 := andi v2685 r6
  have v2687 : IVec S8x128 32 := ori v2683 v2686
  v2687

theorem decWord_eq (K : Lanes) (st : BitVec 32) (a b r0 r1 r2 r3 r4 r5 r6 : IVec S8x128 32) :
    decWord K st a b r0 r1 r2 r3 r4 r5 r6 = unpackV (pickV K (permV K (selV K st a b)) r0 r1 r2 r3) r4 r5 r6 := rfl

theorem shl32 (u : ArithUnit) (x y : BitVec 32) : IntOp.shli u x y = x <<< y := by
  unfold IntOp.shli IntOp.cornerWord
  split
  · rfl
  · rename_i h
    simp only [ne_eq, not_true_eq_false, if_false]
    apply BitVec.eq_of_getLsbD_eq; intro i hi
    simp [BitVec.shiftLeft_eq', BitVec.getLsbD_shiftLeft]; omega

theorem shr32 (u : ArithUnit) (x y : BitVec 32) : IntOp.shrui u x y = x >>> y := by
  unfold IntOp.shrui IntOp.cornerWord
  split
  · rfl
  · rename_i h
    simp only [ne_eq, not_true_eq_false, if_false]
    apply BitVec.eq_of_getLsbD_eq; intro i hi
    simp only [BitVec.ushiftRight_eq', BitVec.getLsbD_ushiftRight]
    simp [BitVec.getLsbD_of_ge x (y.toNat + i) (by omega)]

/-- A reshape there and back. -/
theorem castcast (v : IVec S8x128 32) (h : S8x128.ShapeCasts S8x128x1) (h' : S8x128x1.ShapeCasts S8x128) : shapeCast S8x128 (shapeCast S8x128x1 v h) h' = v := by
  funext j
  show v _ = v j
  congr 1
  show Shape.reshapeEquiv h (Shape.reshapeEquiv h' j) = j
  simp [Shape.reshapeEquiv]

/-- A gather along the lanes. -/
theorem gather1 (x idx : IVec S8x128 32) (s : Fin 8) (l k : Fin 128) (h : (idx (ix2 s l)).toNat % 128 = k.val) :
    dynamicGather (1 : Fin 2) x idx (ix2 s l) = x (ix2 s k) := by
  show x _ = x _
  congr 1
  funext b
  match b with
  | ⟨0, _⟩ => rfl
  | ⟨1, _⟩ => exact Fin.ext h

/-- A gather along the rows. -/
theorem gather0 (x idx : IVec S8x128 32) (s k : Fin 8) (l : Fin 128) (h : (idx (ix2 s l)).toNat % 8 = k.val) :
    dynamicGather (0 : Fin 2) x idx (ix2 s l) = x (ix2 k l) := by
  show x _ = x _
  congr 1
  funext b
  match b with
  | ⟨0, _⟩ => exact Fin.ext h
  | ⟨1, _⟩ => rfl

end Cert.MainIdeal.Hand
-- ==== Proof.Sel.lean ====
/-
  The choice between the window's two halves: a byte comes from the first half when it lies at or after the tile's start.
-/
module

public import proofs.«01_k».proof.Proof.Words
public import Mathlib.Tactic.IntervalCases

@[expose] public section

namespace Cert.MainIdeal.Hand

open Cert.MainIdeal Cert.MainIdeal.Gen
open Idealize.ShloMosaic
open Idealize.ShloMosaic.ValueIdx hiding ix0 ix1 ix2 ix3 ix4 ix5

theorem v57_val : ∀ (s : Fin 8) (l : Fin 128), (lanes.v57 (ix2 s l)).toNat
    = (128 + min ((4 * s.val) * 16 + l.val / 8) 127) + (128 + min ((4 * s.val + 1) * 16 + l.val / 8) 127) * 256
      + (128 + min ((4 * s.val + 2) * 16 + l.val / 8) 127) * 65536 + (128 + min ((4 * s.val + 3) * 16 + l.val / 8) 127) * 16777216 := by
  decide +kernel

/-- One word of the choice. -/
def selEl (k y a b : BitVec 32) : BitVec 32 :=
  b ^^^ ((a ^^^ b) &&& ((((k - y * 16843009#32) &&& 2155905152#32) - (((k - y * 16843009#32) &&& 2155905152#32) >>> (7#32 : BitVec 32))) ||| ((k - y * 16843009#32) &&& 2155905152#32)))

theorem sel_elem (K : Lanes) (st : BitVec 32) (a b : IVec S8x128 32) (y : S8x128.Idx) : selV K st a b y = selEl (K.v57 y) (st &&& 127#32) (a y) (b y) := by
  simp only [selV, selEl, xori, andi, ori, subi, shrui, broadcast, IntOp.xori, IntOp.andi, IntOp.ori, IntOp.subi, shr32, Scalar.muli, Scalar.andi, IntOp.muli]

/-- The word with bits only at 7, 15, 23 and 31. -/
def top4 (b0 b1 b2 b3 : Bool) : BitVec 32 :=
  (if b0 then 128#32 else 0#32) ||| (if b1 then 32768#32 else 0#32) ||| (if b2 then 8388608#32 else 0#32) ||| (if b3 then 2147483648#32 else 0#32)

theorem top4_bit : ∀ (b0 b1 b2 b3 : Bool) (q : Fin 32), (top4 b0 b1 b2 b3).getLsbD q.val
    = if q.val = 7 then b0 else if q.val = 15 then b1 else if q.val = 23 then b2 else if q.val = 31 then b3 else false := by
  decide +kernel

theorem top4_spread : ∀ (b0 b1 b2 b3 : Bool) (q : Fin 32), ((top4 b0 b1 b2 b3 - top4 b0 b1 b2 b3 >>> (7#32 : BitVec 32)) ||| top4 b0 b1 b2 b3).getLsbD q.val
    = (top4 b0 b1 b2 b3).getLsbD (8 * (q.val / 8) + 7) := by
  decide +kernel

theorem topMask : ∀ q : Fin 32, (2155905152#32 : BitVec 32).getLsbD q.val = decide (q.val = 7 ∨ q.val = 15 ∨ q.val = 23 ∨ q.val = 31) := by
  decide +kernel

theorem top4_of (x : BitVec 32) (hx : x &&& 2155905152#32 = x) : x = top4 (x.getLsbD 7) (x.getLsbD 15) (x.getLsbD 23) (x.getLsbD 31) := by
  apply BitVec.eq_of_getLsbD_eq
  intro i hi
  rw [top4_bit _ _ _ _ ⟨i, hi⟩]
  have h : x.getLsbD i = (x.getLsbD i && (2155905152#32 : BitVec 32).getLsbD i) := by
    rw [← BitVec.getLsbD_and, hx]
  rw [topMask ⟨i, hi⟩] at h
  dsimp only at h ⊢
  split
  · rename_i e; rw [e]
  split
  · rename_i e; rw [e]
  split
  · rename_i e; rw [e]
  split
  · rename_i e; rw [e]
  rename_i h1 h2 h3 h4
  rw [h]
  simp [h1, h2, h3, h4]

theorem spread (x : BitVec 32) (q : Nat) (hq : q < 32) (hx : x &&& 2155905152#32 = x) :
    ((x - x >>> (7#32 : BitVec 32)) ||| x).getLsbD q = x.getLsbD (8 * (q / 8) + 7) := by
  rw [top4_of x hx]
  exact top4_spread _ _ _ _ ⟨q, hq⟩

/-- The top bit of byte `c` of a word with bytes `C0` … `C3`. -/
theorem topByte (C0 C1 C2 C3 v c : Nat) (h0 : C0 < 256) (h1 : C1 < 256) (h2 : C2 < 256) (h3 : C3 < 256)
    (hv : v = C0 + C1 * 256 + C2 * 65536 + C3 * 16777216) (hc : c < 4) :
    v / 2 ^ (8 * c + 7) % 2 = (if c = 0 then C0 else if c = 1 then C1 else if c = 2 then C2 else C3) / 128 := by
  have hc : c = 0 ∨ c = 1 ∨ c = 2 ∨ c = 3 := by omega
  rcases hc with h | h | h | h <;> subst h <;> simp only [Nat.reduceMul, Nat.reduceAdd, Nat.reducePow, Nat.reduceEqDiff, if_true, if_false] <;> omega

/-- A bit of the choice. -/
theorem sel_bit (st : BitVec 32) (a b : IVec S8x128 32) (s : Fin 8) (l : Fin 128) (q : Nat) (hq : q < 32) :
    (selV lanes st a b (ix2 s l)).getLsbD q
      = if (st &&& 127#32).toNat ≤ ((4 * s.val + q / 8) * 128 + l.val) / 8 then (a (ix2 s l)).getLsbD q else (b (ix2 s l)).getLsbD q := by
  rw [sel_elem, selEl]
  simp only [BitVec.getLsbD_xor, BitVec.getLsbD_and]
  rw [spread _ q hq (by rw [BitVec.and_assoc, BitVec.and_self])]
  have hy : (st &&& 127#32).toNat ≤ 127 := by
    rw [BitVec.toNat_and]; exact Nat.and_le_right
  generalize st &&& 127#32 = y at hy ⊢
  have hk := v57_val s l
  generalize lanes.v57 (ix2 s l) = k at hk ⊢
  have hm : (2155905152#32 : BitVec 32).getLsbD (8 * (q / 8) + 7) = true := by
    rw [topMask ⟨8 * (q / 8) + 7, by omega⟩]; simp only [decide_eq_true_eq]; omega
  have hym : (y * 16843009#32).toNat = y.toNat * 16843009 := by
    rw [BitVec.toNat_mul]; simp only [BitVec.toNat_ofNat]; omega
  have hs := s.isLt
  have hl := l.isLt
  have e : (k - y * 16843009#32).toNat = (128 + min ((4 * s.val) * 16 + l.val / 8) 127 - y.toNat) + (128 + min ((4 * s.val + 1) * 16 + l.val / 8) 127 - y.toNat) * 256
      + (128 + min ((4 * s.val + 2) * 16 + l.val / 8) 127 - y.toNat) * 65536 + (128 + min ((4 * s.val + 3) * 16 + l.val / 8) 127 - y.toNat) * 16777216 := by
    have g0 := Nat.le_add_right 128 (min ((4 * s.val) * 16 + l.val / 8) 127)
    have g1 := Nat.le_add_right 128 (min ((4 * s.val + 1) * 16 + l.val / 8) 127)
    have g2 := Nat.le_add_right 128 (min ((4 * s.val + 2) * 16 + l.val / 8) 127)
    have g3 := Nat.le_add_right 128 (min ((4 * s.val + 3) * 16 + l.val / 8) 127)
    generalize 128 + min ((4 * s.val) * 16 + l.val / 8) 127 = B0 at *
    generalize 128 + min ((4 * s.val + 1) * 16 + l.val / 8) 127 = B1 at *
    generalize 128 + min ((4 * s.val + 2) * 16 + l.val / 8) 127 = B2 at *
    generalize 128 + min ((4 * s.val + 3) * 16 + l.val / 8) 127 = B3 at *
    rw [BitVec.toNat_sub_of_le (by rw [BitVec.le_def, hym, hk]; omega), hym, hk]
    omega
  have hb : (k - y * 16843009#32).getLsbD (8 * (q / 8) + 7) = decide (y.toNat ≤ ((4 * s.val + q / 8) * 128 + l.val) / 8) := by
    rw [BitVec.getLsbD, Nat.testBit_eq_decide_div_mod_eq,
      topByte _ _ _ _ _ (q / 8) (by omega) (by omega) (by omega) (by omega) e (by omega)]
    congr 1
    apply propext
    have hc : q / 8 = 0 ∨ q / 8 = 1 ∨ q / 8 = 2 ∨ q / 8 = 3 := by omega
    rcases hc with h | h | h | h <;> rw [h] <;> simp only [Nat.reduceEqDiff, if_true, if_false] <;> omega
  rw [BitVec.getLsbD_and, hm, hb, Bool.and_true]
  by_cases h : y.toNat ≤ ((4 * s.val + q / 8) * 128 + l.val) / 8
  · rw [if_pos h, decide_eq_true h]
    cases (a (ix2 s l)).getLsbD q <;> cases (b (ix2 s l)).getLsbD q <;> rfl
  · rw [if_neg h, decide_eq_false h]
    cases (a (ix2 s l)).getLsbD q <;> cases (b (ix2 s l)).getLsbD q <;> rfl

end Cert.MainIdeal.Hand
-- ==== Proof.Unpack.lean ====
/-
  The spread of a block's bits: the byte of an input holds the input's code, moved to where the e4m3 format keeps its exponent,
  mantissa and sign.
-/
module

public import proofs.«01_k».proof.Proof.Words
public import Mathlib.Tactic.IntervalCases

@[expose] public section

namespace Cert.MainIdeal.Hand

open Cert.MainIdeal Cert.MainIdeal.Gen
open Idealize.ShloMosaic
open Idealize.ShloMosaic.ValueIdx hiding ix0 ix1 ix2 ix3 ix4 ix5

/-- One word of the spread. -/
def unpEl (u r4 r5 r6 : BitVec 32) : BitVec 32 :=
  let x := (u &&& 65535#32) ||| (((u <<< r4) <<< r4) &&& 4294901760#32)
  let z := (x &&& 16711935#32) ||| ((x <<< r4) &&& 4278255360#32)
  (z &&& r5) ||| ((z <<< (2#32 : BitVec 32)) &&& r6)

theorem unp_elem (u r4 r5 r6 : IVec S8x128 32) (y : S8x128.Idx) : unpackV u r4 r5 r6 y = unpEl (u y) (r4 y) (r5 y) (r6 y) := by
  simp only [unpackV, unpEl, andi, ori, shli, broadcast, IntOp.andi, IntOp.ori, shl32]

/-- Bit `8 k + e` of the spread word, from the bits of the picked word. -/
def zbit (t : Nat) (u : Nat → Bool) (k e : Nat) : Bool :=
  if t = 2 then u (8 * k + e)
  else if t = 1 then (if e < 5 then u (6 * k + e) else if e = 7 then u (6 * k + 5) else false)
  else (if e < 2 then false else if e < 5 then u (4 * k + e) else if e = 7 then u (4 * k + 5) else false)

theorem unp_bit8 (u : BitVec 32) (q : Nat) (hq : q < 32) : (unpEl u 0#32 4294967295#32 0#32).getLsbD q = zbit 2 u.getLsbD (q / 8) (q % 8) := by
  interval_cases q <;> simp [unpEl, zbit, BitVec.getLsbD_or, BitVec.getLsbD_and, BitVec.shiftLeft_eq', BitVec.getLsbD_shiftLeft, BitVec.getLsbD_ofNat]

theorem unp_bit6 (u : BitVec 32) (q : Nat) (hq : q < 32) : (unpEl u 2#32 522133279#32 2155905152#32).getLsbD q = zbit 1 u.getLsbD (q / 8) (q % 8) := by
  interval_cases q <;> simp [unpEl, zbit, BitVec.getLsbD_or, BitVec.getLsbD_and, BitVec.shiftLeft_eq', BitVec.getLsbD_shiftLeft, BitVec.getLsbD_ofNat]

theorem unp_bit4 (u : BitVec 32) (q : Nat) (hq : q < 32) : (unpEl u 4#32 471604252#32 2155905152#32).getLsbD q = zbit 0 u.getLsbD (q / 8) (q % 8) := by
  interval_cases q <;> simp [unpEl, zbit, BitVec.getLsbD_or, BitVec.getLsbD_and, BitVec.shiftLeft_eq', BitVec.getLsbD_shiftLeft, BitVec.getLsbD_ofNat]

end Cert.MainIdeal.Hand
-- ==== Proof.Elem.lean ====
/-
  The vector operations of the decode and of the products read at an index.
-/
module

public import proofs.«01_k».proof.Proof.Loop
public import Idealize.ShloMosaic.Lib.ValueIdx
public import Idealize.ShloMosaic.Lib.BitcastPair
public import Idealize.ShloMosaic.Lib.BitcastFour
public import Idealize.ShloMosaic.Lib.MatmulPlain

@[expose] public section

namespace Cert.MainIdeal.Hand

open Cert.MainIdeal Cert.MainIdeal.Gen
open Idealize.ShloMosaic
open Idealize.ShloMosaic.ValueIdx hiding ix0 ix1 ix2 ix3 ix4 ix5

/-- Words read as half words, at rank 2. -/
theorem half_elem {R r n : Nat} (x : (⟨2, ![r, n]⟩ : Shape).Idx → BitVec 32) (h : (⟨2, ![r, n]⟩ : Shape).Bitcasts 32 ⟨2, ![R, n]⟩ 16)
    (a : Fin R) (l : Fin n) (p : Fin r) (hp : p.val = a.val / 2) :
    bitcast ⟨2, ![R, n]⟩ 16 x h (ix2 a l) = (x (ix2 p l)).extractLsb' (16 * (a.val % 2)) 16 := by
  rw [bitcast_32_16]
  have e : ∀ hh, h.srcIdx (ix2 a l) ((⟨2, ![R, n]⟩ : Shape).row (ix2 a l) / 2) hh = ix2 p l := by
    intro hh
    funext c
    match c with
    | ⟨0, _⟩ => exact Fin.ext ((h.srcIdx_row _ _ hh ⟨0, Nat.zero_lt_two⟩ rfl).trans hp.symm)
    | ⟨1, _⟩ => exact Fin.ext (h.srcIdx_other _ _ hh ⟨1, Nat.one_lt_two⟩ (by show ¬ 1 + 2 = 2; omega))
  rw [e]
  rfl

/-- Words read as bytes, at rank 2: a bit. -/
theorem byte_bit {R r n : Nat} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) (q : Nat) (hq : q < 8) :
    (bitcast ⟨2, ![R, n]⟩ 8 x h (ix2 a l)).getLsbD q = (x (ix2 p l)).getLsbD (8 * (a.val % 4) + q) := by
  have hr : (⟨2, ![R, n]⟩ : Shape).row (ix2 a l) = a.val := rfl
  rw [bitcast_getLsbD x h _ q hq (by decide)]
  have e : ∀ hh, h.srcIdx (ix2 a l) (((⟨2, ![R, n]⟩ : Shape).row (ix2 a l) * 8 + q) / 32) hh = ix2 p l := by
    intro hh
    funext c
    match c with
    | ⟨0, _⟩ => exact Fin.ext ((h.srcIdx_row _ _ hh ⟨0, Nat.zero_lt_two⟩ rfl).trans (by rw [hr]; show _ = p.val; rw [hp]; omega))
    | ⟨1, _⟩ => exact Fin.ext (h.srcIdx_other _ _ hh ⟨1, Nat.one_lt_two⟩ (by show ¬ 1 + 2 = 2; omega))
  rw [e, hr]
  congr 1
  omega

variable {F : FTy → Type} [FloatOps F]

/-- Sixteen rows laid out in pairs. -/
theorem asPairs_elem (w : FVec F S16x128 .bf16) (p : Fin 8) (b : Fin 2) (l : Fin 128) :
    asPairs w (ix5 (0 : Fin 1) (0 : Fin 1) p b l) = w (ix2 ⟨2 * p.val + b.val, by omega⟩ l) := by
  have key : ∀ (a : Fin 2) (z : Fin 1), shapeCast S1x1x8x1x128 (shapeCast S1x1x8x128 (rowsOfParity a S8x128 w bitcasts_S16x128_w16_S8x128_w32) shapeCasts_S8x128_S1x1x8x128) shapeCasts_S1x1x8x128_S1x1x8x1x128 (ix5 (0 : Fin 1) (0 : Fin 1) p z l)
      = w (ix2 ⟨2 * p.val + a.val, by omega⟩ l) := by
    intro a z
    rw [shapeCast_apply _ _ _ (ix4 (0 : Fin 1) (0 : Fin 1) p l) (by
      rw [Shape.rowMajor_val_four, Shape.rowMajor_val_five]
      show ((0 * 1 + 0) * 8 + p.val) * 128 + l.val = (((0 * 1 + 0) * 8 + p.val) * 1 + z.val) * 128 + l.val
      omega)]
    rw [shapeCast_apply _ _ _ (ix2 p l) (by
      rw [Shape.rowMajor_val_four, Shape.rowMajor_val_two]
      show p.val * 128 + l.val = ((0 * 1 + 0) * 8 + p.val) * 128 + l.val
      omega)]
    show w _ = w _
    congr 1
    funext c
    match c with
    | ⟨0, _⟩ => rfl
    | ⟨1, _⟩ => rfl
  unfold asPairs
  rw [interleaveRows_apply]
  show (if b.val % 2 = 0 then _ else _) = _
  have hj : ∀ j : S1x1x8x1x128.Idx, (j 2).val = p.val → (j 4).val = l.val → j = ix5 (0 : Fin 1) (0 : Fin 1) p (0 : Fin 1) l := by
    intro j h2 h4
    funext c
    match c with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => exact Fin.ext h2
    | ⟨3, _⟩ => exact Fin.ext (by have h : (j 3).val < 1 := (j 3).isLt; show (j 3).val = 0; omega)
    | ⟨4, _⟩ => exact Fin.ext h4
  match b with
  | ⟨0, _⟩ =>
    refine (if_pos rfl).trans ?_
    exact (congrArg (shapeCast S1x1x8x1x128 (shapeCast S1x1x8x128 (rowsOfParity 0 S8x128 w bitcasts_S16x128_w16_S8x128_w32) shapeCasts_S8x128_S1x1x8x128) shapeCasts_S1x1x8x128_S1x1x8x1x128) (hj _ rfl rfl)).trans (key 0 0)
  | ⟨1, _⟩ =>
    refine (if_neg (show ¬ 1 % 2 = 0 by decide)).trans ?_
    exact (congrArg (shapeCast S1x1x8x1x128 (shapeCast S1x1x8x128 (rowsOfParity 1 S8x128 w bitcasts_S16x128_w16_S8x128_w32) shapeCasts_S8x128_S1x1x8x128) shapeCasts_S1x1x8x128_S1x1x8x1x128) (hj _ rfl rfl)).trans (key 1 0)

/-- One half of the right factor. -/
theorem rhsHalf_elem (W : Fin 2 → Fin 128 → Fin 2 → Fin 128 → F .bf16) (b : Fin 2) (kk : Fin 256) (l : Fin 128) :
    rhsHalf (wtVal W b) (ix2 kk l) = W b ⟨kk.val / 2, by omega⟩ ⟨kk.val % 2, by omega⟩ l := by
  have key : ∀ (a : Fin 2) (p : Fin 128), shapeCast S128x128 (shapeCast S1x1x128x128 (rowsOfParity a S1x1x128x1x128 (wtVal W b) bitcasts_S1x1x128x2x128_w16_S1x1x128x1x128_w32) shapeCasts_S1x1x128x1x128_S1x1x128x128) shapeCasts_S1x1x128x128_S128x128 (ix2 p l)
      = W b p a l := by
    intro a p
    rw [shapeCast_apply _ _ _ (ix4 (0 : Fin 1) (0 : Fin 1) p l) (by
      rw [Shape.rowMajor_val_four, Shape.rowMajor_val_two]
      show ((0 * 1 + 0) * 128 + p.val) * 128 + l.val = p.val * 128 + l.val
      omega)]
    rw [shapeCast_apply _ _ _ (ix5 (0 : Fin 1) (0 : Fin 1) p (0 : Fin 1) l) (by
      rw [Shape.rowMajor_val_four, Shape.rowMajor_val_five]
      show (((0 * 1 + 0) * 128 + p.val) * 1 + 0) * 128 + l.val = ((0 * 1 + 0) * 128 + p.val) * 128 + l.val
      omega)]
    show W b _ _ _ = W b p a l
    congr 1
    exact Fin.ext (by show 2 * 0 + a.val = a.val; omega)
  unfold rhsHalf
  rw [interleaveRows_apply]
  show (if kk.val % 2 = 0 then _ else _) = _
  have hj : ∀ j : S128x128.Idx, (j 0).val = kk.val / 2 → (j 1).val = l.val → j = ix2 ⟨kk.val / 2, by omega⟩ l := by
    intro j h2 h4
    funext c
    match c with
    | ⟨0, _⟩ => exact Fin.ext h2
    | ⟨1, _⟩ => exact Fin.ext h4
  by_cases h : kk.val % 2 = 0
  · rw [if_pos h]
    refine (congrArg (shapeCast S128x128 (shapeCast S1x1x128x128 (rowsOfParity 0 S1x1x128x1x128 (wtVal W b) bitcasts_S1x1x128x2x128_w16_S1x1x128x1x128_w32) shapeCasts_S1x1x128x1x128_S1x1x128x128) shapeCasts_S1x1x128x128_S128x128) (hj _ rfl rfl)).trans ((key 0 _).trans ?_)
    congr 1; exact Fin.ext h.symm
  · rw [if_neg h]
    refine (congrArg (shapeCast S128x128 (shapeCast S1x1x128x128 (rowsOfParity 1 S1x1x128x1x128 (wtVal W b) bitcasts_S1x1x128x2x128_w16_S1x1x128x1x128_w32) shapeCasts_S1x1x128x1x128_S1x1x128x128) shapeCasts_S1x1x128x128_S128x128) (hj _ rfl rfl)).trans ((key 1 _).trans ?_)
    congr 1; exact Fin.ext (by show 1 = kk.val % 2; omega)

theorem rhsOf_elem (W : Fin 2 → Fin 128 → Fin 2 → Fin 128 → F .bf16) (kk n : Fin 256) :
    rhsOf (wtVal W 0) (wtVal W 1) (ix2 kk n) = W ⟨n.val / 128, by omega⟩ ⟨kk.val / 2, by omega⟩ ⟨kk.val % 2, by omega⟩ ⟨n.val % 128, by omega⟩ := by
  unfold rhsOf
  by_cases h : n.val < 128
  · rw [concatenate_pair_apply_left (t := S256x256) (s₁ := S256x128) (s₂ := S256x128) 1 _ _ _ _ rfl (ix2 kk ⟨n.val, h⟩) (fun b => by
      match b with
      | ⟨0, _⟩ => rfl
      | ⟨1, _⟩ => rfl)]
    rw [rhsHalf_elem]
    congr 1
    · congr 1; congr 1; exact Fin.ext (by show 0 = n.val / 128; omega)
    · exact Fin.ext (by show n.val = n.val % 128; omega)
  · rw [concatenate_pair_apply_right (t := S256x256) (s₁ := S256x128) (s₂ := S256x128) 1 _ _ _ _ rfl rfl (ix2 kk ⟨n.val - 128, by omega⟩) (fun b hb => by
      match b with
      | ⟨0, _⟩ => rfl
      | ⟨1, _⟩ => exact absurd rfl hb) (by show n.val - 128 + 128 = n.val; omega)]
    rw [rhsHalf_elem]
    congr 1
    · congr 1; congr 1; exact Fin.ext (by show 1 = n.val / 128; omega)
    · exact Fin.ext (by show n.val - 128 = n.val % 128; omega)

/-- The bf16 at row `r` and column `kk` of a group of the activation words. -/
def actVal (a : Vec F S1x768x128 .i32) (r : Fin 1536) (l : Fin 128) : F .bf16 :=
  FloatOps.ofBits .bf16 ((a (ix3 (0 : Fin 1) ⟨r.val / 2, by omega⟩ l)).extractLsb' (16 * (r.val % 2)) 16)

theorem act_elem (a : Vec F S1x768x128 .i32) (r : Fin 1536) (l : Fin 128) :
    (bitcastToFloat .bf16 (bitcast S1536x128 16 (shapeCast S768x128 a shapeCasts_S1x768x128_S768x128) bitcasts_S768x128_w32_S1536x128_w16) : FVec F S1536x128 .bf16) (ix2 r l) = actVal a r l := by
  show FloatOps.ofBits .bf16 (bitcast S1536x128 16 (shapeCast S768x128 a shapeCasts_S1x768x128_S768x128) bitcasts_S768x128_w32_S1536x128_w16 (ix2 r l)) = _
  rw [half_elem _ _ r l ⟨r.val / 2, by omega⟩ rfl]
  rw [shapeCast_apply _ _ _ (ix3 (0 : Fin 1) ⟨r.val / 2, by omega⟩ l) (by
    rw [Shape.rowMajor_val_three, Shape.rowMajor_val_two]
    show (0 * 768 + r.val / 2) * 128 + l.val = r.val / 2 * 128 + l.val
    omega)]
  rfl

theorem lhsOf_elem (a0 a1 : Vec F S1x768x128 .i32) (r : Fin 1536) (kk : Fin 256) :
    lhsOf a0 a1 (ix2 r kk) = actVal (if kk.val < 128 then a0 else a1) r ⟨kk.val % 128, by omega⟩ := by
  unfold lhsOf
  by_cases h : kk.val < 128
  · rw [concatenate_pair_apply_left (t := S1536x256) (s₁ := S1536x128) (s₂ := S1536x128) 1 _ _ _ _ rfl (ix2 r ⟨kk.val, h⟩) (fun b => by
      match b with
      | ⟨0, _⟩ => rfl
      | ⟨1, _⟩ => rfl)]
    rw [act_elem, if_pos h]
    congr 1
    exact Fin.ext (by show kk.val = kk.val % 128; omega)
  · rw [concatenate_pair_apply_right (t := S1536x256) (s₁ := S1536x128) (s₂ := S1536x128) 1 _ _ _ _ rfl rfl (ix2 r ⟨kk.val - 128, by omega⟩) (fun b hb => by
      match b with
      | ⟨0, _⟩ => rfl
      | ⟨1, _⟩ => exact absurd rfl hb) (by show kk.val - 128 + 128 = kk.val; omega)]
    rw [act_elem, if_neg h]
    congr 1
    exact Fin.ext (by show kk.val - 128 = kk.val % 128; omega)

end Cert.MainIdeal.Hand
-- ==== Proof.Value.lean ====
/-
  What a code denotes: the reference's reading of a code in one of the three formats equals the kernel's, which rearranges the code into an
  8-bit float of the widest format and multiplies by a power of two. Both are multiplied by the block's scale.
-/
module

public import Idealize.ShloMosaic.PureOps.Ideal
public import Idealize.ShloMosaic.PureOps
public import Mathlib.Tactic.IntervalCases
public import Mathlib.Tactic.NormNum
public import Mathlib.Tactic.Ring
public import Mathlib.Tactic.FieldSimp

@[expose] public section

noncomputable section

namespace Cert.MainIdeal.Hand

open Idealize.ShloMosaic

/-- The reference's number of code bits, mantissa bits, exponent mask and bias at a tag. -/
def nBits (t : BitVec 32) : BitVec 32 := Scalar.select (IntOp.cmpi .eq t 0#32) 4#32 (Scalar.select (IntOp.cmpi .eq t 1#32) 6#32 8#32)
def mBits (t : BitVec 32) : BitVec 32 := Scalar.select (IntOp.cmpi .eq t 0#32) 1#32 3#32
def eMask (t : BitVec 32) : BitVec 32 := Scalar.select (IntOp.cmpi .eq t 2#32) 15#32 3#32
def biasOf (t : BitVec 32) : BitVec 32 := Scalar.select (IntOp.cmpi .eq t 2#32) 7#32 1#32
/-- A code's exponent and mantissa as words. -/
def expOf (t c : BitVec 32) : BitVec 32 := IntOp.andi (IntOp.shrsi .host c (mBits t)) (eMask t)
def manOf (t c : BitVec 32) : BitVec 32 := IntOp.andi c (IntOp.subi (IntOp.shli .host 1#32 (mBits t)) 1#32)
def signOf (t c : BitVec 32) : BitVec 32 := IntOp.andi (IntOp.shrsi .host c (IntOp.subi (nBits t) 1#32)) 1#32
/-- The mantissa as a fraction. -/
def fracOf (t c : BitVec 32) : EReal := Ideal.div (((manOf t c).toInt : ℝ) : EReal) (((IntOp.shli .host 1#32 (mBits t)).toInt : ℝ) : EReal)
/-- A code's magnitude. -/
def magOf (t c : BitVec 32) : EReal :=
  Scalar.select (IntOp.cmpi .eq (expOf t c) 0#32)
    (fracOf t c * Ideal.pow (Ideal.ofBits .f32 0x40000000#32) (((IntOp.subi 1#32 (biasOf t)).toInt : ℝ) : EReal))
    ((Ideal.ofBits .f32 0x3F800000#32 + fracOf t c) * Ideal.pow (Ideal.ofBits .f32 0x40000000#32) (((IntOp.subi (expOf t c) (biasOf t)).toInt : ℝ) : EReal))
/-- What a code denotes. -/
def wOf (t c : BitVec 32) : EReal :=
  Scalar.select (IntOp.andi (IntOp.cmpi .eq t 2#32) (IntOp.cmpi .eq (IntOp.andi c 127#32) 127#32)) (Ideal.ofBits .f32 0x7FC00000#32)
    (Scalar.select (IntOp.cmpi .eq (signOf t c) 1#32) (-(magOf t c)) (magOf t c))
/-- A block's scale. -/
def wsOf (μ : BitVec 32) : EReal := Ideal.pow (Ideal.ofBits .f32 0x40000000#32) (((IntOp.subi (IntOp.andi μ 255#32) 127#32).toInt : ℝ) : EReal)

theorem two_f32 : Ideal.ofBits .f32 0x40000000#32 = ((2 : ℝ) : EReal) := by
  have h1 : ((0x40000000#32 : BitVec 32).extractLsb' 31 1 == 1#1) = false := by decide
  have h2 : ((0x40000000#32 : BitVec 32).extractLsb' 23 8).toNat = 128 := by decide
  have h3 : ((0x40000000#32 : BitVec 32).extractLsb' 0 23).toNat = 0 := by decide
  show Ideal.ieee 8 23 (0x40000000#32 : BitVec 32) = _
  simp only [Ideal.ieee, h1, h2, h3]
  norm_num

theorem one_f32 : Ideal.ofBits .f32 0x3F800000#32 = ((1 : ℝ) : EReal) := by
  have h1 : ((0x3F800000#32 : BitVec 32).extractLsb' 31 1 == 1#1) = false := by decide
  have h2 : ((0x3F800000#32 : BitVec 32).extractLsb' 23 8).toNat = 127 := by decide
  have h3 : ((0x3F800000#32 : BitVec 32).extractLsb' 0 23).toNat = 0 := by decide
  show Ideal.ieee 8 23 (0x3F800000#32 : BitVec 32) = _
  simp only [Ideal.ieee, h1, h2, h3]
  norm_num

theorem nan_f32 : Ideal.ofBits .f32 0x7FC00000#32 = (⊥ : EReal) := by
  have h1 : ((0x7FC00000#32 : BitVec 32).extractLsb' 31 1 == 1#1) = false := by decide
  have h2 : ((0x7FC00000#32 : BitVec 32).extractLsb' 23 8).toNat = 255 := by decide
  have h3 : ((0x7FC00000#32 : BitVec 32).extractLsb' 0 23).toNat = 4194304 := by decide
  show Ideal.ieee 8 23 (0x7FC00000#32 : BitVec 32) = _
  simp only [Ideal.ieee, h1, h2, h3]
  norm_num

theorem pow_two (z : Int) : Ideal.pow (Ideal.ofBits .f32 0x40000000#32) ((z : ℝ) : EReal) = (((2 : ℝ) ^ z : ℝ) : EReal) := by
  rw [two_f32]
  show ((Real.rpow 2 (z : ℝ) : ℝ) : EReal) = _
  congr 1
  exact Real.rpow_intCast 2 z

/-- The scale as the kernel reads it: a bf16 with the scale byte as its exponent. -/
theorem scale_eq (μ : BitVec 32) (b : BitVec 16) (hb : b.toNat = μ.toNat % 256 * 128) (h1 : 1 ≤ μ.toNat % 256) (h2 : μ.toNat % 256 ≤ 254) :
    Ideal.ofBits .bf16 b = (((2 : ℝ) ^ ((μ.toNat % 256 : Nat) - 127 : Int) : ℝ) : EReal) ∧ wsOf μ = (((2 : ℝ) ^ ((μ.toNat % 256 : Nat) - 127 : Int) : ℝ) : EReal) := by
  have hs : (IntOp.subi (IntOp.andi μ 255#32) 127#32).toInt = ((μ.toNat % 256 : Nat) - 127 : Int) := by
    have ha : (μ &&& 255#32).toNat = μ.toNat % 256 := by
      rw [BitVec.toNat_and]; exact Nat.and_two_pow_sub_one_eq_mod _ 8
    show ((μ &&& 255#32) - 127#32).toInt = _
    rw [BitVec.toInt_sub, BitVec.toInt_eq_toNat_of_lt (by rw [ha]; omega), ha]
    show (((μ.toNat % 256 : Nat) : Int) - 127).bmod (2 ^ 32) = _
    rw [Int.bmod_eq_of_le (by omega) (by omega)]
  generalize μ.toNat % 256 = n at *
  constructor
  · have e0 : (b.extractLsb' 15 1 == 1#1) = false := by
      rw [beq_eq_false_iff_ne]
      intro h
      have := congrArg BitVec.toNat h
      rw [BitVec.extractLsb'_toNat, Nat.shiftRight_eq_div_pow, hb] at this
      change n * 128 / 32768 % 2 = 1 at this
      omega
    have e1 : (b.extractLsb' 7 8).toNat = n := by
      rw [BitVec.extractLsb'_toNat, Nat.shiftRight_eq_div_pow, hb]
      show n * 128 / 128 % 256 = n
      omega
    have e2 : (b.extractLsb' 0 7).toNat = 0 := by
      rw [BitVec.extractLsb'_toNat, Nat.shiftRight_eq_div_pow, hb]
      show n * 128 / 1 % 128 = 0
      omega
    show Ideal.ieee 8 7 b = _
    simp only [Ideal.ieee, e0, e1, e2]
    rw [if_neg (by omega), if_neg (by omega)]
    congr 1
    have h7 : (2 : ℝ) ^ 7 = (2 : ℝ) ^ (7 : Int) := by norm_num
    have : ((2 ^ 7 + 0 : Nat) : ℝ) = (2 : ℝ) ^ (7 : Int) := by norm_num
    rw [this]
    rw [if_neg (by decide), one_mul, ← zpow_add₀ (by norm_num)]
    congr 1
    norm_num
  · unfold wsOf
    rw [hs, pow_two]

/-- The fields of a code of each format, and of the byte it is rearranged into. -/
theorem fields (t c : BitVec 32) (z : BitVec 8) (E fr : Nat) (neg : Bool) (k : Int)
    (hE : (expOf t c).toNat = E) (hE16 : E < 16) (hM : ((manOf t c).toInt : ℝ) / ((IntOp.shli .host 1#32 (mBits t)).toInt : ℝ) = (fr : ℝ) / 8)
    (hM0 : (IntOp.shli .host 1#32 (mBits t)).toInt ≠ 0)
    (hB : (biasOf t).toInt = 7 - k) (hEi : (expOf t c).toInt = E) (hk : 0 ≤ k ∧ k ≤ 6)
    (hs1 : (IntOp.subi 1#32 (biasOf t)).toInt = 1 - (7 - k)) (hs2 : (IntOp.subi (expOf t c) (biasOf t)).toInt = E - (7 - k))
    (hz1 : (z.extractLsb' 3 4).toNat = E) (hz2 : (z.extractLsb' 0 3).toNat = fr) (hz3 : (z.extractLsb' 7 1 == 1#1) = neg)
    (hneg : IntOp.cmpi .eq (signOf t c) 1#32 = BitVec.ofBool neg)
    (hnan : IntOp.andi (IntOp.cmpi .eq t 2#32) (IntOp.cmpi .eq (IntOp.andi c 127#32) 127#32) = BitVec.ofBool (decide (E = 15 ∧ fr = 7)))
    (hE0 : IntOp.cmpi .eq (expOf t c) 0#32 = BitVec.ofBool (decide (E = 0))) :
    Ideal.e4m3fn z * (((2 : ℝ) ^ k : ℝ) : EReal) = wOf t c := by
  have hfr : fracOf t c = (((fr : ℝ) / 8 : ℝ) : EReal) := by
    unfold fracOf Ideal.div
    rw [if_neg (by rw [EReal.coe_eq_zero]; exact_mod_cast hM0), ← EReal.coe_inv, ← EReal.coe_mul, ← div_eq_mul_inv, hM]
  have hk0 : (0 : ℝ) < (2 : ℝ) ^ k := by positivity
  unfold wOf
  rw [hnan, hneg]
  simp only [Ideal.e4m3fn, hz1, hz2, hz3]
  by_cases hn : E = 15 ∧ fr = 7
  · rw [if_pos hn, decide_eq_true hn, nan_f32]
    exact EReal.bot_mul_coe_of_pos hk0
  · rw [if_neg hn, decide_eq_false hn]
    show _ = Scalar.select (BitVec.ofBool neg) (-(magOf t c)) (magOf t c)
    have hmag : magOf t c = (((if E = 0 then (fr : ℝ) * (2 : ℝ) ^ (-9 : Int) else ((8 + fr : Nat) : ℝ) * (2 : ℝ) ^ ((E : Int) - 10)) * (2 : ℝ) ^ k : ℝ) : EReal) := by
      unfold magOf
      rw [hE0, hs1, hs2, pow_two, pow_two, one_f32, hfr]
      by_cases h0 : E = 0
      · rw [decide_eq_true h0, if_pos h0]
        show ((fr : ℝ) / 8 : ℝ) * (((2 : ℝ) ^ (1 - (7 - k)) : ℝ) : EReal) = _
        rw [← EReal.coe_mul]
        congr 1
        rw [mul_assoc, ← zpow_add₀ (by norm_num), div_eq_mul_inv, mul_assoc, show (8 : ℝ)⁻¹ = (2 : ℝ) ^ (-3 : Int) by norm_num, ← zpow_add₀ (by norm_num)]
        congr 2
        ring
      · rw [decide_eq_false h0, if_neg h0]
        show ((1 : ℝ) + ((fr : ℝ) / 8 : ℝ) : EReal) * (((2 : ℝ) ^ ((E : Int) - (7 - k)) : ℝ) : EReal) = _
        rw [← EReal.coe_add, ← EReal.coe_mul]
        congr 1
        rw [mul_assoc, ← zpow_add₀ (by norm_num), show ((1 : ℝ) + (fr : ℝ) / 8) = ((8 + fr : Nat) : ℝ) * (2 : ℝ) ^ (-3 : Int) by push_cast; norm_num; ring, mul_assoc, ← zpow_add₀ (by norm_num)]
        congr 2
        ring
    rw [hmag]
    cases neg
    · show _ = (((if E = 0 then _ else _) * _ : ℝ) : EReal)
      by_cases h0 : E = 0
      · rw [if_pos h0, if_pos h0, ← EReal.coe_mul]; congr 1; simp
      · rw [if_neg h0, if_neg h0, ← EReal.coe_mul]; congr 1; simp
    · show _ = -(((if E = 0 then _ else _) * _ : ℝ) : EReal)
      rw [← EReal.coe_neg]
      by_cases h0 : E = 0
      · rw [if_pos h0, if_pos h0, ← EReal.coe_mul]; congr 1; simp
      · rw [if_neg h0, if_neg h0, ← EReal.coe_mul]; congr 1; simp; ring

/-- The byte a code is rearranged into. -/
def zNat (t n : Nat) : Nat := if t = 0 then n % 8 * 4 + n / 8 * 128 else if t = 1 then n % 32 + n / 32 * 128 else n

theorem fields2 : ∀ n : Fin 256, (fun (t c : BitVec 32) (z : BitVec 8) (E fr : Nat) (neg : Bool) =>
    (expOf t c).toNat = E ∧ (expOf t c).toInt = E ∧ (manOf t c).toInt = fr ∧ (IntOp.subi (expOf t c) (biasOf t)).toInt = E - (7 - 0)
    ∧ (z.extractLsb' 3 4).toNat = E ∧ (z.extractLsb' 0 3).toNat = fr ∧ (z.extractLsb' 7 1 == 1#1) = neg ∧ IntOp.cmpi .eq (signOf t c) 1#32 = BitVec.ofBool neg
    ∧ IntOp.andi (IntOp.cmpi .eq t 2#32) (IntOp.cmpi .eq (IntOp.andi c 127#32) 127#32) = BitVec.ofBool (decide (E = 15 ∧ fr = 7))
    ∧ IntOp.cmpi .eq (expOf t c) 0#32 = BitVec.ofBool (decide (E = 0))) (BitVec.ofNat 32 2) (BitVec.ofNat 32 n.val) (BitVec.ofNat 8 (zNat 2 n.val)) (n.val / 8 % 16) (n.val % 8) (decide (n.val / 128 = 1)) := by
  decide +kernel

theorem fields1 : ∀ n : Fin 64, (fun (t c : BitVec 32) (z : BitVec 8) (E fr : Nat) (neg : Bool) =>
    (expOf t c).toNat = E ∧ (expOf t c).toInt = E ∧ (manOf t c).toInt = fr ∧ (IntOp.subi (expOf t c) (biasOf t)).toInt = E - (7 - 6)
    ∧ (z.extractLsb' 3 4).toNat = E ∧ (z.extractLsb' 0 3).toNat = fr ∧ (z.extractLsb' 7 1 == 1#1) = neg ∧ IntOp.cmpi .eq (signOf t c) 1#32 = BitVec.ofBool neg
    ∧ IntOp.andi (IntOp.cmpi .eq t 2#32) (IntOp.cmpi .eq (IntOp.andi c 127#32) 127#32) = BitVec.ofBool (decide (E = 15 ∧ fr = 7))
    ∧ IntOp.cmpi .eq (expOf t c) 0#32 = BitVec.ofBool (decide (E = 0))) (BitVec.ofNat 32 1) (BitVec.ofNat 32 n.val) (BitVec.ofNat 8 (zNat 1 n.val)) (n.val / 8 % 4) (n.val % 8) (decide (n.val / 32 = 1)) := by
  decide +kernel

theorem fields0 : ∀ n : Fin 16, (fun (t c : BitVec 32) (z : BitVec 8) (E fr : Nat) (neg : Bool) =>
    (expOf t c).toNat = E ∧ (expOf t c).toInt = E ∧ (manOf t c).toInt = (fr / 4 : Nat) ∧ (IntOp.subi (expOf t c) (biasOf t)).toInt = E - (7 - 6)
    ∧ (z.extractLsb' 3 4).toNat = E ∧ (z.extractLsb' 0 3).toNat = fr ∧ (z.extractLsb' 7 1 == 1#1) = neg ∧ IntOp.cmpi .eq (signOf t c) 1#32 = BitVec.ofBool neg
    ∧ IntOp.andi (IntOp.cmpi .eq t 2#32) (IntOp.cmpi .eq (IntOp.andi c 127#32) 127#32) = BitVec.ofBool (decide (E = 15 ∧ fr = 7))
    ∧ IntOp.cmpi .eq (expOf t c) 0#32 = BitVec.ofBool (decide (E = 0))) (BitVec.ofNat 32 0) (BitVec.ofNat 32 n.val) (BitVec.ofNat 8 (zNat 0 n.val)) (n.val / 2 % 4) (4 * (n.val % 2)) (decide (n.val / 8 = 1)) := by
  decide +kernel

theorem bf16_pow (b : BitVec 16) (e : Nat) (h0 : (b.extractLsb' 15 1 == 1#1) = false) (h1 : (b.extractLsb' 7 8).toNat = e) (h2 : (b.extractLsb' 0 7).toNat = 0) (he : 1 ≤ e) (he' : e ≤ 254) :
    Ideal.ofBits .bf16 b = (((2 : ℝ) ^ ((e : Int) - 127) : ℝ) : EReal) := by
  show Ideal.ieee 8 7 b = _
  simp only [Ideal.ieee, h0, h1, h2]
  rw [if_neg (by omega), if_neg (by omega)]
  congr 1
  have : ((2 ^ 7 + 0 : Nat) : ℝ) = (2 : ℝ) ^ (7 : Int) := by norm_num
  rw [this]
  rw [if_neg (by decide), one_mul, ← zpow_add₀ (by norm_num)]
  congr 1
  norm_num

/-- The kernel's value of a code is the reference's. -/
theorem decode_eq (t n : Nat) (ht : t ≤ 2) (hn : n < 2 ^ (4 + 2 * t)) (z : BitVec 8) (hz : z.toNat = zNat t n) (fx : BitVec 16)
    (hfx : fx = if t = 2 then 0x3F80#16 else 0x4280#16) :
    Ideal.e4m3fn z * Ideal.ofBits .bf16 fx = wOf (BitVec.ofNat 32 t) (BitVec.ofNat 32 n) := by
  have hz' : z = BitVec.ofNat 8 (zNat t n) := by rw [← hz]; simp
  subst hz'
  have f0 : Ideal.ofBits .bf16 (0x3F80#16) = (((2 : ℝ) ^ (0 : Int) : ℝ) : EReal) := bf16_pow (0x3F80#16) 127 (by decide) (by decide) (by decide) (by decide) (by decide)
  have f6 : Ideal.ofBits .bf16 (0x4280#16) = (((2 : ℝ) ^ (6 : Int) : ℝ) : EReal) := bf16_pow (0x4280#16) 133 (by decide) (by decide) (by decide) (by decide) (by decide)
  subst hfx
  have h3 : t = 0 ∨ t = 1 ∨ t = 2 := by omega
  rcases h3 with h | h | h <;> subst h
  · obtain ⟨a1, a2, a3, a4, a5, a6, a7, a8, a9, a10⟩ := fields0 ⟨n, hn⟩
    rw [if_neg (by decide), f6]
    refine fields _ _ _ _ _ _ 6 a1 (by dsimp only; omega) ?_ (by decide) (by decide) a2 (by decide) (by decide) a4 a5 a6 a7 a8 a9 a10
    have e : (IntOp.shli .host 1#32 (mBits (BitVec.ofNat 32 0))).toInt = 2 := by decide
    rw [e, a3]
    dsimp only
    rw [Nat.mul_div_cancel_left _ (by decide : 0 < 4)]
    generalize n % 2 = x
    push_cast
    ring
  · obtain ⟨a1, a2, a3, a4, a5, a6, a7, a8, a9, a10⟩ := fields1 ⟨n, hn⟩
    rw [if_neg (by decide), f6]
    refine fields _ _ _ _ _ _ 6 a1 (by dsimp only; omega) ?_ (by decide) (by decide) a2 (by decide) (by decide) a4 a5 a6 a7 a8 a9 a10
    have e : (IntOp.shli .host 1#32 (mBits (BitVec.ofNat 32 1))).toInt = 8 := by decide
    rw [e, a3]
    push_cast
    rfl
  · obtain ⟨a1, a2, a3, a4, a5, a6, a7, a8, a9, a10⟩ := fields2 ⟨n, hn⟩
    rw [if_pos rfl, f0]
    refine fields _ _ _ _ _ _ 0 a1 (by dsimp only; omega) ?_ (by decide) (by decide) a2 (by decide) (by decide) a4 a5 a6 a7 a8 a9 a10
    have e : (IntOp.shli .host 1#32 (mBits (BitVec.ofNat 32 2))).toInt = 8 := by decide
    rw [e, a3]
    push_cast
    rfl

end Cert.MainIdeal.Hand
end
-- ==== Proof.BlockBits.lean ====
/-
  The bits of a block: where the windows hold them, and the byte that a code of the block becomes.
-/
module

public import proofs.«01_k».proof.Proof.Sel
public import proofs.«01_k».proof.Proof.Unpack
public import proofs.«01_k».proof.Proof.Elem
public import proofs.«01_k».proof.Proof.Value
public import Idealize.ShloMosaic.Lib.BitcastFour

@[expose] public section

noncomputable section

namespace Cert.MainIdeal.Hand

open Cert.MainIdeal Cert.MainIdeal.Gen
open Idealize.ShloMosaic
open Idealize.ShloMosaic.ValueIdx hiding ix0 ix1 ix2 ix3 ix4 ix5

/-- An arithmetic shift whose sign bits are masked away. -/
theorem sshr_mask (x : BitVec 32) (k j : Nat) (h : k + j ≤ 32) : (x.sshiftRight k &&& BitVec.ofNat 32 (2 ^ j - 1)).toNat = x.toNat / 2 ^ k % 2 ^ j := by
  refine Nat.eq_of_testBit_eq fun i => ?_
  rw [BitVec.testBit_toNat, BitVec.getLsbD_and, BitVec.getLsbD_sshiftRight, BitVec.getLsbD_ofNat, Nat.testBit_two_pow_sub_one, Nat.testBit_mod_two_pow, Nat.testBit_div_two_pow]
  by_cases hi : i < j
  · rw [decide_eq_true hi, decide_eq_false (show ¬ 32 ≤ i by omega), if_pos (show k + i < 32 by omega), decide_eq_true (show i < 32 by omega), BitVec.testBit_toNat, Nat.add_comm i k]
    simp
  · rw [decide_eq_false hi]
    simp

/-- Bit `e` of byte `P` of the stream on chip. -/
def sbit (R7 : IVec S21781x8x128 8) (P e : Nat) : Bool :=
  if h : P < 21781 * 1024 then (R7 (ix3 ⟨P / 1024, by omega⟩ ⟨P / 128 % 8, by omega⟩ ⟨P % 128, by omega⟩)).getLsbD e else false

theorem sbit_at (R7 : IVec S21781x8x128 8) (P : Nat) (a : Fin 21781) (b : Fin 8) (c : Fin 128) (e : Nat) (hP : P < 21781 * 1024)
    (ha : P / 1024 = a.val) (hb : P / 128 % 8 = b.val) (hc : P % 128 = c.val) : sbit R7 P e = (R7 (ix3 a b c)).getLsbD e := by
  unfold sbit
  rw [dif_pos hP]
  refine congrArg (fun z => (R7 z).getLsbD e) ?_
  funext d; apply Fin.ext
  match d with
  | ⟨0, _⟩ => exact ha
  | ⟨1, _⟩ => exact hb
  | ⟨2, _⟩ => exact hc

theorem win_arith : ∀ (s : Fin 8) (k : Fin 4) (l : Fin 128),
    ((4 * s.val + k.val) * 128 + l.val) / 1024 = (4 * s.val + k.val) / 8 ∧ ((4 * s.val + k.val) * 128 + l.val) / 128 % 8 = (4 * s.val + k.val) % 8
      ∧ ((4 * s.val + k.val) * 128 + l.val) % 128 = l.val ∧ ((4 * s.val + k.val) * 128 + l.val) < 4096 := by
  decide +kernel

/-- A bit of a window of four tiles. -/
theorem win_bit (R7 : IVec S21781x8x128 8) (n : Nat) (hn : n + 4 ≤ 21781) (s : Fin 8) (l : Fin 128) (q : Nat) (hq : q < 32) :
    (asWords (F := Ideal) (wnd (F := Ideal) R7 n) (ix2 s l)).getLsbD q = sbit R7 (n * 1024 + ((4 * s.val + q / 8) * 128 + l.val)) (q % 8) := by
  obtain ⟨a1, a2, a3, a4⟩ := win_arith s ⟨q / 8, by omega⟩ l
  dsimp only at a1 a2 a3 a4
  have hk : 4 * s.val + q / 8 < 32 := by omega
  unfold asWords
  refine (bitcast_8_32_getLsbD_ix2 (shapeCast S32x128 (wnd (F := Ideal) R7 n) shapeCasts_S4x8x128_S32x128) bitcasts_S32x128_w8_S8x128_w32 s l q hq ⟨4 * s.val + q / 8, hk⟩ rfl).trans ?_
  have hx : shapeCast S32x128 (wnd (F := Ideal) R7 n) shapeCasts_S4x8x128_S32x128 (ix2 (⟨4 * s.val + q / 8, hk⟩ : Fin 32) l)
      = R7 (ix3 ⟨n + (4 * s.val + q / 8) / 8, by omega⟩ ⟨(4 * s.val + q / 8) % 8, by omega⟩ l) := by
    refine (shapeCast_apply _ _ _ (ix3 ⟨(4 * s.val + q / 8) / 8, by omega⟩ ⟨(4 * s.val + q / 8) % 8, by omega⟩ l) ?_).trans ?_
    · rw [Shape.rowMajor_val_three]
      refine Eq.trans ?_ (Shape.rowMajor_val_two (ix2 (⟨4 * s.val + q / 8, hk⟩ : Fin 32) l : S32x128.Idx)).symm
      show ((4 * s.val + q / 8) / 8 * 8 + (4 * s.val + q / 8) % 8) * 128 + l.val = (4 * s.val + q / 8) * 128 + l.val
      omega
    · have hw : ∀ a, (![n, 0, 0] : Fin 3 → Nat) a + S4x8x128.size a ≤ S21781x8x128.size a := by
        intro a
        match a with
        | ⟨0, _⟩ => exact hn
        | ⟨1, _⟩ => exact Nat.le_refl 8
        | ⟨2, _⟩ => exact Nat.le_refl 128
      unfold wnd
      rw [dif_pos hw]
      refine congrArg R7 ?_
      funext a; apply Fin.ext
      match a with
      | ⟨0, _⟩ => show n + 1 * ((4 * s.val + q / 8) / 8) = n + (4 * s.val + q / 8) / 8; omega
      | ⟨1, _⟩ => show 0 + 1 * ((4 * s.val + q / 8) % 8) = (4 * s.val + q / 8) % 8; omega
      | ⟨2, _⟩ => show 0 + 1 * l.val = l.val; omega
  refine (congrArg (fun x : BitVec 8 => x.getLsbD (q % 8)) hx).trans ?_
  exact (sbit_at R7 _ _ _ l _ (by omega) (by dsimp only; omega) (by dsimp only; omega) (by omega)).symm

/-- A bit of the selected window, by the byte's number in it. -/
def cbOf (R7 : IVec S21781x8x128 8) (st : BitVec 32) (p e : Nat) : Bool :=
  if (st &&& 127#32).toNat ≤ p / 8 then sbit R7 (st.toNat / 128 * 1024 + p) e else sbit R7 ((st.toNat / 128 + 4) * 1024 + p) e

theorem start_div (st : BitVec 32) : (st >>> 7).toNat = st.toNat / 128 := by
  simp [BitVec.toNat_ushiftRight, Nat.shiftRight_eq_div_pow]

theorem start_div4 (st : BitVec 32) (h : st.toNat / 128 + 8 ≤ 21781) : ((st >>> 7) + 4#32).toNat = st.toNat / 128 + 4 := by
  rw [BitVec.toNat_add, start_div]
  show (st.toNat / 128 + 4) % 4294967296 = _
  omega

theorem selw_bit (R7 : IVec S21781x8x128 8) (st : BitVec 32) (h : st.toNat / 128 + 8 ≤ 21781) (s : Fin 8) (l : Fin 128) (q : Nat) (hq : q < 32) :
    (selV lanes st (asWords (F := Ideal) (wnd (F := Ideal) R7 (st >>> 7).toNat)) (asWords (F := Ideal) (wnd (F := Ideal) R7 ((st >>> 7) + 4#32).toNat)) (ix2 s l)).getLsbD q
      = cbOf R7 st ((4 * s.val + q / 8) * 128 + l.val) (q % 8) := by
  rw [sel_bit _ _ _ _ _ _ hq, start_div, start_div4 st h, win_bit R7 _ (by omega) s l q hq, win_bit R7 _ (by omega) s l q hq]
  rfl

theorem wrap_arith (v mw d j L : Nat) (hv : v < 128) (hm : mw < 1024) (hd : d < L) (hL : (mw + 1024 - 2 * v) % 1024 + L ≤ 1024) (hj : j < 4) :
    (v ≤ (4 * ((mw + d) % 1024) + j) / 8 → 4 * ((mw + d) % 1024) + j = 4 * (2 * v + (mw + 1024 - 2 * v) % 1024) + 4 * d + j)
      ∧ (¬ v ≤ (4 * ((mw + d) % 1024) + j) / 8 → 4096 + (4 * ((mw + d) % 1024) + j) = 4 * (2 * v + (mw + 1024 - 2 * v) % 1024) + 4 * d + j) := by
  by_cases h : 2 * v ≤ mw
  · have e : (mw + 1024 - 2 * v) % 1024 = mw - 2 * v := by omega
    rw [e] at hL ⊢
    clear e
    by_cases h2 : mw + d < 1024
    · rw [Nat.mod_eq_of_lt h2]; omega
    · have e2 : (mw + d) % 1024 = mw + d - 1024 := by omega
      rw [e2]; clear e2; omega
  · have e : (mw + 1024 - 2 * v) % 1024 = mw + 1024 - 2 * v := Nat.mod_eq_of_lt (by omega)
    rw [e] at hL ⊢
    clear e
    rw [Nat.mod_eq_of_lt (show mw + d < 1024 by omega)]
    omega

/-- The words of a block lie in the stream one after another. -/
theorem cb_stream (R7 : IVec S21781x8x128 8) (st : BitVec 32) (mw y L e : Nat) (hm : mw < 1024) (hy : y / 32 < L)
    (hL : (mw + 1024 - 2 * (st.toNat % 128)) % 1024 + L ≤ 1024) :
    cbOf R7 st (4 * ((mw + y / 32) % 1024) + y % 32 / 8) e
      = sbit R7 (st.toNat / 128 * 1024 + 4 * (2 * (st.toNat % 128) + (mw + 1024 - 2 * (st.toNat % 128)) % 1024) + y / 8) e := by
  have hv : (st &&& 127#32).toNat = st.toNat % 128 := by
    rw [BitVec.toNat_and]; exact Nat.and_two_pow_sub_one_eq_mod _ 7
  have hj : y % 32 / 8 < 4 := by omega
  have h8 : y / 8 = 4 * (y / 32) + y % 32 / 8 := by omega
  obtain ⟨w1, w2⟩ := wrap_arith (st.toNat % 128) mw (y / 32) (y % 32 / 8) L (Nat.mod_lt _ (by decide)) hm hy hL hj
  unfold cbOf
  rw [hv, h8]
  generalize 4 * ((mw + y / 32) % 1024) + y % 32 / 8 = p at w1 w2 ⊢
  generalize 4 * (2 * (st.toNat % 128) + (mw + 1024 - 2 * (st.toNat % 128)) % 1024) = b at w1 w2 ⊢
  generalize st.toNat / 128 = n
  by_cases h : st.toNat % 128 ≤ p / 8
  · rw [if_pos h, w1 h]
    exact congrArg (fun x => sbit R7 x e) (by omega)
  · rw [if_neg h]
    have := w2 h
    exact congrArg (fun x => sbit R7 x e) (by omega)

/-- Bits of the byte that holds a code of the 4-bit format. -/
theorem znat0 : ∀ (n : Fin 16) (e : Fin 8), (zNat 0 n.val).testBit e.val = if e.val < 2 then false else if e.val < 5 then n.val.testBit (e.val - 2) else if e.val = 7 then n.val.testBit 3 else false := by
  decide +kernel
/-- Bits of the byte that holds a code of the 6-bit format. -/
theorem znat1 : ∀ (n : Fin 64) (e : Fin 8), (zNat 1 n.val).testBit e.val = if e.val < 5 then n.val.testBit e.val else if e.val = 7 then n.val.testBit 5 else false := by
  decide +kernel

theorem znat_lt (t n : Nat) (ht : t ≤ 2) (hn : n < 2 ^ (4 + 2 * t)) : zNat t n < 256 := by
  unfold zNat
  rcases (by omega : t = 0 ∨ t = 1 ∨ t = 2) with h | h | h <;> subst h
  · have : n < 16 := hn
    rw [if_pos rfl]; omega
  · have : n < 64 := hn
    rw [if_neg (by decide), if_pos rfl]; omega
  · have : n < 256 := hn
    rw [if_neg (by decide), if_neg (by decide)]; exact this

/-- The byte of input `4 s + k`, from the bits of the block: `g j` is bit `j` of the block, `u B` bit `B` of the picked word of row `s`. -/
theorem byte_of_bits (t s k n : Nat) (ht : t ≤ 2) (hk : k < 4) (g u : Nat → Bool)
    (hu : ∀ B, (if t = 0 then 2 else 0) ≤ B → B ≤ (if t = 0 then 17 else if t = 1 then 23 else 31) → u B = g (8 * s * (t + 2) + B - (if t = 0 then 2 else 0)))
    (hn : ∀ e, n.testBit e = (decide (e < 4 + 2 * t) && g ((4 + 2 * t) * (4 * s + k) + e)))
    (z : BitVec 8) (hz : ∀ e, e < 8 → z.getLsbD e = zbit t u k e) : n < 2 ^ (4 + 2 * t) ∧ z.toNat = zNat t n := by
  have hlt : n < 2 ^ (4 + 2 * t) := Nat.lt_pow_two_of_testBit _ (fun i hi => by rw [hn, decide_eq_false (by omega)]; rfl)
  refine ⟨hlt, ?_⟩
  suffices h : z = BitVec.ofNat 8 (zNat t n) by
    rw [h, BitVec.toNat_ofNat]; exact Nat.mod_eq_of_lt (znat_lt t n ht hlt)
  refine BitVec.eq_of_getLsbD_eq fun e he => ?_
  rw [hz e he, BitVec.getLsbD_ofNat, decide_eq_true he, Bool.true_and]
  rcases (by omega : t = 0 ∨ t = 1 ∨ t = 2) with h | h | h <;> subst h
  · have h0 := znat0 ⟨n, hlt⟩ ⟨e, he⟩
    dsimp only at h0
    rw [h0]
    simp only [zbit, if_neg (show ¬ (0 : Nat) = 2 by decide), if_neg (show ¬ (0 : Nat) = 1 by decide)]
    simp only [if_pos] at hu
    by_cases h2 : e < 2
    · rw [if_pos h2, if_pos h2]
    · rw [if_neg h2, if_neg h2]
      by_cases h5 : e < 5
      · rw [if_pos h5, if_pos h5, hu _ (by omega) (by omega), hn, decide_eq_true (by omega), Bool.true_and]
        exact congrArg g (by omega)
      · rw [if_neg h5, if_neg h5]
        by_cases h7 : e = 7
        · rw [if_pos h7, if_pos h7, hu _ (by omega) (by omega), hn, decide_eq_true (by omega), Bool.true_and]
          exact congrArg g (by omega)
        · rw [if_neg h7, if_neg h7]
  · have h0 := znat1 ⟨n, hlt⟩ ⟨e, he⟩
    dsimp only at h0
    rw [h0]
    simp only [zbit, if_neg (show ¬ (1 : Nat) = 2 by decide), if_pos]
    simp only [if_neg (show ¬ (1 : Nat) = 0 by decide), if_pos] at hu
    by_cases h5 : e < 5
    · rw [if_pos h5, if_pos h5, hu _ (by omega) (by omega), hn, decide_eq_true (by omega), Bool.true_and]
      exact congrArg g (by omega)
    · rw [if_neg h5, if_neg h5]
      by_cases h7 : e = 7
      · rw [if_pos h7, if_pos h7, hu _ (by omega) (by omega), hn, decide_eq_true (by omega), Bool.true_and]
        exact congrArg g (by omega)
      · rw [if_neg h7, if_neg h7]
  · have hz2 : zNat 2 n = n := by unfold zNat; rw [if_neg (by decide), if_neg (by decide)]
    rw [hz2]
    simp only [zbit, if_pos]
    simp only [if_neg (show ¬ (2 : Nat) = 0 by decide), if_neg (show ¬ (2 : Nat) = 1 by decide)] at hu
    rw [hu _ (by omega) (by omega), hn, decide_eq_true (by omega), Bool.true_and]
    exact congrArg g (by omega)

end Cert.MainIdeal.Hand
end
-- ==== Proof.Perm.lean ====
/-
  The fixed permutation of the window's bytes: the word at (s, l) comes to hold four consecutive bytes of the window.
-/
module

public import proofs.«01_k».proof.Proof.Words
public import Mathlib.Tactic.IntervalCases

@[expose] public section

namespace Cert.MainIdeal.Hand

open Cert.MainIdeal Cert.MainIdeal.Gen
open Idealize.ShloMosaic
open Idealize.ShloMosaic.ValueIdx hiding ix0 ix1 ix2 ix3 ix4 ix5

/-- The lane constants of the permutation. -/
theorem v59_val : ∀ (s : Fin 8) (l : Fin 128), (lanes.v59 (ix2 s l)).toNat = if l.val / 2 % 2 = 0 then l.val + 2 else l.val - 2 := by
  decide +kernel

theorem v61_val : ∀ (s : Fin 8) (l : Fin 128), (lanes.v61 (ix2 s l)).toNat = if l.val % 2 = 0 then l.val + 1 else l.val - 1 := by
  decide +kernel

theorem v68_val : ∀ (s : Fin 8) (l : Fin 128), lanes.v68 (ix2 s l) = if l.val / 2 % 2 = 0 then 65535#32 else 4294901760#32 := by
  decide +kernel

theorem v72_val : ∀ (s : Fin 8) (l : Fin 128), lanes.v72 (ix2 s l) = if l.val % 2 = 0 then 1#1 else 0#1 := by
  decide +kernel

theorem v75_val : ∀ (s : Fin 8) (l : Fin 128), lanes.v75 (ix2 s l) = if l.val % 2 = 0 then 16711935#32 else 4278255360#32 := by
  decide +kernel

theorem v80_val : ∀ (s : Fin 8) (l : Fin 128), (lanes.v80 (ix2 s l)).toNat = (l.val / 16 + 8 - s.val) % 8 := by
  decide +kernel

theorem v92_val : ∀ (s : Fin 8) (l : Fin 128), (lanes.v92 (ix2 s l)).toNat = 4 * (8 * (l.val % 4) + (l.val / 16 + 8 - s.val) % 8) + l.val / 4 % 4 := by
  decide +kernel

theorem mask16 : ∀ q : Fin 32, (65535#32 : BitVec 32).getLsbD q.val = decide (q.val / 16 = 0) ∧ (4294901760#32 : BitVec 32).getLsbD q.val = decide (q.val / 16 = 1) := by
  decide +kernel

theorem mask8 : ∀ q : Fin 32, (16711935#32 : BitVec 32).getLsbD q.val = decide (q.val / 8 % 2 = 0) ∧ (4278255360#32 : BitVec 32).getLsbD q.val = decide (q.val / 8 % 2 = 1) := by
  decide +kernel

/-- The exchange of half words between lanes that differ in their second bit. -/
def swap16 (K : Lanes) (w : IVec S8x128 32) : IVec S8x128 32 := fun y =>
  let g := dynamicGather (1 : Fin 2) w K.v59 y
  let r := g <<< (16#32 : BitVec 32) ||| g >>> (16#32 : BitVec 32)
  r ^^^ ((w y ^^^ r) &&& K.v68 y)

/-- The exchange of bytes between neighbouring lanes. -/
def swap8 (K : Lanes) (w : IVec S8x128 32) : IVec S8x128 32 := fun y =>
  let g := dynamicGather (1 : Fin 2) w K.v61 y
  let r := bif K.v72 y == 1#1 then g <<< (8#32 : BitVec 32) else g >>> (8#32 : BitVec 32)
  r ^^^ ((w y ^^^ r) &&& K.v75 y)

theorem perm_eq (K : Lanes) (w : IVec S8x128 32) :
    permV K w = dynamicGather (0 : Fin 2) (dynamicGather (1 : Fin 2) (swap8 K (swap16 K w)) K.v92) K.v80 := by
  have e1 : ∀ w : IVec S8x128 32, xori (ori (shli (dynamicGather (1 : Fin 2) w K.v59) (broadcast S8x128 16#32)) (shrui (dynamicGather (1 : Fin 2) w K.v59) (broadcast S8x128 16#32)))
      (andi (xori w (ori (shli (dynamicGather (1 : Fin 2) w K.v59) (broadcast S8x128 16#32)) (shrui (dynamicGather (1 : Fin 2) w K.v59) (broadcast S8x128 16#32)))) K.v68) = swap16 K w := by
    intro w; funext y
    simp only [swap16, xori, andi, ori, shli, shrui, broadcast, IntOp.xori, IntOp.andi, IntOp.ori, shr32, shl32]
  have e2 : ∀ w : IVec S8x128 32, xori (select K.v72 (shli (dynamicGather (1 : Fin 2) w K.v61) (broadcast S8x128 8#32)) (shrui (dynamicGather (1 : Fin 2) w K.v61) (broadcast S8x128 8#32)))
      (andi (xori w (select K.v72 (shli (dynamicGather (1 : Fin 2) w K.v61) (broadcast S8x128 8#32)) (shrui (dynamicGather (1 : Fin 2) w K.v61) (broadcast S8x128 8#32)))) K.v75) = swap8 K w := by
    intro w; funext y
    simp only [swap8, xori, andi, select, shli, shrui, broadcast, IntOp.xori, IntOp.andi, shr32, shl32]
    by_cases h : K.v72 y = 1#1
    · simp [h, Scalar.select]
    · have hb : (K.v72 y == 1#1) = false := beq_eq_false_iff_ne.mpr h
      simp only [Scalar.select, hb, cond_false]
      rw [if_neg (show ¬ K.v72 y = 1 from h)]
  simp only [permV, castcast]
  rw [e1, e2]

theorem xor_keep (a b : Bool) : (a ^^ ((b ^^ a) && true)) = b := by
  cases a <;> cases b <;> rfl

theorem xor_drop (a b : Bool) : (a ^^ ((b ^^ a) && false)) = a := by
  cases a <;> cases b <;> rfl

theorem rot_lo (x : BitVec 32) (q : Nat) (h : q < 16) : (x <<< (16#32 : BitVec 32) ||| x >>> (16#32 : BitVec 32)).getLsbD q = x.getLsbD (16 + q) := by
  rw [BitVec.getLsbD_or, BitVec.shiftLeft_eq', BitVec.ushiftRight_eq', BitVec.getLsbD_shiftLeft, BitVec.getLsbD_ushiftRight]
  show (decide (q < 32) && !decide (q < 16) && x.getLsbD (q - 16) || x.getLsbD (16 + q)) = _
  rw [decide_eq_true h, decide_eq_true (show q < 32 by omega)]
  cases x.getLsbD (q - 16) <;> rfl

theorem rot_hi (x : BitVec 32) (q : Nat) (h : 16 ≤ q) (hq : q < 32) : (x <<< (16#32 : BitVec 32) ||| x >>> (16#32 : BitVec 32)).getLsbD q = x.getLsbD (q - 16) := by
  rw [BitVec.getLsbD_or, BitVec.shiftLeft_eq', BitVec.ushiftRight_eq', BitVec.getLsbD_shiftLeft, BitVec.getLsbD_ushiftRight]
  show (decide (q < 32) && !decide (q < 16) && x.getLsbD (q - 16) || x.getLsbD (16 + q)) = _
  rw [decide_eq_false (show ¬ q < 16 by omega), decide_eq_true hq, BitVec.getLsbD_of_ge x (16 + q) (by omega)]
  cases x.getLsbD (q - 16) <;> rfl

theorem up8 (x : BitVec 32) (q : Nat) (h : 8 ≤ q) (hq : q < 32) : (x <<< (8#32 : BitVec 32)).getLsbD q = x.getLsbD (q - 8) := by
  rw [BitVec.shiftLeft_eq', BitVec.getLsbD_shiftLeft]
  show (decide (q < 32) && !decide (q < 8) && x.getLsbD (q - 8)) = _
  rw [decide_eq_false (show ¬ q < 8 by omega), decide_eq_true hq]
  cases x.getLsbD (q - 8) <;> rfl

/-- A bit of the first exchange. -/
theorem swap16_bit (w : IVec S8x128 32) (s : Fin 8) (l : Fin 128) (q : Nat) (hq : q < 32) (l' : Fin 128) (hl' : l'.val = l.val - 2 * (l.val / 2 % 2) + 2 * (q / 16)) :
    (swap16 lanes w (ix2 s l)).getLsbD q = (w (ix2 s l')).getLsbD (q % 16 + 16 * (l.val / 2 % 2)) := by
  have hl := l.isLt
  have h59 := v59_val s l
  simp only [swap16]
  rw [v68_val]
  by_cases h : l.val / 2 % 2 = 0
  · rw [if_pos h] at h59 ⊢
    rw [gather1 w lanes.v59 s l ⟨l.val + 2, by omega⟩ (by rw [h59]; show (l.val + 2) % 128 = l.val + 2; omega)]
    simp only [BitVec.getLsbD_xor, BitVec.getLsbD_and, BitVec.getLsbD_or]
    rw [(mask16 ⟨q, hq⟩).1]
    by_cases hh : q / 16 = 0
    · have : l' = l := Fin.ext (by omega)
      rw [this, show q % 16 + 16 * (l.val / 2 % 2) = q by omega]
      rw [decide_eq_true hh]
      exact xor_keep _ _
    · have : l' = ⟨l.val + 2, by omega⟩ := Fin.ext (by show l'.val = l.val + 2; omega)
      rw [this, show q % 16 + 16 * (l.val / 2 % 2) = q - 16 by omega]
      rw [decide_eq_false hh, ← BitVec.getLsbD_or, rot_hi _ q (by omega) hq]
      exact xor_drop _ _
  · rw [if_neg h] at h59 ⊢
    rw [gather1 w lanes.v59 s l ⟨l.val - 2, by omega⟩ (by rw [h59]; show (l.val - 2) % 128 = l.val - 2; omega)]
    simp only [BitVec.getLsbD_xor, BitVec.getLsbD_and, BitVec.getLsbD_or]
    rw [(mask16 ⟨q, hq⟩).2]
    by_cases hh : q / 16 = 0
    · have : l' = ⟨l.val - 2, by omega⟩ := Fin.ext (by show l'.val = l.val - 2; omega)
      rw [this, show q % 16 + 16 * (l.val / 2 % 2) = 16 + q by omega]
      rw [decide_eq_false (show ¬ q / 16 = 1 by omega), ← BitVec.getLsbD_or, rot_lo _ q (by omega)]
      exact xor_drop _ _
    · have : l' = l := Fin.ext (by omega)
      rw [this, show q % 16 + 16 * (l.val / 2 % 2) = q by omega]
      rw [decide_eq_true (show q / 16 = 1 by omega)]
      exact xor_keep _ _

/-- A bit of the second exchange. -/
theorem swap8_bit (w : IVec S8x128 32) (s : Fin 8) (l : Fin 128) (q : Nat) (hq : q < 32) (l' : Fin 128) (hl' : l'.val = l.val - l.val % 2 + q / 8 % 2) :
    (swap8 lanes w (ix2 s l)).getLsbD q = (w (ix2 s l')).getLsbD (q % 8 + 16 * (q / 16) + 8 * (l.val % 2)) := by
  have hl := l.isLt
  have h61 := v61_val s l
  simp only [swap8]
  rw [v75_val, v72_val]
  by_cases h : l.val % 2 = 0
  · rw [if_pos h] at h61
    rw [if_pos h, if_pos h]
    rw [gather1 w lanes.v61 s l ⟨l.val + 1, by omega⟩ (by rw [h61]; show (l.val + 1) % 128 = l.val + 1; omega)]
    simp only [BitVec.getLsbD_xor, BitVec.getLsbD_and]
    rw [(mask8 ⟨q, hq⟩).1]
    by_cases hh : q / 8 % 2 = 0
    · have : l' = l := Fin.ext (by omega)
      rw [this, show q % 8 + 16 * (q / 16) + 8 * (l.val % 2) = q by omega]
      rw [decide_eq_true hh]
      exact xor_keep _ _
    · have : l' = ⟨l.val + 1, by omega⟩ := Fin.ext (by show l'.val = l.val + 1; omega)
      rw [this, show q % 8 + 16 * (q / 16) + 8 * (l.val % 2) = q - 8 by omega]
      rw [decide_eq_false hh]
      refine (xor_drop _ _).trans ?_
      exact up8 _ q (by omega) hq
  · rw [if_neg h] at h61
    rw [if_neg h, if_neg h]
    rw [gather1 w lanes.v61 s l ⟨l.val - 1, by omega⟩ (by rw [h61]; show (l.val - 1) % 128 = l.val - 1; omega)]
    simp only [BitVec.getLsbD_xor, BitVec.getLsbD_and]
    rw [(mask8 ⟨q, hq⟩).2]
    by_cases hh : q / 8 % 2 = 0
    · have : l' = ⟨l.val - 1, by omega⟩ := Fin.ext (by show l'.val = l.val - 1; omega)
      rw [this, show q % 8 + 16 * (q / 16) + 8 * (l.val % 2) = 8 + q by omega]
      rw [decide_eq_false (show ¬ q / 8 % 2 = 1 by omega)]
      refine (xor_drop _ _).trans ?_
      exact BitVec.getLsbD_ushiftRight ..
    · have : l' = l := Fin.ext (by omega)
      rw [this, show q % 8 + 16 * (q / 16) + 8 * (l.val % 2) = q by omega]
      rw [decide_eq_true (show q / 8 % 2 = 1 by omega)]
      exact xor_keep _ _

/-- Where byte `k` of the permuted word at (s, l) comes from. -/
theorem perm_arith : ∀ (s : Fin 8) (l : Fin 128) (k : Fin 4),
    (l.val / 16 + 8 - (l.val / 16 + 8 - s.val) % 8) % 8 = s.val
    ∧ 4 * (8 * (l.val % 4) + s.val) + l.val / 4 % 4 < 128
    ∧ (4 * (8 * (l.val % 4) + s.val) + l.val / 4 % 4) - l.val / 4 % 4 % 2 + k.val % 2 < 128
    ∧ 32 * (l.val % 4) + 4 * s.val + k.val < 128
    ∧ (4 * (8 * (l.val % 4) + s.val) + l.val / 4 % 4) % 2 = l.val / 4 % 4 % 2
    ∧ ((4 * (8 * (l.val % 4) + s.val) + l.val / 4 % 4) - l.val / 4 % 4 % 2 + k.val % 2) / 2 % 2 = l.val / 4 % 4 / 2
    ∧ 32 * (l.val % 4) + 4 * s.val + k.val = ((4 * (8 * (l.val % 4) + s.val) + l.val / 4 % 4) - l.val / 4 % 4 % 2 + k.val % 2) - 2 * (l.val / 4 % 4 / 2) + 2 * (k.val / 2)
    ∧ (4 * ((l.val / 16 + 8 - s.val) % 8) + l.val / 4 % 4) * 128 + (32 * (l.val % 4) + 4 * s.val + k.val) = 32 * ((l.val + 128 - 16 * s.val) % 128) + 4 * s.val + k.val := by
  decide +kernel

/-- A bit of the permuted window: word (s, l) holds bytes 32 Q + 4 s to 32 Q + 4 s + 3, with Q = (l - 16 s) modulo 128. -/
theorem perm_bit (w : IVec S8x128 32) (cb : Nat → Nat → Bool)
    (hw : ∀ (s : Fin 8) (l : Fin 128) (q : Nat), q < 32 → (w (ix2 s l)).getLsbD q = cb ((4 * s.val + q / 8) * 128 + l.val) (q % 8))
    (s : Fin 8) (l : Fin 128) (q : Nat) (hq : q < 32) :
    (permV lanes w (ix2 s l)).getLsbD q = cb (32 * ((l.val + 128 - 16 * s.val) % 128) + 4 * s.val + q / 8) (q % 8) := by
  obtain ⟨a1, a2, a3, a4, a5, a6, a7, a8⟩ := perm_arith s l ⟨q / 8, by omega⟩
  dsimp only at a3 a4 a6 a7 a8
  have hd : l.val / 4 % 4 < 4 := Nat.mod_lt _ (by decide)
  have hs' : (l.val / 16 + 8 - s.val) % 8 < 8 := Nat.mod_lt _ (by decide)
  rw [perm_eq, gather0 _ lanes.v80 s ⟨(l.val / 16 + 8 - s.val) % 8, hs'⟩ l (by rw [v80_val]; exact Nat.mod_mod _ _)]
  rw [gather1 _ lanes.v92 ⟨(l.val / 16 + 8 - s.val) % 8, hs'⟩ l ⟨4 * (8 * (l.val % 4) + s.val) + l.val / 4 % 4, a2⟩ (by
    rw [v92_val]; dsimp only; rw [a1]; exact Nat.mod_eq_of_lt a2)]
  rw [← a8]
  generalize l.val / 4 % 4 = d at *
  generalize 4 * (8 * (l.val % 4) + s.val) + d = L at *
  generalize (l.val / 16 + 8 - s.val) % 8 = s' at *
  generalize 32 * (l.val % 4) + 4 * s.val + q / 8 = p at *
  clear a1 a8
  rw [swap8_bit _ ⟨s', hs'⟩ ⟨L, a2⟩ q hq ⟨L - d % 2 + q / 8 % 2, a3⟩ (by dsimp only; rw [a5])]
  dsimp only
  rw [a5]
  generalize L - d % 2 + q / 8 % 2 = M at *
  clear a5
  rw [swap16_bit _ ⟨s', hs'⟩ ⟨M, a3⟩ _ (by omega) ⟨p, a4⟩ (by dsimp only; rw [a6, a7]; omega), hw _ _ _ (by dsimp only; omega)]
  dsimp only
  rw [a6]
  clear a6 a7
  congr 1
  · congr 2; omega
  · omega

end Cert.MainIdeal.Hand
-- ==== Proof.Pick.lean ====
/-
  The pick of the bits that four inputs of a column's block need, from the permuted window.
-/
module

public import proofs.«01_k».proof.Proof.Words
public import Mathlib.Tactic.IntervalCases

@[expose] public section

namespace Cert.MainIdeal.Hand

open Cert.MainIdeal Cert.MainIdeal.Gen
open Idealize.ShloMosaic
open Idealize.ShloMosaic.ValueIdx hiding ix0 ix1 ix2 ix3 ix4 ix5

theorem v98_val : ∀ (s : Fin 8) (l : Fin 128), (lanes.v98 (ix2 s l)).toNat = ((7 + 127 * s.val) % 1024) * 4194304 := by
  decide +kernel

theorem v3_val : ∀ (s : Fin 8) (l : Fin 128), (lanes.v3 (ix2 s l)).toNat = s.val := by
  decide +kernel

/-- The lane of the permuted window that holds, in row `s`, the first word from the block's start on whose number is `s` modulo 8. -/
def pickW (K : Lanes) (T r0 : IVec S8x128 32) : IVec S8x128 32 :=
  dynamicGather (1 : Fin 2) T (fun y => (r0 y + K.v98 y) >>> (25#32 : BitVec 32))

/-- The address of a row's bits, in its top byte. -/
def pickA (K : Lanes) (r1 r2 : IVec S8x128 32) : IVec S8x128 32 := fun y => r1 y + r2 y * K.v3 y

theorem pick_eq (K : Lanes) (T r0 r1 r2 r3 : IVec S8x128 32) (y : S8x128.Idx) :
    pickV K T r0 r1 r2 r3 y
      = dynamicGather (0 : Fin 2) (pickW K T r0) (fun y => pickA K r1 r2 y >>> (29#32 : BitVec 32)) y >>> (pickA K r1 r2 y >>> (24#32 : BitVec 32) &&& 31#32)
        ||| dynamicGather (0 : Fin 2) (pickW K T r0) (fun y => (pickA K r1 r2 y + r3 y) >>> (29#32 : BitVec 32)) y <<< (32#32 - (pickA K r1 r2 y >>> (24#32 : BitVec 32) &&& 31#32)) := by
  have e1 : shrui (addi r0 K.v98) (broadcast S8x128 25#32) = fun y => (r0 y + K.v98 y) >>> (25#32 : BitVec 32) := by
    funext y; simp only [shrui, addi, broadcast, IntOp.addi, shr32]
  have e2 : addi r1 (muli r2 K.v3) = pickA K r1 r2 := by
    funext y; simp only [addi, muli, pickA, IntOp.addi, IntOp.muli]
  have e3 : ∀ v : IVec S8x128 32, shrui v (broadcast S8x128 29#32) = fun y => v y >>> (29#32 : BitVec 32) := by
    intro v; funext y; simp only [shrui, broadcast, shr32]
  simp only [pickV, castcast]
  rw [e1, e2, e3, e3]
  simp only [pickW, ori, shli, shrui, andi, subi, addi, broadcast, IntOp.ori, IntOp.andi, IntOp.subi, IntOp.addi, shl32, shr32]

theorem ushr_toNat (x : BitVec 32) (k : Nat) (hk : k < 32) : (x >>> (BitVec.ofNat 32 k)).toNat = x.toNat / 2 ^ k := by
  rw [BitVec.ushiftRight_eq', BitVec.toNat_ushiftRight, BitVec.toNat_ofNat, Nat.mod_eq_of_lt (by omega), Nat.shiftRight_eq_div_pow]

theorem lane_arith : ∀ (M : Fin 1024) (s : Fin 8), ((M.val + (7 + 127 * s.val) % 1024) % 1024 / 8 + 128 - 16 * s.val) % 128 = ((M.val + 7 - s.val) / 8) % 128 := by
  decide +kernel

theorem lane_div (m c : Nat) (hm : m < 4294967296) (hc : c < 1024) : (m + c * 4194304) % 4294967296 / 33554432 = (m / 4194304 + c) % 1024 / 8 := by
  have h : (m + c * 4194304) % (4194304 * 1024) / 4194304 = (m + c * 4194304) / 4194304 % 1024 := Nat.mod_mul_right_div_self ..
  rw [Nat.add_mul_div_right _ _ (by decide)] at h
  rw [← h, Nat.div_div_eq_div_mul]

theorem top7 (x : Nat) : x % 4294967296 / 33554432 < 128 := Nat.div_lt_of_lt_mul (Nat.mod_lt _ (by decide))
theorem top3 (x : Nat) : x % 4294967296 / 536870912 < 8 := Nat.div_lt_of_lt_mul (Nat.mod_lt _ (by decide))

/-- A bit of the first pick. -/
theorem pickW_bit (T r0 : IVec S8x128 32) (cb : Nat → Nat → Bool)
    (hT : ∀ (s : Fin 8) (l : Fin 128) (q : Nat), q < 32 → (T (ix2 s l)).getLsbD q = cb (32 * ((l.val + 128 - 16 * s.val) % 128) + 4 * s.val + q / 8) (q % 8))
    (s : Fin 8) (l : Fin 128) (q : Nat) (hq : q < 32) :
    (pickW lanes T r0 (ix2 s l)).getLsbD q
      = cb (32 * ((((r0 (ix2 s l)).toNat / 4194304 + 7 - s.val) / 8) % 128) + 4 * s.val + q / 8) (q % 8) := by
  have hr := (r0 (ix2 s l)).isLt
  have h98 := v98_val s l
  have key : (((r0 (ix2 s l)).toNat + ((7 + 127 * s.val) % 1024) * 4194304) % 4294967296 / 33554432 + 128 - 16 * s.val) % 128 = (((r0 (ix2 s l)).toNat / 4194304 + 7 - s.val) / 8) % 128 := by
    rw [lane_div _ _ hr (Nat.mod_lt _ (by decide))]
    exact lane_arith ⟨(r0 (ix2 s l)).toNat / 4194304, Nat.div_lt_of_lt_mul hr⟩ s
  unfold pickW
  rw [gather1 T _ s l ⟨(((r0 (ix2 s l)).toNat + ((7 + 127 * s.val) % 1024) * 4194304) % 4294967296) / 33554432, top7 _⟩ (by
    rw [ushr_toNat _ 25 (by decide), BitVec.toNat_add, h98]
    exact Nat.mod_eq_of_lt (top7 _))]
  rw [hT _ _ _ hq]
  exact congrArg (fun x => cb (32 * x + 4 * s.val + q / 8) (q % 8)) key

/-- Row `R` of the picked words holds the first word, from number `mw` on, whose number is `R` modulo 8. -/
theorem word_arith : ∀ (mw : Fin 1024) (d : Fin 8), 32 * (((mw.val + 7 - (mw.val % 8 + d.val) % 8) / 8) % 128) + 4 * ((mw.val % 8 + d.val) % 8) = 4 * ((mw.val + d.val) % 1024) := by
  decide +kernel

theorem addr_dec : ∀ (u : Fin 8) (w : Fin 29) (f : Fin 2) (B : Fin 32), 2 * f.val ≤ B.val →
    ((32 * u.val + 8 * w.val + 256 - 2 * f.val) % 256 % 32 + B.val < 32 → (32 * u.val + 8 * w.val + 256 - 2 * f.val) % 256 / 32 = (u.val + (8 * w.val + B.val - 2 * f.val) / 32) % 8
        ∧ (32 * u.val + 8 * w.val + 256 - 2 * f.val) % 256 % 32 + B.val = (8 * w.val + B.val - 2 * f.val) % 32)
    ∧ (¬ (32 * u.val + 8 * w.val + 256 - 2 * f.val) % 256 % 32 + B.val < 32 → ((32 * u.val + 8 * w.val + 256 - 2 * f.val) % 256 / 32 + 1) % 8 = (u.val + (8 * w.val + B.val - 2 * f.val) / 32) % 8
        ∧ B.val - (32 - (32 * u.val + 8 * w.val + 256 - 2 * f.val) % 256 % 32) = (8 * w.val + B.val - 2 * f.val) % 32)
    ∧ (8 * w.val + B.val - 2 * f.val) / 32 < 8 := by
  decide +kernel

/-- The row and the bit of the picked words, from the address byte. -/
theorem addr_arith (u w f B A : Nat) (hu : u < 8) (hw : w ≤ 28) (hf : f ≤ 1) (hB : 2 * f ≤ B) (hB32 : B < 32) (hA : A = (32 * u + 8 * w + 256 - 2 * f) % 256) :
    (A % 32 + B < 32 → A / 32 = (u + (8 * w + B - 2 * f) / 32) % 8 ∧ A % 32 + B = (8 * w + B - 2 * f) % 32)
    ∧ (¬ A % 32 + B < 32 → (A / 32 + 1) % 8 = (u + (8 * w + B - 2 * f) / 32) % 8 ∧ B - (32 - A % 32) = (8 * w + B - 2 * f) % 32)
    ∧ (8 * w + B - 2 * f) / 32 < 8 := by
  subst hA
  exact addr_dec ⟨u, hu⟩ ⟨w, by omega⟩ ⟨f, by omega⟩ ⟨B, hB32⟩ hB

theorem byte_arith (m w f : Nat) (hm : m < 4294967296) (hf : f ≤ 1) (h : m / 131072 % 32 = 0) :
    ((m * 128 + 4294967296 - f * 33554432) % 4294967296 + w * 134217728) % 4294967296 / 16777216 = (32 * (m / 4194304 % 8) + 8 * w + 256 - 2 * f) % 256 := by
  rw [Nat.mod_add_mod]
  have e : (m * 128 + 4294967296 - f * 33554432 + w * 134217728) % (16777216 * 256) / 16777216 = (m * 128 + 4294967296 - f * 33554432 + w * 134217728) / 16777216 % 256 := Nat.mod_mul_right_div_self ..
  refine e.trans ?_
  have h2 : m / 131072 = 32 * (m / 4194304) := by
    have : m / 4194304 = m / 131072 / 32 := by rw [Nat.div_div_eq_div_mul]
    omega
  have h3 : (m * 128 + 4294967296 - f * 33554432 + w * 134217728) / 16777216 = m / 131072 + 8 * w + 256 - 2 * f := by
    clear e h h2
    rcases (by omega : f = 0 ∨ f = 1) with h | h <;> subst h <;> omega
  rw [h3, h2]
  clear e h h2 h3
  have := Nat.div_add_mod (m / 4194304) 8
  rcases (by omega : f = 0 ∨ f = 1) with h | h <;> subst h <;> omega

theorem mod8 (y : Nat) : y % 32 % 8 = y % 8 := Nat.mod_mod_of_dvd _ (by decide)

theorem next_arith (P c : Nat) (hP : P < 4294967296) (hc : c < 32) (h : 32 ≤ P / 16777216 % 32 + c) :
    (P + c * 16777216) % 4294967296 / 536870912 = (P / 16777216 / 32 + 1) % 8 := by
  have e : (P + c * 16777216) % (16777216 * 256) / 16777216 = (P + c * 16777216) / 16777216 % 256 := Nat.mod_mul_right_div_self ..
  rw [Nat.add_mul_div_right _ _ (by decide)] at e
  have e2 : (P + c * 16777216) % 4294967296 / 536870912 = (P + c * 16777216) % 4294967296 / 16777216 / 32 := by rw [Nat.div_div_eq_div_mul]
  rw [e2]
  refine (congrArg (· / 32) e).trans ?_
  show (P / 16777216 + c) % 256 / 32 = _
  have hQ : P / 16777216 < 256 := by omega
  generalize P / 16777216 = Q at *
  clear e e2
  omega

/-- A bit of two words joined at a shift. -/
theorem join_bit (P X Y : BitVec 32) (B : Nat) (hB : B < 32) :
    (X >>> (P >>> (24#32 : BitVec 32) &&& 31#32) ||| Y <<< (32#32 - (P >>> (24#32 : BitVec 32) &&& 31#32))).getLsbD B
      = if P.toNat / 16777216 % 32 + B < 32 then X.getLsbD (P.toNat / 16777216 % 32 + B) else Y.getLsbD (B - (32 - P.toNat / 16777216 % 32)) := by
  have hsh : (P >>> (24#32 : BitVec 32) &&& 31#32).toNat = P.toNat / 16777216 % 32 := by
    rw [BitVec.toNat_and, ushr_toNat _ 24 (by decide)]
    exact Nat.and_two_pow_sub_one_eq_mod _ 5
  have hlt : P.toNat / 16777216 % 32 < 32 := Nat.mod_lt _ (by decide)
  have hsh2 : (32#32 - (P >>> (24#32 : BitVec 32) &&& 31#32)).toNat = 32 - P.toNat / 16777216 % 32 := by
    rw [BitVec.toNat_sub_of_le (by rw [BitVec.le_def, hsh]; exact Nat.le_of_lt hlt), hsh]; rfl
  rw [BitVec.getLsbD_or, BitVec.ushiftRight_eq', BitVec.shiftLeft_eq', hsh, hsh2, BitVec.getLsbD_ushiftRight, BitVec.getLsbD_shiftLeft]
  generalize P.toNat / 16777216 % 32 = a at hlt
  clear hsh hsh2
  by_cases h : a + B < 32
  · rw [if_pos h, decide_eq_true (show B < 32 - a by omega)]
    simp
  · rw [if_neg h, BitVec.getLsbD_of_ge _ _ (by omega), decide_eq_false (show ¬ B < 32 - a by omega), decide_eq_true hB]
    simp

theorem fmt_small (t f c B s : Nat) (hc : (t = 0 ∧ f = 1 ∧ c = 17) ∨ (t = 1 ∧ f = 0 ∧ c = 23) ∨ (t = 2 ∧ f = 0 ∧ c = 31)) (hBc : B ≤ c) (hs : s < 8) :
    B < 32 ∧ f ≤ 1 ∧ c < 32 ∧ s * (t + 2) ≤ 28 := by
  rcases hc with ⟨h, h', h''⟩ | ⟨h, h', h''⟩ | ⟨h, h', h''⟩ <;> subst h h' h'' <;> omega

/-- A bit of the pick. `t` is the format tag, `f` is 1 for the 4-bit format only, and `c` is 31, 23 or 17. -/
theorem pick_bit (T r0 r1 r2 r3 : IVec S8x128 32) (cb : Nat → Nat → Bool)
    (hT : ∀ (s : Fin 8) (l : Fin 128) (q : Nat), q < 32 → (T (ix2 s l)).getLsbD q = cb (32 * ((l.val + 128 - 16 * s.val) % 128) + 4 * s.val + q / 8) (q % 8))
    (l : Fin 128) (μ : BitVec 32) (t f c : Nat) (hc : (t = 0 ∧ f = 1 ∧ c = 17) ∨ (t = 1 ∧ f = 0 ∧ c = 23) ∨ (t = 2 ∧ f = 0 ∧ c = 31))
    (hμ : μ.toNat / 131072 % 32 = 0)
    (h0 : ∀ s, r0 (ix2 s l) = μ) (h1 : ∀ s, (r1 (ix2 s l)).toNat = (μ.toNat * 128 + 4294967296 - f * 33554432) % 4294967296)
    (h2 : ∀ s, (r2 (ix2 s l)).toNat = (t + 2) * 134217728) (h3 : ∀ s, (r3 (ix2 s l)).toNat = c * 16777216)
    (s : Fin 8) (B : Nat) (hB : 2 * f ≤ B) (hBc : B ≤ c) :
    (pickV lanes T r0 r1 r2 r3 (ix2 s l)).getLsbD B
      = cb (4 * ((μ.toNat / 4194304 + (8 * s.val * (t + 2) + B - 2 * f) / 32) % 1024) + (8 * s.val * (t + 2) + B - 2 * f) % 32 / 8) ((8 * s.val * (t + 2) + B - 2 * f) % 8) := by
  have hs := s.isLt
  have hm := μ.isLt
  obtain ⟨hB32, hf1, hc32, hw28⟩ := fmt_small t f c B s.val hc hBc hs
  have h8 : 8 * s.val * (t + 2) = 8 * (s.val * (t + 2)) := by rw [Nat.mul_assoc]
  rw [h8]
  -- the address byte
  have hA : (pickA lanes r1 r2 (ix2 s l)).toNat = ((μ.toNat * 128 + 4294967296 - f * 33554432) % 4294967296 + (s.val * (t + 2) * 134217728)) % 4294967296 := by
    simp only [pickA]
    rw [BitVec.toNat_add, BitVec.toNat_mul, h1, h2, v3_val]
    rw [show (t + 2) * 134217728 * s.val = s.val * (t + 2) * 134217728 by rw [Nat.mul_comm _ s.val, Nat.mul_assoc]]
    exact Nat.add_mod_mod ..
  generalize hw : s.val * (t + 2) = w at *
  have hA' : (pickA lanes r1 r2 (ix2 s l)).toNat / 16777216 = (32 * (μ.toNat / 4194304 % 8) + 8 * w + 256 - 2 * f) % 256 := by
    rw [hA]
    exact byte_arith _ w f hm hf1 hμ
  have hPl := (pickA lanes r1 r2 (ix2 s l)).isLt
  have hg1 : (pickA lanes r1 r2 (ix2 s l)).toNat / 536870912 < 8 := Nat.div_lt_of_lt_mul hPl
  have hg2 : ((pickA lanes r1 r2 (ix2 s l)).toNat + c * 16777216) % 4294967296 / 536870912 < 8 := top3 _
  rw [pick_eq, join_bit _ _ _ B hB32]
  rw [gather0 _ _ s ⟨(pickA lanes r1 r2 (ix2 s l)).toNat / 536870912, hg1⟩ l (by
    rw [ushr_toNat _ 29 (by decide)]; exact Nat.mod_eq_of_lt hg1)]
  rw [gather0 _ _ s ⟨((pickA lanes r1 r2 (ix2 s l)).toNat + c * 16777216) % 4294967296 / 536870912, hg2⟩ l (by
    rw [ushr_toNat _ 29 (by decide), BitVec.toNat_add, h3]; exact Nat.mod_eq_of_lt hg2)]
  have hmw : μ.toNat / 4194304 < 1024 := Nat.div_lt_of_lt_mul hm
  clear hA h1 h2 h8 hμ hc
  generalize (pickA lanes r1 r2 (ix2 s l)).toNat = P at *
  obtain ⟨b1, b2, b3⟩ := addr_arith (μ.toNat / 4194304 % 8) w f B (P / 16777216) (Nat.mod_lt _ (by decide)) hw28 hf1 hB hB32 hA'
  have hwd := word_arith ⟨μ.toNat / 4194304, hmw⟩ ⟨(8 * w + B - 2 * f) / 32, b3⟩
  dsimp only at hwd
  generalize 8 * w + B - 2 * f = y at *
  by_cases hb : P / 16777216 % 32 + B < 32
  · obtain ⟨c1, c2⟩ := b1 hb
    rw [if_pos hb, pickW_bit T r0 cb hT _ l _ hb, h0]
    have e : P / 536870912 = (μ.toNat / 4194304 % 8 + y / 32) % 8 := by rw [← c1, Nat.div_div_eq_div_mul]
    dsimp only
    rw [e, c2, hwd, mod8 y]
  · obtain ⟨c1, c2⟩ := b2 hb
    rw [if_neg hb, pickW_bit T r0 cb hT _ l _ (Nat.lt_of_le_of_lt (Nat.sub_le _ _) hB32), h0]
    have hge : 32 ≤ P / 16777216 % 32 + c := Nat.le_trans (Nat.not_lt.mp hb) (Nat.add_le_add_left hBc _)
    have e : (P + c * 16777216) % 4294967296 / 536870912 = (μ.toNat / 4194304 % 8 + y / 32) % 8 :=
      (next_arith P c hPl hc32 hge).trans c1
    dsimp only
    rw [e, c2, hwd, mod8 y]

end Cert.MainIdeal.Hand
-- ==== Proof.Dec.lean ====
/-
  A weight of the kernel: the value of the code that the stream holds at the column's block, times the block's scale.
-/
module

public import proofs.«01_k».proof.Proof.BlockBits
public import proofs.«01_k».proof.Proof.Perm
public import proofs.«01_k».proof.Proof.Pick
public import proofs.«01_k».proof.Proof.Elem

@[expose] public section

noncomputable section

namespace Cert.MainIdeal.Hand

open Cert.MainIdeal Cert.MainIdeal.Gen
open Idealize.ShloMosaic
open Idealize.ShloMosaic.ValueIdx hiding ix0 ix1 ix2 ix3 ix4 ix5

/-- A block's tag, as the kernel reads it. -/
def tagV (μ : BitVec 32) : BitVec 32 := IntOp.andi (IntOp.shrsi .vector μ 8#32) 3#32

theorem tagV_eq (μ : BitVec 32) : tagV μ = BitVec.ofNat 32 (μ.toNat / 256 % 4) := by
  refine BitVec.eq_of_toNat_eq ?_
  rw [BitVec.toNat_ofNat, Nat.mod_eq_of_lt (by have := Nat.mod_lt (μ.toNat / 256) (show 4 > 0 by decide); omega)]
  exact sshr_mask μ 8 2 (by decide)

theorem row0 (m : IVec S8x128 32) (y : S8x128.Idx) : metaRows m 0 y = m y := rfl
theorem row1 (m : IVec S8x128 32) (y : S8x128.Idx) : metaRows m 1 y = IntOp.subi (IntOp.shli .vector (m y) 7#32) (Scalar.select (IntOp.cmpi .eq (tagV (m y)) 0#32) 33554432#32 0#32) := rfl
theorem row2 (m : IVec S8x128 32) (y : S8x128.Idx) : metaRows m 2 y = IntOp.shli .vector (IntOp.addi (tagV (m y)) 2#32) 27#32 := rfl
theorem row3 (m : IVec S8x128 32) (y : S8x128.Idx) : metaRows m 3 y
    = IntOp.shli .vector (Scalar.select (IntOp.cmpi .eq (tagV (m y)) 0#32) 17#32 (Scalar.select (IntOp.cmpi .eq (tagV (m y)) 2#32) 31#32 23#32)) 24#32 := rfl
theorem row4 (m : IVec S8x128 32) (y : S8x128.Idx) : metaRows m 4 y = IntOp.subi 4#32 (IntOp.muli 2#32 (tagV (m y))) := rfl
theorem row5 (m : IVec S8x128 32) (y : S8x128.Idx) : metaRows m 5 y
    = Scalar.select (IntOp.cmpi .eq (tagV (m y)) 0#32) 471604252#32 (Scalar.select (IntOp.cmpi .eq (tagV (m y)) 2#32) 4294967295#32 522133279#32) := rfl
theorem row6 (m : IVec S8x128 32) (y : S8x128.Idx) : metaRows m 6 y = Scalar.select (IntOp.cmpi .eq (tagV (m y)) 2#32) 0#32 2155905152#32 := rfl
theorem row7 (m : IVec S8x128 32) (y : S8x128.Idx) : metaRows m 7 y
    = IntOp.ori (IntOp.shli .vector (IntOp.andi (m y) 255#32) 7#32) (IntOp.shli .vector (IntOp.shli .vector (IntOp.andi (m y) 255#32) 7#32) 16#32) := rfl
theorem row8 (m : IVec S8x128 32) (y : S8x128.Idx) : metaRows m 8 y = Scalar.select (IntOp.cmpi .eq (tagV (m y)) 2#32) 1065369472#32 1115701888#32 := rfl

theorem row1_val (μ : BitVec 32) (t f : Nat) (ht : tagV μ = BitVec.ofNat 32 t) (h : (t = 0 ∧ f = 1) ∨ (t = 1 ∧ f = 0) ∨ (t = 2 ∧ f = 0)) :
    (IntOp.subi (IntOp.shli .vector μ 7#32) (Scalar.select (IntOp.cmpi .eq (tagV μ) 0#32) 33554432#32 0#32)).toNat = (μ.toNat * 128 + 4294967296 - f * 33554432) % 4294967296 := by
  have hs : (μ <<< (7#32 : BitVec 32)).toNat = μ.toNat * 128 % 4294967296 := by
    rw [BitVec.shiftLeft_eq', BitVec.toNat_shiftLeft, Nat.shiftLeft_eq]; rfl
  have hv : (Scalar.select (IntOp.cmpi .eq (tagV μ) 0#32) 33554432#32 0#32 : BitVec 32) = BitVec.ofNat 32 (f * 33554432) := by
    rw [ht]
    rcases h with ⟨h, h'⟩ | ⟨h, h'⟩ | ⟨h, h'⟩ <;> subst h h' <;> decide
  rw [hv, shl32]
  show (μ <<< (7#32 : BitVec 32) - BitVec.ofNat 32 (f * 33554432)).toNat = _
  have hf : f * 33554432 < 4294967296 := by omega
  rw [BitVec.toNat_sub, hs, BitVec.toNat_ofNat]
  show (4294967296 - f * 33554432 % 4294967296 + μ.toNat * 128 % 4294967296) % 4294967296 = _
  clear hs hv ht
  rcases (by omega : f = 0 ∨ f = 1) with h | h <;> subst h <;> omega

theorem rows_fmt (μ : BitVec 32) (t : Nat) (ht : tagV μ = BitVec.ofNat 32 t) (h2 : t ≤ 2) :
    (IntOp.shli .vector (IntOp.addi (tagV μ) 2#32) 27#32).toNat = (t + 2) * 134217728
    ∧ (IntOp.shli .vector (Scalar.select (IntOp.cmpi .eq (tagV μ) 0#32) 17#32 (Scalar.select (IntOp.cmpi .eq (tagV μ) 2#32) 31#32 23#32)) 24#32).toNat
        = (if t = 0 then 17 else if t = 1 then 23 else 31) * 16777216
    ∧ IntOp.subi 4#32 (IntOp.muli 2#32 (tagV μ)) = BitVec.ofNat 32 (4 - 2 * t)
    ∧ Scalar.select (IntOp.cmpi .eq (tagV μ) 0#32) 471604252#32 (Scalar.select (IntOp.cmpi .eq (tagV μ) 2#32) 4294967295#32 522133279#32)
        = (if t = 0 then 471604252#32 else if t = 1 then 522133279#32 else 4294967295#32)
    ∧ Scalar.select (IntOp.cmpi .eq (tagV μ) 2#32) 0#32 2155905152#32 = (if t = 2 then 0#32 else 2155905152#32)
    ∧ Scalar.select (IntOp.cmpi .eq (tagV μ) 2#32) 1065369472#32 1115701888#32 = (if t = 2 then 1065369472#32 else 1115701888#32) := by
  rw [ht]
  rcases (by omega : t = 0 ∨ t = 1 ∨ t = 2) with h | h | h <;> subst h <;> decide

theorem scale_halves : ∀ b : Fin 256, ∀ a : Fin 2,
    ((IntOp.ori (IntOp.shli .vector (BitVec.ofNat 32 b.val) 7#32) (IntOp.shli .vector (IntOp.shli .vector (BitVec.ofNat 32 b.val) 7#32) 16#32)).extractLsb' (16 * a.val) 16).toNat = b.val * 128 := by
  decide +kernel

theorem mask255 (μ : BitVec 32) : IntOp.andi μ 255#32 = BitVec.ofNat 32 (μ.toNat % 256) := by
  refine BitVec.eq_of_toNat_eq ?_
  rw [BitVec.toNat_ofNat, Nat.mod_eq_of_lt (by have := Nat.mod_lt μ.toNat (show 256 > 0 by decide); omega)]
  show (μ &&& 255#32).toNat = _
  rw [BitVec.toNat_and]; exact Nat.and_two_pow_sub_one_eq_mod _ 8

/-- The spread word, bit by bit, at a tag. -/
theorem unp_bit (t : Nat) (ht : t ≤ 2) (u : BitVec 32) (q : Nat) (hq : q < 32) :
    (unpEl u (BitVec.ofNat 32 (4 - 2 * t)) (if t = 0 then 471604252#32 else if t = 1 then 522133279#32 else 4294967295#32) (if t = 2 then 0#32 else 2155905152#32)).getLsbD q
      = zbit t u.getLsbD (q / 8) (q % 8) := by
  rcases (by omega : t = 0 ∨ t = 1 ∨ t = 2) with h | h | h <;> subst h
  · exact unp_bit4 u q hq
  · exact unp_bit6 u q hq
  · exact unp_bit8 u q hq

/-- The byte of an input's code in a block's decoded words. -/
theorem blk_byte (R7 : IVec S21781x8x128 8) (st : BitVec 32) (m : IVec S8x128 32) (j : Fin 8) (l : Fin 128) (t n : Nat)
    (hst : st.toNat / 128 + 8 ≤ 21781) (ht : t ≤ 2) (htag : (m (ix2 j l)).toNat / 256 % 4 = t) (hμ : (m (ix2 j l)).toNat / 131072 % 32 = 0)
    (hw : ((m (ix2 j l)).toNat / 4194304 + 1024 - 2 * (st.toNat % 128)) % 1024 + 2 * (t + 2) ≤ 1024)
    (i : Fin 32)
    (hn : ∀ e, n.testBit e = (decide (e < 4 + 2 * t)
      && sbit R7 (st.toNat / 128 * 1024 + 4 * (2 * (st.toNat % 128) + ((m (ix2 j l)).toNat / 4194304 + 1024 - 2 * (st.toNat % 128)) % 1024) + ((4 + 2 * t) * i.val + e) / 8)
          (((4 + 2 * t) * i.val + e) % 8))) :
    n < 2 ^ (4 + 2 * t) ∧ (bitcast S32x128 8 (blkZ (F := Ideal) lanes st R7 m j) bitcasts_S8x128_w32_S32x128_w8 (ix2 i l)).toNat = zNat t n := by
  have hi := i.isLt
  have hs8 : i.val / 4 < 8 := by omega
  have hk4 : i.val % 4 < 4 := Nat.mod_lt _ (by decide)
  have hik : 4 * (i.val / 4) + i.val % 4 = i.val := Nat.div_add_mod _ 4
  have htg : tagV (m (ix2 j l)) = BitVec.ofNat 32 t := by rw [tagV_eq, htag]
  obtain ⟨e2, e3, e4, e5, e6, -⟩ := rows_fmt _ t htg ht
  have hmw : (m (ix2 j l)).toNat / 4194304 < 1024 := Nat.div_lt_of_lt_mul (m (ix2 j l)).isLt
  have hcf : (t = 0 ∧ (if t = 0 then 1 else 0) = 1 ∧ (if t = 0 then 17 else if t = 1 then 23 else 31) = 17) ∨ (t = 1 ∧ (if t = 0 then 1 else 0) = 0 ∧ (if t = 0 then 17 else if t = 1 then 23 else 31) = 23)
      ∨ (t = 2 ∧ (if t = 0 then 1 else 0) = 0 ∧ (if t = 0 then 17 else if t = 1 then 23 else 31) = 31) := by
    clear hn hw e2 e3 e4 e5 e6 hμ htag hmw hst
    rcases (by omega : t = 0 ∨ t = 1 ∨ t = 2) with h | h | h <;> subst h <;> decide
  have hf2 : 2 * (if t = 0 then 1 else 0) = (if t = 0 then 2 else 0) := by split <;> rfl
  refine byte_of_bits t (i.val / 4) (i.val % 4) n ht hk4
    (fun y => sbit R7 (st.toNat / 128 * 1024 + 4 * (2 * (st.toNat % 128) + ((m (ix2 j l)).toNat / 4194304 + 1024 - 2 * (st.toNat % 128)) % 1024) + y / 8) (y % 8))
    (pickV lanes (permV lanes (selV lanes st (asWords (F := Ideal) (wnd (F := Ideal) R7 (st >>> 7).toNat)) (asWords (F := Ideal) (wnd (F := Ideal) R7 ((st >>> 7) + 4#32).toNat))))
      (rowOf m 0 j) (rowOf m 1 j) (rowOf m 2 j) (rowOf m 3 j) (ix2 (⟨i.val / 4, hs8⟩ : Fin 8) l)).getLsbD ?_ ?_ _ ?_
  · intro B hB1 hB2
    rw [← hf2] at hB1
    rw [pick_bit _ (rowOf m 0 j) (rowOf m 1 j) (rowOf m 2 j) (rowOf m 3 j) (cbOf R7 st) (perm_bit _ _ (fun s l q hq => selw_bit R7 st hst s l q hq)) l (m (ix2 j l)) t
      (if t = 0 then 1 else 0) (if t = 0 then 17 else if t = 1 then 23 else 31) hcf hμ (fun s => rfl)
      (fun s => by
        show (metaRows m 1 (ix2 j l)).toNat = _
        rw [row1]
        exact row1_val _ t _ htg (hcf.imp (fun h => ⟨h.1, h.2.1⟩) (Or.imp (fun h => ⟨h.1, h.2.1⟩) (fun h => ⟨h.1, h.2.1⟩))))
      (fun s => by
        show (metaRows m 2 (ix2 j l)).toNat = _
        rw [row2]; exact e2)
      (fun s => by
        show (metaRows m 3 (ix2 j l)).toNat = _
        rw [row3]; exact e3)
      ⟨i.val / 4, hs8⟩ B hB1 hB2, hf2]
    refine cb_stream R7 st _ _ (2 * (t + 2)) _ hmw ?_ hw
    dsimp only
    clear hn hw e2 e3 e4 e5 e6 hμ htag hmw hst hf2 hik hB1
    rcases (by omega : t = 0 ∨ t = 1 ∨ t = 2) with h | h | h <;> subst h <;> simp at hB2 ⊢ <;> omega
  · intro e
    rw [hn e, hik]
  · intro e he
    rw [byte_bit _ bitcasts_S8x128_w32_S32x128_w8 i l ⟨i.val / 4, hs8⟩ rfl e he]
    unfold blkZ
    rw [decWord_eq, unp_elem]
    show (unpEl _ (metaRows m 4 (ix2 j l)) (metaRows m 5 (ix2 j l)) (metaRows m 6 (ix2 j l))).getLsbD _ = _
    rw [row4, row5, row6, e4, e5, e6, unp_bit t ht _ _ (by omega)]
    rw [show (8 * (i.val % 4) + e) / 8 = i.val % 4 by omega, show (8 * (i.val % 4) + e) % 8 = e by omega]

/-- Half of a block's weights, at an index. -/
theorem decHalf_elem (o : Fin 2 → Nat) (ho : S32x128.Slices o S16x128) (z : IVec S8x128 32) (m : IVec S8x128 32) (j : Fin 8) (a : Fin 16) (l : Fin 128) (i : Fin 32)
    (hi : i.val = o 0 + a.val) (ho1 : o 1 = 0) (t n : Nat) (ht : t ≤ 2) (htag : (m (ix2 j l)).toNat / 256 % 4 = t)
    (hs1 : 1 ≤ (m (ix2 j l)).toNat % 256) (hs2 : (m (ix2 j l)).toNat % 256 ≤ 254)
    (hn : n < 2 ^ (4 + 2 * t)) (hz : (bitcast S32x128 8 z bitcasts_S8x128_w32_S32x128_w8 (ix2 i l)).toNat = zNat t n) :
    decHalf (F := Ideal) o ho z (rowOf m 7 j) (rowOf m 8 j) (ix2 a l) = (wOf (BitVec.ofNat 32 t) (BitVec.ofNat 32 n) * wsOf (m (ix2 j l)) : EReal) := by
  have htg : tagV (m (ix2 j l)) = BitVec.ofNat 32 t := by rw [tagV_eq, htag]
  obtain ⟨-, -, -, -, -, e8⟩ := rows_fmt _ t htg ht
  have hsl : extractStridedSlice S16x128 o (extf .bf16 (bitcastToFloat .fp8e4m3 (bitcast S32x128 8 z bitcasts_S8x128_w32_S32x128_w8) : FVec Ideal S32x128 .fp8e4m3) bitsLt_fp8e4m3_bf16) ho (ix2 a l)
      = Ideal.e4m3fn (bitcast S32x128 8 z bitcasts_S8x128_w32_S32x128_w8 (ix2 i l)) := by
    show Ideal.e4m3fn (bitcast S32x128 8 z bitcasts_S8x128_w32_S32x128_w8 _) = _
    refine congrArg (fun y => Ideal.e4m3fn (bitcast S32x128 8 z bitcasts_S8x128_w32_S32x128_w8 y)) ?_
    funext d; apply Fin.ext
    match d with
    | ⟨0, _⟩ => exact hi.symm
    | ⟨1, _⟩ => show o 1 + l.val = l.val; omega
  have hp : a.val / 2 < 8 := by omega
  have hfx : bitcast S16x128 16 (rowOf m 8 j) bitcasts_S8x128_w32_S16x128_w16 (ix2 a l) = if t = 2 then 0x3F80#16 else 0x4280#16 := by
    rw [half_elem _ bitcasts_S8x128_w32_S16x128_w16 a l ⟨a.val / 2, hp⟩ rfl]
    show (metaRows m 8 (ix2 j l)).extractLsb' _ 16 = _
    rw [row8, e8]
    rcases (by omega : a.val % 2 = 0 ∨ a.val % 2 = 1) with h | h <;> rw [h] <;> split <;> decide
  have hsc : (bitcast S16x128 16 (rowOf m 7 j) bitcasts_S8x128_w32_S16x128_w16 (ix2 a l)).toNat = (m (ix2 j l)).toNat % 256 * 128 := by
    rw [half_elem _ bitcasts_S8x128_w32_S16x128_w16 a l ⟨a.val / 2, hp⟩ rfl]
    show ((metaRows m 7 (ix2 j l)).extractLsb' _ 16).toNat = _
    rw [row7, mask255]
    exact scale_halves ⟨_, Nat.mod_lt _ (by decide)⟩ ⟨a.val % 2, Nat.mod_lt _ (by decide)⟩
  obtain ⟨s1, s2⟩ := scale_eq (m (ix2 j l)) _ hsc hs1 hs2
  show (extractStridedSlice S16x128 o (extf .bf16 (bitcastToFloat .fp8e4m3 (bitcast S32x128 8 z bitcasts_S8x128_w32_S32x128_w8) : FVec Ideal S32x128 .fp8e4m3) bitsLt_fp8e4m3_bf16) ho (ix2 a l)
      * Ideal.ofBits .bf16 (bitcast S16x128 16 (rowOf m 8 j) bitcasts_S8x128_w32_S16x128_w16 (ix2 a l))
      * Ideal.ofBits .bf16 (bitcast S16x128 16 (rowOf m 7 j) bitcasts_S8x128_w32_S16x128_w16 (ix2 a l)) : EReal) = _
  rw [hsl, decode_eq t n ht hn _ hz _ hfx, s1, s2]

/-- A weight of a decoded tile. -/
theorem tile_dec (R7 : IVec S21781x8x128 8) (sts : Fin 2 → Fin 8 → BitVec 32) (ms : Fin 2 → IVec S8x128 32) (ns : Fin 2) (p : Fin 128) (b : Fin 2) (l : Fin 128)
    (j : Fin 8) (hj : j.val = p.val / 16) (st μ : BitVec 32) (hst' : sts ns j = st) (hμ' : ms ns (ix2 j l) = μ) (t n : Nat)
    (hst : st.toNat / 128 + 8 ≤ 21781) (ht : t ≤ 2) (htag : μ.toNat / 256 % 4 = t) (hμ : μ.toNat / 131072 % 32 = 0)
    (hw : (μ.toNat / 4194304 + 1024 - 2 * (st.toNat % 128)) % 1024 + 2 * (t + 2) ≤ 1024)
    (hs1 : 1 ≤ μ.toNat % 256) (hs2 : μ.toNat % 256 ≤ 254) (i : Nat) (hi : i = 2 * (p.val % 16) + b.val)
    (hn : ∀ e, n.testBit e = (decide (e < 4 + 2 * t)
      && sbit R7 (st.toNat / 128 * 1024 + 4 * (2 * (st.toNat % 128) + (μ.toNat / 4194304 + 1024 - 2 * (st.toNat % 128)) % 1024) + ((4 + 2 * t) * i + e) / 8)
          (((4 + 2 * t) * i + e) % 8))) :
    tileVal (F := Ideal) lanes R7 sts ms ns p b l = (wOf (BitVec.ofNat 32 t) (BitVec.ofNat 32 n) * wsOf μ : EReal) := by
  subst hst' hμ' hi
  have hp : p.val / 16 < 8 := by omega
  obtain rfl : j = ⟨p.val / 16, hp⟩ := Fin.ext hj
  have hi32 : 2 * (p.val % 16) + b.val < 32 := by omega
  obtain ⟨hlt, hz⟩ := blk_byte R7 _ (ms ns) ⟨p.val / 16, by omega⟩ l t n hst ht htag hμ hw ⟨2 * (p.val % 16) + b.val, hi32⟩ hn
  unfold tileVal
  by_cases h : p.val % 16 < 8
  · refine (dif_pos h).trans ?_
    rw [asPairs_elem]
    exact decHalf_elem _ _ _ (ms ns) _ _ l ⟨2 * (p.val % 16) + b.val, hi32⟩ (by show _ = 0 + _; rw [Nat.zero_add]) rfl t n ht htag hs1 hs2 hlt hz
  · refine (dif_neg h).trans ?_
    rw [asPairs_elem]
    exact decHalf_elem _ _ _ (ms ns) _ _ l ⟨2 * (p.val % 16) + b.val, hi32⟩ (by show 2 * (p.val % 16) + b.val = 16 + (2 * (p.val % 16 - 8) + b.val); omega) rfl t n ht htag hs1 hs2 hlt hz

end Cert.MainIdeal.Hand
end
-- ==== Proof.Sums.lean ====
/-
  The accumulator over the extended reals: a sum of products over the columns taken so far.
-/
module

public import proofs.«01_k».proof.Proof.Elem

@[expose] public section

noncomputable section

namespace Cert.MainIdeal.Hand

open Cert.MainIdeal Cert.MainIdeal.Gen
open Idealize.ShloMosaic
open Idealize.ShloMosaic.ValueIdx hiding ix0 ix1 ix2 ix3 ix4 ix5

theorem mm_elem (x : FVec Ideal S1536x256 .bf16) (y : FVec Ideal S256x256 .bf16) (r : Fin 1536) (n : Fin 256) :
    matmul dot_S1536x256_S256x256_S1536x256_1_0_0_1_n_n none x y (constant S1536x256 .f32 0x00000000#32 : FVec Ideal S1536x256 .f32) (ix2 r n)
      = ∑ kk : Fin 256, (x (ix2 r kk) * y (ix2 kk n) : EReal) := by
  have h := Ideal.matmul_plain_apply (M := 1536) (K := 256) (N := 256) none x y (constant S1536x256 .f32 0x00000000#32 : FVec Ideal S1536x256 .f32) r n
  have e : ∀ y, (constant S1536x256 .f32 0x00000000#32 : FVec Ideal S1536x256 .f32) y = (0 : EReal) := fun _ => Ideal.ofBits_zero_f32
  rw [e] at h
  exact h.trans (zero_add _)

/-- The weight at row `kk` and column `n` of tile `k`. -/
def wAt (K : Lanes) (I : Ins Ideal) (t : Fin 18) (k : Fin 28) (kk n : Fin 256) : EReal :=
  tileAt K I t k ⟨n.val / 128, by omega⟩ ⟨kk.val / 2, by omega⟩ ⟨kk.val % 2, by omega⟩ ⟨n.val % 128, by omega⟩

/-- The activation at row `r` and column `128 c + l`. -/
def xAt (R8 : Vec Ideal S56x768x128 .i32) (r : Fin 1536) (c : Fin 56) (l : Fin 128) : EReal :=
  Ideal.ofBits .bf16 ((R8 (ix3 c ⟨r.val / 2, by omega⟩ l) : BitVec 32).extractLsb' (16 * (r.val % 2)) 16)

theorem accAt_sum (K : Lanes) (I : Ins Ideal) (t : Fin 18) (r : Fin 1536) (n : Fin 256) (k : Nat) (hk : k ≤ 28) :
    accAt K I t k (ix2 r n) = ∑ k' : Fin k, ∑ kk : Fin 256,
      (xAt I.R8 r ⟨2 * k'.val + kk.val / 128, by omega⟩ ⟨kk.val % 128, by omega⟩ * wAt K I t ⟨k'.val, by omega⟩ kk n : EReal) := by
  induction k with
  | zero => exact Ideal.ofBits_zero_f32
  | succ k ih =>
    rw [Fin.sum_univ_castSucc]
    have h : k < 28 := by omega
    have e : accAt K I t (k + 1) = accUpd (actOf I.R8 ⟨2 * k, by omega⟩) (actOf I.R8 ⟨2 * k + 1, by omega⟩) (wtVal (tileAt K I t ⟨k, h⟩) 0) (wtVal (tileAt K I t ⟨k, h⟩) 1) (accAt K I t k) := by
      simp only [accAt, dif_pos h]
    rw [e]
    show ((accAt K I t k (ix2 r n) : EReal) + matmul dot_S1536x256_S256x256_S1536x256_1_0_0_1_n_n none _ _ (constant S1536x256 .f32 0x00000000#32 : FVec Ideal S1536x256 .f32) (ix2 r n) : EReal) = _
    rw [ih (by omega), mm_elem]
    refine congrArg₂ (fun a b : EReal => a + b) rfl (Finset.sum_congr rfl fun kk _ => ?_)
    rw [lhsOf_elem, rhsOf_elem]
    refine congrArg₂ (fun a b : EReal => a * b) ?_ rfl
    by_cases hh : kk.val < 128
    · rw [if_pos hh]
      show xAt I.R8 r ⟨2 * k, _⟩ _ = xAt I.R8 r ⟨2 * k + kk.val / 128, _⟩ _
      exact congrArg (fun c : Fin 56 => xAt I.R8 r c ⟨kk.val % 128, by omega⟩) (Fin.ext (by show 2 * k = 2 * k + kk.val / 128; omega))
    · rw [if_neg hh]
      show xAt I.R8 r ⟨2 * k + 1, _⟩ _ = xAt I.R8 r ⟨2 * k + kk.val / 128, _⟩ _
      exact congrArg (fun c : Fin 56 => xAt I.R8 r c ⟨kk.val % 128, by omega⟩) (Fin.ext (by have := kk.isLt; show 2 * k + 1 = 2 * k + kk.val / 128; omega))

end Cert.MainIdeal.Hand
end
-- ==== Proof.RefCode.lean ====
/-
  The reference's code words read at an index: the two bytes it gathers, and the bits it keeps of them.
-/
module

public import proofs.«01_k».proof.Proof.Gen.ReferenceIdeal.Run
public import proofs.«01_k».proof.Proof.Value
public import Idealize.ShloMosaic.Lib.ValueIdx
public import Idealize.ShloMosaic.Lib.Pointwise

@[expose] public section

noncomputable section

namespace Cert.MainIdeal.Hand

open Cert.ReferenceIdeal Cert.ReferenceIdeal.Gen
open Idealize.ShloMosaic
open Idealize.ShloMosaic.ValueIdx hiding ix0 ix1 ix2 ix3 ix4 ix5

/-- A block's tag. -/
def tagOf (μ : BitVec 32) : BitVec 32 := IntOp.andi (IntOp.shrsi .host μ 8#32) 3#32
/-- The bit a code begins at, counted from its block. -/
def posOf (t i : BitVec 32) : BitVec 32 := IntOp.muli (nBits t) i
/-- The byte a block begins at. -/
def startOf (st μ : BitVec 32) : BitVec 32 :=
  IntOp.muli 4#32 (IntOp.addi (IntOp.addi (IntOp.muli 256#32 (IntOp.shrsi .host st 7#32)) (IntOp.muli 2#32 (IntOp.andi st 127#32)))
    (IntOp.andi (IntOp.subi (IntOp.shrui .host μ 22#32) (IntOp.muli 2#32 (IntOp.andi st 127#32))) 1023#32))
/-- The byte a code begins at. -/
def firstOf (st μ i : BitVec 32) : BitVec 32 := IntOp.addi (startOf st μ) (IntOp.shrsi .host (posOf (tagOf μ) i) 3#32)
/-- A code, from the byte it begins at and the next. -/
def codeOf (t pos : BitVec 32) (g0 g1 : BitVec 8) : BitVec 32 :=
  IntOp.andi (IntOp.shrsi .host (IntOp.ori (g0.setWidth 32) (IntOp.shli .host (g1.setWidth 32) 8#32)) (IntOp.andi pos 7#32)) (IntOp.subi (IntOp.shli .host 1#32 (nBits t)) 1#32)

/-- The stream's byte at a start index, as a gather reads it. -/
def byteAt (ws : IVec S22295336 8) (x : BitVec 32) : BitVec 8 := ws (ix1 ⟨min x.toInt.toNat (22295336 - 1), by omega⟩)

theorem gather_elem (x : IVec S22295336 8) (idx : IVec S224x4608x32x1 32) (y : S224x4608x32.Idx) :
    Host.gather gather_S22295336_S224x4608x32x1_S224x4608x32_n_0_n_n_0_3_1 x idx y = byteAt x (idx (ix4 (y 0) (y 1) (y 2) (0 : Fin 1))) := by
  unfold Host.gather byteAt
  congr 1
  funext a
  obtain rfl : a = 0 := Subsingleton.elim _ _
  refine Fin.ext ?_
  show (gather_S22295336_S224x4608x32x1_S224x4608x32_n_0_n_n_0_3_1).start y idx 0 + (gather_S22295336_S224x4608x32x1_S224x4608x32_n_0_n_n_0_3_1).batchCoord y 0 + (gather_S22295336_S224x4608x32x1_S224x4608x32_n_0_n_n_0_3_1).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S22295336_S224x4608x32x1_S224x4608x32_n_0_n_n_0_3_1).startIndexMap from List.mem_singleton.mpr rfl)]
  have hsi : (gather_S22295336_S224x4608x32x1_S224x4608x32_n_0_n_n_0_3_1).siIdx y ⟨List.idxOf (0 : Fin 1) (gather_S22295336_S224x4608x32x1_S224x4608x32_n_0_n_n_0_3_1).startIndexMap,
      List.idxOf_lt_length_iff.2 (List.mem_singleton.mpr rfl)⟩ = ix4 (y 0) (y 1) (y 2) (0 : Fin 1) := by
    funext b; refine Fin.ext ?_
    match b with
    | ⟨0, _⟩ => rfl
    | ⟨1, _⟩ => rfl
    | ⟨2, _⟩ => rfl
    | ⟨3, _⟩ => rfl
  rw [hsi]
  rfl

variable (V0 : Valuation τ sig (Elt Ideal))

abbrev argW : IVec S22295336 8 := V0 (Proc.devRef .tc main_arg0)
abbrev argX : IVec S56x768x128 32 := V0 (Proc.devRef .tc main_arg1)
abbrev argC : IVec S36x224 32 := V0 (Proc.devRef .tc main_arg2)
abbrev argM : IVec S224x4608 32 := V0 (Proc.devRef .tc main_arg3)

theorem tile_elem (b : Fin 224) (n : Fin 4608) : Value.res_main_v8 V0 (ix2 b n) = argC V0 (ix2 ⟨n.val / 128, by omega⟩ b) := by
  unfold Value.res_main_v8
  rw [shapeCast_apply _ _ _ (ix3 b ⟨n.val / 128, by omega⟩ ⟨n.val % 128, by omega⟩) (by
    rw [Shape.rowMajor_val_three]
    refine Eq.trans ?_ (Shape.rowMajor_val_two (ix2 b n : S224x4608.Idx)).symm
    show (b.val * 36 + n.val / 128) * 128 + n.val % 128 = b.val * 4608 + n.val
    omega)]
  show argC V0 _ = argC V0 _
  congr 1
  funext a
  match a with
  | ⟨0, _⟩ => rfl
  | ⟨1, _⟩ => rfl

theorem tag_elem (b : Fin 224) (n : Fin 4608) : Value.res_main_v5 V0 (ix2 b n) = tagOf (argM V0 (ix2 b n)) := rfl

theorem bc01 {α : Type} (x : S224x4608.Idx → α) (h) (b : Fin 224) (n : Fin 4608) :
    broadcastInDim S224x4608x1 ![0, 1] h x (ix3 b n (0 : Fin 1)) = x (ix2 b n) := by
  refine congrArg x ?_
  funext a
  match a with
  | ⟨0, _⟩ => rfl
  | ⟨1, _⟩ => rfl

theorem bc012 {α : Type} (x : S224x4608x1.Idx → α) (h) (b : Fin 224) (n : Fin 4608) (i : Fin 32) :
    broadcastInDim S224x4608x32 ![0, 1, 2] h x (ix3 b n i) = x (ix3 b n (0 : Fin 1)) := by
  refine congrArg x ?_
  funext a
  match a with
  | ⟨0, _⟩ => rfl
  | ⟨1, _⟩ => rfl
  | ⟨2, _⟩ => rfl

theorem bc0123 {α : Type} (x : S224x4608x32.Idx → α) (h) (b : Fin 224) (n : Fin 4608) (i : Fin 32) :
    broadcastInDim S224x4608x32x1 ![0, 1, 2] h x (ix4 b n i (0 : Fin 1)) = x (ix3 b n i) := by
  refine congrArg x ?_
  funext a
  match a with
  | ⟨0, _⟩ => rfl
  | ⟨1, _⟩ => rfl
  | ⟨2, _⟩ => rfl

theorem nbits_elem (b : Fin 224) (n : Fin 4608) : Value.res_main_v33 V0 (ix3 b n (0 : Fin 1)) = nBits (tagOf (argM V0 (ix2 b n))) := by
  unfold Value.res_main_v33
  rw [bc01, ← tag_elem]
  generalize Value.res_main_v5 V0 = v
  rfl

theorem pos_elem (b : Fin 224) (n : Fin 4608) (i : Fin 32) :
    Value.res_main_v38 V0 (ix3 b n i) = posOf (tagOf (argM V0 (ix2 b n))) (BitVec.ofNat 32 i.val) := by
  unfold Value.res_main_v38 posOf
  rw [← nbits_elem]
  generalize Value.res_main_v33 V0 = v
  exact congrArg₂ IntOp.muli (bc012 v bcast_S224x4608x1_S224x4608x32_0_1_2 b n i) rfl

theorem first_elem (b : Fin 224) (n : Fin 4608) (i : Fin 32) :
    Value.res_main_v43 V0 (ix3 b n i) = firstOf (argC V0 (ix2 ⟨n.val / 128, by omega⟩ b)) (argM V0 (ix2 b n)) (BitVec.ofNat 32 i.val) := by
  unfold Value.res_main_v43 firstOf
  rw [← tile_elem, ← pos_elem]
  generalize Value.res_main_v38 V0 = v
  refine (congrArg₂ IntOp.addi ((bc012 _ bcast_S224x4608x1_S224x4608x32_0_1_2 b n i).trans (bc01 _ bcast_S224x4608_S224x4608x1_0_1 b n)) rfl).trans ?_
  unfold Value.res_main_v12 startOf
  generalize Value.res_main_v8 V0 = w
  rfl

theorem code_elem (b : Fin 224) (n : Fin 4608) (i : Fin 32) :
    Value.res_main_v62 V0 (ix3 b n i)
      = codeOf (tagOf (argM V0 (ix2 b n))) (posOf (tagOf (argM V0 (ix2 b n))) (BitVec.ofNat 32 i.val))
          (byteAt (argW V0) (firstOf (argC V0 (ix2 ⟨n.val / 128, by omega⟩ b)) (argM V0 (ix2 b n)) (BitVec.ofNat 32 i.val)))
          (byteAt (argW V0) (IntOp.addi (firstOf (argC V0 (ix2 ⟨n.val / 128, by omega⟩ b)) (argM V0 (ix2 b n)) (BitVec.ofNat 32 i.val)) 1#32)) := by
  rw [← first_elem, ← pos_elem]
  unfold Value.res_main_v62 codeOf
  rw [← nbits_elem]
  generalize Value.res_main_v43 V0 = f
  generalize Value.res_main_v38 V0 = p
  generalize Value.res_main_v33 V0 = nb
  have e1 := gather_elem (argW V0) (broadcastInDim S224x4608x32x1 ![0, 1, 2] bcast_S224x4608x32_S224x4608x32x1_0_1_2 f) (ix3 b n i)
  have e2 := gather_elem (argW V0) (broadcastInDim S224x4608x32x1 ![0, 1, 2] bcast_S224x4608x32_S224x4608x32x1_0_1_2 (addi f (broadcastInDim S224x4608x32 ![] bcast_S_S224x4608x32 (constantI S_ 32 1#32)))) (ix3 b n i)
  have e3 := bc0123 f bcast_S224x4608x32_S224x4608x32x1_0_1_2 b n i
  have e4 := bc0123 (addi f (broadcastInDim S224x4608x32 ![] bcast_S_S224x4608x32 (constantI S_ 32 1#32))) bcast_S224x4608x32_S224x4608x32x1_0_1_2 b n i
  replace e1 := e1.trans (congrArg (byteAt (argW V0)) e3)
  replace e2 := e2.trans (congrArg (byteAt (argW V0)) e4)
  generalize Host.gather gather_S22295336_S224x4608x32x1_S224x4608x32_n_0_n_n_0_3_1 (argW V0) (broadcastInDim S224x4608x32x1 ![0, 1, 2] bcast_S224x4608x32_S224x4608x32x1_0_1_2 f) = G1 at *
  generalize Host.gather gather_S22295336_S224x4608x32x1_S224x4608x32_n_0_n_n_0_3_1 (argW V0) (broadcastInDim S224x4608x32x1 ![0, 1, 2] bcast_S224x4608x32_S224x4608x32x1_0_1_2 (addi f (broadcastInDim S224x4608x32 ![] bcast_S_S224x4608x32 (constantI S_ 32 1#32)))) = G2 at *
  refine Eq.trans ?_ (congrArg₂ (fun g0 g1 : BitVec 8 => IntOp.andi (IntOp.shrsi .host (IntOp.ori (g0.setWidth 32) (IntOp.shli .host (g1.setWidth 32) 8#32)) (IntOp.andi (p (ix3 b n i)) 7#32)) (IntOp.subi (IntOp.shli .host 1#32 (nb (ix3 b n (0 : Fin 1)))) 1#32)) e1 e2)
  exact congrArg₂ IntOp.andi rfl (bc012 _ bcast_S224x4608x1_S224x4608x32_0_1_2 b n i)

end Cert.MainIdeal.Hand
end
-- ==== Proof.RefBits.lean ====
/-
  The bits of the reference's code words: those that the stream holds at the block's bytes.
-/
module

public import proofs.«01_k».proof.Proof.RefCode
public import proofs.«01_k».proof.Proof.BlockBits

@[expose] public section

noncomputable section

namespace Cert.MainIdeal.Hand

open Cert.ReferenceIdeal Cert.ReferenceIdeal.Gen
open Idealize.ShloMosaic
open Idealize.ShloMosaic.ValueIdx hiding ix0 ix1 ix2 ix3 ix4 ix5

/-- The word of a column's block in its window, counted from the tile's own. -/
def wordNat (st μ : BitVec 32) : Nat := (μ.toNat / 4194304 + 1024 - 2 * (st.toNat % 128)) % 1024
/-- The byte of the stream at which a column's block begins. -/
def baseNat (st μ : BitVec 32) : Nat := st.toNat / 128 * 1024 + 4 * (2 * (st.toNat % 128) + wordNat st μ)

/-- A tile start and a meta word that name a block inside the stream, of a format that there is. -/
structure WFm (st μ : BitVec 32) (t : Nat) : Prop where
  hst : st.toNat < 2787072
  ht : t ≤ 2
  htag : μ.toNat / 256 % 4 = t
  hμ : μ.toNat / 131072 % 32 = 0
  hw : wordNat st μ + 2 * (t + 2) ≤ 1024
  hend : baseNat st μ + 8 * (t + 2) ≤ 22295336
  hs1 : 1 ≤ μ.toNat % 256
  hs2 : μ.toNat % 256 ≤ 254

/-- Bit `e` of byte `P` of the stream as given. -/
def wbit (ws : IVec S22295336 8) (P e : Nat) : Bool := if h : P < 22295336 then (ws (ix1 ⟨P, h⟩)).getLsbD e else false

theorem tagOf_eq (μ : BitVec 32) : tagOf μ = BitVec.ofNat 32 (μ.toNat / 256 % 4) := by
  refine BitVec.eq_of_toNat_eq ?_
  rw [BitVec.toNat_ofNat, Nat.mod_eq_of_lt (by have := Nat.mod_lt (μ.toNat / 256) (show 4 > 0 by decide); omega)]
  exact sshr_mask μ 8 2 (by decide)

/-- An arithmetic shift of a word that is not negative. -/
theorem sshr_pos (x : BitVec 32) (k : Nat) (h : x.toNat < 2147483648) : (x.sshiftRight k).toNat = x.toNat / 2 ^ k := by
  rw [BitVec.sshiftRight_eq_of_msb_false ((BitVec.msb_eq_false_iff_two_mul_lt).mpr (by show 2 * x.toNat < 4294967296; omega)), BitVec.toNat_ushiftRight, Nat.shiftRight_eq_div_pow]

theorem nBits_eq (t : Nat) (ht : t ≤ 2) : nBits (BitVec.ofNat 32 t) = BitVec.ofNat 32 (4 + 2 * t) := by
  rcases (by omega : t = 0 ∨ t = 1 ∨ t = 2) with h | h | h <;> subst h <;> decide

theorem posOf_eq (t i : Nat) (ht : t ≤ 2) : posOf (BitVec.ofNat 32 t) (BitVec.ofNat 32 i) = BitVec.ofNat 32 ((4 + 2 * t) * i) := by
  show nBits (BitVec.ofNat 32 t) * BitVec.ofNat 32 i = _
  rw [nBits_eq t ht, ← BitVec.ofNat_mul]

theorem start_val (st μ : BitVec 32) (t : Nat) (w : WFm st μ t) : (startOf st μ).toNat = baseNat st μ := by
  have h1 : (IntOp.shrsi .host st 7#32).toNat = st.toNat / 128 := sshr_pos st 7 (by have := w.hst; omega)
  have h2 : (IntOp.andi st 127#32).toNat = st.toNat % 128 := by
    show (st &&& 127#32).toNat = _
    rw [BitVec.toNat_and]; exact Nat.and_two_pow_sub_one_eq_mod _ 7
  have h3 : (IntOp.shrui .host μ 22#32).toNat = μ.toNat / 4194304 := by
    rw [shr32, BitVec.ushiftRight_eq', BitVec.toNat_ushiftRight, Nat.shiftRight_eq_div_pow]; rfl
  have h4 : (IntOp.muli 2#32 (IntOp.andi st 127#32)).toNat = 2 * (st.toNat % 128) := by
    show (2#32 * IntOp.andi st 127#32).toNat = _
    rw [BitVec.toNat_mul, h2]
    exact Nat.mod_eq_of_lt (by have := Nat.mod_lt st.toNat (show 128 > 0 by decide); show 2 * (st.toNat % 128) < 4294967296; omega)
  have hm : μ.toNat / 4194304 < 1024 := Nat.div_lt_of_lt_mul μ.isLt
  have h5 : (IntOp.andi (IntOp.subi (IntOp.shrui .host μ 22#32) (IntOp.muli 2#32 (IntOp.andi st 127#32))) 1023#32).toNat = wordNat st μ := by
    show ((IntOp.shrui .host μ 22#32 - IntOp.muli 2#32 (IntOp.andi st 127#32)) &&& 1023#32).toNat = _
    rw [BitVec.toNat_and, BitVec.toNat_sub, h3, h4]
    refine (Nat.and_two_pow_sub_one_eq_mod _ 10).trans ?_
    show (4294967296 - 2 * (st.toNat % 128) + μ.toNat / 4194304) % 4294967296 % 1024 = (μ.toNat / 4194304 + 1024 - 2 * (st.toNat % 128)) % 1024
    have hv := Nat.mod_lt st.toNat (show 128 > 0 by decide)
    generalize st.toNat % 128 = v at hv ⊢
    generalize μ.toNat / 4194304 = w' at hm ⊢
    clear h1 h2 h3 h4
    omega
  have hq : st.toNat / 128 < 21774 := by have := w.hst; omega
  have hv := Nat.mod_lt st.toNat (show 128 > 0 by decide)
  have hwd : wordNat st μ < 1024 := Nat.mod_lt _ (by decide)
  show (4#32 * (256#32 * IntOp.shrsi .host st 7#32 + IntOp.muli 2#32 (IntOp.andi st 127#32) + IntOp.andi (IntOp.subi (IntOp.shrui .host μ 22#32) (IntOp.muli 2#32 (IntOp.andi st 127#32))) 1023#32)).toNat = _
  rw [BitVec.toNat_mul, BitVec.toNat_add, BitVec.toNat_add, BitVec.toNat_mul, h1, h4, h5]
  unfold baseNat
  generalize wordNat st μ = wd at hwd ⊢
  generalize st.toNat / 128 = q at hq ⊢
  generalize st.toNat % 128 = v at hv ⊢
  clear h1 h2 h3 h4 h5 hm w
  show 4 * (((256 * q % 4294967296 + 2 * v) % 4294967296 + wd) % 4294967296) % 4294967296 = q * 1024 + 4 * (2 * v + wd)
  omega

theorem first_val (st μ : BitVec 32) (t : Nat) (w : WFm st μ t) (i : Fin 32) :
    (firstOf st μ (BitVec.ofNat 32 i.val)).toNat = baseNat st μ + (4 + 2 * t) * i.val / 8 := by
  have hp : posOf (tagOf μ) (BitVec.ofNat 32 i.val) = BitVec.ofNat 32 ((4 + 2 * t) * i.val) := by
    rw [tagOf_eq, w.htag, posOf_eq _ _ w.ht]
  have hb : (4 + 2 * t) * i.val ≤ 248 := (Nat.mul_le_mul (show 4 + 2 * t ≤ 8 by have := w.ht; omega) (show i.val ≤ 31 by omega))
  have hs : (IntOp.shrsi .host (posOf (tagOf μ) (BitVec.ofNat 32 i.val)) 3#32).toNat = (4 + 2 * t) * i.val / 8 := by
    rw [hp]
    generalize (4 + 2 * t) * i.val = P at hb ⊢
    refine (sshr_pos (BitVec.ofNat 32 P) 3 ?_).trans ?_
    · rw [BitVec.toNat_ofNat]; omega
    · rw [BitVec.toNat_ofNat, Nat.mod_eq_of_lt (by omega)]; rfl
  show (startOf st μ + IntOp.shrsi .host (posOf (tagOf μ) (BitVec.ofNat 32 i.val)) 3#32).toNat = _
  rw [BitVec.toNat_add, start_val st μ t w, hs]
  have := w.hend
  exact Nat.mod_eq_of_lt (by show _ < 4294967296; omega)

theorem codeMask (t : Nat) (ht : t ≤ 2) : IntOp.subi (IntOp.shli .host 1#32 (nBits (BitVec.ofNat 32 t))) 1#32 = BitVec.ofNat 32 (2 ^ (4 + 2 * t) - 1) := by
  rcases (by omega : t = 0 ∨ t = 1 ∨ t = 2) with h | h | h <;> subst h <;> decide

/-- A bit of a code, from the two bytes it lies in. -/
theorem code_bits (t P : Nat) (ht : t ≤ 2) (hP : P < 256) (g0 g1 : BitVec 8) (e : Nat) :
    (codeOf (BitVec.ofNat 32 t) (BitVec.ofNat 32 P) g0 g1).getLsbD e
      = (decide (e < 4 + 2 * t) && if P % 8 + e < 8 then g0.getLsbD (P % 8 + e) else g1.getLsbD (P % 8 + e - 8)) := by
  have ha : (IntOp.andi (BitVec.ofNat 32 P) 7#32).toNat = P % 8 := by
    show (BitVec.ofNat 32 P &&& 7#32).toNat = _
    rw [BitVec.toNat_and, BitVec.toNat_ofNat, Nat.mod_eq_of_lt (by omega)]; exact Nat.and_two_pow_sub_one_eq_mod _ 3
  have ha8 : P % 8 < 8 := Nat.mod_lt _ (by decide)
  unfold codeOf
  rw [codeMask t ht, shl32]
  unfold IntOp.shrsi
  rw [if_pos (by rw [ha]; omega)]
  show (BitVec.sshiftRight (g0.setWidth 32 ||| g1.setWidth 32 <<< (8#32 : BitVec 32)) (IntOp.andi (BitVec.ofNat 32 P) 7#32).toNat &&& BitVec.ofNat 32 (2 ^ (4 + 2 * t) - 1)).getLsbD e = _
  rw [ha, BitVec.getLsbD_and, BitVec.getLsbD_ofNat, Nat.testBit_two_pow_sub_one]
  by_cases he : e < 4 + 2 * t
  · have he8 : e < 8 := by omega
    rw [decide_eq_true he, decide_eq_true (show e < 32 by omega), BitVec.getLsbD_sshiftRight, decide_eq_false (show ¬ 32 ≤ e by omega), if_pos (show P % 8 + e < 32 by omega),
      BitVec.getLsbD_or, BitVec.shiftLeft_eq', BitVec.getLsbD_shiftLeft, BitVec.getLsbD_setWidth, BitVec.getLsbD_setWidth]
    generalize P % 8 = a at ha8
    show (!false && ((decide (a + e < 32) && g0.getLsbD (a + e)) || (decide (a + e < 32) && !decide (a + e < 8) && (decide (a + e - 8 < 32) && g1.getLsbD (a + e - 8))))  && (true && true)) = _
    rw [decide_eq_true (show a + e < 32 by omega), decide_eq_true (show a + e - 8 < 32 by omega)]
    by_cases h8 : a + e < 8
    · rw [if_pos h8, decide_eq_true h8]; simp
    · rw [if_neg h8, decide_eq_false h8, BitVec.getLsbD_of_ge g0 _ (by omega)]; simp
  · rw [decide_eq_false he]
    simp

theorem byteAt_of (ws : IVec S22295336 8) (x : BitVec 32) (h : x.toNat < 22295336) : byteAt ws x = ws (ix1 ⟨x.toNat, h⟩) := by
  have hx : x.toInt.toNat = x.toNat := by
    have := BitVec.toInt_eq_toNat_cond x
    rw [if_pos (by omega)] at this
    omega
  unfold byteAt
  refine congrArg (fun z => ws (ix1 z)) (Fin.ext ?_)
  show min x.toInt.toNat (22295336 - 1) = x.toNat
  omega

/-- A bit of the reference's code word. -/
theorem code_stream (ws : IVec S22295336 8) (st μ : BitVec 32) (t : Nat) (w : WFm st μ t) (i : Fin 32) (e : Nat) :
    (codeOf (tagOf μ) (posOf (tagOf μ) (BitVec.ofNat 32 i.val)) (byteAt ws (firstOf st μ (BitVec.ofNat 32 i.val))) (byteAt ws (IntOp.addi (firstOf st μ (BitVec.ofNat 32 i.val)) 1#32))).getLsbD e
      = (decide (e < 4 + 2 * t) && wbit ws (baseNat st μ + ((4 + 2 * t) * i.val + e) / 8) (((4 + 2 * t) * i.val + e) % 8)) := by
  have hf := first_val st μ t w i
  have hend := w.hend
  have ht := w.ht
  have hb : (4 + 2 * t) * i.val + (4 + 2 * t) ≤ 8 * (8 * (t + 2)) := by
    have : (4 + 2 * t) * (i.val + 1) ≤ (4 + 2 * t) * 32 := Nat.mul_le_mul_left _ (by omega)
    rw [Nat.mul_add, Nat.mul_one] at this
    omega
  rw [tagOf_eq, w.htag, posOf_eq t i.val ht, code_bits t _ ht (by omega)]
  generalize firstOf st μ (BitVec.ofNat 32 i.val) = x at hf ⊢
  generalize (4 + 2 * t) * i.val = P at hf hb ⊢
  generalize baseNat st μ = b at hf hend ⊢
  by_cases he : e < 4 + 2 * t
  · rw [decide_eq_true he, Bool.true_and, Bool.true_and]
    by_cases h8 : P % 8 + e < 8
    · rw [if_pos h8, byteAt_of ws x (by omega)]
      unfold wbit
      rw [dif_pos (by omega)]
      have e1 : x.toNat = b + (P + e) / 8 := by omega
      have e2 : P % 8 + e = (P + e) % 8 := by omega
      rw [e2]
      exact congrArg (fun z => (ws (ix1 z)).getLsbD _) (Fin.ext e1)
    · have hx1 : (IntOp.addi x 1#32).toNat = x.toNat + 1 := by
        show (x + 1#32).toNat = _
        rw [BitVec.toNat_add]
        exact Nat.mod_eq_of_lt (by show x.toNat + 1 < 4294967296; omega)
      rw [if_neg h8, byteAt_of ws _ (by rw [hx1]; omega)]
      unfold wbit
      rw [dif_pos (by omega)]
      have e1 : (IntOp.addi x 1#32).toNat = b + (P + e) / 8 := by rw [hx1]; omega
      have e2 : P % 8 + e - 8 = (P + e) % 8 := by omega
      rw [e2]
      exact congrArg (fun z => (ws (ix1 z)).getLsbD _) (Fin.ext e1)
  · rw [decide_eq_false he]; rfl

end Cert.MainIdeal.Hand
end
-- ==== Proof.Weights.lean ====
/-
  A weight that the kernel multiplies by is the one that the reference computes at the same row and column.
-/
module

public import proofs.«01_k».proof.Proof.Dec
public import proofs.«01_k».proof.Proof.Sums
public import proofs.«01_k».proof.Proof.RefBits

@[expose] public section

noncomputable section

namespace Cert.MainIdeal.Hand

open Idealize.ShloMosaic
open Idealize.ShloMosaic.ValueIdx hiding ix0 ix1 ix2 ix3 ix4 ix5

/-- The reference's code word, from the stream. -/
def codeAt (ws : IVec Cert.ReferenceIdeal.S22295336 8) (st μ : BitVec 32) (i : Nat) : BitVec 32 :=
  codeOf (tagOf μ) (posOf (tagOf μ) (BitVec.ofNat 32 i)) (byteAt ws (firstOf st μ (BitVec.ofNat 32 i))) (byteAt ws (IntOp.addi (firstOf st μ (BitVec.ofNat 32 i)) 1#32))

theorem weight_eq (I : Ins Ideal) (T : Fin 18) (k : Fin 28) (kk nn : Fin 256) (ws : IVec Cert.ReferenceIdeal.S22295336 8) (st μ : BitVec 32) (t : Nat) (w : WFm st μ t)
    (hst : ∀ (a : Fin 36) (b : Fin 224), a.val = 2 * T.val + nn.val / 128 → b.val = 8 * k.val + kk.val / 32 → I.R4 (ix2 a b) = st)
    (hμ : ∀ (b : Fin 224) (x : Fin 256), b.val = 8 * k.val + kk.val / 32 → x.val = nn.val → I.R5 (ix2 b x) = μ)
    (hbuf : ∀ (P : Nat) (h : P < 22295336), I.R7 (ix3 ⟨P / 1024, by omega⟩ ⟨P / 128 % 8, by omega⟩ ⟨P % 128, by omega⟩) = ws (ix1 ⟨P, h⟩)) :
    wAt lanes I T k kk nn = (wOf (tagOf μ) (codeAt ws st μ (kk.val % 32)) * wsOf μ : EReal) := by
  have hi : kk.val % 32 < 32 := Nat.mod_lt _ (by decide)
  have hT : tagOf μ = BitVec.ofNat 32 t := by rw [tagOf_eq, w.htag]
  have hc : codeAt ws st μ (kk.val % 32) = BitVec.ofNat 32 (codeAt ws st μ (kk.val % 32)).toNat := by rw [BitVec.ofNat_toNat, BitVec.setWidth_eq]
  rw [hT, hc]
  refine tile_dec I.R7 (stsAt I T k) (msAt I k) _ _ _ _ ⟨kk.val / 2 / 16, by omega⟩ rfl st μ ?_ ?_ t _ ?_ w.ht w.htag w.hμ w.hw w.hs1 w.hs2 (kk.val % 32) ?_ ?_
  · exact hst _ _ rfl (by show 8 * k.val + kk.val / 2 / 16 = _; omega)
  · exact hμ _ _ (by show 8 * k.val + kk.val / 2 / 16 = _; omega) (by show 128 * (nn.val / 128) + nn.val % 128 = nn.val; omega)
  · have := w.hst; omega
  · show kk.val % 32 = 2 * (kk.val / 2 % 16) + kk.val % 2
    omega
  · intro e
    refine (code_stream ws st μ t w ⟨kk.val % 32, hi⟩ e).trans ?_
    show (decide (e < 4 + 2 * t) && wbit ws (baseNat st μ + ((4 + 2 * t) * (kk.val % 32) + e) / 8) (((4 + 2 * t) * (kk.val % 32) + e) % 8))
      = (decide (e < 4 + 2 * t) && sbit I.R7 (baseNat st μ + ((4 + 2 * t) * (kk.val % 32) + e) / 8) (((4 + 2 * t) * (kk.val % 32) + e) % 8))
    by_cases he : e < 4 + 2 * t
    · have hb : (4 + 2 * t) * (kk.val % 32) + (4 + 2 * t) ≤ 8 * (8 * (t + 2)) := by
        have : (4 + 2 * t) * (kk.val % 32 + 1) ≤ (4 + 2 * t) * 32 := Nat.mul_le_mul_left _ (by omega)
        rw [Nat.mul_add, Nat.mul_one] at this
        omega
      have hend := w.hend
      have hP : baseNat st μ + ((4 + 2 * t) * (kk.val % 32) + e) / 8 < 22295336 := by omega
      generalize baseNat st μ + ((4 + 2 * t) * (kk.val % 32) + e) / 8 = P at hP
      congr 1
      unfold wbit sbit
      rw [dif_pos hP, dif_pos (show P < 21781 * 1024 by omega)]
      exact congrArg (fun z : BitVec 8 => z.getLsbD _) (hbuf P hP).symm
    · rw [decide_eq_false he, Bool.false_and, Bool.false_and]

/-- A sum over 7168 as 28 sums over 256. -/
theorem sum_tiles (g : Fin 7168 → EReal) : ∑ k : Fin 7168, g k = ∑ k' : Fin 28, ∑ kk : Fin 256, g ⟨256 * k'.val + kk.val, by omega⟩ := by
  refine (Equiv.sum_comp (finProdFinEquiv : Fin 28 × Fin 256 ≃ Fin (28 * 256)) g).symm.trans ?_
  rw [Fintype.sum_prod_type]
  refine Finset.sum_congr rfl fun k' _ => Finset.sum_congr rfl fun kk _ => congrArg g (Fin.ext ?_)
  exact Nat.add_comm _ _

end Cert.MainIdeal.Hand
end
-- ==== Proof.Out.lean ====
/-
  The result array after the run: each grid step's block of 256 columns.
-/
module

public import proofs.«01_k».proof.Proof.Run
public import Idealize.ShloMosaic.Lib.Pointwise

@[expose] public section

noncomputable section

namespace Cert.MainIdeal.Hand

open Cert.MainIdeal Cert.MainIdeal.Gen
open Idealize.ShloMosaic Idealize.ShloMosaic.TcCoe Idealize.ShloMosaic.Tactic

variable {F : FTy → Type} [FloatOps F] [∀ e, Nonempty (Elt F e)]
variable (m : (ℓ : Loc nD τ sig) → Buf (Elt F) ℓ)

theorem steps18 : cfg0.N = 18 := by decide

theorem coord_val (t : Fin cfg0.N) : (grid0.coords t 0).val = t.val := (by decide +kernel : ∀ t : Fin cfg0.N, (grid0.coords t 0).val = t.val) t

/-- The grid step that writes column `n`. -/
def stepOf (n : Fin 4608) : Fin cfg0.N := ⟨n.val / 256, by rw [steps18]; omega⟩

/-- The result, each column from the step that writes it. -/
def G (c : Dev nD) : Vec F S1536x4608 .bf16 := fun y => outAt m c (stepOf (y 1)) (ix2 (y 0) (⟨(y 1).val % 256, Nat.mod_lt _ (by decide)⟩ : Fin 256))

theorem emb3 (t : Fin cfg0.N) (y : Fin 1536) (x : Fin 256) (ht : t.val * 256 + x.val < 4608) :
    ((cfg0.win 3).blk t).view.emb (ix2 y x) = (ix2 y ⟨t.val * 256 + x.val, ht⟩ : S1536x4608.Idx) := by
  have e0 : win0_3.index t (0 : Fin 2) = 0 := rfl
  have e1 : win0_3.index t (1 : Fin 2) = t.val := (by decide +kernel : ∀ t : Fin cfg0.N, win0_3.index t (1 : Fin 2) = t.val) t
  funext a; apply Fin.ext
  match a with
  | ⟨0, _⟩ => show win0_3.index t (0 : Fin 2) * 1536 + 1 * y.val = y.val; omega
  | ⟨1, _⟩ => show win0_3.index t (1 : Fin 2) * 256 + 1 * x.val = t.val * 256 + x.val; omega

/-- An index of a matrix, from its two coordinates. -/
theorem idx2 {A B : Nat} (j : (⟨2, ![A, B]⟩ : Shape).Idx) : j = ix2 (j 0) (j 1) := by
  funext a
  match a with
  | ⟨0, _⟩ => rfl
  | ⟨1, _⟩ => rfl

theorem G_at (c : Dev nD) (t : Fin cfg0.N) (y : Fin 1536) (x : Fin 256) (ht : t.val * 256 + x.val < 4608) :
    G m c (ix2 y ⟨t.val * 256 + x.val, ht⟩) = outAt m c t (ix2 y x) := by
  have e1 : stepOf ⟨t.val * 256 + x.val, ht⟩ = t := Fin.ext (by show (t.val * 256 + x.val) / 256 = t.val; omega)
  have e2 : (⟨(t.val * 256 + x.val) % 256, Nat.mod_lt _ (by decide)⟩ : Fin 256) = x := Fin.ext (by show (t.val * 256 + x.val) % 256 = x.val; omega)
  show outAt m c (stepOf ⟨t.val * 256 + x.val, ht⟩) (ix2 y ⟨(t.val * 256 + x.val) % 256, _⟩) = _
  rw [e1, e2]

/-- What a step writes back is its block of the result. -/
theorem flushed3_eq (c : Dev nD) (t : Fin cfg0.N) : (dats m 0 c).flushed 3 t = ((cfg0.win 3).blk t).view.read (Elt F) (G m c) := by
  show (cfg0.win 3).cut (grid0.coords t) ((dats m 0 c).after 3 t) = _
  rw [after0_3]
  funext j
  obtain ⟨y, x, rfl⟩ : ∃ (y : Fin 1536) (x : Fin 256), j = ix2 y x := ⟨j 0, j 1, idx2 j⟩
  have ht : t.val * 256 + x.val < 4608 := by have h : t.val < 18 := t.isLt; omega
  show outAt m c t (ix2 y x) = G m c (((cfg0.win 3).blk t).view.emb (ix2 y x))
  rw [emb3 t y x ht, G_at]

/-- Every index of the result is in some step's block. -/
theorem covered3 (i : S1536x4608.Idx) : ∃ t : Fin cfg0.N, (cfg0.win 3).flush t = true ∧ i ∈ ((cfg0.win 3).blk t).view.set := by
  obtain ⟨y, n, rfl⟩ : ∃ (y : Fin 1536) (n : Fin 4608), i = ix2 y n := ⟨i 0, i 1, idx2 i⟩
  refine ⟨stepOf n, flush0_3 _, ?_⟩
  have h := ((cfg0.win 3).blk (stepOf n)).view.emb_mem_set (ix2 y (⟨n.val % 256, Nat.mod_lt _ (by decide)⟩ : Fin 256))
  have e : n.val / 256 * 256 + n.val % 256 = n.val := by omega
  rw [emb3 (stepOf n) y ⟨n.val % 256, Nat.mod_lt _ (by decide)⟩ (by show n.val / 256 * 256 + n.val % 256 < 4608; omega)] at h
  have e' : (⟨(stepOf n).val * 256 + (⟨n.val % 256, Nat.mod_lt _ (by decide)⟩ : Fin 256).val, by show n.val / 256 * 256 + n.val % 256 < 4608; omega⟩ : Fin 4608) = n := Fin.ext e
  rwa [e'] at h

theorem final3 (c : Dev nD) : (dats m 0 c).arrAt 3 cfg0.N = G m c :=
  (dats m 0 c).arrAt_eq_of_cover 3 (G m c) (fun t _ => flushed3_eq m c t) covered3

end Cert.MainIdeal.Hand
end
-- ==== Proof.Host.lean ====
/-
  The stream on chip, byte by byte: its whole tiles and its padded tail hold the argument's bytes in order.
-/
module

public import proofs.«01_k».proof.Proof.Run
public import Idealize.ShloMosaic.Lib.ValueIdx
public import Idealize.ShloMosaic.Lib.Pointwise
public import Idealize.ShloMosaic.Lib.KernelVsHost

@[expose] public section

noncomputable section

namespace Cert.MainIdeal.Hand

open Cert.MainIdeal Cert.MainIdeal.Gen
open Idealize.ShloMosaic Idealize.ShloMosaic.TcCoe Idealize.ShloMosaic.Tactic

variable {F : FTy → Type} [FloatOps F] [∀ e, Nonempty (Elt F e)]
variable (m : (ℓ : Loc nD τ sig) → Buf (Elt F) ℓ)

/-- The stream as launched. -/
abbrev strm (c : Dev nD) : IVec S22295336 8 := m ((c.tc : Thread nD τ).loc main_arg0)

theorem V_stream (c : Dev nD) : V m c main_v4 = (shapeCast S21772x8x128 (extractStridedSlice S22294528 ![0] (strm m c) slices_S22295336_S22294528_0) shapeCasts_S22294528_S21772x8x128 : IVec S21772x8x128 8) := by
  unfold V
  simp only [hostOps0, hostOps0_1, hostOps0_2, List.flatten_cons, List.flatten_nil, List.append_nil, List.cons_append, List.nil_append]
  after_results_simp
  rfl

theorem V_tail (c : Dev nD) : ∃ z : IVec S_ 8, V m c main_v2 = (shapeCast S9x8x128 (pad S9216 ![0] ![8408] ![0] (extractStridedSlice S808 ![22294528] (strm m c) slices_S22295336_S808_22294528) z pads_S808_S9216_084080 h_S_ : IVec S9216 8) shapeCasts_S9216_S9x8x128 : IVec S9x8x128 8) := by
  unfold V
  simp only [hostOps0, hostOps0_1, hostOps0_2, List.flatten_cons, List.flatten_nil, List.append_nil, List.cons_append, List.nil_append]
  after_results_simp
  exact ⟨_, rfl⟩

theorem emb0 (t : Fin cfg0.N) (z : S9x8x128.Idx) : ((cfg0.win 0).blk t).view.emb z = z := by
  have e0 : win0_0.index t (0 : Fin 3) = 0 := rfl
  have e1 : win0_0.index t (1 : Fin 3) = 0 := rfl
  have e2 : win0_0.index t (2 : Fin 3) = 0 := rfl
  funext a; apply Fin.ext
  match a with
  | ⟨0, _⟩ => show win0_0.index t (0 : Fin 3) * 9 + 1 * (z 0).val = (z 0).val; omega
  | ⟨1, _⟩ => show win0_0.index t (1 : Fin 3) * 8 + 1 * (z 1).val = (z 1).val; omega
  | ⟨2, _⟩ => show win0_0.index t (2 : Fin 3) * 128 + 1 * (z 2).val = (z 2).val; omega

theorem tail1_eq (c : Dev nD) : tail1 m c = V m c main_v2 := by
  funext y
  have hN : 0 < cfg0.N := by decide
  show V m c main_v2 (((cfg0.win 0).blk (⟨0, hN⟩ : Fin cfg0.N)).view.emb y) = V m c main_v2 y
  rw [emb0]

theorem emb2 (t : Fin cfg0.N) (y : Fin 224) (x : Fin 256) (ht : t.val * 256 + x.val < 4608) :
    ((cfg0.win 2).blk t).view.emb (ix2 y x) = (ix2 y ⟨t.val * 256 + x.val, ht⟩ : S224x4608.Idx) := by
  have e0 : win0_2.index t (0 : Fin 2) = 0 := rfl
  have e1 : win0_2.index t (1 : Fin 2) = t.val := (by decide +kernel : ∀ t : Fin cfg0.N, win0_2.index t (1 : Fin 2) = t.val) t
  funext a; apply Fin.ext
  match a with
  | ⟨0, _⟩ => show win0_2.index t (0 : Fin 2) * 224 + 1 * y.val = y.val; omega
  | ⟨1, _⟩ => show win0_2.index t (1 : Fin 2) * 256 + 1 * x.val = t.val * 256 + x.val; omega

/-- The grid step's block of meta words: 256 columns of the argument. -/
theorem metaAt_eq (c : Dev nD) (t : Fin cfg0.N) (y : Fin 224) (x : Fin 256) (ht : t.val * 256 + x.val < 4608) :
    (iblk m c 2 t : Vec F S224x256 .i32) (ix2 y x) = (m ((c.tc : Thread nD τ).loc main_arg3) : Vec F S224x4608 .i32) (ix2 y ⟨t.val * 256 + x.val, ht⟩) := by
  rw [← V_main_arg3 m c]
  show V m c main_arg3 (((cfg0.win 2).blk t).view.emb (ix2 y x)) = V m c main_arg3 _
  rw [emb2 t y x ht]

theorem act1_eq (c : Dev nD) : act1 m c = m ((c.tc : Thread nD τ).loc main_arg1) := by
  rw [← V_main_arg1 m c]
  rfl

/-- An element of a slice of a list. -/
theorem slice1 {α : Type} {n k : Nat} (o : Nat) (x : (⟨1, ![n]⟩ : Shape).Idx → α) (h : (⟨1, ![n]⟩ : Shape).Slices ![o] ⟨1, ![k]⟩) (i : Fin k) (hi : o + i.val < n) :
    extractStridedSlice ⟨1, ![k]⟩ ![o] x h (ix1 i) = x (ix1 ⟨o + i.val, hi⟩) := by
  refine congrArg x ?_
  funext a; apply Fin.ext
  match a with
  | ⟨0, _⟩ => rfl

/-- A byte of the stream on chip. -/
theorem buf_byte (c : Dev nD) (P : Nat) (h : P < 22295336) :
    (bufOf (stream1 m c) (tail1 m c) : Vec F S21781x8x128 .i8) (ix3 ⟨P / 1024, by omega⟩ ⟨P / 128 % 8, by omega⟩ ⟨P % 128, by omega⟩) = strm m c (ix1 ⟨P, h⟩) := by
  unfold bufOf
  by_cases hp : P / 1024 < 21772
  · refine (dif_pos (show P / 1024 < 21772 from hp)).trans ?_
    show V m c main_v4 _ = _
    rw [V_stream]
    refine (shapeCast_apply _ _ _ (ix1 ⟨P, by omega⟩ : S22294528.Idx) ?_).trans ?_
    · rw [Shape.rowMajor_val_one, Shape.rowMajor_val_three]
      show P = (P / 1024 * 8 + P / 128 % 8) * 128 + P % 128
      omega
    · refine congrArg (strm m c) ?_
      funext a; apply Fin.ext
      match a with
      | ⟨0, _⟩ => show 0 + P = P; omega
  · have hge : 22294528 ≤ P := by omega
    refine (dif_neg (show ¬ P / 1024 < 21772 from hp)).trans ?_
    rw [tail1_eq]
    obtain ⟨z, hz⟩ := V_tail m c
    rw [hz]
    obtain ⟨Q, hQ⟩ : ∃ Q, P = 22294528 + Q := ⟨P - 22294528, by omega⟩
    have hQl : Q < 808 := by omega
    refine (shapeCast_apply _ _ _ (ix1 ⟨Q, by omega⟩ : S9216.Idx) ?_).trans ?_
    · rw [Shape.rowMajor_val_one, Shape.rowMajor_val_three]
      show Q = ((P / 1024 - 21772) * 8 + P / 128 % 8) * 128 + P % 128
      omega
    · refine (pad_apply_of_inside ![0] ![8408] ![0] _ z _ _ _ (ix1 ⟨Q, hQl⟩ : S808.Idx) ?_).trans ?_
      · intro a
        match a with
        | ⟨0, _⟩ => exact (show Q = 0 + Q * (0 + 1) by rw [Nat.zero_add, Nat.zero_add, Nat.mul_one])
      · have hi : 22294528 + Q < 22295336 := by omega
        have e := slice1 (n := 22295336) (k := 808) 22294528 (strm m c) slices_S22295336_S808_22294528 ⟨Q, hQl⟩ hi
        refine e.trans ?_
        exact congrArg (fun z => strm m c (ix1 z)) (Fin.ext hQ.symm)

end Cert.MainIdeal.Hand
end
-- ==== Proof.RefElem.lean ====
/-
  The reference's result, element by element: the sum over 7168 activations, each times the value of
  its code times the scale of its block.
-/
module

public import proofs.«01_k».proof.Proof.RefCode
public import proofs.«01_k».proof.Proof.Sums
public import Idealize.ShloMosaic.PureOps.Ideal.Laws

@[expose] public section

set_option maxRecDepth 8192

noncomputable section

namespace Cert.RefSide

open Cert.MainIdeal.Hand Cert.ReferenceIdeal Cert.ReferenceIdeal.Gen
open Idealize.ShloMosaic
open Idealize.ShloMosaic.ValueIdx hiding ix0 ix1 ix2 ix3 ix4 ix5

variable (V0 : Valuation τ sig (Elt Ideal))

theorem mbits_elem (b : Fin 224) (n : Fin 4608) : Value.res_main_v66 V0 (ix3 b n (0 : Fin 1)) = mBits (tagOf (argM V0 (ix2 b n))) := by
  unfold Value.res_main_v66
  rw [bc01, ← tag_elem]
  generalize Value.res_main_v5 V0 = v
  rfl

theorem bias_elem (b : Fin 224) (n : Fin 4608) : Value.res_main_v74 V0 (ix3 b n (0 : Fin 1)) = biasOf (tagOf (argM V0 (ix2 b n))) := by
  unfold Value.res_main_v74
  rw [bc01, ← tag_elem]
  generalize Value.res_main_v5 V0 = v
  rfl

theorem exp_elem (b : Fin 224) (n : Fin 4608) (i : Fin 32) :
    Value.res_main_v87 V0 (ix3 b n i) = expOf (tagOf (argM V0 (ix2 b n))) (Value.res_main_v62 V0 (ix3 b n i)) := by
  unfold Value.res_main_v87 expOf eMask
  rw [← mbits_elem, ← tag_elem]
  generalize Value.res_main_v66 V0 = mb
  generalize Value.res_main_v5 V0 = v
  generalize Value.res_main_v62 V0 = cw
  exact congrArg₂ (fun x y => IntOp.andi (IntOp.shrsi .host (cw (ix3 b n i)) x) y) (bc012 mb bcast_S224x4608x1_S224x4608x32_0_1_2 b n i)
    ((bc012 _ bcast_S224x4608x1_S224x4608x32_0_1_2 b n i).trans (bc01 _ bcast_S224x4608_S224x4608x1_0_1 b n))

theorem frac_elem (b : Fin 224) (n : Fin 4608) (i : Fin 32) :
    Value.res_main_v100 V0 (ix3 b n i) = fracOf (tagOf (argM V0 (ix2 b n))) (Value.res_main_v62 V0 (ix3 b n i)) := by
  unfold Value.res_main_v100 fracOf manOf
  rw [← mbits_elem]
  generalize Value.res_main_v66 V0 = mb
  generalize Value.res_main_v62 V0 = cw
  exact congrArg₂ (fun (x : BitVec 32) (y : EReal) => Ideal.div (((IntOp.andi (cw (ix3 b n i)) x).toInt : ℝ) : EReal) y)
    (bc012 (subi (Host.shli (broadcastInDim S224x4608x1 ![] bcast_S_S224x4608x1 (constantI S_ 32 1#32)) mb) (broadcastInDim S224x4608x1 ![] bcast_S_S224x4608x1 (constantI S_ 32 1#32))) bcast_S224x4608x1_S224x4608x32_0_1_2 b n i)
    (bc012 (sitofp (F := Ideal) .f32 (Host.shli (broadcastInDim S224x4608x1 ![] bcast_S_S224x4608x1 (constantI S_ 32 1#32)) mb)) bcast_S224x4608x1_S224x4608x32_0_1_2 b n i)

theorem mag_elem (b : Fin 224) (n : Fin 4608) (i : Fin 32) :
    Value.res_main_v119 V0 (ix3 b n i) = magOf (tagOf (argM V0 (ix2 b n))) (Value.res_main_v62 V0 (ix3 b n i)) := by
  unfold Value.res_main_v119 magOf
  rw [← exp_elem, ← frac_elem, ← bias_elem]
  generalize Value.res_main_v87 V0 = e
  generalize Value.res_main_v100 V0 = f
  generalize Value.res_main_v74 V0 = bi
  exact congrArg₂ ((fun (g x : EReal) (y : BitVec 32) => Scalar.select (IntOp.cmpi .eq (e (ix3 b n i)) 0#32) (g * x)
      ((Ideal.ofBits .f32 0x3F800000#32 + g) * Ideal.pow (Ideal.ofBits .f32 0x40000000#32) (((IntOp.subi (e (ix3 b n i)) y).toInt : ℝ) : EReal))) (f (ix3 b n i)))
    (bc012 (Host.powf (F := Ideal) (broadcastInDim S224x4608x1 ![] bcast_S_S224x4608x1 (constant S_ .f32 0x40000000#32)) (sitofp .f32 (subi (broadcastInDim S224x4608x1 ![] bcast_S_S224x4608x1 (constantI S_ 32 1#32)) bi))) bcast_S224x4608x1_S224x4608x32_0_1_2 b n i)
    (bc012 bi bcast_S224x4608x1_S224x4608x32_0_1_2 b n i)

/-- The reference's weights, by block, column and place in the block. -/
def refW : FVec Ideal S224x4608x32 .bf16 := (mulf (truncf .bf16 (select (andi (broadcastInDim S224x4608x32 ![0, 1, 2] bcast_S224x4608x1_S224x4608x32_0_1_2 (cmpi .eq (broadcastInDim S224x4608x1 ![0, 1] bcast_S224x4608_S224x4608x1_0_1 (Value.res_main_v5 V0)) (broadcastInDim S224x4608x1 ![] bcast_S_S224x4608x1 (constantI S_ 32 2#32)))) (cmpi .eq (andi (Value.res_main_v62 V0) (broadcastInDim S224x4608x32 ![] bcast_S_S224x4608x32 (constantI S_ 32 127#32))) (broadcastInDim S224x4608x32 ![] bcast_S_S224x4608x32 (constantI S_ 32 127#32)))) (broadcastInDim S224x4608x32 ![] bcast_S_S224x4608x32 (id (constant S_ .f32 0x7FC00000#32))) (select (cmpi .eq (andi (Host.shrsi (Value.res_main_v62 V0) (broadcastInDim S224x4608x32 ![0, 1, 2] bcast_S224x4608x1_S224x4608x32_0_1_2 (id (subi (Value.res_main_v33 V0) (broadcastInDim S224x4608x1 ![] bcast_S_S224x4608x1 (constantI S_ 32 1#32)))))) (broadcastInDim S224x4608x32 ![] bcast_S_S224x4608x32 (constantI S_ 32 1#32))) (broadcastInDim S224x4608x32 ![] bcast_S_S224x4608x32 (constantI S_ 32 1#32))) (Host.negf (Value.res_main_v119 V0)) (Value.res_main_v119 V0))) bitsLt_bf16_f32) (broadcastInDim S224x4608x32 ![0, 1, 2] bcast_S224x4608x1_S224x4608x32_0_1_2 (broadcastInDim S224x4608x1 ![0, 1] bcast_S224x4608_S224x4608x1_0_1 (truncf .bf16 (Host.powf (broadcastInDim S224x4608 ![] bcast_S_S224x4608 (constant S_ .f32 0x40000000#32)) (sitofp .f32 (subi (andi (V0 (Proc.devRef .tc main_arg3)) (broadcastInDim S224x4608 ![] bcast_S_S224x4608 (constantI S_ 32 255#32))) (broadcastInDim S224x4608 ![] bcast_S_S224x4608 (constantI S_ 32 127#32))))) bitsLt_bf16_f32))))

theorem weight_elem (b : Fin 224) (n : Fin 4608) (i : Fin 32) :
    refW V0 (ix3 b n i) = (wOf (tagOf (argM V0 (ix2 b n))) (Value.res_main_v62 V0 (ix3 b n i)) * wsOf (argM V0 (ix2 b n)) : EReal) := by
  unfold refW wOf signOf
  rw [← mag_elem, ← nbits_elem, ← tag_elem]
  generalize Value.res_main_v62 V0 = cw
  generalize Value.res_main_v119 V0 = mg
  generalize Value.res_main_v33 V0 = nb
  generalize Value.res_main_v5 V0 = v
  have e1 := (bc012 (cmpi .eq (broadcastInDim S224x4608x1 ![0, 1] bcast_S224x4608_S224x4608x1_0_1 v) (broadcastInDim S224x4608x1 ![] bcast_S_S224x4608x1 (constantI S_ 32 2#32))) bcast_S224x4608x1_S224x4608x32_0_1_2 b n i).trans
    (congrArg (fun x => IntOp.cmpi .eq x 2#32) (bc01 v bcast_S224x4608_S224x4608x1_0_1 b n))
  have e2 := bc012 (subi nb (broadcastInDim S224x4608x1 ![] bcast_S_S224x4608x1 (constantI S_ 32 1#32))) bcast_S224x4608x1_S224x4608x32_0_1_2 b n i
  have e3 := (bc012 _ bcast_S224x4608x1_S224x4608x32_0_1_2 b n i).trans (bc01 (truncf (F := Ideal) .bf16 (Host.powf (broadcastInDim S224x4608 ![] bcast_S_S224x4608 (constant S_ .f32 0x40000000#32)) (sitofp .f32 (subi (andi (V0 (Proc.devRef .tc main_arg3)) (broadcastInDim S224x4608 ![] bcast_S_S224x4608 (constantI S_ 32 255#32))) (broadcastInDim S224x4608 ![] bcast_S_S224x4608 (constantI S_ 32 127#32))))) bitsLt_bf16_f32) bcast_S224x4608_S224x4608x1_0_1 b n)
  refine congrArg₂ (fun x y : EReal => x * y) ?_ e3
  exact congrArg₂ ((fun (g : EReal) (x : BitVec 1) (y : BitVec 32) => Scalar.select (IntOp.andi x (IntOp.cmpi .eq (IntOp.andi (cw (ix3 b n i)) 127#32) 127#32)) (Ideal.ofBits .f32 0x7FC00000#32)
    (Scalar.select (IntOp.cmpi .eq (IntOp.andi (IntOp.shrsi .host (cw (ix3 b n i)) y) 1#32) 1#32) (-g) g)) (mg (ix3 b n i))) e1 e2

/-- The reference's weights as a matrix, and its activations. -/
def refWT : FVec Ideal S4608x7168 .bf16 := (shapeCast _ (transpose S4608x224x32 [1, 0, 2] (refW V0) transposes_S224x4608x32_S4608x224x32_1_0_2) shapeCasts_S4608x224x32_S4608x7168)
def refX : FVec Ideal S1536x7168 .bf16 := (shapeCast _ (transpose S768x2x56x128 [1, 3, 0, 2] (bitcastToFloat (F := Ideal) .bf16 (Host.bitcastConvertNarrow S56x768x128x2 16 (V0 (Proc.devRef .tc main_arg1)) splits_S56x768x128_w32_S56x768x128x2_w16)) transposes_S56x768x128x2_S768x2x56x128_1_3_0_2) shapeCasts_S768x2x56x128_S1536x7168)

theorem wt_elem (n : Fin 4608) (k : Fin 7168) :
    refWT V0 (ix2 n k) = refW V0 (ix3 ⟨k.val / 32, by omega⟩ n ⟨k.val % 32, by omega⟩) := by
  unfold refWT
  generalize refW V0 = w
  rw [shapeCast_apply _ _ _ (ix3 n ⟨k.val / 32, by omega⟩ ⟨k.val % 32, by omega⟩) (by
    rw [Shape.rowMajor_val_three]
    refine Eq.trans ?_ (Shape.rowMajor_val_two (ix2 n k : S4608x7168.Idx)).symm
    show (n.val * 224 + k.val / 32) * 32 + k.val % 32 = n.val * 7168 + k.val
    omega)]
  refine congrArg w ?_
  funext a
  match a with
  | ⟨0, _⟩ => rfl
  | ⟨1, _⟩ => rfl
  | ⟨2, _⟩ => rfl

theorem x_elem (r : Fin 1536) (k : Fin 7168) :
    refX V0 (ix2 r k) = xAt (argX V0) r ⟨k.val / 128, by omega⟩ ⟨k.val % 128, by omega⟩ := by
  unfold refX
  rw [shapeCast_apply _ _ _ (ix4 ⟨r.val / 2, by omega⟩ ⟨r.val % 2, by omega⟩ ⟨k.val / 128, by omega⟩ ⟨k.val % 128, by omega⟩) (by
    rw [Shape.rowMajor_val_four]
    refine Eq.trans ?_ (Shape.rowMajor_val_two (ix2 r k : S1536x7168.Idx)).symm
    show (((r.val / 2) * 2 + r.val % 2) * 56 + k.val / 128) * 128 + k.val % 128 = r.val * 7168 + k.val
    omega)]
  unfold xAt
  refine congrArg (Ideal.ofBits .bf16) ?_
  have e : ∀ (z z' : S56x768x128.Idx) (s s' : Nat), z = z' → s = s' → (argX V0 z).extractLsb' s 16 = (argX V0 z').extractLsb' s' 16 := by
    intro z z' s s' h h'; rw [h, h']
  refine e _ _ _ _ ?_ (Nat.mul_comm _ _)
  funext a
  match a with
  | ⟨0, _⟩ => rfl
  | ⟨1, _⟩ => rfl
  | ⟨2, _⟩ => rfl

/-- A contraction of both operands' last dimensions, as a sum. -/
theorem dot_elem (x : FVec Ideal S1536x7168 .bf16) (w : FVec Ideal S4608x7168 .bf16) (r : Fin 1536) (n : Fin 4608) :
    Host.dotGeneral (F := Ideal) dot_S1536x7168_S4608x7168_S1536x4608_1_1_0_0_n_n none x w (ix2 r n) = ∑ k : Fin 7168, (x (ix2 r k) * w (ix2 n k) : EReal) := by
  refine (Ideal.dotGeneral_apply (DotDims.transposedRhs 1536 7168 4608) _ _ x w (ix2 r n)).trans ?_
  rw [← Equiv.sum_comp (DotDims.transposedRhsContr 1536 7168 4608).symm]
  refine Finset.sum_congr rfl fun k _ => ?_
  have hk := contrEquiv1_symm_val (DotDims.transposedRhs 1536 7168 4608) 7168 (DotDims.transposedRhs_contr_rank 1536 7168 4608) (DotDims.transposedRhs_contr_size 1536 7168 4608) k
  have el : (DotDims.transposedRhs 1536 7168 4608).lhsIdx (ix2 r n) ((DotDims.transposedRhsContr 1536 7168 4608).symm k) = ix2 r k := by
    funext a
    refine Fin.ext ?_
    match a with
    | ⟨0, _⟩ => rfl
    | ⟨1, _⟩ => exact hk
  have er : (DotDims.transposedRhs 1536 7168 4608).rhsIdx (ix2 r n) ((DotDims.transposedRhsContr 1536 7168 4608).symm k) = ix2 n k := by
    funext a
    refine Fin.ext ?_
    match a with
    | ⟨0, _⟩ => rfl
    | ⟨1, _⟩ => exact hk
  rw [el, er]

/-- The reference's result. -/
def refOut : FVec Ideal S1536x4608 .bf16 := truncf .bf16 (Host.dotGeneral (F := Ideal) dot_S1536x7168_S4608x7168_S1536x4608_1_1_0_0_n_n none (refX V0) (refWT V0)) bitsLt_bf16_f32

theorem refOut_elem (r : Fin 1536) (n : Fin 4608) :
    refOut V0 (ix2 r n) = ∑ k : Fin 7168, (xAt (argX V0) r ⟨k.val / 128, by omega⟩ ⟨k.val % 128, by omega⟩
      * (wOf (tagOf (argM V0 (ix2 ⟨k.val / 32, by omega⟩ n))) (Value.res_main_v62 V0 (ix3 ⟨k.val / 32, by omega⟩ n ⟨k.val % 32, by omega⟩)) * wsOf (argM V0 (ix2 ⟨k.val / 32, by omega⟩ n))) : EReal) := by
  refine (dot_elem (refX V0) (refWT V0) r n).trans (Finset.sum_congr rfl fun k _ => ?_)
  rw [x_elem, wt_elem, weight_elem]

end Cert.RefSide
end
-- ==== Proof.WellFormed.lean ====
/-
  The precondition `well_formed`, read element by element: every column's block is of a format that
  there is, lies in the window of its tile and in the stream, and has an ordinary scale.
-/
module

public import proofs.«01_k».proof.Defs
public import proofs.«01_k».proof.Proof.Gen.Pre_well_formed
public import proofs.«01_k».proof.Proof.RefBits

@[expose] public section

set_option maxRecDepth 8192

noncomputable section

namespace Cert.WellFormed

open Cert.MainIdeal.Hand Cert.Pre_well_formed Cert.Pre_well_formed.Gen
open Idealize.ShloMosaic
open Idealize.ShloMosaic.ValueIdx hiding ix0 ix1 ix2 ix3 ix4 ix5

/-- The word of a block in its window, the window's first word and the number of words, as the predicate computes them. -/
def pOff (st : BitVec 32) : BitVec 32 := IntOp.muli 2#32 (IntOp.andi st 127#32)
def pWord (st μ : BitVec 32) : BitVec 32 := IntOp.andi (IntOp.subi (IntOp.shrui .host μ 22#32) (pOff st)) 1023#32
def pLen (μ : BitVec 32) : BitVec 32 := IntOp.muli 2#32 (IntOp.addi (tagOf μ) 2#32)
def pStart (st μ : BitVec 32) : BitVec 32 := IntOp.addi (IntOp.addi (IntOp.muli 256#32 (IntOp.shrsi .host st 7#32)) (pOff st)) (pWord st μ)

/-- The predicate at one tile start and meta word. -/
def pBit (st μ : BitVec 32) : BitVec 1 :=
  IntOp.andi (IntOp.andi (IntOp.andi (IntOp.andi (IntOp.andi (IntOp.andi (IntOp.andi
    (IntOp.cmpi .sge st 0#32) (IntOp.cmpi .slt st 2787072#32)) (IntOp.cmpi .sle (tagOf μ) 2#32))
    (IntOp.cmpi .eq (IntOp.andi (IntOp.shrsi .host μ 17#32) 31#32) 0#32))
    (IntOp.cmpi .sle (IntOp.addi (pWord st μ) (pLen μ)) 1024#32))
    (IntOp.cmpi .sle (IntOp.muli 4#32 (IntOp.addi (pStart st μ) (pLen μ))) 22295336#32))
    (IntOp.cmpi .sge (IntOp.andi μ 255#32) 1#32)) (IntOp.cmpi .sle (IntOp.andi μ 255#32) 254#32)

theorem tile_elem (a2 : IVec S36x224 32) (b : Fin 224) (n : Fin 4608) :
    shapeCast S224x4608 (broadcastInDim S224x36x128 ![0, 1] bcast_S224x36_S224x36x128_0_1 (transpose S224x36 [1, 0] a2 transposes_S36x224_S224x36_1_0)) shapeCasts_S224x36x128_S224x4608 (ix2 b n)
      = a2 (ix2 ⟨n.val / 128, by omega⟩ b) := by
  rw [shapeCast_apply _ _ _ (ix3 b ⟨n.val / 128, by omega⟩ ⟨n.val % 128, by omega⟩) (by
    rw [Shape.rowMajor_val_three]
    refine Eq.trans ?_ (Shape.rowMajor_val_two (ix2 b n : S224x4608.Idx)).symm
    show (b.val * 36 + n.val / 128) * 128 + n.val % 128 = b.val * 4608 + n.val
    omega)]
  refine congrArg a2 ?_
  funext a
  match a with
  | ⟨0, _⟩ => rfl
  | ⟨1, _⟩ => rfl

theorem fn_elem (a0 : IVec S22295336 8) (a1 : IVec S56x768x128 32) (a2 : IVec S36x224 32) (a3 : IVec S224x4608 32) (b : Fin 224) (n : Fin 4608) :
    fn (F := Ideal) a0 a1 a2 a3 (ix2 b n) = pBit (a2 (ix2 ⟨n.val / 128, by omega⟩ b)) (a3 (ix2 b n)) := by
  rw [← tile_elem a2 b n]
  unfold fn fn_part1 fn_part2 fn_part3
  dsimp only
  generalize shapeCast S224x4608 (broadcastInDim S224x36x128 ![0, 1] bcast_S224x36_S224x36x128_0_1 (transpose S224x36 [1, 0] a2 transposes_S36x224_S224x36_1_0)) shapeCasts_S224x36x128_S224x4608 = v
  rfl

/-- A block that the predicate accepts. -/
theorem of_bit (st μ : BitVec 32) (e : pBit st μ = 1#1) : WFm st μ (μ.toNat / 256 % 4) := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  have hT : (tagOf μ).toNat = μ.toNat / 256 % 4 := by
    rw [tagOf_eq, BitVec.toNat_ofNat]; exact Nat.mod_eq_of_lt (by have := Nat.mod_lt (μ.toNat / 256) (show 4 > 0 by decide); show _ < 4294967296; omega)
  have h17 : (IntOp.andi (IntOp.shrsi .host μ 17#32) 31#32).toNat = μ.toNat / 131072 % 32 := sshr_mask μ 17 5 (by decide)
  have hS : (IntOp.andi μ 255#32).toNat = μ.toNat % 256 := by
    show (μ &&& 255#32).toNat = _
    rw [BitVec.toNat_and]; exact Nat.and_two_pow_sub_one_eq_mod _ 8
  unfold pBit at e
  simp only [IntOp.cmpi, ha, ho, Bool.and_eq_true, BitVec.sle_eq_decide, BitVec.slt_eq_decide, decide_eq_true_eq, beq_iff_eq] at e
  obtain ⟨⟨⟨⟨⟨⟨⟨e1, e2⟩, e3⟩, e4⟩, e5⟩, e6⟩, e7⟩, e8⟩ := e
  have c0 : (0#32 : BitVec 32).toInt = 0 := by decide
  have c1 : (1#32 : BitVec 32).toInt = 1 := by decide
  have c2 : (2#32 : BitVec 32).toInt = 2 := by decide
  have c3 : (2787072#32 : BitVec 32).toInt = 2787072 := by decide
  have c4 : (1024#32 : BitVec 32).toInt = 1024 := by decide
  have c5 : (22295336#32 : BitVec 32).toInt = 22295336 := by decide
  have c6 : (254#32 : BitVec 32).toInt = 254 := by decide
  rw [c0] at e1
  rw [c3] at e2
  rw [c2] at e3
  rw [c4] at e5
  rw [c5] at e6
  rw [c1] at e7
  rw [c6] at e8
  clear c0 c1 c2 c3 c4 c5 c6 ha ho
  have small : ∀ x : BitVec 32, x.toNat < 2147483648 → x.toInt = x.toNat := fun x h => BitVec.toInt_eq_toNat_of_lt (by show 2 * x.toNat < 4294967296; omega)
  have hst : st.toNat < 2787072 := by
    have h := BitVec.toInt_eq_toNat_cond st
    have := st.isLt
    split at h <;> omega
  have hm4 := Nat.mod_lt (μ.toNat / 256) (show 4 > 0 by decide)
  have ht : μ.toNat / 256 % 4 ≤ 2 := by
    rw [small _ (by rw [hT]; omega), hT] at e3
    omega
  have hm256 := Nat.mod_lt μ.toNat (show 256 > 0 by decide)
  rw [small _ (by rw [hS]; omega), hS] at e7 e8
  have hμ : μ.toNat / 131072 % 32 = 0 := by
    rw [← h17, e4]; rfl
  have h1 : (IntOp.shrsi .host st 7#32).toNat = st.toNat / 128 := sshr_pos st 7 (by omega)
  have hv := Nat.mod_lt st.toNat (show 128 > 0 by decide)
  have h4 : (pOff st).toNat = 2 * (st.toNat % 128) := by
    have h2 : (IntOp.andi st 127#32).toNat = st.toNat % 128 := by
      show (st &&& 127#32).toNat = _
      rw [BitVec.toNat_and]; exact Nat.and_two_pow_sub_one_eq_mod _ 7
    show (2#32 * IntOp.andi st 127#32).toNat = _
    rw [BitVec.toNat_mul, h2]
    exact Nat.mod_eq_of_lt (by show 2 * (st.toNat % 128) < 4294967296; omega)
  have hm : μ.toNat / 4194304 < 1024 := Nat.div_lt_of_lt_mul μ.isLt
  have h5 : (pWord st μ).toNat = wordNat st μ := by
    have h3 : (IntOp.shrui .host μ 22#32).toNat = μ.toNat / 4194304 := by
      rw [shr32, BitVec.ushiftRight_eq', BitVec.toNat_ushiftRight, Nat.shiftRight_eq_div_pow]; rfl
    show ((IntOp.shrui .host μ 22#32 - pOff st) &&& 1023#32).toNat = _
    rw [BitVec.toNat_and, BitVec.toNat_sub, h3, h4]
    refine (Nat.and_two_pow_sub_one_eq_mod _ 10).trans ?_
    show (4294967296 - 2 * (st.toNat % 128) + μ.toNat / 4194304) % 4294967296 % 1024 = (μ.toNat / 4194304 + 1024 - 2 * (st.toNat % 128)) % 1024
    generalize st.toNat % 128 = v at hv ⊢
    generalize μ.toNat / 4194304 = w' at hm ⊢
    clear h1 h3 h4 hT h17 hS e1 e2 e3 e4 e5 e6 e7 e8 hst ht hμ hm4 hm256
    omega
  have hwd : wordNat st μ < 1024 := Nat.mod_lt _ (by decide)
  have hL : (pLen μ).toNat = 2 * (μ.toNat / 256 % 4 + 2) := by
    show (2#32 * (tagOf μ + 2#32)).toNat = _
    rw [BitVec.toNat_mul, BitVec.toNat_add, hT]
    generalize μ.toNat / 256 % 4 = t at ht ⊢
    show 2 * ((t + 2) % 4294967296) % 4294967296 = 2 * (t + 2)
    omega
  have hq : st.toNat / 128 < 21774 := by omega
  have h6 : (IntOp.addi (pWord st μ) (pLen μ)).toNat = wordNat st μ + 2 * (μ.toNat / 256 % 4 + 2) := by
    show (pWord st μ + pLen μ).toNat = _
    rw [BitVec.toNat_add, h5, hL]
    exact Nat.mod_eq_of_lt (by show _ < 4294967296; omega)
  have h7 : (IntOp.muli 4#32 (IntOp.addi (pStart st μ) (pLen μ))).toNat = baseNat st μ + 8 * (μ.toNat / 256 % 4 + 2) := by
    show (4#32 * ((256#32 * IntOp.shrsi .host st 7#32 + pOff st + pWord st μ) + pLen μ)).toNat = _
    rw [BitVec.toNat_mul, BitVec.toNat_add, BitVec.toNat_add, BitVec.toNat_add, BitVec.toNat_mul, h1, h4, h5, hL]
    unfold baseNat
    generalize wordNat st μ = wd at hwd ⊢
    generalize st.toNat / 128 = q at hq ⊢
    generalize st.toNat % 128 = v at hv ⊢
    generalize μ.toNat / 256 % 4 = t at ht ⊢
    show 4 * ((((256 * q % 4294967296 + 2 * v) % 4294967296 + wd) % 4294967296 + 2 * (t + 2)) % 4294967296) % 4294967296 = q * 1024 + 4 * (2 * v + wd) + 8 * (t + 2)
    clear h1 h4 h5 h6 hL hT h17 hS e1 e2 e3 e4 e5 e6 e7 e8 hst hμ hm hm4 hm256
    omega
  have hb : baseNat st μ ≤ 22310000 := by unfold baseNat; omega
  rw [small _ (by rw [h6]; omega), h6] at e5
  rw [small _ (by rw [h7]; omega), h7] at e6
  exact ⟨hst, ht, rfl, hμ, by omega, by omega, by omega, by omega⟩

end Cert.WellFormed
end
-- ==== Proof.Equal.lean ====
/-
  The kernel's result is the reference's.
-/
module

public import proofs.«01_k».proof.Proof.Weights
public import proofs.«01_k».proof.Proof.Out
public import proofs.«01_k».proof.Proof.Host
public import proofs.«01_k».proof.Proof.Range
public import proofs.«01_k».proof.Proof.RefElem
public import proofs.«01_k».proof.Proof.WellFormed

@[expose] public section

noncomputable section

namespace Cert.Proof

open Cert.MainIdeal.Hand Idealize.ShloMosaic

/-- One product of the reference's sum. -/
def refTerm (ws : IVec Cert.ReferenceIdeal.S22295336 8) (X : IVec Cert.ReferenceIdeal.S56x768x128 32) (C : IVec Cert.ReferenceIdeal.S36x224 32) (M : IVec Cert.ReferenceIdeal.S224x4608 32)
    (r : Fin 1536) (n : Fin 4608) (k : Nat) (hk : k < 7168) : EReal :=
  xAt X r ⟨k / 128, by omega⟩ ⟨k % 128, by omega⟩
    * (wOf (tagOf (M (ix2 ⟨k / 32, by omega⟩ n))) (codeAt ws (C (ix2 ⟨n.val / 128, by omega⟩ ⟨k / 32, by omega⟩)) (M (ix2 ⟨k / 32, by omega⟩ n)) (k % 32)) * wsOf (M (ix2 ⟨k / 32, by omega⟩ n)))

theorem ref_sum (V0 : Valuation Cert.ReferenceIdeal.τ Cert.ReferenceIdeal.sig (Elt Ideal)) (r : Fin 1536) (n : Fin 4608) :
    (Cert.RefSide.refOut V0 (ix2 r n) : EReal) = ∑ k : Fin 7168, refTerm (argW V0) (argX V0) (argC V0) (argM V0) r n k.val k.isLt := by
  rw [Cert.RefSide.refOut_elem]
  refine Finset.sum_congr rfl fun k _ => ?_
  rw [code_elem]
  rfl

variable (m : (ℓ : Loc Cert.MainIdeal.nD Cert.MainIdeal.τ Cert.MainIdeal.sig) → Buf (Elt Ideal) ℓ)

/-- The arguments as launched. -/
abbrev mW (c : Dev Cert.MainIdeal.nD) : IVec Cert.ReferenceIdeal.S22295336 8 := m ((c.tc : Thread Cert.MainIdeal.nD Cert.MainIdeal.τ).loc Cert.MainIdeal.main_arg0)
abbrev mX (c : Dev Cert.MainIdeal.nD) : IVec Cert.ReferenceIdeal.S56x768x128 32 := m ((c.tc : Thread Cert.MainIdeal.nD Cert.MainIdeal.τ).loc Cert.MainIdeal.main_arg1)
abbrev mC (c : Dev Cert.MainIdeal.nD) : IVec Cert.ReferenceIdeal.S36x224 32 := m ((c.tc : Thread Cert.MainIdeal.nD Cert.MainIdeal.τ).loc Cert.MainIdeal.main_arg2)
abbrev mM (c : Dev Cert.MainIdeal.nD) : IVec Cert.ReferenceIdeal.S224x4608 32 := m ((c.tc : Thread Cert.MainIdeal.nD Cert.MainIdeal.τ).loc Cert.MainIdeal.main_arg3)

/-- What the precondition says of a column's block. -/
theorem wf_at (h : Cert.Pre_MainIdeal_well_formed m) (c : Dev Cert.MainIdeal.nD) (b : Fin 224) (n : Fin 4608) :
    WFm (mC m c (ix2 ⟨n.val / 128, by omega⟩ b)) (mM m c (ix2 b n)) ((mM m c (ix2 b n)).toNat / 256 % 4) :=
  Cert.WellFormed.of_bit _ _ ((Cert.WellFormed.fn_elem (mW m c) (mX m c) (mC m c) (mM m c) b n).symm.trans (congrFun (h c) (ix2 b n)))

theorem inRange_of_wf (h : Cert.Pre_MainIdeal_well_formed m) : InRange m :=
  inRange_of m fun c r q => by
    have w := (wf_at m h c q ⟨128 * r.val, by omega⟩).hst
    have e : (⟨128 * r.val / 128, by omega⟩ : Fin 36) = r := Fin.ext (by show 128 * r.val / 128 = r.val; omega)
    replace w : (mC m c (ix2 (⟨128 * r.val / 128, by omega⟩ : Fin 36) q)).toNat < 2787072 := w
    rw [e] at w
    have hi := BitVec.toInt_eq_toNat_of_lt (x := mC m c (ix2 r q)) (by show 2 * (mC m c (ix2 r q)).toNat < 4294967296; omega)
    exact ⟨by show 0 ≤ (mC m c (ix2 r q)).toInt; omega, by show (mC m c (ix2 r q)).toInt < 2787072; omega⟩

/-- The kernel's element as the reference's sum. -/
theorem out_sum (h : Cert.Pre_MainIdeal_well_formed m) (c : Dev Cert.MainIdeal.nD) (r : Fin 1536) (n : Fin 4608) :
    (G m c (ix2 r n) : EReal) = ∑ k : Fin 7168, refTerm (mW m c) (mX m c) (mC m c) (mM m c) r n k.val k.isLt := by
  have hc := coord_val (stepOf n)
  have hnn : (stepOf n).val = n.val / 256 := rfl
  rw [sum_tiles]
  refine (accAt_sum lanes (insAt m c (stepOf n)) (Cert.MainIdeal.grid0.coords (stepOf n) 0) r (⟨n.val % 256, Nat.mod_lt _ (by decide)⟩ : Fin 256) 28 (le_refl _)).trans ?_
  refine Finset.sum_congr rfl fun k' _ => Finset.sum_congr rfl fun kk _ => ?_
  have hk : 256 * k'.val + kk.val < 7168 := by omega
  have w := wf_at m h c ⟨(256 * k'.val + kk.val) / 32, by omega⟩ n
  have e := weight_eq (insAt m c (stepOf n)) (Cert.MainIdeal.grid0.coords (stepOf n) 0) k' kk (⟨n.val % 256, Nat.mod_lt _ (by decide)⟩ : Fin 256) (mW m c) _ _ _ w ?_ ?_ (fun P hP => buf_byte m c P hP)
  · unfold refTerm
    have e32 : (256 * k'.val + kk.val) % 32 = kk.val % 32 := by omega
    have e128 : (⟨(256 * k'.val + kk.val) / 128, by omega⟩ : Fin 56) = ⟨2 * k'.val + kk.val / 128, by omega⟩ := Fin.ext (by show (256 * k'.val + kk.val) / 128 = 2 * k'.val + kk.val / 128; omega)
    have el : (⟨(256 * k'.val + kk.val) % 128, by omega⟩ : Fin 128) = ⟨kk.val % 128, by omega⟩ := Fin.ext (by show (256 * k'.val + kk.val) % 128 = kk.val % 128; omega)
    dsimp only
    rw [e128, el, e32]
    refine congrArg₂ (fun x y : EReal => x * y) ?_ e
    exact congrArg (fun z => xAt z r _ _) (act1_eq m c)
  · intro a b ha hb
    show (startsAt m c (stepOf n) : Vec Ideal Cert.MainIdeal.S36x224 .i32) (ix2 a b) = _
    rw [startsAt_eq]
    have ea : a = ⟨n.val / 128, by omega⟩ := Fin.ext (by rw [ha, hc, hnn]; show 2 * (n.val / 256) + n.val % 256 / 128 = n.val / 128; omega)
    have eb : b = ⟨(256 * k'.val + kk.val) / 32, by omega⟩ := Fin.ext (by rw [hb]; show _ = (256 * k'.val + kk.val) / 32; omega)
    rw [ea, eb]
  · intro b x hb hx
    replace hx : x.val = n.val % 256 := hx
    have eb : b = ⟨(256 * k'.val + kk.val) / 32, by omega⟩ := Fin.ext (by rw [hb]; show _ = (256 * k'.val + kk.val) / 32; omega)
    have hlt : (stepOf n).val * 256 + x.val < 4608 := by rw [hnn, hx]; omega
    have en : (⟨(stepOf n).val * 256 + x.val, hlt⟩ : Fin 4608) = n := Fin.ext (by show (stepOf n).val * 256 + x.val = n.val; rw [hnn, hx]; omega)
    refine (metaAt_eq m c (stepOf n) b x hlt).trans ?_
    rw [en, eb]

/-- The kernel's result is the reference's, of the same arguments. -/
theorem result_eq (h : Cert.Pre_MainIdeal_well_formed m) (c : Dev Cert.MainIdeal.nD) (V0 : Valuation Cert.ReferenceIdeal.τ Cert.ReferenceIdeal.sig (Elt Ideal))
    (h0 : argW V0 = mW m c) (h1 : argX V0 = mX m c) (h2 : argC V0 = mC m c) (h3 : argM V0 = mM m c) : Cert.RefSide.refOut V0 = G m c := by
  funext y
  obtain ⟨r, n, rfl⟩ : ∃ (r : Fin 1536) (n : Fin 4608), y = ix2 r n := ⟨y 0, y 1, idx2 y⟩
  refine (ref_sum V0 r n).trans ?_
  rw [h0, h1, h2, h3]
  exact (out_sum m h c r n).symm

end Cert.Proof
end
-- ==== Proof.lean ====
module

public import proofs.«01_k».proof.Defs
public import proofs.«01_k».proof.Proof.Gen.ReferenceIdeal.Run
public import proofs.«01_k».proof.Proof.Gen.Pre_well_formed
public import proofs.«01_k».proof.Proof.Range
public import proofs.«01_k».proof.Proof.Equal

@[expose] public section

noncomputable section

namespace Cert.Proof

open Idealize.ShloMosaic

/-- The reference's run keeps its arguments, and it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the inputs that the value claim is about. -/
theorem frame_ReferenceIdeal_wf : Cert.quiescent_ReferenceIdeal_pre_well_formed := fun m ρ _ => frame_ReferenceIdeal m ρ trivial

/-- The kernel's run keeps its arguments and ends quiet, of the inputs that the value claim is about. -/
theorem frame_MainIdeal_wf : Cert.quiescent_MainIdeal_pre_well_formed := fun m ρ h =>
  (θ_run Cert.MainIdeal.defs _ _).mono (fun _ hr => ⟨fun c => Cert.MainIdeal.Hand.kept m hr.1 c, hr.2⟩)
    (Cert.MainIdeal.Hand.run_main (F := Ideal) ρ (inRange_of_wf m h))

/-- The kernel and the reference end with the same result. -/
theorem algebraic : Cert.algebraic_MainIdeal_ReferenceIdeal_pre_well_formed := fun m g m' g' h hargs =>
  ⟨fun c => Cert.MainIdeal.Hand.G m c,
    (θ_run Cert.MainIdeal.defs _ _).mono (fun _ hr c => ⟨((hr.1 c).1 3).trans (Cert.MainIdeal.Hand.final3 m c), Cert.MainIdeal.Hand.kept m hr.1 c⟩)
      (Cert.MainIdeal.Hand.run_main (F := Ideal) g (inRange_of_wf m h)),
    (θ_run Cert.ReferenceIdeal.defs _ _).mono
      (fun _ hr c => ⟨(hr c).1.trans (result_eq m h c (StableHlo.launchContents m' c) (hargs c).1 (hargs c).2.1 (hargs c).2.2.1 (hargs c).2.2.2), (hr c).2⟩)
      (Cert.ReferenceIdeal.Value.run (F := Ideal) m' g')⟩

/-- Everything the certificate claims. -/
theorem claim : Cert.Claim :=
  ⟨Cert.MainIdeal.Gen.facts, Cert.ReferenceIdeal.Gen.facts, Cert.Pre_in_range.Gen.facts, Cert.Pre_well_formed.Gen.facts,
    frame_MainIdeal, frame_MainIdeal_wf, frame_ReferenceIdeal, frame_ReferenceIdeal_wf, algebraic⟩

end Cert.Proof
end
